-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v7) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_1)) (v1 : (c : Dev Cert.Kernel24Ideal.nD) → Buf (Elt Ideal) ((c.tc : Thread Cert.Kernel24Ideal.nD Cert.Kernel24Ideal.τ).loc Cert.Kernel24Ideal.main_v0_2)) (v2 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_1) = v0 c
          ∧ r.2.mem ((c.tc : Thread Cert.Kernel24Ideal.nD Cert.Kernel24Ideal.τ).loc Cert.Kernel24Ideal.main_v0_2) = v1 c
          ∧ r.2.mem ((c.tc : Thread Cert.Kernel24Ideal.nD Cert.Kernel24Ideal.τ).loc Cert.Kernel24Ideal.main_v0_3) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_1)) (v1 : (c : Dev Cert.Kernel25Ideal.nD) → Buf (Elt Ideal) ((c.tc : Thread Cert.Kernel25Ideal.nD Cert.Kernel25Ideal.τ).loc Cert.Kernel25Ideal.main_v0_2)) (v2 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_1) = v0 c
          ∧ r.2.mem ((c.tc : Thread Cert.Kernel25Ideal.nD Cert.Kernel25Ideal.τ).loc Cert.Kernel25Ideal.main_v0_2) = v1 c
          ∧ r.2.mem ((c.tc : Thread Cert.Kernel25Ideal.nD Cert.Kernel25Ideal.τ).loc Cert.Kernel25Ideal.main_v0_3) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_1)) (v1 : (c : Dev Cert.Kernel26Ideal.nD) → Buf (Elt Ideal) ((c.tc : Thread Cert.Kernel26Ideal.nD Cert.Kernel26Ideal.τ).loc Cert.Kernel26Ideal.main_v0_2)) (v2 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_1) = v0 c
          ∧ r.2.mem ((c.tc : Thread Cert.Kernel26Ideal.nD Cert.Kernel26Ideal.τ).loc Cert.Kernel26Ideal.main_v0_2) = v1 c
          ∧ r.2.mem ((c.tc : Thread Cert.Kernel26Ideal.nD Cert.Kernel26Ideal.τ).loc Cert.Kernel26Ideal.main_v0_3) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_1)) (v1 : (c : Dev Cert.Kernel27Ideal.nD) → Buf (Elt Ideal) ((c.tc : Thread Cert.Kernel27Ideal.nD Cert.Kernel27Ideal.τ).loc Cert.Kernel27Ideal.main_v0_2)) (v2 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_1) = v0 c
          ∧ r.2.mem ((c.tc : Thread Cert.Kernel27Ideal.nD Cert.Kernel27Ideal.τ).loc Cert.Kernel27Ideal.main_v0_2) = v1 c
          ∧ r.2.mem ((c.tc : Thread Cert.Kernel27Ideal.nD Cert.Kernel27Ideal.τ).loc Cert.Kernel27Ideal.main_v0_3) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_1)) (v1 : (c : Dev Cert.Kernel28Ideal.nD) → Buf (Elt Ideal) ((c.tc : Thread Cert.Kernel28Ideal.nD Cert.Kernel28Ideal.τ).loc Cert.Kernel28Ideal.main_v0_2)) (v2 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_1) = v0 c
          ∧ r.2.mem ((c.tc : Thread Cert.Kernel28Ideal.nD Cert.Kernel28Ideal.τ).loc Cert.Kernel28Ideal.main_v0_2) = v1 c
          ∧ r.2.mem ((c.tc : Thread Cert.Kernel28Ideal.nD Cert.Kernel28Ideal.τ).loc Cert.Kernel28Ideal.main_v0_3) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_1)) (v1 : (c : Dev Cert.Kernel29Ideal.nD) → Buf (Elt Ideal) ((c.tc : Thread Cert.Kernel29Ideal.nD Cert.Kernel29Ideal.τ).loc Cert.Kernel29Ideal.main_v0_2)) (v2 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_1) = v0 c
          ∧ r.2.mem ((c.tc : Thread Cert.Kernel29Ideal.nD Cert.Kernel29Ideal.τ).loc Cert.Kernel29Ideal.main_v0_2) = v1 c
          ∧ r.2.mem ((c.tc : Thread Cert.Kernel29Ideal.nD Cert.Kernel29Ideal.τ).loc Cert.Kernel29Ideal.main_v0_3) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v33) = v0 c
          ∧ r.2.mem ((c.tc : Thread Cert.Reference30Ideal.nD Cert.Reference30Ideal.τ).loc Cert.Reference30Ideal.main_v34) = v1 c
          ∧ r.2.mem ((c.tc : Thread Cert.Reference30Ideal.nD Cert.Reference30Ideal.τ).loc Cert.Reference30Ideal.main_v35) = v2 c
          ∧ r.2.mem ((c.tc : Thread Cert.Reference30Ideal.nD Cert.Reference30Ideal.τ).loc Cert.Reference30Ideal.main_v36) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x7168 : Shape := ⟨2, ![8192, 7168]⟩
abbrev S8192x8 : Shape := ⟨2, ![8192, 8]⟩
abbrev S8192x1024 : Shape := ⟨2, ![8192, 1024]⟩
abbrev S_ : Shape := ⟨0, ![]⟩

class Facts : Prop where
  bcast_S_S8192x7168 : S_.BroadcastsInDim S8192x7168 (![] : Fin 0 → Fin S8192x7168.rank)
  bcast_S_S8192x8 : S_.BroadcastsInDim S8192x8 (![] : Fin 0 → Fin S8192x8.rank)
  bcast_S_S8192x1024 : S_.BroadcastsInDim S8192x1024 (![] : Fin 0 → Fin S8192x1024.rank)

variable [Facts]

def fn {F : FTy → Type} [FloatOps F] (main_arg0 : FVec F S8192x7168 .f32) (main_arg1 : FVec F S8192x8 .f32) (main_arg2 : FVec F S8192x1024 .f32) : IVec S8192x7168 1 × IVec S8192x8 1 × IVec S8192x1024 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_v3 : FVec F S8192x8 .f32 := Host.absf main_arg1
  let main_cst_0 : FVec F S_ .f32 := constant S_ .f32 0x7F800000#32
  let main_v4 : FVec F S8192x8 .f32 := broadcastInDim S8192x8 ![] bcast_S_S8192x8 main_cst_0
  let main_v5 : IVec S8192x8 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite2.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S5632x2048 .bf16) (main_arg2 : FVec F S8192x5632 .f32) (main_arg3 : FVec F S8192x5632 .f32) : IVec S8192x2048 1 × IVec S5632x2048 1 × IVec S8192x5632 1 × IVec S8192x5632 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S5632x2048 .bf16 := Host.absf main_arg1
  let main_cst_0 : FVec F S_ .bf16 := constant S_ .bf16 0x7F80#16
  let main_v4 : FVec F S5632x2048 .bf16 := broadcastInDim S5632x2048 ![] bcast_S_S5632x2048 main_cst_0
  let main_v5 : IVec S5632x2048 1 := cmpf .olt main_v3 main_v4
  let main_v6 : FVec F S8192x5632 .f32 := Host.absf main_arg2
  let main_cst_1 : FVec F S_ .f32 := constant S_ .f32 0x7F800000#32
  let main_v7 : FVec F S8192x5632 .f32 := broadcastInDim S8192x5632 ![] bcast_S_S8192x5632 main_cst_1
  let main_v8 : IVec S8192x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  (main_v2, main_v5, main_v8, main_v11)
-- ==== Kernel.lean ====
abbrev S8192x7168 : Shape := ⟨2, ![8192, 7168]⟩
abbrev S8192x8 : Shape := ⟨2, ![8192, 8]⟩
abbrev S8192x1024 : Shape := ⟨2, ![8192, 1024]⟩
abbrev S36 : Shape := ⟨1, ![36]⟩
abbrev S8192x8x128 : Shape := ⟨3, ![8192, 8, 128]⟩
abbrev S8x8192x128 : Shape := ⟨3, ![8, 8192, 128]⟩
abbrev S_ : Shape := ⟨0, ![]⟩
abbrev S8192 : Shape := ⟨1, ![8192]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S1024x8192 : Shape := ⟨2, ![1024, 8192]⟩
abbrev S8x8x1024 : Shape := ⟨3, ![8, 8, 1024]⟩
abbrev S1024x128 : Shape := ⟨2, ![1024, 128]⟩
abbrev S1 : Shape := ⟨1, ![1]⟩
abbrev S1x1024x128 : Shape := ⟨3, ![1, 1024, 128]⟩
abbrev S1x1x1024 : Shape := ⟨3, ![1, 1, 1024]⟩
abbrev S128x1024 : Shape := ⟨2, ![128, 1024]⟩
abbrev S8192x128 : Shape := ⟨2, ![8192, 128]⟩
abbrev S1x8x1024 : Shape := ⟨3, ![1, 8, 1024]⟩
abbrev S1x1024x1 : Shape := ⟨3, ![1, 1024, 1]⟩
abbrev S8x128x1024 : Shape := ⟨3, ![8, 128, 1024]⟩
abbrev S1024x256 : Shape := ⟨2, ![1024, 256]⟩
abbrev S256x128 : Shape := ⟨2, ![256, 128]⟩
abbrev S128x256 : Shape := ⟨2, ![128, 256]⟩
abbrev S1x1x256 : Shape := ⟨3, ![1, 1, 256]⟩
abbrev S1x256 : Shape := ⟨2, ![1, 256]⟩
abbrev S256x256 : Shape := ⟨2, ![256, 256]⟩
abbrev S8x1024 : Shape := ⟨2, ![8, 1024]⟩
abbrev S8x256 : Shape := ⟨2, ![8, 256]⟩
abbrev S1x128x1024 : Shape := ⟨3, ![1, 128, 1024]⟩
abbrev S1x1024 : Shape := ⟨2, ![1, 1024]⟩
abbrev S1024x1 : Shape := ⟨2, ![1024, 1]⟩

abbrev nBuf : Space → Nat
  | .hbm => 69
  | .vmem => 27
  | .smem => 2
  | _ => 0

abbrev bufTy : (tb : Table) → Fin (tcTables nBuf tb) → BufTy
  | .hbm, ⟨0, _⟩ => ⟨S8192x7168, .f32⟩
  | .hbm, ⟨1, _⟩ => ⟨S8192x8, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S_, .f32⟩
  | .hbm, ⟨9, _⟩ => ⟨S8x8192x128, .f32⟩
  | .hbm, ⟨10, _⟩ => ⟨S8x8192x128, .f32⟩
  | .hbm, ⟨11, _⟩ => ⟨S8192x8x128, .f32⟩
  | .hbm, ⟨12, _⟩ => ⟨S8x8192x128, .f32⟩
  | .hbm, ⟨13, _⟩ => ⟨S8192, .i32⟩
  | .hbm, ⟨14, _⟩ => ⟨S8x8192x8192, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192, .f32⟩
  | .hbm, ⟨20, _⟩ => ⟨S8x1x8192, .f32⟩
  | .hbm, ⟨21, _⟩ => ⟨S8x8192x8192, .f32⟩
  | .hbm, ⟨22, _⟩ => ⟨S8x8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8192x8x128, .f32⟩
  | .hbm, ⟨46, _⟩ => ⟨S8x8192x128, .f32⟩
  | .hbm, ⟨47, _⟩ => ⟨S8x8192x128, .f32⟩
  | .hbm, ⟨48, _⟩ => ⟨S8x8192x1, .f32⟩
  | .hbm, ⟨49, _⟩ => ⟨S8x8192x1, .f32⟩
  | .hbm, ⟨50, _⟩ => ⟨S8x8192, .f32⟩
  | .hbm, ⟨51, _⟩ => ⟨S8x8192x1, .f32⟩
  | .hbm, ⟨52, _⟩ => ⟨S8x8192x1, .f32⟩
  | .hbm, ⟨53, _⟩ => ⟨S8192x8x128, .f32⟩
  | .hbm, ⟨54, _⟩ => ⟨S8x8192x128, .f32⟩
  | .hbm, ⟨55, _⟩ => ⟨S8x8192x128, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x128, .f32⟩
  | .hbm, ⟨61, _⟩ => ⟨S8x1x8192, .f32⟩
  | .hbm, ⟨62, _⟩ => ⟨S8x1x8192, .f32⟩
  | .hbm, ⟨63, _⟩ => ⟨S1024x8192, .f32⟩
  | .hbm, ⟨64, _⟩ => ⟨S8192x1024, .bf16⟩
  | .hbm, ⟨65, _⟩ => ⟨S8192x1024, .bf16⟩
  | .hbm, ⟨66, _⟩ => ⟨S8192x1024, .bf16⟩
  | .hbm, ⟨67, _⟩ => ⟨S8x8x1024, .f32⟩
  | .hbm, ⟨68, _⟩ => ⟨S8x8192x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S128x1024, .f32⟩
  | .local _ .vmem, ⟨13, _⟩ => ⟨S128x1024, .f32⟩
  | .local _ .vmem, ⟨14, _⟩ => ⟨S8192x128, .bf16⟩
  | .local _ .vmem, ⟨15, _⟩ => ⟨S8192x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x8x1024, .f32⟩
  | .local _ .vmem, ⟨21, _⟩ => ⟨S1x8x1024, .f32⟩
  | .local _ .vmem, ⟨22, _⟩ => ⟨S1x1024x1, .f32⟩
  | .local _ .vmem, ⟨23, _⟩ => ⟨S1x1024x1, .f32⟩
  | .local _ .vmem, ⟨24, _⟩ => ⟨S8x128x1024, .f32⟩
  | .local _ .vmem, ⟨25, _⟩ => ⟨S1024x256, .f32⟩
  | .local _ .vmem, ⟨26, _⟩ => ⟨S1024x128, .f32⟩
  | .local _ .smem, ⟨0, _⟩ => ⟨S36, .i32⟩
  | .local _ .smem, ⟨1, _⟩ => ⟨S36, .i32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v53_3 : Ref sig .tc := ⟨.hbm, 67, rfl⟩
abbrev main_v53_4 : Ref sig .tc := ⟨.hbm, 68, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 3 → Nat :=
  let v225 : Index := Scalar.indexCast v1
  let c0_122 : Index := 0#32
  let c0_123 : Index := 0#32
  ![v225.toNat, 0, 0]
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off3 (v1 : BitVec 32) : Fin 3 → Nat :=
  let c0_126 : Index := 0#32
  let v234 : Index := Scalar.indexCast v1
  let c0_127 : Index := 0#32
  ![0, v234.toNat, 0]
def k0_off4 (v1 : BitVec 32) : Fin 3 → Nat :=
  let v197 : Index := Scalar.indexCast v1
  let c0_117 : Index := 0#32
  let c0_118 : Index := 0#32
  ![v197.toNat, 0, 0]
def k0_cond4 (v1 : BitVec 32) (v3 : BitVec 32) : BitVec 1 :=
  let v13 : BitVec 1 := Scalar.cmpi .sgt v1 v3
  let v14 : BitVec 32 := Scalar.extui v13
  let c0_i32_3 : BitVec 32 := 0#32
  let v15 : BitVec 1 := Scalar.cmpi .ne v14 c0_i32_3
  v15

def k0_off5 (v1 : BitVec 32) : Fin 3 → Nat :=
  let c0_121 : Index := 0#32
  let v206 : Index := Scalar.indexCast v1
  let c0_122 : Index := 0#32
  ![0, v206.toNat, 0]

def k0_chk1 (v1 : BitVec 32) (v3 : BitVec 32) : Prop :=
  (∀ (k0_h3 : k0_cond3 v1 v3 = 1#1), ∀ a, (k0_off2 v1) a + S1x128x1024.size a ≤ S8x128x1024.size a) ∧
  (∀ (k0_h3 : k0_cond3 v1 v3 = 1#1), ∀ a, (k0_off3 v1) a + S1x1x1024.size a ≤ S1x8x1024.size a) ∧
  (∀ (k0_h4 : k0_cond4 v1 v3 = 1#1), ∀ a, (k0_off4 v1) a + S1x128x1024.size a ≤ S8x128x1024.size a) ∧
  (∀ (k0_h4 : k0_cond4 v1 v3 = 1#1), ∀ a, (k0_off5 v1) a + S1x1x1024.size a ≤ S1x8x1024.size a)
theorem k0_off2_inb : ∀ (v1 : BitVec 32) (v3 : BitVec 32) (k0_hw1 : k0_chk1 v1 v3), ∀ (k0_h3 : k0_cond3 v1 v3 = 1#1), ∀ a, (k0_off2 v1) a + S1x128x1024.size a ≤ S8x128x1024.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v1) a + S1x1x1024.size a ≤ S1x8x1024.size a := fun v1 v3 k0_hw1 k0_h3 => k0_hw1.2.1 k0_h3
theorem k0_off4_inb : ∀ (v1 : BitVec 32) (v3 : BitVec 32) (k0_hw1 : k0_chk1 v1 v3), ∀ (k0_h4 : k0_cond4 v1 v3 = 1#1), ∀ a, (k0_off4 v1) a + S1x128x1024.size a ≤ S8x128x1024.size a := fun v1 v3 k0_hw1 k0_h4 => k0_hw1.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S1x1x1024.size a ≤ S1x8x1024.size a := fun v1 v3 k0_hw1 k0_h4 => k0_hw1.2.2.2 k0_h4

def k0_cond6 (i : grid0.Coords) : BitVec 1 :=
  let arg1 : BitVec 32 := BitVec.ofNat 32 (i 1).val
  let c35_i32 : BitVec 32 := 35#32
  let v19 : BitVec 1 := Scalar.cmpi .eq arg1 c35_i32
  let v20 : BitVec 32 := Scalar.extui v19
  let c0_i32_5 : BitVec 32 := 0#32
  let v21 : BitVec 1 := Scalar.cmpi .ne v20 c0_i32_5
  v21

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c40_i32 : BitVec 32 := 40#32
  let v2 : BitVec 32 := Scalar.addi c40_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c48_i32 : BitVec 32 := 48#32
  let v2 : BitVec 32 := Scalar.addi c48_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x7168 : Shape := ⟨2, ![8192, 7168]⟩
abbrev S8192x8 : Shape := ⟨2, ![8192, 8]⟩
abbrev S8192x1024 : Shape := ⟨2, ![8192, 1024]⟩
abbrev S8192x8x128 : Shape := ⟨3, ![8192, 8, 128]⟩
abbrev S8x8192x128 : Shape := ⟨3, ![8, 8192, 128]⟩
abbrev S_ : Shape := ⟨0, ![]⟩
abbrev S8192 : Shape := ⟨1, ![8192]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x128x8192 : Shape := ⟨3, ![8, 128, 8192]⟩
abbrev S8x8x1024 : Shape := ⟨3, ![8, 8, 1024]⟩

abbrev nBuf : Space → Nat
  | .hbm => 133
  | .vmem => 0
  | .smem => 0
  | _ => 0

abbrev hbmTy0_0 (i : Nat) : BufTy := match i % 128 with
  | 0 => ⟨S8192x7168, .f32⟩
  | 1 => ⟨S8192x8, .f32⟩
  | 2 => ⟨S8192x1024, .f32⟩
  | 3 => ⟨S8192x1024, .f32⟩
  | 4 => ⟨S8192x1024, .f32⟩
  | 5 => ⟨S8192x1024, .f32⟩
  | 6 => ⟨S8192x8x128, .f32⟩
  | 7 => ⟨S8x8192x128, .f32⟩
  | 8 => ⟨S_, .f32⟩
  | 9 => ⟨S8x8192x128, .f32⟩
  | 10 => ⟨S8x8192x128, .f32⟩
  | 11 => ⟨S8192x8x128, .f32⟩
  | 12 => ⟨S8x8192x128, .f32⟩
  | 13 => ⟨S8192, .i32⟩
  | 14 => ⟨S8x8192x8192, .f32⟩
  | 15 => ⟨S8x8192, .f32⟩
  | 16 => ⟨S8x8192x1, .f32⟩
  | 17 => ⟨S8x8192x8192, .f32⟩
  | 18 => ⟨S8x8192x8192, .f32⟩
  | 19 => ⟨S8x8192, .f32⟩
  | 20 => ⟨S8x1x8192, .f32⟩
  | 21 => ⟨S8x8192x8192, .f32⟩
  | 22 => ⟨S8x8192x8192, .f32⟩
  | 23 => ⟨S8192x1, .i32⟩
  | 24 => ⟨S1x8192, .i32⟩
  | 25 => ⟨S8192x8192, .i32⟩
  | 26 => ⟨S8192x8192, .i32⟩
  | 27 => ⟨S8192x8192, .i1⟩
  | 28 => ⟨S1x8192x8192, .i1⟩
  | 29 => ⟨S_, .f32⟩
  | 30 => ⟨S_, .f32⟩
  | 31 => ⟨S8x8192x8192, .i1⟩
  | 32 => ⟨S8x8192x8192, .f32⟩
  | 33 => ⟨S8x8192x8192, .f32⟩
  | 34 => ⟨S_, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .i1⟩
  | 41 => ⟨S8x8192x8192, .f32⟩
  | 42 => ⟨S_, .f32⟩
  | 43 => ⟨S8x8192, .f32⟩
  | 44 => ⟨S_, .f32⟩
  | 45 => ⟨S8x8192, .f32⟩
  | 46 => ⟨S8x8192, .f32⟩
  | 47 => ⟨S_, .f32⟩
  | 48 => ⟨S8x8192, .f32⟩
  | 49 => ⟨S8x8192, .i1⟩
  | 50 => ⟨S_, .f32⟩
  | 51 => ⟨S8x8192, .f32⟩
  | 52 => ⟨S8x8192, .i1⟩
  | 53 => ⟨S_, .f32⟩
  | 54 => ⟨S8x8192, .f32⟩
  | 55 => ⟨S_, .f32⟩
  | 56 => ⟨S8x8192, .f32⟩
  | 57 => ⟨S_, .f32⟩
  | 58 => ⟨S8x8192, .f32⟩
  | 59 => ⟨S8x8192, .f32⟩
  | 60 => ⟨S8x8192, .f32⟩
  | 61 => ⟨S8x8192x1, .f32⟩
  | 62 => ⟨S8x8192x8192, .f32⟩
  | 63 => ⟨S8x8192x8192, .f32⟩
  | 64 => ⟨S8x8192x8192, .f32⟩
  | 65 => ⟨S_, .f32⟩
  | 66 => ⟨S8x8192, .f32⟩
  | 67 => ⟨S8x8192x1, .f32⟩
  | 68 => ⟨S8x8192x8192, .f32⟩
  | 69 => ⟨S8x8192x8192, .f32⟩
  | 70 => ⟨S8x8192x1, .f32⟩
  | 71 => ⟨S_, .f32⟩
  | 72 => ⟨S8x8192x1, .f32⟩
  | 73 => ⟨S8x8192x1, .f32⟩
  | 74 => ⟨S8192x8x128, .f32⟩
  | 75 => ⟨S8x8192x128, .f32⟩
  | 76 => ⟨S8x8192x128, .f32⟩
  | 77 => ⟨S8192x8x128, .f32⟩
  | 78 => ⟨S8192x1024, .f32⟩
  | 79 => ⟨S8192x8x128, .f32⟩
  | 80 => ⟨S8x8192x128, .f32⟩
  | 81 => ⟨S8x128x8192, .f32⟩
  | 82 => ⟨S8x8192x128, .f32⟩
  | 83 => ⟨S8x8192x8192, .f32⟩
  | 84 => ⟨S8192x8x128, .f32⟩
  | 85 => ⟨S8192x1024, .f32⟩
  | 86 => ⟨S8x8192x8192, .f32⟩
  | 87 => ⟨S8x8192x8192, .f32⟩
  | 88 => ⟨S8x8192x8192, .f32⟩
  | 89 => ⟨S_, .f32⟩
  | 90 => ⟨S8x8192, .f32⟩
  | 91 => ⟨S8x8192x1, .f32⟩
  | 92 => ⟨S8x8192x1, .f32⟩
  | 93 => ⟨S8x8192x8192, .f32⟩
  | 94 => ⟨S8x8192x8192, .f32⟩
  | 95 => ⟨S_, .f32⟩
  | 96 => ⟨S8x8192, .f32⟩
  | 97 => ⟨S8x8192x8192, .f32⟩
  | 98 => ⟨S8x8192x8192, .f32⟩
  | 99 => ⟨S8x8192x8192, .f32⟩
  | 100 => ⟨S_, .f32⟩
  | 101 => ⟨S8x8192x8192, .f32⟩
  | 102 => ⟨S8x8192x8192, .f32⟩
  | 103 => ⟨S8x8192x8192, .f32⟩
  | 104 => ⟨S_, .f32⟩
  | 105 => ⟨S8x8192, .f32⟩
  | 106 => ⟨S8x1x8192, .f32⟩
  | 107 => ⟨S_, .f32⟩
  | 108 => ⟨S8x8192, .f32⟩
  | 109 => ⟨S8192x8, .f32⟩
  | 110 => ⟨S_, .f32⟩
  | 111 => ⟨S8x8192, .f32⟩
  | 112 => ⟨S8x8192x1, .f32⟩
  | 113 => ⟨S_, .f32⟩
  | 114 => ⟨S8x8192, .f32⟩
  | 115 => ⟨S8192x8, .f32⟩
  | 116 => ⟨S8x8192x128, .f32⟩
  | 117 => ⟨S8x8192x128, .f32⟩
  | 118 => ⟨S8192x8x128, .f32⟩
  | 119 => ⟨S8192x1024, .f32⟩
  | 120 => ⟨S_, .f32⟩
  | 121 => ⟨S8x8192x128, .f32⟩
  | 122 => ⟨S8x8192x128, .f32⟩
  | 123 => ⟨S8192x8x128, .f32⟩
  | 124 => ⟨S8192x1024, .f32⟩
  | 125 => ⟨S8192x1024, .bf16⟩
  | 126 => ⟨S8192x1024, .bf16⟩
  | 127 => ⟨S8192x1024, .bf16⟩
  | _ => ⟨S8192x7168, .f32⟩

abbrev hbmTy0_1 (i : Nat) : BufTy := match i % 128 with
  | 0 => ⟨S8x8192, .f32⟩
  | 1 => ⟨S8x8x1024, .f32⟩
  | 2 => ⟨S8x8192, .f32⟩
  | 3 => ⟨S8x8192x1, .f32⟩
  | 4 => ⟨S8x8192x1, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S_, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x5632 : Shape := ⟨2, ![8192, 5632]⟩
abbrev S2048x5632 : Shape := ⟨2, ![2048, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S8192x7168 : Shape := ⟨2, ![8192, 7168]⟩
abbrev S2048x7168 : Shape := ⟨2, ![2048, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S2048x7168, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S_, .f32⟩
  | .hbm, ⟨3, _⟩ => ⟨S2048x7168, .f32⟩
  | .hbm, ⟨4, _⟩ => ⟨S8192x2048, .f32⟩
  | .hbm, ⟨5, _⟩ => ⟨S8192x7168, .f32⟩
  | .hbm, ⟨6, _⟩ => ⟨S8192x7168, .f32⟩
  | .hbm, ⟨7, _⟩ => ⟨S7168x2048, .f32⟩
  | .hbm, ⟨8, _⟩ => ⟨S2048x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S2048x7168 : Shape := ⟨2, ![2048, 7168]⟩
abbrev S8192x7168 : Shape := ⟨2, ![8192, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x2048, .f32⟩
  | .hbm, ⟨3, _⟩ => ⟨S2048x7168, .f32⟩
  | .hbm, ⟨4, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S8192x4224 : Shape := ⟨2, ![8192, 4224]⟩
abbrev S2048x4224 : Shape := ⟨2, ![2048, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4224, .bf16⟩
  | .hbm, ⟨2, _⟩ => ⟨S2048x4224, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x4224 : Shape := ⟨2, ![8192, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4224, .bf16⟩
  | .hbm, ⟨2, _⟩ => ⟨S_, .f32⟩
  | .hbm, ⟨3, _⟩ => ⟨S2048x4224, .f32⟩
  | .hbm, ⟨4, _⟩ => ⟨S8192x2048, .f32⟩
  | .hbm, ⟨5, _⟩ => ⟨S8192x4224, .f32⟩
  | .hbm, ⟨6, _⟩ => ⟨S8192x4224, .f32⟩
  | .hbm, ⟨7, _⟩ => ⟨S4224x2048, .f32⟩
  | .hbm, ⟨8, _⟩ => ⟨S2048x4224, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x4224 : Shape := ⟨2, ![2048, 4224]⟩
abbrev S8192x4224 : Shape := ⟨2, ![8192, 4224]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4224, .bf16⟩
  | .hbm, ⟨2, _⟩ => ⟨S8192x4224, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x4224 : Shape := ⟨2, ![2048, 4224]⟩
abbrev S8192x4224 : Shape := ⟨2, ![8192, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4224, .bf16⟩
  | .hbm, ⟨2, _⟩ => ⟨S8192x2048, .f32⟩
  | .hbm, ⟨3, _⟩ => ⟨S2048x4224, .f32⟩
  | .hbm, ⟨4, _⟩ => ⟨S8192x4224, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x4224 : Shape := ⟨2, ![8192, 4224]⟩
abbrev S2048x4224 : Shape := ⟨2, ![2048, 4224]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4224, .bf16⟩
  | .hbm, ⟨1, _⟩ => ⟨S2048x4224, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x4224 : Shape := ⟨2, ![8192, 4224]⟩
abbrev S2048x4224 : Shape := ⟨2, ![2048, 4224]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S2048x4224, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x4224, .f32⟩
  | .hbm, ⟨6, _⟩ => ⟨S8192x4224, .f32⟩
  | .hbm, ⟨7, _⟩ => ⟨S8192x4224, .f32⟩
  | .hbm, ⟨8, _⟩ => ⟨S8192x2048, .f32⟩
  | .hbm, ⟨9, _⟩ => ⟨S8192x2048, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S1024x8192 : Shape := ⟨2, ![1024, 8192]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .f32⟩
  | .hbm, ⟨1, _⟩ => ⟨S1024x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1024x8192 : Shape := ⟨2, ![1024, 8192]⟩
abbrev S1024x2048 : Shape := ⟨2, ![1024, 2048]⟩
abbrev S8192x1024 : Shape := ⟨2, ![8192, 1024]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S1024x2048 : Shape := ⟨2, ![1024, 2048]⟩
abbrev S8192x2048 : Shape := ⟨2, ![8192, 2048]⟩
abbrev S1024x8192 : Shape := ⟨2, ![1024, 8192]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .bf16⟩
  | .hbm, ⟨2, _⟩ => ⟨S1024x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩
abbrev S1024x8192 : Shape := ⟨2, ![1024, 8192]⟩

abbrev nBuf : Space → Nat
  | .hbm => 9
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S1024x8192, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S1024x8192 : Shape := ⟨2, ![1024, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .f32⟩
  | .hbm, ⟨1, _⟩ => ⟨S8192x2048, .bf16⟩
  | .hbm, ⟨2, _⟩ => ⟨S1024x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S1024x8192 : Shape := ⟨2, ![1024, 8192]⟩
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8192x7168 : Shape := ⟨2, ![8192, 7168]⟩
abbrev S2048x7168 : Shape := ⟨2, ![2048, 7168]⟩
abbrev S8192x2048 : Shape := ⟨2, ![8192, 2048]⟩
abbrev S1024x3584 : Shape := ⟨2, ![1024, 3584]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8192x2048, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x7168 : Shape := ⟨2, ![8192, 7168]⟩
abbrev S2048x7168 : Shape := ⟨2, ![2048, 7168]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S_, .f32⟩
  | .hbm, ⟨3, _⟩ => ⟨S8192x2048, .f32⟩
  | .hbm, ⟨4, _⟩ => ⟨S2048x7168, .f32⟩
  | .hbm, ⟨5, _⟩ => ⟨S8192x7168, .f32⟩
  | .hbm, ⟨6, _⟩ => ⟨S8192x7168, .f32⟩
  | .hbm, ⟨7, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x5632, .f32⟩
  | .hbm, ⟨3, _⟩ => ⟨S8192x5632, .f32⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference23Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel24.lean ====
abbrev S2048x2818 : Shape := ⟨2, ![2048, 2818]⟩
abbrev S128x2818 : Shape := ⟨2, ![128, 2818]⟩

abbrev nBuf : Space → Nat
  | .hbm => 8
  | .vmem => 16
  | .smem => 0
  | _ => 0

abbrev bufTy : (tb : Table) → Fin (tcTables nBuf tb) → BufTy
  | .hbm, ⟨0, _⟩ => ⟨S2048x2818, .f32⟩
  | .hbm, ⟨1, _⟩ => ⟨S2048x2818, .f32⟩
  | .hbm, ⟨2, _⟩ => ⟨S2048x2818, .f32⟩
  | .hbm, ⟨3, _⟩ => ⟨S2048x2818, .f32⟩
  | .hbm, ⟨4, _⟩ => ⟨S2048x2818, .f32⟩
  | .hbm, ⟨5, _⟩ => ⟨S2048x2818, .f32⟩
  | .hbm, ⟨6, _⟩ => ⟨S2048x2818, .f32⟩
  | .hbm, ⟨7, _⟩ => ⟨S2048x2818, .f32⟩
  | .local _ .vmem, ⟨0, _⟩ => ⟨S128x2818, .f32⟩
  | .local _ .vmem, ⟨1, _⟩ => ⟨S128x2818, .f32⟩
  | .local _ .vmem, ⟨2, _⟩ => ⟨S128x2818, .f32⟩
  | .local _ .vmem, ⟨3, _⟩ => ⟨S128x2818, .f32⟩
  | .local _ .vmem, ⟨4, _⟩ => ⟨S128x2818, .f32⟩
  | .local _ .vmem, ⟨5, _⟩ => ⟨S128x2818, .f32⟩
  | .local _ .vmem, ⟨6, _⟩ => ⟨S128x2818, .f32⟩
  | .local _ .vmem, ⟨7, _⟩ => ⟨S128x2818, .f32⟩
  | .local _ .vmem, ⟨8, _⟩ => ⟨S128x2818, .f32⟩
  | .local _ .vmem, ⟨9, _⟩ => ⟨S128x2818, .f32⟩
  | .local _ .vmem, ⟨10, _⟩ => ⟨S128x2818, .f32⟩
  | .local _ .vmem, ⟨11, _⟩ => ⟨S128x2818, .f32⟩
  | .local _ .vmem, ⟨12, _⟩ => ⟨S128x2818, .f32⟩
  | .local _ .vmem, ⟨13, _⟩ => ⟨S128x2818, .f32⟩
  | .local _ .vmem, ⟨14, _⟩ => ⟨S128x2818, .f32⟩
  | .local _ .vmem, ⟨15, _⟩ => ⟨S128x2818, .f32⟩
  | _, _ => ⟨S2048x2818, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2818 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2818 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2818 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2818 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2818 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2818 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2818 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2818 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S2048x2818 : Shape := ⟨2, ![2048, 2818]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2818, .f32⟩
  | .hbm, ⟨1, _⟩ => ⟨S2048x2818, .f32⟩
  | .hbm, ⟨2, _⟩ => ⟨S2048x2818, .f32⟩
  | .hbm, ⟨3, _⟩ => ⟨S2048x2818, .f32⟩
  | .hbm, ⟨4, _⟩ => ⟨S_, .f32⟩
  | .hbm, ⟨5, _⟩ => ⟨S2048x2818, .f32⟩
  | .hbm, ⟨6, _⟩ => ⟨S2048x2818, .f32⟩
  | .hbm, ⟨7, _⟩ => ⟨S_, .f32⟩
  | .hbm, ⟨8, _⟩ => ⟨S2048x2818, .f32⟩
  | .hbm, ⟨9, _⟩ => ⟨S2048x2818, .f32⟩
  | .hbm, ⟨10, _⟩ => ⟨S2048x2818, .f32⟩
  | .hbm, ⟨11, _⟩ => ⟨S_, .f32⟩
  | .hbm, ⟨12, _⟩ => ⟨S2048x2818, .f32⟩
  | .hbm, ⟨13, _⟩ => ⟨S2048x2818, .f32⟩
  | .hbm, ⟨14, _⟩ => ⟨S2048x2818, .f32⟩
  | .hbm, ⟨15, _⟩ => ⟨S_, .f32⟩
  | .hbm, ⟨16, _⟩ => ⟨S2048x2818, .f32⟩
  | .hbm, ⟨17, _⟩ => ⟨S2048x2818, .f32⟩
  | .hbm, ⟨18, _⟩ => ⟨S2048x2818, .f32⟩
  | .hbm, ⟨19, _⟩ => ⟨S_, .f32⟩
  | .hbm, ⟨20, _⟩ => ⟨S2048x2818, .f32⟩
  | .hbm, ⟨21, _⟩ => ⟨S2048x2818, .f32⟩
  | .hbm, ⟨22, _⟩ => ⟨S_, .f32⟩
  | .hbm, ⟨23, _⟩ => ⟨S2048x2818, .f32⟩
  | .hbm, ⟨24, _⟩ => ⟨S2048x2818, .f32⟩
  | .hbm, ⟨25, _⟩ => ⟨S2048x2818, .f32⟩
  | .hbm, ⟨26, _⟩ => ⟨S_, .f32⟩
  | .hbm, ⟨27, _⟩ => ⟨S2048x2818, .f32⟩
  | .hbm, ⟨28, _⟩ => ⟨S2048x2818, .f32⟩
  | .hbm, ⟨29, _⟩ => ⟨S2048x2818, .f32⟩
  | .hbm, ⟨30, _⟩ => ⟨S_, .f32⟩
  | .hbm, ⟨31, _⟩ => ⟨S2048x2818, .f32⟩
  | .hbm, ⟨32, _⟩ => ⟨S2048x2818, .f32⟩
  | .hbm, ⟨33, _⟩ => ⟨S2048x2818, .f32⟩
  | .hbm, ⟨34, _⟩ => ⟨S_, .f32⟩
  | .hbm, ⟨35, _⟩ => ⟨S2048x2818, .f32⟩
  | .hbm, ⟨36, _⟩ => ⟨S2048x2818, .f32⟩
  | _, _ => ⟨S2048x2818, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1024x512 : Shape := ⟨2, ![1024, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1024x512 : Shape := ⟨2, ![1024, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8192x2048 : Shape := ⟨2, ![8192, 2048]⟩
abbrev S2048x2048 : Shape := ⟨2, ![2048, 2048]⟩
abbrev S8192x4224 : Shape := ⟨2, ![8192, 4224]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x4224, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference30Ideal.lean ====
abbrev S8192x2048 : Shape := ⟨2, ![8192, 2048]⟩
abbrev S2048x2048 : Shape := ⟨2, ![2048, 2048]⟩
abbrev S8192x4224 : Shape := ⟨2, ![8192, 4224]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x4224, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel31.lean ====
abbrev S8192x4224 : Shape := ⟨2, ![8192, 4224]⟩
abbrev S8192x2048 : Shape := ⟨2, ![8192, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x4224, .f32⟩
  | .hbm, ⟨1, _⟩ => ⟨S8192x2048, .f32⟩
  | .hbm, ⟨2, _⟩ => ⟨S8192x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S8192x4224 : Shape := ⟨2, ![8192, 4224]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Fox.Base.lean ====
/- Names shared by the modules about the attention kernel's run: the two tables and the three scratches as whole memrefs. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.KernelIdeal.Fox

open Cert.KernelIdeal Cert.KernelIdeal.Gen
open Idealize.ShloMosaic Idealize.ShloMosaic.TcCoe

/-- The table of query tiles, whole. -/
abbrev tabQ : Memref sig .tc .smem S36 .i32 := Memref.whole main_c
/-- The table of key tiles, whole. -/
abbrev tabK : Memref sig .tc .smem S36 .i32 := Memref.whole main_c_0
/-- The running gradient of the queries, one tile per row. -/
abbrev accQ : Memref sig .tc .vmem S8x128x1024 .f32 := Memref.whole cc0_scratch0
/-- The running gradient of the keys of one key tile, beside the running column sums. -/
abbrev accK : Memref sig .tc .vmem S1024x256 .f32 := Memref.whole cc0_scratch1
/-- The running gradient of the values of one key tile. -/
abbrev accV : Memref sig .tc .vmem S1024x128 .f32 := Memref.whole cc0_scratch2

end Cert.KernelIdeal.Fox

end
-- ==== Proof.Fox.Step.lean ====
/- What one visit of the attention kernel's body computes, as functions of the blocks it reads: the scores of one key tile
   against one query tile (in four groups of 256 queries), the probabilities, their gradients, and the four running sums
   they are added to. -/
module

public import proofs.«01_k».proof.Proof.Fox.Base
public import Idealize.ShloMosaic.Lib.VecWindow
public import Idealize.ShloMosaic.Lib.Pointwise.Index

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F] [Named F]

/-- The blocks one visit reads: the tile's queries, keys and values, the cumulative log-forgets of its keys, the saved
    log-sums and deltas of its queries, and the cotangent of the output (its columns are the queries). -/
structure Blk (F : FTy → Type) where
  q : S1024x128.Idx → Elt F .f32
  k : S1024x128.Idx → Elt F .f32
  v : S1024x128.Idx → Elt F .f32
  ck : S1x1024x128.Idx → Elt F .f32
  lse : S1x1x1024.Idx → Elt F .f32
  dl : S1x1x1024.Idx → Elt F .f32
  ct : S128x1024.Idx → Elt F .f32

theorem inb_q (g : Fin 4) : ∀ a, (![256 * g.val, 0] : Fin 2 → ℕ) a + S256x128.size a ≤ S1024x128.size a := by
  revert g; decide
theorem inb_ct (g : Fin 4) : ∀ a, (![0, 256 * g.val] : Fin 2 → ℕ) a + S128x256.size a ≤ S128x1024.size a := by
  revert g; decide
theorem inb_l (g : Fin 4) : ∀ a, (![0, 0, 256 * g.val] : Fin 3 → ℕ) a + S1x1x256.size a ≤ S1x1x1024.size a := by
  revert g; decide
theorem inb_k : ∀ a, (![0, 0] : Fin 2 → ℕ) a + S1024x128.size a ≤ S1024x128.size a := by decide
theorem inb_ck : ∀ a, (![0, 0, 0] : Fin 3 → ℕ) a + S1x1024x128.size a ≤ S1x1024x128.size a := by decide
theorem inb_rowQ (i : Fin 8) : ∀ a, (![i.val, 0, 0] : Fin 3 → ℕ) a + S1x128x1024.size a ≤ S8x128x1024.size a := by
  revert i; decide
theorem inb_rowR (i : Fin 8) : ∀ a, (![0, i.val, 0] : Fin 3 → ℕ) a + S1x1x1024.size a ≤ S1x8x1024.size a := by
  revert i; decide

variable (b : Blk F) (d : Bool) (g : Fin 4)

/-- Group `g`'s scaled queries. -/
def qs : FVec F S256x128 .bf16 :=
  truncf .bf16 (mulf (VecWindow.window b.q ![256 * g.val, 0] S256x128.size (inb_q g) : FVec F S256x128 .f32)
    (broadcast S256x128 (Scalar.ofBits .f32 0x3DB504F3#32))) bitsLt_bf16_f32

/-- The tile's keys. -/
def kb : FVec F S1024x128 .bf16 := truncf .bf16 (VecWindow.window b.k ![0, 0] S1024x128.size inb_k : FVec F S1024x128 .f32) bitsLt_bf16_f32

/-- The keys' cumulative log-forgets beside 256 queries. -/
def ck2 : FVec F S1024x256 .f32 :=
  concatenate S1024x256 1 [⟨S1024x128, shapeCast S1024x128 (VecWindow.window b.ck ![0, 0, 0] S1x1024x128.size inb_ck : FVec F S1x1024x128 .f32) shapeCasts_S1x1024x128_S1024x128⟩,
    ⟨S1024x128, shapeCast S1024x128 (VecWindow.window b.ck ![0, 0, 0] S1x1024x128.size inb_ck : FVec F S1x1024x128 .f32) shapeCasts_S1x1024x128_S1024x128⟩]
    concatenates_S1024x128_S1024x128_S1024x256_d1

/-- Group `g`'s scores, keys by queries, before any mask. -/
def sc : FVec F S1024x256 .f32 :=
  subf (matmul dot_S1024x128_S256x128_S1024x256_1_1_0_0_n_n none (kb b) (qs b g) (constant S1024x256 .f32 0x00000000#32)) (ck2 b)

/-- Group `g`'s scores of a tile on the diagonal: a later key is masked. -/
def scD : FVec F S1024x256 .f32 :=
  select (cmpi .sle (iota .tc S1024x256 32 [0] iota_S1024x256_d0_w32)
      (addi (broadcast S1024x256 (BitVec.ofNat 32 (256 * g.val))) (iota .tc S1024x256 32 [1] iota_S1024x256_d1_w32)))
    (sc b g) (broadcast S1024x256 (Named.named κ "mask" 0xF149F2CA#32))

/-- Group `g`'s cotangents. -/
def dob : FVec F S128x256 .bf16 :=
  truncf .bf16 (shapeCast S128x256 (VecWindow.window b.ct ![0, 256 * g.val] S128x256.size (inb_ct g) : FVec F S128x256 .f32)
    shapeCasts_S128x256_S128x256) bitsLt_bf16_f32

/-- The gradient of group `g`'s probabilities: values times cotangents. -/
def dp : FVec F S1024x256 .f32 :=
  matmul dot_S1024x128_S128x256_S1024x256_1_0_0_1_n_n none (truncf .bf16 (VecWindow.window b.v ![0, 0] S1024x128.size inb_k : FVec F S1024x128 .f32) bitsLt_bf16_f32) (dob b g)
    (constant S1024x256 .f32 0x00000000#32)

/-- Group `g`'s probabilities. -/
def pr : FVec F S1024x256 .f32 :=
  exp (subf (cond d (scD b g) (sc b g)) (broadcastTo S1024x256
    (shapeCast S1x256 (VecWindow.window b.lse ![0, 0, 256 * g.val] S1x1x256.size (inb_l g) : FVec F S1x1x256 .f32) shapeCasts_S1x1x256_S1x256)
    broadcasts_S1x256_S1024x256))

/-- The gradient of group `g`'s scores. -/
def ds : FVec F S1024x256 .bf16 :=
  truncf .bf16 (mulf (pr b d g) (subf (dp b g) (broadcastTo S1024x256
    (shapeCast S1x256 (VecWindow.window b.dl ![0, 0, 256 * g.val] S1x1x256.size (inb_l g) : FVec F S1x1x256 .f32) shapeCasts_S1x1x256_S1x256)
    broadcasts_S1x256_S1024x256))) bitsLt_bf16_f32

/-- The running gradient of the values with group `g` added. -/
def addV (acc : FVec F S1024x128 .f32) : FVec F S1024x128 .f32 :=
  shapeCast S1024x128 (addf acc (matmul dot_S1024x256_S128x256_S1024x128_1_1_0_0_n_n none (truncf .bf16 (pr b d g) bitsLt_bf16_f32) (dob b g)
    (constant S1024x128 .f32 0x00000000#32))) shapeCasts_S1024x128_S1024x128

/-- The running gradient of the keys, beside the column sums, with group `g` added. -/
def addK (acc : FVec F S1024x256 .f32) : FVec F S1024x256 .f32 :=
  shapeCast S1024x256 (addf acc (matmul dot_S1024x256_S256x256_S1024x256_1_0_0_1_n_n none (ds b d g)
    (concatenate S256x256 1 [⟨S256x128, qs b g⟩, ⟨S256x128, broadcast S256x128 (Scalar.ofBits .bf16 0x3F80#16)⟩] concatenates_S256x128_S256x128_S256x256_d1)
    (constant S1024x256 .f32 0x00000000#32))) shapeCasts_S1024x256_S1024x256

/-- Group `g`'s part of the gradient of the queries. -/
def dqg : FVec F S128x256 .f32 :=
  mulf (matmul dot_S1024x128_S1024x256_S128x256_0_0_1_1_n_n none (kb b) (ds b d g) (constant S128x256 .f32 0x00000000#32))
    (broadcast S128x256 (Scalar.ofBits .f32 0x3DB504F3#32))

/-- Group `g`'s row sums. -/
def drg : FVec F S1x256 .f32 :=
  extractStridedSlice S1x256 ![0, 0] (matmul dot_S8x1024_S1024x256_S8x256_1_0_0_1_n_n none (broadcast S8x1024 (Scalar.ofBits .bf16 0x3F80#16)) (ds b d g)
    (constant S8x256 .f32 0x00000000#32)) slices_S8x256_o0_0_S1x256

/-- The running gradient of the values after a visit. -/
def newV (acc : FVec F S1024x128 .f32) : FVec F S1024x128 .f32 := addV b d 3 (addV b d 2 (addV b d 1 (addV b d 0 acc)))

/-- The running gradient of the keys, beside the column sums, after a visit. -/
def newK (acc : FVec F S1024x256 .f32) : FVec F S1024x256 .f32 := addK b d 3 (addK b d 2 (addK b d 1 (addK b d 0 acc)))

/-- One tile's row of the running gradient of the queries after a visit. -/
def rowQ (old : FVec F S1x128x1024 .f32) : FVec F S1x128x1024 .f32 :=
  shapeCast S1x128x1024 (addf (shapeCast S128x1024 old shapeCasts_S1x128x1024_S128x1024)
    (concatenate S128x1024 1 [⟨S128x256, dqg b d 0⟩, ⟨S128x256, dqg b d 1⟩, ⟨S128x256, dqg b d 2⟩, ⟨S128x256, dqg b d 3⟩]
      concatenates_S128x256_S128x256_S128x256_S128x256_S128x1024_d1)) shapeCasts_S128x1024_S1x128x1024

/-- One tile's row of the running row sums after a visit. -/
def rowR (old : FVec F S1x1x1024 .f32) : FVec F S1x1x1024 .f32 :=
  shapeCast S1x1x1024 (addf (shapeCast S1x1024 old shapeCasts_S1x1x1024_S1x1024)
    (concatenate S1x1024 1 [⟨S1x256, drg b d 0⟩, ⟨S1x256, drg b d 1⟩, ⟨S1x256, drg b d 2⟩, ⟨S1x256, drg b d 3⟩]
      concatenates_S1x256_S1x256_S1x256_S1x256_S1x1024_d1)) shapeCasts_S1x1024_S1x1x1024

/-- The running gradient of the queries after a visit of query tile `i`. -/
def newQ (i : Fin 8) (x : S8x128x1024.Idx → Elt F .f32) : S8x128x1024.Idx → Elt F .f32 :=
  VecWindow.put x ![i.val, 0, 0] S1x128x1024.size (rowQ b d (VecWindow.window x ![i.val, 0, 0] S1x128x1024.size (inb_rowQ i)))

/-- The running row sums after a visit of query tile `i`. -/
def newR (i : Fin 8) (x : S1x8x1024.Idx → Elt F .f32) : S1x8x1024.Idx → Elt F .f32 :=
  VecWindow.put x ![0, i.val, 0] S1x1x1024.size (rowR b d (VecWindow.window x ![0, i.val, 0] S1x1x1024.size (inb_rowR i)))

/-- Every running sum at zero. -/
def zQ : S8x128x1024.Idx → Elt F .f32 := k0_pay1 (F := F)
def zR : S1x8x1024.Idx → Elt F .f32 := k0_pay2 (F := F)
def zK : S1024x256.Idx → Elt F .f32 := k0_pay3 (F := F)
def zV : S1024x128.Idx → Elt F .f32 := k0_pay4 (F := F)

/-- The gradient of the keys of one tile as it is written out. -/
def outK (x : S1024x256.Idx → Elt F .f32) : S1024x128.Idx → Elt F .bf16 := k0_pay8 x
/-- The column sums of one tile as they are written out. -/
def outC (x : S1024x256.Idx → Elt F .f32) : S1x1024x1.Idx → Elt F .f32 := k0_pay9 x
/-- The gradient of the values of one tile as it is written out. -/
def outV (x : S1024x128.Idx → Elt F .f32) : S1024x128.Idx → Elt F .bf16 := k0_pay10 x

/-- The gradient of the queries of one head as it is written out: each tile turned round. -/
def outQ (x : S8x128x1024.Idx → Elt F .f32) : S8192x128.Idx → Elt F .bf16 := fun y =>
  k0_pay109 (VecWindow.window x ![(y 0).val / 1024, 0, 0] S1x128x1024.size
    (inb_rowQ ⟨(y 0).val / 1024, by have h : (y 0).val < 8192 := (y 0).isLt; omega⟩))
    (ix2 (⟨(y 0).val % 1024, Nat.mod_lt _ (by decide)⟩ : Fin 1024) (y 1 : Fin 128))

/-- Row `1024 j + x₀` of the queries' gradient as it is written out is row `x₀` of tile `j` turned round. -/
theorem outQ_emb (j : Fin 8) (X : S8x128x1024.Idx → Elt F .f32) (x : S1024x128.Idx) (y : S8192x128.Idx)
    (h0 : (y 0).val = 1024 * j.val + (x 0).val) (h1 : (y 1).val = (x 1).val) :
    outQ X y = k0_pay109 (VecWindow.window X ![j.val, 0, 0] S1x128x1024.size (inb_rowQ j)) x := by
  have hx : (x 0).val < 1024 := (x 0).isLt
  have hd : (y 0).val / 1024 = j.val := by omega
  have hm : (y 0).val % 1024 = (x 0).val := by omega
  have key : ∀ (n : ℕ) (hn : n < 8), n = j.val → ∀ z, z = x →
      k0_pay109 (VecWindow.window X ![n, 0, 0] S1x128x1024.size (inb_rowQ ⟨n, hn⟩)) z
        = k0_pay109 (VecWindow.window X ![j.val, 0, 0] S1x128x1024.size (inb_rowQ j)) x := by
    intro n hn h z hz; subst hz; subst h; rfl
  refine key _ (by omega) hd _ ?_
  funext a
  match a with
  | 0 => exact Fin.ext hm
  | 1 => exact Fin.ext h1

end Cert.KernelIdeal.Fox

end
-- ==== Proof.Fox.Words.lean ====
/- The control words of the body at a visit whose tables name query tile `i` and key tile `j`: which regions it enters and
   which rows it touches. -/
module

public import proofs.«01_k».proof.Proof.Fox.Step

@[expose] public section

set_option maxRecDepth 16384

noncomputable section

namespace Cert.KernelIdeal.Fox

open Cert.KernelIdeal Cert.KernelIdeal.Gen
open Idealize.ShloMosaic Idealize.ShloMosaic.TcCoe

/-- The word of a tile. -/
abbrev wd (i : Fin 8) : BitVec 32 := BitVec.ofNat 32 i.val

theorem off2_wd : ∀ i : Fin 8, k0_off2 (wd i) = ![i.val, 0, 0] := by decide
theorem off3_wd : ∀ i : Fin 8, k0_off3 (wd i) = ![0, i.val, 0] := by decide
theorem off4_wd : ∀ i : Fin 8, k0_off4 (wd i) = ![i.val, 0, 0] := by decide
theorem off5_wd : ∀ i : Fin 8, k0_off5 (wd i) = ![0, i.val, 0] := by decide

theorem chk_wd (i j : Fin 8) : k0_chk1 (wd i) (wd j) := by
  refine ⟨fun _ => ?_, fun _ => ?_, fun _ => ?_, fun _ => ?_⟩
  · rw [off2_wd]; exact inb_rowQ i
  · rw [off3_wd]; exact inb_rowR i
  · rw [off4_wd]; exact inb_rowQ i
  · rw [off5_wd]; exact inb_rowR i

theorem eq_wd : ∀ i j : Fin 8, (Scalar.cmpi .ne (Scalar.extui (Scalar.cmpi .eq (wd i) (wd j)) : BitVec 32) 0#32 = 1#1) ↔ i = j := by
  decide +kernel
theorem cond3_wd : ∀ i j : Fin 8, (k0_cond3 (wd i) (wd j) = 1#1) ↔ i = j := by decide +kernel
theorem cond4_wd : ∀ i j : Fin 8, (k0_cond4 (wd i) (wd j) = 1#1) ↔ j < i := by decide +kernel
theorem cond5_wd : ∀ i : Fin 8, (k0_cond5 (wd i) = 1#1) ↔ i = 7 := by decide +kernel
theorem cond1_at : ∀ i : grid0.Coords, (k0_cond1 i = 1#1) ↔ (i 1).val = 0 := by
  intro i
  have h : ∀ t : Fin 36, (Scalar.cmpi .ne (Scalar.extui (Scalar.cmpi .eq (BitVec.ofNat 32 t.val) 0#32) : BitVec 32) 0#32 = 1#1) ↔ t.val = 0 := by
    decide +kernel
  exact h (i 1)
theorem cond6_at : ∀ i : grid0.Coords, (k0_cond6 i = 1#1) ↔ (i 1).val = 35 := by
  intro i
  have h : ∀ t : Fin 36, (Scalar.cmpi .ne (Scalar.extui (Scalar.cmpi .eq (BitVec.ofNat 32 t.val) 35#32) : BitVec 32) 0#32 = 1#1) ↔ t.val = 35 := by
    decide +kernel
  exact h (i 1)

section Points
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-! Each scratch buffer held with contents that read as `x` is held at `x`. -/

theorem accQ_of_read (c : Dev nD) {x : S8x128x1024.Idx → Elt F .f32} :
    iprop(∃ f, ⌜accQ.view.read (Elt F) f = x⌝ ∗ (accQ.view.loc (c : Thread nD τ) ↦{fullShare} f))
      ⊢ ((accQ.view.loc (c : Thread nD τ) ↦{fullShare} x) : sProp 𝕄) := by
  iintro ⟨%f, %h, H⟩
  obtain rfl : f = x := h
  iexact H

theorem accK_of_read (c : Dev nD) {x : S1024x256.Idx → Elt F .f32} :
    iprop(∃ f, ⌜accK.view.read (Elt F) f = x⌝ ∗ (accK.view.loc (c : Thread nD τ) ↦{fullShare} f))
      ⊢ ((accK.view.loc (c : Thread nD τ) ↦{fullShare} x) : sProp 𝕄) := by
  iintro ⟨%f, %h, H⟩
  obtain rfl : f = x := h
  iexact H

theorem accV_of_read (c : Dev nD) {x : S1024x128.Idx → Elt F .f32} :
    iprop(∃ f, ⌜accV.view.read (Elt F) f = x⌝ ∗ (accV.view.loc (c : Thread nD τ) ↦{fullShare} f))
      ⊢ ((accV.view.loc (c : Thread nD τ) ↦{fullShare} x) : sProp 𝕄) := by
  iintro ⟨%f, %h, H⟩
  obtain rfl : f = x := h
  iexact H

end Points

end Cert.KernelIdeal.Fox

end
-- ==== Proof.Fox.Tables.lean ====
/- The visiting order of the attention kernel: the two tables, the side condition at them, and where each window moves. -/
module

public import proofs.«01_k».proof.Proof.Fox.Words

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic

/-- The number system of this program's claims. -/
abbrev 𝔽 : FTy → Type := Idealize.ShloMosaic.Ideal

/-- The query tile of visit `s`. -/
def qiF (s : Fin 36) : Fin 8 := ⟨(lit0 s).toNat % 8, Nat.mod_lt _ (by decide)⟩
/-- The key tile of visit `s`. -/
def kjF (s : Fin 36) : Fin 8 := ⟨(lit1 s).toNat % 8, Nat.mod_lt _ (by decide)⟩

/-- The table of query tiles. -/
def T0 : S36.Idx → Elt 𝔽 .i32 := fun x => lit0 (S36.rowMajor x)
/-- The table of key tiles. -/
def T1 : S36.Idx → Elt 𝔽 .i32 := fun x => lit1 (S36.rowMajor x)

/-- The tables the kernel runs at. -/
def tabs : pre0.Contents (Elt 𝔽) := fun
  | 0 => T0
  | 1 => T1
  | ⟨_ + 2, h⟩ => absurd h (Nat.not_lt.2 (Nat.le_add_left _ _))

theorem inb_0 : ∀ i : grid0.Coords, ∀ a, (cc0_transform_0 k0_off1_inb numel1_S1 tabs i a + 1) * S1024x128.size a ≤ S8192x7168.size a := by decide +kernel
theorem inb_1 : ∀ i : grid0.Coords, ∀ a, (cc0_transform_1 k0_off1_inb numel1_S1 tabs i a + 1) * S1024x128.size a ≤ S8192x7168.size a := by decide +kernel
theorem inb_2 : ∀ i : grid0.Coords, ∀ a, (cc0_transform_2 k0_off1_inb numel1_S1 tabs i a + 1) * S1024x128.size a ≤ S8192x7168.size a := by decide +kernel
theorem inb_3 : ∀ i : grid0.Coords, ∀ a, (cc0_transform_3 k0_off1_inb numel1_S1 tabs i a + 1) * S1x1024x128.size a ≤ S8x8192x128.size a := by decide +kernel
theorem inb_4 : ∀ i : grid0.Coords, ∀ a, (cc0_transform_4 k0_off1_inb numel1_S1 tabs i a + 1) * S1x1x1024.size a ≤ S8x1x8192.size a := by decide +kernel
theorem inb_5 : ∀ i : grid0.Coords, ∀ a, (cc0_transform_5 k0_off1_inb numel1_S1 tabs i a + 1) * S1x1x1024.size a ≤ S8x1x8192.size a := by decide +kernel
theorem inb_6 : ∀ i : grid0.Coords, ∀ a, (cc0_transform_6 k0_off1_inb numel1_S1 tabs i a + 1) * S128x1024.size a ≤ S1024x8192.size a := by decide +kernel
theorem inb_8 : ∀ i : grid0.Coords, ∀ a, (cc0_transform_8 k0_off1_inb numel1_S1 tabs i a + 1) * S1024x128.size a ≤ S8192x1024.size a := by decide +kernel
theorem inb_9 : ∀ i : grid0.Coords, ∀ a, (cc0_transform_9 k0_off1_inb numel1_S1 tabs i a + 1) * S1024x128.size a ≤ S8192x1024.size a := by decide +kernel
theorem inb_11 : ∀ i : grid0.Coords, ∀ a, (cc0_transform_11 k0_off1_inb numel1_S1 tabs i a + 1) * S1x1024x1.size a ≤ S8x8192x1.size a := by decide +kernel

theorem whole_8 : ∀ i : grid0.Coords, EltTy.bits .bf16 = 32 ∨ (Rect.block (s := S8192x1024) S1024x128.size (cc0_transform_8 k0_off1_inb numel1_S1 tabs i) (inb_8 i)).WholeWords (EltTy.packing .bf16) := by
  decide +kernel
theorem whole_9 : ∀ i : grid0.Coords, EltTy.bits .bf16 = 32 ∨ (Rect.block (s := S8192x1024) S1024x128.size (cc0_transform_9 k0_off1_inb numel1_S1 tabs i) (inb_9 i)).WholeWords (EltTy.packing .bf16) := by
  decide +kernel

/-- Every block of every window lies inside its array. -/
theorem ok_tabs : ok0 tabs :=
  ⟨fun i => ⟨inb_0 i, .inl rfl⟩, fun i => ⟨inb_1 i, .inl rfl⟩, fun i => ⟨inb_2 i, .inl rfl⟩, fun i => ⟨inb_3 i, .inl rfl⟩,
    fun i => ⟨inb_4 i, .inl rfl⟩, fun i => ⟨inb_5 i, .inl rfl⟩, fun i => ⟨inb_6 i, .inl rfl⟩, fun i => ⟨inb_8 i, whole_8 i⟩,
    fun i => ⟨inb_9 i, whole_9 i⟩, fun i => ⟨inb_11 i, .inl rfl⟩⟩

/-- The tables as admissible contents; the pipeline at them. -/
def adm : (pcfg0 (F := 𝔽)).Adm := ⟨tabs, ok_tabs⟩
abbrev cfgA : Pipeline.Cfg sig Λ₀ := cfg0 (F := 𝔽) adm

/-- Point `t`'s coordinates. -/
abbrev crd (t : Fin cfgA.N) : grid0.Coords := cfgA.grid.coords t

/-- The query tile and the key tile of point `t`. -/
def qiT (t : Fin cfgA.N) : Fin 8 := qiF ⟨t.val % 36, Nat.mod_lt _ (by decide)⟩
def kjT (t : Fin cfgA.N) : Fin 8 := kjF ⟨t.val % 36, Nat.mod_lt _ (by decide)⟩

/-- What the body reads of the tables at point `t`, and what is decided there. -/
theorem word0 : ∀ t : Fin cfgA.N, View.readAt (Elt 𝔽) tabQ.view (Rect.unit (s := S36) (k0_off1 (crd t)) S1.size (k0_off1_inb (crd t))).toLoadRect T0 (Shape.Idx.first (numel1_S1.symm ▸ Nat.one_pos)) = wd (qiT t) := by
  decide +kernel
theorem word1 : ∀ t : Fin cfgA.N, View.readAt (Elt 𝔽) tabK.view (Rect.unit (s := S36) (k0_off1 (crd t)) S1.size (k0_off1_inb (crd t))).toLoadRect T1 (Shape.Idx.first (numel1_S1.symm ▸ Nat.one_pos)) = wd (kjT t) := by
  decide +kernel
theorem crd1 : ∀ t : Fin cfgA.N, (crd t 1).val = t.val % 36 := by decide +kernel
theorem crd0 : ∀ t : Fin cfgA.N, (crd t 0).val = t.val / 36 := by decide +kernel

/-- The order of the tiles: below the diagonal or on it; the first visit and the last. -/
theorem tile_le : ∀ t : Fin cfgA.N, kjT t ≤ qiT t := by decide +kernel
theorem tile_first : ∀ t : Fin cfgA.N, t.val % 36 = 0 → qiT t = 0 ∧ kjT t = 0 := by decide +kernel
theorem tile_last : ∀ t : Fin cfgA.N, t.val % 36 = 35 → qiT t = 7 ∧ kjT t = 7 := by decide +kernel
theorem tile_diag : ∀ t : Fin cfgA.N, qiT t = 7 → kjT t = 7 → t.val % 36 = 35 := by decide +kernel
theorem tile_zero : ∀ t : Fin cfgA.N, t.val % 36 ≠ 0 → qiT t = kjT t → t.val % 36 ≠ 35 → qiT t ≠ 7 := by decide +kernel

/-- Which windows the body leaves alone at a point, which are written back after it. -/
theorem idle_7 : ∀ t : Fin cfgA.N, cfgA.idle (7 : Fin 12) (crd t) = !decide (t.val % 36 = 35) := by decide +kernel
theorem idle_8 : ∀ t : Fin cfgA.N, cfgA.idle (8 : Fin 12) (crd t) = !decide (qiT t = 7) := by decide +kernel
theorem idle_9 : ∀ t : Fin cfgA.N, cfgA.idle (9 : Fin 12) (crd t) = !decide (qiT t = 7) := by decide +kernel
theorem idle_10 : ∀ t : Fin cfgA.N, cfgA.idle (10 : Fin 12) (crd t) = false := by decide +kernel
theorem idle_11 : ∀ t : Fin cfgA.N, cfgA.idle (11 : Fin 12) (crd t) = !decide (qiT t = 7) := by decide +kernel
theorem flush_7 : ∀ t : Fin cfgA.N, (cfgA.win (7 : Fin 12)).flush t = decide (t.val % 36 = 35) := by decide +kernel
theorem flush_8 : ∀ t : Fin cfgA.N, (cfgA.win (8 : Fin 12)).flush t = decide (qiT t = 7) := by decide +kernel
theorem flush_9 : ∀ t : Fin cfgA.N, (cfgA.win (9 : Fin 12)).flush t = decide (qiT t = 7) := by decide +kernel
theorem flush_10 : ∀ t : Fin cfgA.N, (cfgA.win (10 : Fin 12)).flush t = decide (t.val % 36 = 35) := by decide +kernel
theorem flush_11 : ∀ t : Fin cfgA.N, (cfgA.win (11 : Fin 12)).flush t = decide (qiT t = 7) := by decide +kernel

/-- Nothing of an earlier point is in an output's buffer, but for the row sums' after the head's first visit. -/
theorem fresh_7 (t : Fin cfgA.N) : cfgA.fresh (7 : Fin 12) t.val = true :=
  Pipeline.Cfg.fresh_tab cfgA (7 : Fin 12) (fun _ => true) rfl (fun t => by rw [idle_7 t, flush_7 t]; simp) t.val (Nat.le_of_lt t.isLt)
theorem fresh_8 (t : Fin cfgA.N) : cfgA.fresh (8 : Fin 12) t.val = true :=
  Pipeline.Cfg.fresh_tab cfgA (8 : Fin 12) (fun _ => true) rfl (fun t => by rw [idle_8 t, flush_8 t]; simp) t.val (Nat.le_of_lt t.isLt)
theorem fresh_9 (t : Fin cfgA.N) : cfgA.fresh (9 : Fin 12) t.val = true :=
  Pipeline.Cfg.fresh_tab cfgA (9 : Fin 12) (fun _ => true) rfl (fun t => by rw [idle_9 t, flush_9 t]; simp) t.val (Nat.le_of_lt t.isLt)
theorem fresh_11 (t : Fin cfgA.N) : cfgA.fresh (11 : Fin 12) t.val = true :=
  Pipeline.Cfg.fresh_tab cfgA (11 : Fin 12) (fun _ => true) rfl (fun t => by rw [idle_11 t, flush_11 t]; simp) t.val (Nat.le_of_lt t.isLt)
theorem fresh_10 (t : Fin cfgA.N) : cfgA.fresh (10 : Fin 12) t.val = decide (t.val % 36 = 0) :=
  Pipeline.Cfg.fresh_tab cfgA (10 : Fin 12) (fun n => decide (n % 36 = 0)) rfl
    (fun t => by rw [idle_10 t, flush_10 t, Bool.false_and, Bool.or_false]; exact decide_eq_decide.2 (by omega)) t.val (Nat.le_of_lt t.isLt)

end Cert.KernelIdeal.Fox

end
-- ==== Proof.Fox.State.lean ====
/- What the kernel's buffers hold from visit to visit: the running sums, the invariant, the proof data of the pipeline. -/
module

public import proofs.«01_k».proof.Proof.Fox.Tables

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt 𝔽) ℕ (UR sig nD τ) ℕ

abbrev ms0 (t : Fin cfgA.N) : Memref sig .tc .vmem S1024x128 .f32 := spec0_0.stage (cfgA.slots t (0 : Fin 12))
abbrev hs0 (t : Fin cfgA.N) : (ms0 t).IsWhole := hstage0_0 ((cfgA.slots t (0 : Fin 12)).cast nbuf0_0)
abbrev ms1 (t : Fin cfgA.N) : Memref sig .tc .vmem S1024x128 .f32 := spec0_1.stage (cfgA.slots t (1 : Fin 12))
abbrev hs1 (t : Fin cfgA.N) : (ms1 t).IsWhole := hstage0_1 ((cfgA.slots t (1 : Fin 12)).cast nbuf0_1)
abbrev ms2 (t : Fin cfgA.N) : Memref sig .tc .vmem S1024x128 .f32 := spec0_2.stage (cfgA.slots t (2 : Fin 12))
abbrev hs2 (t : Fin cfgA.N) : (ms2 t).IsWhole := hstage0_2 ((cfgA.slots t (2 : Fin 12)).cast nbuf0_2)
abbrev ms3 (t : Fin cfgA.N) : Memref sig .tc .vmem S1x1024x128 .f32 := spec0_3.stage (cfgA.slots t (3 : Fin 12))
abbrev hs3 (t : Fin cfgA.N) : (ms3 t).IsWhole := hstage0_3 ((cfgA.slots t (3 : Fin 12)).cast nbuf0_3)
abbrev ms4 (t : Fin cfgA.N) : Memref sig .tc .vmem S1x1x1024 .f32 := spec0_4.stage (cfgA.slots t (4 : Fin 12))
abbrev hs4 (t : Fin cfgA.N) : (ms4 t).IsWhole := hstage0_4 ((cfgA.slots t (4 : Fin 12)).cast nbuf0_4)
abbrev ms5 (t : Fin cfgA.N) : Memref sig .tc .vmem S1x1x1024 .f32 := spec0_5.stage (cfgA.slots t (5 : Fin 12))
abbrev hs5 (t : Fin cfgA.N) : (ms5 t).IsWhole := hstage0_5 ((cfgA.slots t (5 : Fin 12)).cast nbuf0_5)
abbrev ms6 (t : Fin cfgA.N) : Memref sig .tc .vmem S128x1024 .f32 := spec0_6.stage (cfgA.slots t (6 : Fin 12))
abbrev hs6 (t : Fin cfgA.N) : (ms6 t).IsWhole := hstage0_6 ((cfgA.slots t (6 : Fin 12)).cast nbuf0_6)
abbrev ms7 (t : Fin cfgA.N) : Memref sig .tc .vmem S8192x128 .bf16 := spec0_7.stage (cfgA.slots t (7 : Fin 12))
abbrev hs7 (t : Fin cfgA.N) : (ms7 t).IsWhole := hstage0_7 ((cfgA.slots t (7 : Fin 12)).cast nbuf0_7)
abbrev ms8 (t : Fin cfgA.N) : Memref sig .tc .vmem S1024x128 .bf16 := spec0_8.stage (cfgA.slots t (8 : Fin 12))
abbrev hs8 (t : Fin cfgA.N) : (ms8 t).IsWhole := hstage0_8 ((cfgA.slots t (8 : Fin 12)).cast nbuf0_8)
abbrev ms9 (t : Fin cfgA.N) : Memref sig .tc .vmem S1024x128 .bf16 := spec0_9.stage (cfgA.slots t (9 : Fin 12))
abbrev hs9 (t : Fin cfgA.N) : (ms9 t).IsWhole := hstage0_9 ((cfgA.slots t (9 : Fin 12)).cast nbuf0_9)
abbrev ms10 (t : Fin cfgA.N) : Memref sig .tc .vmem S1x8x1024 .f32 := spec0_10.stage (cfgA.slots t (10 : Fin 12))
abbrev hs10 (t : Fin cfgA.N) : (ms10 t).IsWhole := hstage0_10 ((cfgA.slots t (10 : Fin 12)).cast nbuf0_10)
abbrev ms11 (t : Fin cfgA.N) : Memref sig .tc .vmem S1x1024x1 .f32 := spec0_11.stage (cfgA.slots t (11 : Fin 12))
abbrev hs11 (t : Fin cfgA.N) : (ms11 t).IsWhole := hstage0_11 ((cfgA.slots t (11 : Fin 12)).cast nbuf0_11)

/- The contents of every array when the kernel starts. -/
variable (V : (c : Dev nD) → (b : Ref sig .tc) → Buf (Elt 𝔽) ((c.tc : Thread nD τ).loc b))

/-- Window `w`'s block at point `t`, read off its array at launch. -/
def iblk (c : Dev nD) (w : Fin cfgA.W) (t : Fin cfgA.N) : ((cfgA.win w).xblock (crd t)).Idx → Elt 𝔽 (cfgA.win w).elt :=
  ((cfgA.win w).blk t).view.read (Elt 𝔽) (V c (Pipeline.arrRef cfgA.spec w))

/-- The blocks point `t` reads. -/
def blkT (c : Dev nD) (t : Fin cfgA.N) : Blk 𝔽 :=
  ⟨iblk V c (0 : Fin 12) t, iblk V c (1 : Fin 12) t, iblk V c (2 : Fin 12) t, iblk V c (3 : Fin 12) t, iblk V c (4 : Fin 12) t,
    iblk V c (5 : Fin 12) t, iblk V c (6 : Fin 12) t⟩

/-- The four running sums: the queries' gradient, the keys' beside the column sums, the values', the row sums. -/
structure St where
  q : S8x128x1024.Idx → Elt 𝔽 .f32
  k : S1024x256.Idx → Elt 𝔽 .f32
  v : S1024x128.Idx → Elt 𝔽 .f32
  r : S1x8x1024.Idx → Elt 𝔽 .f32

/-- One visit: the sums of a head start at its first visit, those of a key tile at its visit on the diagonal. -/
def St.step (b : Blk 𝔽) (qi kj : Fin 8) (first : Bool) (s : St) : St where
  q := newQ b (decide (qi = kj)) qi (cond first zQ s.q)
  k := newK b (decide (qi = kj)) (cond (decide (qi = kj)) zK s.k)
  v := newV b (decide (qi = kj)) (cond (decide (qi = kj)) zV s.v)
  r := newR b (decide (qi = kj)) qi (cond first zR s.r)

/-- The running sums before point `n`. -/
def traj (c : Dev nD) : ℕ → St
  | 0 => ⟨zQ, zK, zV, zR⟩
  | n + 1 => if h : n < cfgA.N then
      (traj c n).step (blkT V c ⟨n, h⟩) (qiT ⟨n, h⟩) (kjT ⟨n, h⟩) (decide (n % 36 = 0))
    else traj c n

theorem traj_succ (c : Dev nD) (t : Fin cfgA.N) :
    traj V c (t.val + 1) = (traj V c t.val).step (blkT V c t) (qiT t) (kjT t) (decide (t.val % 36 = 0)) := by
  rw [traj, dif_pos t.isLt]

/-- The invariant before point `n`: the scratches at the running sums once a visit has set them, and the tables. -/
def Phi (c : Dev nD) (n : ℕ) : sProp 𝕄 :=
  iprop((∃ a, ⌜n ≠ 0 → a = (traj V c n).q⌝ ∗ (accQ.view.loc (c : Thread nD τ) ↦{fullShare} a))
    ∗ (∃ a, ⌜n ≠ 0 → a = (traj V c n).k⌝ ∗ (accK.view.loc (c : Thread nD τ) ↦{fullShare} a))
    ∗ (∃ a, ⌜n ≠ 0 → a = (traj V c n).v⌝ ∗ (accV.view.loc (c : Thread nD τ) ↦{fullShare} a))
    ∗ (tabQ.view.loc (c : Thread nD τ) ↦{fullShare.right} T0) ∗ (tabK.view.loc (c : Thread nD τ) ↦{fullShare.right} T1)
    ∗ (∃ g, prngReg c g))

/-- The proof data of the pipeline on core `c`. -/
def dats (_ : Fin 1) (c : Dev nD) : Dat τ (Elt 𝔽) Unit ℕ (UR sig nD τ) ℕ cfgA c where
  A w := V c (Pipeline.arrRef cfgA.spec w)
  after w t := match w with
    | ⟨0, _⟩ => iblk V c (0 : Fin 12) t
    | ⟨1, _⟩ => iblk V c (1 : Fin 12) t
    | ⟨2, _⟩ => iblk V c (2 : Fin 12) t
    | ⟨3, _⟩ => iblk V c (3 : Fin 12) t
    | ⟨4, _⟩ => iblk V c (4 : Fin 12) t
    | ⟨5, _⟩ => iblk V c (5 : Fin 12) t
    | ⟨6, _⟩ => iblk V c (6 : Fin 12) t
    | ⟨7, _⟩ => outQ (traj V c (t.val + 1)).q
    | ⟨8, _⟩ => outK (traj V c (t.val + 1)).k
    | ⟨9, _⟩ => outV (traj V c (t.val + 1)).v
    | ⟨10, _⟩ => (traj V c (t.val + 1)).r
    | ⟨11, _⟩ => outC (traj V c (t.val + 1)).k
  Φ t := Phi V c t.val
  q w := Pipeline.shareOf cfgA.spec w
  owed _ := 0

theorem after_0 (c : Dev nD) (t : Fin cfgA.N) : (dats V 0 c).after (0 : Fin 12) t = iblk V c (0 : Fin 12) t := rfl
theorem after_1 (c : Dev nD) (t : Fin cfgA.N) : (dats V 0 c).after (1 : Fin 12) t = iblk V c (1 : Fin 12) t := rfl
theorem after_2 (c : Dev nD) (t : Fin cfgA.N) : (dats V 0 c).after (2 : Fin 12) t = iblk V c (2 : Fin 12) t := rfl
theorem after_3 (c : Dev nD) (t : Fin cfgA.N) : (dats V 0 c).after (3 : Fin 12) t = iblk V c (3 : Fin 12) t := rfl
theorem after_4 (c : Dev nD) (t : Fin cfgA.N) : (dats V 0 c).after (4 : Fin 12) t = iblk V c (4 : Fin 12) t := rfl
theorem after_5 (c : Dev nD) (t : Fin cfgA.N) : (dats V 0 c).after (5 : Fin 12) t = iblk V c (5 : Fin 12) t := rfl
theorem after_6 (c : Dev nD) (t : Fin cfgA.N) : (dats V 0 c).after (6 : Fin 12) t = iblk V c (6 : Fin 12) t := rfl
theorem after_7 (c : Dev nD) (t : Fin cfgA.N) : (dats V 0 c).after (7 : Fin 12) t = outQ (traj V c (t.val + 1)).q := rfl
theorem after_8 (c : Dev nD) (t : Fin cfgA.N) : (dats V 0 c).after (8 : Fin 12) t = outK (traj V c (t.val + 1)).k := rfl
theorem after_9 (c : Dev nD) (t : Fin cfgA.N) : (dats V 0 c).after (9 : Fin 12) t = outV (traj V c (t.val + 1)).v := rfl
theorem after_10 (c : Dev nD) (t : Fin cfgA.N) : (dats V 0 c).after (10 : Fin 12) t = (traj V c (t.val + 1)).r := rfl
theorem after_11 (c : Dev nD) (t : Fin cfgA.N) : (dats V 0 c).after (11 : Fin 12) t = outC (traj V c (t.val + 1)).k := rfl

/-! What each buffer holds when the body runs: an input its block, an output what an earlier point of its block left. -/

theorem before_0 (c : Dev nD) (t : Fin cfgA.N) (d) : (dats V 0 c).before (0 : Fin 12) t d = iblk V c (0 : Fin 12) t :=
  ((dats V 0 c).before_in_eq_fetched (0 : Fin 12) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats V 0 c).before (1 : Fin 12) t d = iblk V c (1 : Fin 12) t :=
  ((dats V 0 c).before_in_eq_fetched (1 : Fin 12) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats V 0 c).before (2 : Fin 12) t d = iblk V c (2 : Fin 12) t :=
  ((dats V 0 c).before_in_eq_fetched (2 : Fin 12) rfl (fun _ => rfl) (fun _ _ _ => rfl) (fun t => by rw [after_2]; unfold Dat.blockOf iblk; rfl) t d).trans
    (by unfold Dat.fetched Dat.blockOf iblk; rfl)
theorem before_3 (c : Dev nD) (t : Fin cfgA.N) (d) : (dats V 0 c).before (3 : Fin 12) t d = iblk V c (3 : Fin 12) t :=
  ((dats V 0 c).before_in_eq_fetched (3 : Fin 12) rfl (fun _ => rfl) (fun _ _ _ => rfl) (fun t => by rw [after_3]; unfold Dat.blockOf iblk; rfl) t d).trans
    (by unfold Dat.fetched Dat.blockOf iblk; rfl)
theorem before_4 (c : Dev nD) (t : Fin cfgA.N) (d) : (dats V 0 c).before (4 : Fin 12) t d = iblk V c (4 : Fin 12) t :=
  ((dats V 0 c).before_in_eq_fetched (4 : Fin 12) rfl (fun _ => rfl) (fun _ _ _ => rfl) (fun t => by rw [after_4]; unfold Dat.blockOf iblk; rfl) t d).trans
    (by unfold Dat.fetched Dat.blockOf iblk; rfl)
theorem before_5 (c : Dev nD) (t : Fin cfgA.N) (d) : (dats V 0 c).before (5 : Fin 12) t d = iblk V c (5 : Fin 12) t :=
  ((dats V 0 c).before_in_eq_fetched (5 : Fin 12) rfl (fun _ => rfl) (fun _ _ _ => rfl) (fun t => by rw [after_5]; unfold Dat.blockOf iblk; rfl) t d).trans
    (by unfold Dat.fetched Dat.blockOf iblk; rfl)
theorem before_6 (c : Dev nD) (t : Fin cfgA.N) (d) : (dats V 0 c).before (6 : Fin 12) t d = iblk V c (6 : Fin 12) t :=
  ((dats V 0 c).before_in_eq_fetched (6 : Fin 12) rfl (fun _ => rfl) (fun _ _ _ => rfl) (fun t => by rw [after_6]; unfold Dat.blockOf iblk; rfl) t d).trans
    (by unfold Dat.fetched Dat.blockOf iblk; rfl)
theorem before_7 (c : Dev nD) (t : Fin cfgA.N) (d) : (dats V 0 c).before (7 : Fin 12) t d = d := by
  rw [(dats V 0 c).before_out_traj (7 : Fin 12) rfl (fun _ _ => rfl) (fun t ht hi hf => absurd ((fresh_7 t).symm.trans hf) (by decide)) t.val t rfl d,
    fresh_7 t]
  rfl
theorem before_8 (c : Dev nD) (t : Fin cfgA.N) (d) : (dats V 0 c).before (8 : Fin 12) t d = d := by
  rw [(dats V 0 c).before_out_traj (8 : Fin 12) rfl (fun _ _ => rfl) (fun t ht hi hf => absurd ((fresh_8 t).symm.trans hf) (by decide)) t.val t rfl d,
    fresh_8 t]
  rfl
theorem before_9 (c : Dev nD) (t : Fin cfgA.N) (d) : (dats V 0 c).before (9 : Fin 12) t d = d := by
  rw [(dats V 0 c).before_out_traj (9 : Fin 12) rfl (fun _ _ => rfl) (fun t ht hi hf => absurd ((fresh_9 t).symm.trans hf) (by decide)) t.val t rfl d,
    fresh_9 t]
  rfl
theorem before_11 (c : Dev nD) (t : Fin cfgA.N) (d) : (dats V 0 c).before (11 : Fin 12) t d = d := by
  rw [(dats V 0 c).before_out_traj (11 : Fin 12) rfl (fun _ _ => rfl) (fun t ht hi hf => absurd ((fresh_11 t).symm.trans hf) (by decide)) t.val t rfl d,
    fresh_11 t]
  rfl
theorem before_10 (c : Dev nD) (t : Fin cfgA.N) (d) : (dats V 0 c).before (10 : Fin 12) t d = if t.val % 36 = 0 then d else (traj V c t.val).r := by
  rw [(dats V 0 c).before_out_traj (10 : Fin 12) rfl (fun _ _ => rfl) (fun t ht hi hf => absurd ((idle_10 t).symm.trans hi) (by decide)) t.val t rfl d,
    fresh_10 t]
  by_cases h : t.val % 36 = 0
  · simp only [h, decide_true, ↓reduceIte]
  · have h0 : t.val ≠ 0 := fun h0 => h (by rw [h0])
    simp only [h, decide_false, Bool.false_eq_true, ↓reduceIte]
    rw [after_10]
    show (traj V c (t.val - 1 + 1)).r = _
    rw [Nat.sub_add_cancel (Nat.one_le_iff_ne_zero.2 h0)]

end Cert.KernelIdeal.Fox

end
-- ==== Proof.Fox.RunA.lean ====
/- One visit of the attention kernel's body, the first visit of a head: the running sums start at zero and the tile is on the diagonal. -/
module

public import proofs.«01_k».proof.Proof.Fox.Words
public import Idealize.ShloMosaic.Lib.Ring

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
set_option backward.proofsInPublic true in
/-- The body at the first visit of a head: the running sums start at zero and the tile is on the diagonal. -/
theorem runA (c : Dev nD) (i : grid0.Coords)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1x1024x128 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S128x1024 .f32) (harg10 : arg10.IsWhole)
    (arg11 : Memref sig .tc .vmem S8192x128 .bf16) (harg11 : arg11.IsWhole)
    (arg12 : Memref sig .tc .vmem S1024x128 .bf16) (harg12 : arg12.IsWhole)
    (arg13 : Memref sig .tc .vmem S1024x128 .bf16) (harg13 : arg13.IsWhole)
    (arg14 : Memref sig .tc .vmem S1x8x1024 .f32) (harg14 : arg14.IsWhole)
    (arg15 : Memref sig .tc .vmem S1x1024x1 .f32) (harg15 : arg15.IsWhole)
    (T0 T1 : S36.Idx → Elt F .i32) (b : Blk F)
    (xr : S1x8x1024.Idx → Elt F .f32) (xq : S8x128x1024.Idx → Elt F .f32) (xk : S1024x256.Idx → Elt F .f32) (xv : S1024x128.Idx → Elt F .f32)
    (qi kj : Fin 8)
    (hw1 : View.readAt (Elt F) tabQ.view (Rect.unit (s := S36) (k0_off1 i) S1.size (k0_off1_inb i)).toLoadRect T0 (Shape.Idx.first (numel1_S1.symm ▸ Nat.one_pos)) = wd qi)
    (hw3 : View.readAt (Elt F) tabK.view (Rect.unit (s := S36) (k0_off1 i) S1.size (k0_off1_inb i)).toLoadRect T1 (Shape.Idx.first (numel1_S1.symm ▸ Nat.one_pos)) = wd kj)
    (hfirst : (i 1).val = 0) (hdiag : qi = kj) (hlast : qi ≠ 7) (hend : (i 1).val ≠ 35)
    (y7 : S8192x128.Idx → Elt F .bf16) (y8 : S1024x128.Idx → Elt F .bf16) (y9 : S1024x128.Idx → Elt F .bf16) (y11 : S1x1024x1.Idx → Elt F .f32) (K : PUnit → sProp 𝕄) :
      iprop((arg4.view.loc (c : Thread nD τ) ↦[arg4.view.set]{fullShare} arg4.view.rep b.q)
          ∗ (arg5.view.loc (c : Thread nD τ) ↦[arg5.view.set]{fullShare} arg5.view.rep b.k)
          ∗ (arg6.view.loc (c : Thread nD τ) ↦[arg6.view.set]{fullShare} arg6.view.rep b.v)
          ∗ (arg7.view.loc (c : Thread nD τ) ↦[arg7.view.set]{fullShare} arg7.view.rep b.ck)
          ∗ (arg8.view.loc (c : Thread nD τ) ↦[arg8.view.set]{fullShare} arg8.view.rep b.lse)
          ∗ (arg9.view.loc (c : Thread nD τ) ↦[arg9.view.set]{fullShare} arg9.view.rep b.dl)
          ∗ (arg10.view.loc (c : Thread nD τ) ↦[arg10.view.set]{fullShare} arg10.view.rep b.ct)
          ∗ (tabQ.view.loc (c : Thread nD τ) ↦{fullShare.right} T0)
          ∗ (tabK.view.loc (c : Thread nD τ) ↦{fullShare.right} T1)
          ∗ owns (c : Thread nD τ) arg11 fullShare y7
          ∗ owns (c : Thread nD τ) arg12 fullShare y8
          ∗ owns (c : Thread nD τ) arg13 fullShare y9
          ∗ owns (c : Thread nD τ) arg14 fullShare xr
          ∗ owns (c : Thread nD τ) arg15 fullShare y11
          ∗ (accQ.view.loc (c : Thread nD τ) ↦{fullShare} xq)
          ∗ (accK.view.loc (c : Thread nD τ) ↦{fullShare} xk)
          ∗ (accV.view.loc (c : Thread nD τ) ↦{fullShare} xv)
          ∗ (iprop((arg4.view.loc (c : Thread nD τ) ↦[arg4.view.set]{fullShare} arg4.view.rep b.q)
            ∗ (arg5.view.loc (c : Thread nD τ) ↦[arg5.view.set]{fullShare} arg5.view.rep b.k)
            ∗ (arg6.view.loc (c : Thread nD τ) ↦[arg6.view.set]{fullShare} arg6.view.rep b.v)
            ∗ (arg7.view.loc (c : Thread nD τ) ↦[arg7.view.set]{fullShare} arg7.view.rep b.ck)
            ∗ (arg8.view.loc (c : Thread nD τ) ↦[arg8.view.set]{fullShare} arg8.view.rep b.lse)
            ∗ (arg9.view.loc (c : Thread nD τ) ↦[arg9.view.set]{fullShare} arg9.view.rep b.dl)
            ∗ (arg10.view.loc (c : Thread nD τ) ↦[arg10.view.set]{fullShare} arg10.view.rep b.ct)
            ∗ (tabQ.view.loc (c : Thread nD τ) ↦{fullShare.right} T0)
            ∗ (tabK.view.loc (c : Thread nD τ) ↦{fullShare.right} T1)
            ∗ owns (c : Thread nD τ) arg11 fullShare y7
            ∗ owns (c : Thread nD τ) arg12 fullShare y8
            ∗ owns (c : Thread nD τ) arg13 fullShare y9
            ∗ owns (c : Thread nD τ) arg14 fullShare (newR b true qi zR)
            ∗ owns (c : Thread nD τ) arg15 fullShare y11
            ∗ (accQ.view.loc (c : Thread nD τ) ↦{fullShare} (newQ b true qi zQ))
            ∗ (accK.view.loc (c : Thread nD τ) ↦{fullShare} (newK b true zK))
            ∗ (accV.view.loc (c : Thread nD τ) ↦{fullShare} (newV b true zV))) -∗ K ⟨⟩))
        ⊢ wp frame (wpE (defs₀ (F := F)) Variants.none c none) Set.univ (cc0_fox_bwd i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 accQ (Memref.isWhole_whole _) accK (Memref.isWhole_whole _) accV (Memref.isWhole_whole _)) K := by
    have k0_hw1 : k0_chk1 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) := by rw [hw1, hw3]; exact chk_wd qi kj
    have k0_h1 : k0_cond1 i = 1#1 := by exact (cond1_at i).2 hfirst
    have hc2 : (Scalar.cmpi .ne (Scalar.extui (Scalar.cmpi .eq (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos)))) : BitVec 32) 0#32 = 1#1) := by rw [hw1, hw3]; exact (eq_wd qi kj).2 hdiag
    have k0_h3 : k0_cond3 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1 := by rw [hw1, hw3]; exact (cond3_wd qi kj).2 hdiag
    have k0_h4 : ¬(k0_cond4 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1) := by rw [hw1, hw3]; exact fun h => absurd ((cond4_wd qi kj).1 h) (by rw [hdiag]; exact lt_irrefl _)
    have k0_h5 : ¬(k0_cond5 (View.readAt (Elt F) tabQ.view (Rect.unit (s := S36) (k0_off1 i) S1.size (k0_off1_inb i)).toLoadRect T0 (Shape.Idx.first (numel1_S1.symm ▸ Nat.one_pos))) = 1#1) := by rw [hw1]; exact fun h => hlast ((cond5_wd qi).1 h)
    have k0_h6 : ¬(k0_cond6 i = 1#1) := by exact fun h => hend ((cond6_at i).1 h)
    unfold owns
    rw [cc0_fox_bwd_eq_skeleton]; unfold cc0_fox_bwd_skel
    iintro ⟨H0, H1, H2, H3, H4, H5, H6, HT0, HT1, ⟨%f7, %hf7, HO7⟩, ⟨%f8, %hf8, HO8⟩, ⟨%f9, %hf9, HO9⟩, ⟨%f10, %hf10, HO10⟩, ⟨%f11, %hf11, HO11⟩, HS0, HS1, HS2, Hk⟩
    obtain rfl := harg11.eq_unread hf7; obtain rfl := harg12.eq_unread hf8; obtain rfl := harg13.eq_unread hf9; obtain rfl := harg14.eq_unread hf10; obtain rfl := harg15.eq_unread hf11
    have hS0 : accQ.IsWhole := Memref.isWhole_whole _
    have hS1 : accK.IsWhole := Memref.isWhole_whole _
    have hS2 : accV.IsWhole := Memref.isWhole_whole _
    have hT0 : tabQ.IsWhole := Memref.isWhole_whole _
    have hT1 : tabK.IsWhole := Memref.isWhole_whole _
    sl_exec! (disch := first | (guard_target = k0_chk1 _ _; exact k0_hw1) | (guard_target = k0_cond1 _ = _; exact k0_h1) | (guard_target = Scalar.cmpi _ _ _ = _; exact hc2) | (guard_target = k0_cond3 _ _ = _; exact k0_h3) | (guard_target = ¬(k0_cond4 _ _ = _); exact k0_h4) | (guard_target = ¬(k0_cond5 _ = _); exact k0_h5) | (guard_target = ¬(k0_cond6 _ = _); exact k0_h6))
    sl_step
    have hck : View.readAt (Elt F) arg7.view (Rect.unit (s := S1x1024x128) ![0, 0, 0] S1x1024x128.size inb_ck).toLoadRect (arg7.view.rep b.ck) = VecWindow.window b.ck ![0, 0, 0] S1x1024x128.size inb_ck := View.readAt_rep _ _ _
    have hk : View.readAt (Elt F) arg5.view (Rect.unit (s := S1024x128) ![0, 0] S1024x128.size inb_k).toLoadRect (arg5.view.rep b.k) = VecWindow.window b.k ![0, 0] S1024x128.size inb_k := View.readAt_rep _ _ _
    have hv : View.readAt (Elt F) arg6.view (Rect.unit (s := S1024x128) ![0, 0] S1024x128.size inb_k).toLoadRect (arg6.view.rep b.v) = VecWindow.window b.v ![0, 0] S1024x128.size inb_k := View.readAt_rep _ _ _
    have ho0 : View.readAt (Elt F) arg10.view (Rect.unit (s := S128x1024) ![0, 0] S128x256.size (inb_ct 0)).toLoadRect (arg10.view.rep b.ct) = VecWindow.window b.ct ![0, 256 * ((0 : Fin 4) : ℕ)] S128x256.size (inb_ct 0) := View.readAt_rep _ _ _
    have hl0 : View.readAt (Elt F) arg8.view (Rect.unit (s := S1x1x1024) ![0, 0, 0] S1x1x256.size (inb_l 0)).toLoadRect (arg8.view.rep b.lse) = VecWindow.window b.lse ![0, 0, 256 * ((0 : Fin 4) : ℕ)] S1x1x256.size (inb_l 0) := View.readAt_rep _ _ _
    have hd0 : View.readAt (Elt F) arg9.view (Rect.unit (s := S1x1x1024) ![0, 0, 0] S1x1x256.size (inb_l 0)).toLoadRect (arg9.view.rep b.dl) = VecWindow.window b.dl ![0, 0, 256 * ((0 : Fin 4) : ℕ)] S1x1x256.size (inb_l 0) := View.readAt_rep _ _ _
    have hx0 : View.readAt (Elt F) arg4.view (Rect.unit (s := S1024x128) ![0, 0] S256x128.size (inb_q 0)).toLoadRect (arg4.view.rep b.q) = VecWindow.window b.q ![256 * ((0 : Fin 4) : ℕ), 0] S256x128.size (inb_q 0) := View.readAt_rep _ _ _
    have ho1 : View.readAt (Elt F) arg10.view (Rect.unit (s := S128x1024) ![0, 256] S128x256.size (inb_ct 1)).toLoadRect (arg10.view.rep b.ct) = VecWindow.window b.ct ![0, 256 * ((1 : Fin 4) : ℕ)] S128x256.size (inb_ct 1) := View.readAt_rep _ _ _
    have hl1 : View.readAt (Elt F) arg8.view (Rect.unit (s := S1x1x1024) ![0, 0, 256] S1x1x256.size (inb_l 1)).toLoadRect (arg8.view.rep b.lse) = VecWindow.window b.lse ![0, 0, 256 * ((1 : Fin 4) : ℕ)] S1x1x256.size (inb_l 1) := View.readAt_rep _ _ _
    have hd1 : View.readAt (Elt F) arg9.view (Rect.unit (s := S1x1x1024) ![0, 0, 256] S1x1x256.size (inb_l 1)).toLoadRect (arg9.view.rep b.dl) = VecWindow.window b.dl ![0, 0, 256 * ((1 : Fin 4) : ℕ)] S1x1x256.size (inb_l 1) := View.readAt_rep _ _ _
    have hx1 : View.readAt (Elt F) arg4.view (Rect.unit (s := S1024x128) ![256, 0] S256x128.size (inb_q 1)).toLoadRect (arg4.view.rep b.q) = VecWindow.window b.q ![256 * ((1 : Fin 4) : ℕ), 0] S256x128.size (inb_q 1) := View.readAt_rep _ _ _
    have ho2 : View.readAt (Elt F) arg10.view (Rect.unit (s := S128x1024) ![0, 512] S128x256.size (inb_ct 2)).toLoadRect (arg10.view.rep b.ct) = VecWindow.window b.ct ![0, 256 * ((2 : Fin 4) : ℕ)] S128x256.size (inb_ct 2) := View.readAt_rep _ _ _
    have hl2 : View.readAt (Elt F) arg8.view (Rect.unit (s := S1x1x1024) ![0, 0, 512] S1x1x256.size (inb_l 2)).toLoadRect (arg8.view.rep b.lse) = VecWindow.window b.lse ![0, 0, 256 * ((2 : Fin 4) : ℕ)] S1x1x256.size (inb_l 2) := View.readAt_rep _ _ _
    have hd2 : View.readAt (Elt F) arg9.view (Rect.unit (s := S1x1x1024) ![0, 0, 512] S1x1x256.size (inb_l 2)).toLoadRect (arg9.view.rep b.dl) = VecWindow.window b.dl ![0, 0, 256 * ((2 : Fin 4) : ℕ)] S1x1x256.size (inb_l 2) := View.readAt_rep _ _ _
    have hx2 : View.readAt (Elt F) arg4.view (Rect.unit (s := S1024x128) ![512, 0] S256x128.size (inb_q 2)).toLoadRect (arg4.view.rep b.q) = VecWindow.window b.q ![256 * ((2 : Fin 4) : ℕ), 0] S256x128.size (inb_q 2) := View.readAt_rep _ _ _
    have ho3 : View.readAt (Elt F) arg10.view (Rect.unit (s := S128x1024) ![0, 768] S128x256.size (inb_ct 3)).toLoadRect (arg10.view.rep b.ct) = VecWindow.window b.ct ![0, 256 * ((3 : Fin 4) : ℕ)] S128x256.size (inb_ct 3) := View.readAt_rep _ _ _
    have hl3 : View.readAt (Elt F) arg8.view (Rect.unit (s := S1x1x1024) ![0, 0, 768] S1x1x256.size (inb_l 3)).toLoadRect (arg8.view.rep b.lse) = VecWindow.window b.lse ![0, 0, 256 * ((3 : Fin 4) : ℕ)] S1x1x256.size (inb_l 3) := View.readAt_rep _ _ _
    have hd3 : View.readAt (Elt F) arg9.view (Rect.unit (s := S1x1x1024) ![0, 0, 768] S1x1x256.size (inb_l 3)).toLoadRect (arg9.view.rep b.dl) = VecWindow.window b.dl ![0, 0, 256 * ((3 : Fin 4) : ℕ)] S1x1x256.size (inb_l 3) := View.readAt_rep _ _ _
    have hx3 : View.readAt (Elt F) arg4.view (Rect.unit (s := S1024x128) ![768, 0] S256x128.size (inb_q 3)).toLoadRect (arg4.view.rep b.q) = VecWindow.window b.q ![256 * ((3 : Fin 4) : ℕ), 0] S256x128.size (inb_q 3) := View.readAt_rep _ _ _
    iapply Hk
    have hq : ∀ (f : accQ.view.ty.Contents (Elt F)) (inb : ∀ a, k0_off2 (View.readAt (Elt F) tabQ.view (Rect.unit (s := S36) (k0_off1 i) S1.size (k0_off1_inb i)).toLoadRect T0 (Shape.Idx.first (numel1_S1.symm ▸ Nat.one_pos))) a + S1x128x1024.size a ≤ S8x128x1024.size a), View.readAt (Elt F) accQ.view (Rect.unit (s := S8x128x1024) (k0_off2 (View.readAt (Elt F) tabQ.view (Rect.unit (s := S36) (k0_off1 i) S1.size (k0_off1_inb i)).toLoadRect T0 (Shape.Idx.first (numel1_S1.symm ▸ Nat.one_pos)))) S1x128x1024.size inb).toLoadRect f = VecWindow.window (accQ.view.read (Elt F) f) ![qi.val, 0, 0] S1x128x1024.size (inb_rowQ qi) :=
      fun f inb => View.readAt_unit _ _ _ (by rw [hw1]; exact off2_wd qi) _
    have hr : ∀ (f : arg14.view.ty.Contents (Elt F)) (inb : ∀ a, k0_off3 (View.readAt (Elt F) tabQ.view (Rect.unit (s := S36) (k0_off1 i) S1.size (k0_off1_inb i)).toLoadRect T0 (Shape.Idx.first (numel1_S1.symm ▸ Nat.one_pos))) a + S1x1x1024.size a ≤ S1x8x1024.size a), View.readAt (Elt F) arg14.view (Rect.unit (s := S1x8x1024) (k0_off3 (View.readAt (Elt F) tabQ.view (Rect.unit (s := S36) (k0_off1 i) S1.size (k0_off1_inb i)).toLoadRect T0 (Shape.Idx.first (numel1_S1.symm ▸ Nat.one_pos)))) S1x1x1024.size inb).toLoadRect f = VecWindow.window (arg14.view.read (Elt F) f) ![0, qi.val, 0] S1x1x1024.size (inb_rowR qi) :=
      fun f inb => View.readAt_unit _ _ _ (by rw [hw1]; exact off3_wd qi) _
    have oq : k0_off2 (View.readAt (Elt F) tabQ.view (Rect.unit (s := S36) (k0_off1 i) S1.size (k0_off1_inb i)).toLoadRect T0 (Shape.Idx.first (numel1_S1.symm ▸ Nat.one_pos))) = ![qi.val, 0, 0] := by rw [hw1]; exact off2_wd qi
    have or : k0_off3 (View.readAt (Elt F) tabQ.view (Rect.unit (s := S36) (k0_off1 i) S1.size (k0_off1_inb i)).toLoadRect T0 (Shape.Idx.first (numel1_S1.symm ▸ Nat.one_pos))) = ![0, qi.val, 0] := by rw [hw1]; exact off3_wd qi
    have rwK : ∀ (f : accK.view.ty.Contents (Elt F)) (off : Fin S1024x256.rank → ℕ) (inb : ∀ a, off a + S1024x256.size a ≤ S1024x256.size a) (w : S1024x256.Idx → Elt F .f32) (L : List (View.Piece (Elt F) S1024x256 .f32)), accK.view.read (Elt F) (accK.view.writes (Elt F) f (⟨Rect.unit (s := S1024x256) off S1024x256.size inb, w⟩ :: L)) = w := fun f off inb w L => View.read_writes_full _ _ _ _ _
    have rcK : ∀ (off off' : Fin S1024x256.rank → ℕ) (inb : ∀ a, off a + S1024x256.size a ≤ S1024x256.size a) (inb' : ∀ a, off' a + S1024x256.size a ≤ S1024x256.size a) (w : S1024x256.Idx → Elt F .f32) (L : List (View.Piece (Elt F) S1024x256 .f32)), accK.view.readCov (⟨Rect.unit (s := S1024x256) off' S1024x256.size inb', w⟩ :: L) (Rect.unit (s := S1024x256) off S1024x256.size inb).toLoadRect = w := fun off off' inb inb' w L => View.readCov_full _ _ _ _ _
    have raK : ∀ (f : accK.view.ty.Contents (Elt F)) (off : Fin S1024x256.rank → ℕ) (inb : ∀ a, off a + S1024x256.size a ≤ S1024x256.size a), accK.view.readAt (Elt F) (Rect.unit (s := S1024x256) off S1024x256.size inb).toLoadRect f = accK.view.read (Elt F) f := fun f off inb => View.readAt_full _ _ _
    have rwV : ∀ (f : accV.view.ty.Contents (Elt F)) (off : Fin S1024x128.rank → ℕ) (inb : ∀ a, off a + S1024x128.size a ≤ S1024x128.size a) (w : S1024x128.Idx → Elt F .f32) (L : List (View.Piece (Elt F) S1024x128 .f32)), accV.view.read (Elt F) (accV.view.writes (Elt F) f (⟨Rect.unit (s := S1024x128) off S1024x128.size inb, w⟩ :: L)) = w := fun f off inb w L => View.read_writes_full _ _ _ _ _
    have rcV : ∀ (off off' : Fin S1024x128.rank → ℕ) (inb : ∀ a, off a + S1024x128.size a ≤ S1024x128.size a) (inb' : ∀ a, off' a + S1024x128.size a ≤ S1024x128.size a) (w : S1024x128.Idx → Elt F .f32) (L : List (View.Piece (Elt F) S1024x128 .f32)), accV.view.readCov (⟨Rect.unit (s := S1024x128) off' S1024x128.size inb', w⟩ :: L) (Rect.unit (s := S1024x128) off S1024x128.size inb).toLoadRect = w := fun off off' inb inb' w L => View.readCov_full _ _ _ _ _
    have raV : ∀ (f : accV.view.ty.Contents (Elt F)) (off : Fin S1024x128.rank → ℕ) (inb : ∀ a, off a + S1024x128.size a ≤ S1024x128.size a), accV.view.readAt (Elt F) (Rect.unit (s := S1024x128) off S1024x128.size inb).toLoadRect f = accV.view.read (Elt F) f := fun f off inb => View.readAt_full _ _ _
    have rwQ : ∀ (f : accQ.view.ty.Contents (Elt F)) (off : Fin S8x128x1024.rank → ℕ) (inb : ∀ a, off a + S8x128x1024.size a ≤ S8x128x1024.size a) (w : S8x128x1024.Idx → Elt F .f32) (L : List (View.Piece (Elt F) S8x128x1024 .f32)), accQ.view.read (Elt F) (accQ.view.writes (Elt F) f (⟨Rect.unit (s := S8x128x1024) off S8x128x1024.size inb, w⟩ :: L)) = w := fun f off inb w L => View.read_writes_full _ _ _ _ _
    have rwR : ∀ (f : arg14.view.ty.Contents (Elt F)) (off : Fin S1x8x1024.rank → ℕ) (inb : ∀ a, off a + S1x8x1024.size a ≤ S1x8x1024.size a) (w : S1x8x1024.Idx → Elt F .f32) (L : List (View.Piece (Elt F) S1x8x1024 .f32)), arg14.view.read (Elt F) (arg14.view.writes (Elt F) f (⟨Rect.unit (s := S1x8x1024) off S1x8x1024.size inb, w⟩ :: L)) = w := fun f off inb w L => View.read_writes_full _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; swap; · iexact HO7
      ipureintro
      exact harg11.read_unread _
    isplitl [HO8]
    · iexists _; isplitr; swap; · iexact HO8
      ipureintro
      exact harg12.read_unread _
    isplitl [HO9]
    · iexists _; isplitr; swap; · iexact HO9
      ipureintro
      exact harg13.read_unread _
    isplitl [HO10]
    · iexists _; isplitr; swap; · iexact HO10
      ipureintro
      delta runA.sl.r
      refine (View.read_writes_cons_put _ _ _ _ _ or).trans ?_
      unfold newR; refine congrArg₂ (fun x w => VecWindow.put x _ _ w) ?_ ?_
      · delta runA.sl.HO10_1; simp only [rwQ, rwR]; rfl
      · delta runA.sl.HO10_1 runA.sl.HS1_1 runA.sl.HS1_2 runA.sl.HS1_3 runA.sl.HS1_4 runA.sl.HS1_5 runA.sl.HS2_1 runA.sl.HS2_2 runA.sl.HS2_3 runA.sl.HS2_4 runA.sl.HS2_5 runA.sl.cst_24 runA.sl.cst_41 runA.sl.cst_50 runA.sl.cst_58 runA.sl.cst_59 runA.sl.cst_60 runA.sl.cst_61 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_3 runA.sl.r_4 runA.sl.r_5 runA.sl.r_6 runA.sl.r_7 runA.sl.r_8 runA.sl.r_9 runA.sl.v100 runA.sl.v102 runA.sl.v103 runA.sl.v104 runA.sl.v105 runA.sl.v107 runA.sl.v108 runA.sl.v109 runA.sl.v110 runA.sl.v111 runA.sl.v112 runA.sl.v113 runA.sl.v114 runA.sl.v115 runA.sl.v117 runA.sl.v118 runA.sl.v119 runA.sl.v120 runA.sl.v121 runA.sl.v122 runA.sl.v124 runA.sl.v125 runA.sl.v126 runA.sl.v127 runA.sl.v128 runA.sl.v129 runA.sl.v130 runA.sl.v131 runA.sl.v133 runA.sl.v134 runA.sl.v135 runA.sl.v136 runA.sl.v138 runA.sl.v139 runA.sl.v140 runA.sl.v141 runA.sl.v142 runA.sl.v143 runA.sl.v144 runA.sl.v145 runA.sl.v146 runA.sl.v148 runA.sl.v149 runA.sl.v150 runA.sl.v151 runA.sl.v152 runA.sl.v153 runA.sl.v155 runA.sl.v156 runA.sl.v157 runA.sl.v159 runA.sl.v161 runA.sl.v162 runA.sl.v164 runA.sl.v165 runA.sl.v166 runA.sl.v167 runA.sl.v169 runA.sl.v170 runA.sl.v171 runA.sl.v172 runA.sl.v173 runA.sl.v174 runA.sl.v175 runA.sl.v176 runA.sl.v177 runA.sl.v179 runA.sl.v180 runA.sl.v181 runA.sl.v182 runA.sl.v183 runA.sl.v184 runA.sl.v186 runA.sl.v187 runA.sl.v188 runA.sl.v190 runA.sl.v192 runA.sl.v193 runA.sl.v195 runA.sl.v196 runA.sl.v197 runA.sl.v198 runA.sl.v200 runA.sl.v201 runA.sl.v202 runA.sl.v203 runA.sl.v204 runA.sl.v205 runA.sl.v206 runA.sl.v207 runA.sl.v208 runA.sl.v210 runA.sl.v211 runA.sl.v212 runA.sl.v213 runA.sl.v214 runA.sl.v215 runA.sl.v217 runA.sl.v218 runA.sl.v219 runA.sl.v221 runA.sl.v223 runA.sl.v224 runA.sl.v225 runA.sl.v227 runA.sl.v228 runA.sl.v229 runA.sl.v233 runA.sl.v235 runA.sl.v236 runA.sl.v237 runA.sl.v238 runA.sl.v7 runA.sl.v8 runA.sl.v9 runA.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hr, View.readCov, rwQ, rwR]
        try simp only [View.readAt_rep]
        rfl
    isplitl [HO11]
    · iexists _; isplitr; swap; · iexact HO11
      ipureintro
      exact harg15.read_unread _
    isplitl [HS0]
    · iapply (accQ_of_read c)
      iexists _; isplitr; swap; · iexact HS0
      ipureintro
      delta runA.sl.HS0_1 runA.sl.r
      refine (View.read_writes_cons_put _ _ _ _ _ oq).trans ?_
      unfold newQ; refine congrArg₂ (fun x w => VecWindow.put x _ _ w) ?_ ?_
      · simp only [rwQ, rwR]; rfl
      · delta runA.sl.HS0_1 runA.sl.HS1_1 runA.sl.HS1_2 runA.sl.HS1_3 runA.sl.HS1_4 runA.sl.HS1_5 runA.sl.HS2_1 runA.sl.HS2_2 runA.sl.HS2_3 runA.sl.HS2_4 runA.sl.HS2_5 runA.sl.cst_24 runA.sl.cst_41 runA.sl.cst_50 runA.sl.cst_58 runA.sl.cst_59 runA.sl.cst_60 runA.sl.cst_61 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_3 runA.sl.r_4 runA.sl.r_5 runA.sl.r_6 runA.sl.r_7 runA.sl.r_8 runA.sl.r_9 runA.sl.v100 runA.sl.v102 runA.sl.v103 runA.sl.v104 runA.sl.v105 runA.sl.v107 runA.sl.v108 runA.sl.v109 runA.sl.v110 runA.sl.v111 runA.sl.v112 runA.sl.v113 runA.sl.v114 runA.sl.v115 runA.sl.v117 runA.sl.v118 runA.sl.v119 runA.sl.v120 runA.sl.v121 runA.sl.v122 runA.sl.v124 runA.sl.v125 runA.sl.v126 runA.sl.v127 runA.sl.v128 runA.sl.v129 runA.sl.v130 runA.sl.v131 runA.sl.v133 runA.sl.v134 runA.sl.v135 runA.sl.v136 runA.sl.v138 runA.sl.v139 runA.sl.v140 runA.sl.v141 runA.sl.v142 runA.sl.v143 runA.sl.v144 runA.sl.v145 runA.sl.v146 runA.sl.v148 runA.sl.v149 runA.sl.v150 runA.sl.v151 runA.sl.v152 runA.sl.v153 runA.sl.v155 runA.sl.v156 runA.sl.v157 runA.sl.v159 runA.sl.v161 runA.sl.v162 runA.sl.v164 runA.sl.v165 runA.sl.v166 runA.sl.v167 runA.sl.v169 runA.sl.v170 runA.sl.v171 runA.sl.v172 runA.sl.v173 runA.sl.v174 runA.sl.v175 runA.sl.v176 runA.sl.v177 runA.sl.v179 runA.sl.v180 runA.sl.v181 runA.sl.v182 runA.sl.v183 runA.sl.v184 runA.sl.v186 runA.sl.v187 runA.sl.v188 runA.sl.v190 runA.sl.v192 runA.sl.v193 runA.sl.v195 runA.sl.v196 runA.sl.v197 runA.sl.v198 runA.sl.v200 runA.sl.v201 runA.sl.v202 runA.sl.v203 runA.sl.v204 runA.sl.v205 runA.sl.v206 runA.sl.v207 runA.sl.v208 runA.sl.v210 runA.sl.v211 runA.sl.v212 runA.sl.v213 runA.sl.v214 runA.sl.v215 runA.sl.v217 runA.sl.v218 runA.sl.v219 runA.sl.v221 runA.sl.v223 runA.sl.v224 runA.sl.v225 runA.sl.v227 runA.sl.v228 runA.sl.v229 runA.sl.v233 runA.sl.v235 runA.sl.v236 runA.sl.v237 runA.sl.v238 runA.sl.v7 runA.sl.v8 runA.sl.v9 runA.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hq, View.readCov, rwQ, rwR]
        try simp only [View.readAt_rep]
        rfl
    isplitl [HS1]
    · iapply (accK_of_read c)
      iexists _; isplitr; swap; · iexact HS1
      ipureintro
      delta runA.sl.HS1_1 runA.sl.HS1_2 runA.sl.HS1_3 runA.sl.HS1_4 runA.sl.HS1_5 runA.sl.HS2_1 runA.sl.HS2_2 runA.sl.HS2_3 runA.sl.HS2_4 runA.sl.HS2_5 runA.sl.cst_24 runA.sl.cst_41 runA.sl.cst_50 runA.sl.cst_58 runA.sl.cst_59 runA.sl.cst_60 runA.sl.cst_61 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_3 runA.sl.r_4 runA.sl.r_5 runA.sl.r_6 runA.sl.r_7 runA.sl.r_8 runA.sl.r_9 runA.sl.v100 runA.sl.v102 runA.sl.v103 runA.sl.v104 runA.sl.v105 runA.sl.v107 runA.sl.v108 runA.sl.v109 runA.sl.v110 runA.sl.v111 runA.sl.v112 runA.sl.v113 runA.sl.v114 runA.sl.v115 runA.sl.v117 runA.sl.v118 runA.sl.v119 runA.sl.v120 runA.sl.v121 runA.sl.v122 runA.sl.v124 runA.sl.v125 runA.sl.v126 runA.sl.v127 runA.sl.v128 runA.sl.v129 runA.sl.v130 runA.sl.v131 runA.sl.v133 runA.sl.v134 runA.sl.v135 runA.sl.v136 runA.sl.v138 runA.sl.v139 runA.sl.v140 runA.sl.v141 runA.sl.v142 runA.sl.v143 runA.sl.v144 runA.sl.v145 runA.sl.v146 runA.sl.v148 runA.sl.v149 runA.sl.v150 runA.sl.v151 runA.sl.v152 runA.sl.v153 runA.sl.v155 runA.sl.v156 runA.sl.v157 runA.sl.v159 runA.sl.v161 runA.sl.v162 runA.sl.v164 runA.sl.v165 runA.sl.v166 runA.sl.v167 runA.sl.v169 runA.sl.v170 runA.sl.v171 runA.sl.v172 runA.sl.v173 runA.sl.v174 runA.sl.v175 runA.sl.v176 runA.sl.v177 runA.sl.v179 runA.sl.v180 runA.sl.v181 runA.sl.v182 runA.sl.v183 runA.sl.v184 runA.sl.v186 runA.sl.v187 runA.sl.v188 runA.sl.v190 runA.sl.v192 runA.sl.v193 runA.sl.v195 runA.sl.v196 runA.sl.v197 runA.sl.v198 runA.sl.v200 runA.sl.v201 runA.sl.v202 runA.sl.v203 runA.sl.v204 runA.sl.v205 runA.sl.v206 runA.sl.v207 runA.sl.v208 runA.sl.v210 runA.sl.v211 runA.sl.v212 runA.sl.v213 runA.sl.v214 runA.sl.v215 runA.sl.v217 runA.sl.v218 runA.sl.v219 runA.sl.v221 runA.sl.v223 runA.sl.v224 runA.sl.v225 runA.sl.v227 runA.sl.v228 runA.sl.v229 runA.sl.v233 runA.sl.v235 runA.sl.v236 runA.sl.v237 runA.sl.v238 runA.sl.v7 runA.sl.v8 runA.sl.v9 runA.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl
    · iapply (accV_of_read c)
      iexists _; isplitr; swap; · iexact HS2
      ipureintro
      delta runA.sl.HS1_1 runA.sl.HS1_2 runA.sl.HS1_3 runA.sl.HS1_4 runA.sl.HS1_5 runA.sl.HS2_1 runA.sl.HS2_2 runA.sl.HS2_3 runA.sl.HS2_4 runA.sl.HS2_5 runA.sl.cst_24 runA.sl.cst_41 runA.sl.cst_50 runA.sl.cst_58 runA.sl.cst_59 runA.sl.cst_60 runA.sl.cst_61 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_3 runA.sl.r_4 runA.sl.r_5 runA.sl.r_6 runA.sl.r_7 runA.sl.r_8 runA.sl.r_9 runA.sl.v100 runA.sl.v102 runA.sl.v103 runA.sl.v104 runA.sl.v105 runA.sl.v107 runA.sl.v108 runA.sl.v109 runA.sl.v110 runA.sl.v111 runA.sl.v112 runA.sl.v113 runA.sl.v114 runA.sl.v115 runA.sl.v117 runA.sl.v118 runA.sl.v119 runA.sl.v120 runA.sl.v121 runA.sl.v122 runA.sl.v124 runA.sl.v125 runA.sl.v126 runA.sl.v127 runA.sl.v128 runA.sl.v129 runA.sl.v130 runA.sl.v131 runA.sl.v133 runA.sl.v134 runA.sl.v135 runA.sl.v136 runA.sl.v138 runA.sl.v139 runA.sl.v140 runA.sl.v141 runA.sl.v142 runA.sl.v143 runA.sl.v144 runA.sl.v145 runA.sl.v146 runA.sl.v148 runA.sl.v149 runA.sl.v150 runA.sl.v151 runA.sl.v152 runA.sl.v153 runA.sl.v155 runA.sl.v156 runA.sl.v157 runA.sl.v159 runA.sl.v161 runA.sl.v162 runA.sl.v164 runA.sl.v165 runA.sl.v166 runA.sl.v167 runA.sl.v169 runA.sl.v170 runA.sl.v171 runA.sl.v172 runA.sl.v173 runA.sl.v174 runA.sl.v175 runA.sl.v176 runA.sl.v177 runA.sl.v179 runA.sl.v180 runA.sl.v181 runA.sl.v182 runA.sl.v183 runA.sl.v184 runA.sl.v186 runA.sl.v187 runA.sl.v188 runA.sl.v190 runA.sl.v192 runA.sl.v193 runA.sl.v195 runA.sl.v196 runA.sl.v197 runA.sl.v198 runA.sl.v200 runA.sl.v201 runA.sl.v202 runA.sl.v203 runA.sl.v204 runA.sl.v205 runA.sl.v206 runA.sl.v207 runA.sl.v208 runA.sl.v210 runA.sl.v211 runA.sl.v212 runA.sl.v213 runA.sl.v214 runA.sl.v215 runA.sl.v217 runA.sl.v218 runA.sl.v219 runA.sl.v221 runA.sl.v223 runA.sl.v224 runA.sl.v225 runA.sl.v227 runA.sl.v228 runA.sl.v229 runA.sl.v233 runA.sl.v235 runA.sl.v236 runA.sl.v237 runA.sl.v238 runA.sl.v7 runA.sl.v8 runA.sl.v9 runA.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl

end Cert.KernelIdeal.Fox

end
-- ==== Proof.Fox.RunB.lean ====
/- One visit of the attention kernel's body, a tile below the diagonal that is not its key tile's last. -/
module

public import proofs.«01_k».proof.Proof.Fox.Words
public import Idealize.ShloMosaic.Lib.Ring

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
set_option backward.proofsInPublic true in
/-- The body at a tile below the diagonal that is not its key tile's last. -/
theorem runB (c : Dev nD) (i : grid0.Coords)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1x1024x128 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S128x1024 .f32) (harg10 : arg10.IsWhole)
    (arg11 : Memref sig .tc .vmem S8192x128 .bf16) (harg11 : arg11.IsWhole)
    (arg12 : Memref sig .tc .vmem S1024x128 .bf16) (harg12 : arg12.IsWhole)
    (arg13 : Memref sig .tc .vmem S1024x128 .bf16) (harg13 : arg13.IsWhole)
    (arg14 : Memref sig .tc .vmem S1x8x1024 .f32) (harg14 : arg14.IsWhole)
    (arg15 : Memref sig .tc .vmem S1x1024x1 .f32) (harg15 : arg15.IsWhole)
    (T0 T1 : S36.Idx → Elt F .i32) (b : Blk F)
    (xr : S1x8x1024.Idx → Elt F .f32) (xq : S8x128x1024.Idx → Elt F .f32) (xk : S1024x256.Idx → Elt F .f32) (xv : S1024x128.Idx → Elt F .f32)
    (qi kj : Fin 8)
    (hw1 : View.readAt (Elt F) tabQ.view (Rect.unit (s := S36) (k0_off1 i) S1.size (k0_off1_inb i)).toLoadRect T0 (Shape.Idx.first (numel1_S1.symm ▸ Nat.one_pos)) = wd qi)
    (hw3 : View.readAt (Elt F) tabK.view (Rect.unit (s := S36) (k0_off1 i) S1.size (k0_off1_inb i)).toLoadRect T1 (Shape.Idx.first (numel1_S1.symm ▸ Nat.one_pos)) = wd kj)
    (hfirst : (i 1).val ≠ 0) (hdiag : kj < qi) (hlast : qi ≠ 7) (hend : (i 1).val ≠ 35)
    (y7 : S8192x128.Idx → Elt F .bf16) (y8 : S1024x128.Idx → Elt F .bf16) (y9 : S1024x128.Idx → Elt F .bf16) (y11 : S1x1024x1.Idx → Elt F .f32) (K : PUnit → sProp 𝕄) :
      iprop((arg4.view.loc (c : Thread nD τ) ↦[arg4.view.set]{fullShare} arg4.view.rep b.q)
          ∗ (arg5.view.loc (c : Thread nD τ) ↦[arg5.view.set]{fullShare} arg5.view.rep b.k)
          ∗ (arg6.view.loc (c : Thread nD τ) ↦[arg6.view.set]{fullShare} arg6.view.rep b.v)
          ∗ (arg7.view.loc (c : Thread nD τ) ↦[arg7.view.set]{fullShare} arg7.view.rep b.ck)
          ∗ (arg8.view.loc (c : Thread nD τ) ↦[arg8.view.set]{fullShare} arg8.view.rep b.lse)
          ∗ (arg9.view.loc (c : Thread nD τ) ↦[arg9.view.set]{fullShare} arg9.view.rep b.dl)
          ∗ (arg10.view.loc (c : Thread nD τ) ↦[arg10.view.set]{fullShare} arg10.view.rep b.ct)
          ∗ (tabQ.view.loc (c : Thread nD τ) ↦{fullShare.right} T0)
          ∗ (tabK.view.loc (c : Thread nD τ) ↦{fullShare.right} T1)
          ∗ owns (c : Thread nD τ) arg11 fullShare y7
          ∗ owns (c : Thread nD τ) arg12 fullShare y8
          ∗ owns (c : Thread nD τ) arg13 fullShare y9
          ∗ owns (c : Thread nD τ) arg14 fullShare xr
          ∗ owns (c : Thread nD τ) arg15 fullShare y11
          ∗ (accQ.view.loc (c : Thread nD τ) ↦{fullShare} xq)
          ∗ (accK.view.loc (c : Thread nD τ) ↦{fullShare} xk)
          ∗ (accV.view.loc (c : Thread nD τ) ↦{fullShare} xv)
          ∗ (iprop((arg4.view.loc (c : Thread nD τ) ↦[arg4.view.set]{fullShare} arg4.view.rep b.q)
            ∗ (arg5.view.loc (c : Thread nD τ) ↦[arg5.view.set]{fullShare} arg5.view.rep b.k)
            ∗ (arg6.view.loc (c : Thread nD τ) ↦[arg6.view.set]{fullShare} arg6.view.rep b.v)
            ∗ (arg7.view.loc (c : Thread nD τ) ↦[arg7.view.set]{fullShare} arg7.view.rep b.ck)
            ∗ (arg8.view.loc (c : Thread nD τ) ↦[arg8.view.set]{fullShare} arg8.view.rep b.lse)
            ∗ (arg9.view.loc (c : Thread nD τ) ↦[arg9.view.set]{fullShare} arg9.view.rep b.dl)
            ∗ (arg10.view.loc (c : Thread nD τ) ↦[arg10.view.set]{fullShare} arg10.view.rep b.ct)
            ∗ (tabQ.view.loc (c : Thread nD τ) ↦{fullShare.right} T0)
            ∗ (tabK.view.loc (c : Thread nD τ) ↦{fullShare.right} T1)
            ∗ owns (c : Thread nD τ) arg11 fullShare y7
            ∗ owns (c : Thread nD τ) arg12 fullShare y8
            ∗ owns (c : Thread nD τ) arg13 fullShare y9
            ∗ owns (c : Thread nD τ) arg14 fullShare (newR b false qi xr)
            ∗ owns (c : Thread nD τ) arg15 fullShare y11
            ∗ (accQ.view.loc (c : Thread nD τ) ↦{fullShare} (newQ b false qi xq))
            ∗ (accK.view.loc (c : Thread nD τ) ↦{fullShare} (newK b false xk))
            ∗ (accV.view.loc (c : Thread nD τ) ↦{fullShare} (newV b false xv))) -∗ K ⟨⟩))
        ⊢ wp frame (wpE (defs₀ (F := F)) Variants.none c none) Set.univ (cc0_fox_bwd i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 accQ (Memref.isWhole_whole _) accK (Memref.isWhole_whole _) accV (Memref.isWhole_whole _)) K := by
    have k0_hw1 : k0_chk1 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) := by rw [hw1, hw3]; exact chk_wd qi kj
    have k0_h1 : ¬(k0_cond1 i = 1#1) := by exact fun h => hfirst ((cond1_at i).1 h)
    have hc2 : ¬((Scalar.cmpi .ne (Scalar.extui (Scalar.cmpi .eq (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos)))) : BitVec 32) 0#32 = 1#1)) := by rw [hw1, hw3]; exact fun h => (ne_of_gt hdiag) ((eq_wd qi kj).1 h)
    have k0_h3 : ¬(k0_cond3 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1) := by rw [hw1, hw3]; exact fun h => (ne_of_gt hdiag) ((cond3_wd qi kj).1 h)
    have k0_h4 : k0_cond4 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1 := by rw [hw1, hw3]; exact (cond4_wd qi kj).2 hdiag
    have k0_h5 : ¬(k0_cond5 (View.readAt (Elt F) tabQ.view (Rect.unit (s := S36) (k0_off1 i) S1.size (k0_off1_inb i)).toLoadRect T0 (Shape.Idx.first (numel1_S1.symm ▸ Nat.one_pos))) = 1#1) := by rw [hw1]; exact fun h => hlast ((cond5_wd qi).1 h)
    have k0_h6 : ¬(k0_cond6 i = 1#1) := by exact fun h => hend ((cond6_at i).1 h)
    unfold owns
    rw [cc0_fox_bwd_eq_skeleton]; unfold cc0_fox_bwd_skel
    iintro ⟨H0, H1, H2, H3, H4, H5, H6, HT0, HT1, ⟨%f7, %hf7, HO7⟩, ⟨%f8, %hf8, HO8⟩, ⟨%f9, %hf9, HO9⟩, ⟨%f10, %hf10, HO10⟩, ⟨%f11, %hf11, HO11⟩, HS0, HS1, HS2, Hk⟩
    obtain rfl := harg11.eq_unread hf7; obtain rfl := harg12.eq_unread hf8; obtain rfl := harg13.eq_unread hf9; obtain rfl := harg14.eq_unread hf10; obtain rfl := harg15.eq_unread hf11
    have hS0 : accQ.IsWhole := Memref.isWhole_whole _
    have hS1 : accK.IsWhole := Memref.isWhole_whole _
    have hS2 : accV.IsWhole := Memref.isWhole_whole _
    have hT0 : tabQ.IsWhole := Memref.isWhole_whole _
    have hT1 : tabK.IsWhole := Memref.isWhole_whole _
    sl_exec! (disch := first | (guard_target = k0_chk1 _ _; exact k0_hw1) | (guard_target = ¬(k0_cond1 _ = _); exact k0_h1) | (guard_target = ¬(Scalar.cmpi _ _ _ = _); exact hc2) | (guard_target = ¬(k0_cond3 _ _ = _); exact k0_h3) | (guard_target = k0_cond4 _ _ = _; exact k0_h4) | (guard_target = ¬(k0_cond5 _ = _); exact k0_h5) | (guard_target = ¬(k0_cond6 _ = _); exact k0_h6))
    sl_step
    have hck : View.readAt (Elt F) arg7.view (Rect.unit (s := S1x1024x128) ![0, 0, 0] S1x1024x128.size inb_ck).toLoadRect (arg7.view.rep b.ck) = VecWindow.window b.ck ![0, 0, 0] S1x1024x128.size inb_ck := View.readAt_rep _ _ _
    have hk : View.readAt (Elt F) arg5.view (Rect.unit (s := S1024x128) ![0, 0] S1024x128.size inb_k).toLoadRect (arg5.view.rep b.k) = VecWindow.window b.k ![0, 0] S1024x128.size inb_k := View.readAt_rep _ _ _
    have hv : View.readAt (Elt F) arg6.view (Rect.unit (s := S1024x128) ![0, 0] S1024x128.size inb_k).toLoadRect (arg6.view.rep b.v) = VecWindow.window b.v ![0, 0] S1024x128.size inb_k := View.readAt_rep _ _ _
    have ho0 : View.readAt (Elt F) arg10.view (Rect.unit (s := S128x1024) ![0, 0] S128x256.size (inb_ct 0)).toLoadRect (arg10.view.rep b.ct) = VecWindow.window b.ct ![0, 256 * ((0 : Fin 4) : ℕ)] S128x256.size (inb_ct 0) := View.readAt_rep _ _ _
    have hl0 : View.readAt (Elt F) arg8.view (Rect.unit (s := S1x1x1024) ![0, 0, 0] S1x1x256.size (inb_l 0)).toLoadRect (arg8.view.rep b.lse) = VecWindow.window b.lse ![0, 0, 256 * ((0 : Fin 4) : ℕ)] S1x1x256.size (inb_l 0) := View.readAt_rep _ _ _
    have hd0 : View.readAt (Elt F) arg9.view (Rect.unit (s := S1x1x1024) ![0, 0, 0] S1x1x256.size (inb_l 0)).toLoadRect (arg9.view.rep b.dl) = VecWindow.window b.dl ![0, 0, 256 * ((0 : Fin 4) : ℕ)] S1x1x256.size (inb_l 0) := View.readAt_rep _ _ _
    have hx0 : View.readAt (Elt F) arg4.view (Rect.unit (s := S1024x128) ![0, 0] S256x128.size (inb_q 0)).toLoadRect (arg4.view.rep b.q) = VecWindow.window b.q ![256 * ((0 : Fin 4) : ℕ), 0] S256x128.size (inb_q 0) := View.readAt_rep _ _ _
    have ho1 : View.readAt (Elt F) arg10.view (Rect.unit (s := S128x1024) ![0, 256] S128x256.size (inb_ct 1)).toLoadRect (arg10.view.rep b.ct) = VecWindow.window b.ct ![0, 256 * ((1 : Fin 4) : ℕ)] S128x256.size (inb_ct 1) := View.readAt_rep _ _ _
    have hl1 : View.readAt (Elt F) arg8.view (Rect.unit (s := S1x1x1024) ![0, 0, 256] S1x1x256.size (inb_l 1)).toLoadRect (arg8.view.rep b.lse) = VecWindow.window b.lse ![0, 0, 256 * ((1 : Fin 4) : ℕ)] S1x1x256.size (inb_l 1) := View.readAt_rep _ _ _
    have hd1 : View.readAt (Elt F) arg9.view (Rect.unit (s := S1x1x1024) ![0, 0, 256] S1x1x256.size (inb_l 1)).toLoadRect (arg9.view.rep b.dl) = VecWindow.window b.dl ![0, 0, 256 * ((1 : Fin 4) : ℕ)] S1x1x256.size (inb_l 1) := View.readAt_rep _ _ _
    have hx1 : View.readAt (Elt F) arg4.view (Rect.unit (s := S1024x128) ![256, 0] S256x128.size (inb_q 1)).toLoadRect (arg4.view.rep b.q) = VecWindow.window b.q ![256 * ((1 : Fin 4) : ℕ), 0] S256x128.size (inb_q 1) := View.readAt_rep _ _ _
    have ho2 : View.readAt (Elt F) arg10.view (Rect.unit (s := S128x1024) ![0, 512] S128x256.size (inb_ct 2)).toLoadRect (arg10.view.rep b.ct) = VecWindow.window b.ct ![0, 256 * ((2 : Fin 4) : ℕ)] S128x256.size (inb_ct 2) := View.readAt_rep _ _ _
    have hl2 : View.readAt (Elt F) arg8.view (Rect.unit (s := S1x1x1024) ![0, 0, 512] S1x1x256.size (inb_l 2)).toLoadRect (arg8.view.rep b.lse) = VecWindow.window b.lse ![0, 0, 256 * ((2 : Fin 4) : ℕ)] S1x1x256.size (inb_l 2) := View.readAt_rep _ _ _
    have hd2 : View.readAt (Elt F) arg9.view (Rect.unit (s := S1x1x1024) ![0, 0, 512] S1x1x256.size (inb_l 2)).toLoadRect (arg9.view.rep b.dl) = VecWindow.window b.dl ![0, 0, 256 * ((2 : Fin 4) : ℕ)] S1x1x256.size (inb_l 2) := View.readAt_rep _ _ _
    have hx2 : View.readAt (Elt F) arg4.view (Rect.unit (s := S1024x128) ![512, 0] S256x128.size (inb_q 2)).toLoadRect (arg4.view.rep b.q) = VecWindow.window b.q ![256 * ((2 : Fin 4) : ℕ), 0] S256x128.size (inb_q 2) := View.readAt_rep _ _ _
    have ho3 : View.readAt (Elt F) arg10.view (Rect.unit (s := S128x1024) ![0, 768] S128x256.size (inb_ct 3)).toLoadRect (arg10.view.rep b.ct) = VecWindow.window b.ct ![0, 256 * ((3 : Fin 4) : ℕ)] S128x256.size (inb_ct 3) := View.readAt_rep _ _ _
    have hl3 : View.readAt (Elt F) arg8.view (Rect.unit (s := S1x1x1024) ![0, 0, 768] S1x1x256.size (inb_l 3)).toLoadRect (arg8.view.rep b.lse) = VecWindow.window b.lse ![0, 0, 256 * ((3 : Fin 4) : ℕ)] S1x1x256.size (inb_l 3) := View.readAt_rep _ _ _
    have hd3 : View.readAt (Elt F) arg9.view (Rect.unit (s := S1x1x1024) ![0, 0, 768] S1x1x256.size (inb_l 3)).toLoadRect (arg9.view.rep b.dl) = VecWindow.window b.dl ![0, 0, 256 * ((3 : Fin 4) : ℕ)] S1x1x256.size (inb_l 3) := View.readAt_rep _ _ _
    have hx3 : View.readAt (Elt F) arg4.view (Rect.unit (s := S1024x128) ![768, 0] S256x128.size (inb_q 3)).toLoadRect (arg4.view.rep b.q) = VecWindow.window b.q ![256 * ((3 : Fin 4) : ℕ), 0] S256x128.size (inb_q 3) := View.readAt_rep _ _ _
    iapply Hk
    have hq : ∀ (f : accQ.view.ty.Contents (Elt F)) (inb : ∀ a, k0_off4 (View.readAt (Elt F) tabQ.view (Rect.unit (s := S36) (k0_off1 i) S1.size (k0_off1_inb i)).toLoadRect T0 (Shape.Idx.first (numel1_S1.symm ▸ Nat.one_pos))) a + S1x128x1024.size a ≤ S8x128x1024.size a), View.readAt (Elt F) accQ.view (Rect.unit (s := S8x128x1024) (k0_off4 (View.readAt (Elt F) tabQ.view (Rect.unit (s := S36) (k0_off1 i) S1.size (k0_off1_inb i)).toLoadRect T0 (Shape.Idx.first (numel1_S1.symm ▸ Nat.one_pos)))) S1x128x1024.size inb).toLoadRect f = VecWindow.window (accQ.view.read (Elt F) f) ![qi.val, 0, 0] S1x128x1024.size (inb_rowQ qi) :=
      fun f inb => View.readAt_unit _ _ _ (by rw [hw1]; exact off4_wd qi) _
    have hr : ∀ (f : arg14.view.ty.Contents (Elt F)) (inb : ∀ a, k0_off5 (View.readAt (Elt F) tabQ.view (Rect.unit (s := S36) (k0_off1 i) S1.size (k0_off1_inb i)).toLoadRect T0 (Shape.Idx.first (numel1_S1.symm ▸ Nat.one_pos))) a + S1x1x1024.size a ≤ S1x8x1024.size a), View.readAt (Elt F) arg14.view (Rect.unit (s := S1x8x1024) (k0_off5 (View.readAt (Elt F) tabQ.view (Rect.unit (s := S36) (k0_off1 i) S1.size (k0_off1_inb i)).toLoadRect T0 (Shape.Idx.first (numel1_S1.symm ▸ Nat.one_pos)))) S1x1x1024.size inb).toLoadRect f = VecWindow.window (arg14.view.read (Elt F) f) ![0, qi.val, 0] S1x1x1024.size (inb_rowR qi) :=
      fun f inb => View.readAt_unit _ _ _ (by rw [hw1]; exact off5_wd qi) _
    have oq : k0_off4 (View.readAt (Elt F) tabQ.view (Rect.unit (s := S36) (k0_off1 i) S1.size (k0_off1_inb i)).toLoadRect T0 (Shape.Idx.first (numel1_S1.symm ▸ Nat.one_pos))) = ![qi.val, 0, 0] := by rw [hw1]; exact off4_wd qi
    have or : k0_off5 (View.readAt (Elt F) tabQ.view (Rect.unit (s := S36) (k0_off1 i) S1.size (k0_off1_inb i)).toLoadRect T0 (Shape.Idx.first (numel1_S1.symm ▸ Nat.one_pos))) = ![0, qi.val, 0] := by rw [hw1]; exact off5_wd qi
    have rwK : ∀ (f : accK.view.ty.Contents (Elt F)) (off : Fin S1024x256.rank → ℕ) (inb : ∀ a, off a + S1024x256.size a ≤ S1024x256.size a) (w : S1024x256.Idx → Elt F .f32) (L : List (View.Piece (Elt F) S1024x256 .f32)), accK.view.read (Elt F) (accK.view.writes (Elt F) f (⟨Rect.unit (s := S1024x256) off S1024x256.size inb, w⟩ :: L)) = w := fun f off inb w L => View.read_writes_full _ _ _ _ _
    have rcK : ∀ (off off' : Fin S1024x256.rank → ℕ) (inb : ∀ a, off a + S1024x256.size a ≤ S1024x256.size a) (inb' : ∀ a, off' a + S1024x256.size a ≤ S1024x256.size a) (w : S1024x256.Idx → Elt F .f32) (L : List (View.Piece (Elt F) S1024x256 .f32)), accK.view.readCov (⟨Rect.unit (s := S1024x256) off' S1024x256.size inb', w⟩ :: L) (Rect.unit (s := S1024x256) off S1024x256.size inb).toLoadRect = w := fun off off' inb inb' w L => View.readCov_full _ _ _ _ _
    have raK : ∀ (f : accK.view.ty.Contents (Elt F)) (off : Fin S1024x256.rank → ℕ) (inb : ∀ a, off a + S1024x256.size a ≤ S1024x256.size a), accK.view.readAt (Elt F) (Rect.unit (s := S1024x256) off S1024x256.size inb).toLoadRect f = accK.view.read (Elt F) f := fun f off inb => View.readAt_full _ _ _
    have rwV : ∀ (f : accV.view.ty.Contents (Elt F)) (off : Fin S1024x128.rank → ℕ) (inb : ∀ a, off a + S1024x128.size a ≤ S1024x128.size a) (w : S1024x128.Idx → Elt F .f32) (L : List (View.Piece (Elt F) S1024x128 .f32)), accV.view.read (Elt F) (accV.view.writes (Elt F) f (⟨Rect.unit (s := S1024x128) off S1024x128.size inb, w⟩ :: L)) = w := fun f off inb w L => View.read_writes_full _ _ _ _ _
    have rcV : ∀ (off off' : Fin S1024x128.rank → ℕ) (inb : ∀ a, off a + S1024x128.size a ≤ S1024x128.size a) (inb' : ∀ a, off' a + S1024x128.size a ≤ S1024x128.size a) (w : S1024x128.Idx → Elt F .f32) (L : List (View.Piece (Elt F) S1024x128 .f32)), accV.view.readCov (⟨Rect.unit (s := S1024x128) off' S1024x128.size inb', w⟩ :: L) (Rect.unit (s := S1024x128) off S1024x128.size inb).toLoadRect = w := fun off off' inb inb' w L => View.readCov_full _ _ _ _ _
    have raV : ∀ (f : accV.view.ty.Contents (Elt F)) (off : Fin S1024x128.rank → ℕ) (inb : ∀ a, off a + S1024x128.size a ≤ S1024x128.size a), accV.view.readAt (Elt F) (Rect.unit (s := S1024x128) off S1024x128.size inb).toLoadRect f = accV.view.read (Elt F) f := fun f off inb => View.readAt_full _ _ _
    have rwQ : ∀ (f : accQ.view.ty.Contents (Elt F)) (off : Fin S8x128x1024.rank → ℕ) (inb : ∀ a, off a + S8x128x1024.size a ≤ S8x128x1024.size a) (w : S8x128x1024.Idx → Elt F .f32) (L : List (View.Piece (Elt F) S8x128x1024 .f32)), accQ.view.read (Elt F) (accQ.view.writes (Elt F) f (⟨Rect.unit (s := S8x128x1024) off S8x128x1024.size inb, w⟩ :: L)) = w := fun f off inb w L => View.read_writes_full _ _ _ _ _
    have rwR : ∀ (f : arg14.view.ty.Contents (Elt F)) (off : Fin S1x8x1024.rank → ℕ) (inb : ∀ a, off a + S1x8x1024.size a ≤ S1x8x1024.size a) (w : S1x8x1024.Idx → Elt F .f32) (L : List (View.Piece (Elt F) S1x8x1024 .f32)), arg14.view.read (Elt F) (arg14.view.writes (Elt F) f (⟨Rect.unit (s := S1x8x1024) off S1x8x1024.size inb, w⟩ :: L)) = w := fun f off inb w L => View.read_writes_full _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; swap; · iexact HO7
      ipureintro
      exact harg11.read_unread _
    isplitl [HO8]
    · iexists _; isplitr; swap; · iexact HO8
      ipureintro
      exact harg12.read_unread _
    isplitl [HO9]
    · iexists _; isplitr; swap; · iexact HO9
      ipureintro
      exact harg13.read_unread _
    isplitl [HO10]
    · iexists _; isplitr; swap; · iexact HO10
      ipureintro
      delta runB.sl.r
      refine (View.read_writes_cons_put _ _ _ _ _ or).trans ?_
      unfold newR; refine congrArg₂ (fun x w => VecWindow.put x _ _ w) ?_ ?_
      · exact harg14.read_unread _
      · delta runB.sl.HS1_1 runB.sl.HS1_2 runB.sl.HS1_3 runB.sl.HS1_4 runB.sl.HS2_1 runB.sl.HS2_2 runB.sl.HS2_3 runB.sl.HS2_4 runB.sl.cst runB.sl.cst_14 runB.sl.cst_15 runB.sl.cst_45 runB.sl.cst_53 runB.sl.cst_56 runB.sl.r runB.sl.r_1 runB.sl.r_2 runB.sl.v100 runB.sl.v101 runB.sl.v102 runB.sl.v103 runB.sl.v105 runB.sl.v106 runB.sl.v107 runB.sl.v108 runB.sl.v110 runB.sl.v111 runB.sl.v112 runB.sl.v113 runB.sl.v114 runB.sl.v115 runB.sl.v116 runB.sl.v117 runB.sl.v118 runB.sl.v120 runB.sl.v121 runB.sl.v122 runB.sl.v123 runB.sl.v124 runB.sl.v125 runB.sl.v127 runB.sl.v128 runB.sl.v129 runB.sl.v131 runB.sl.v133 runB.sl.v134 runB.sl.v136 runB.sl.v137 runB.sl.v138 runB.sl.v139 runB.sl.v141 runB.sl.v142 runB.sl.v143 runB.sl.v144 runB.sl.v145 runB.sl.v146 runB.sl.v147 runB.sl.v148 runB.sl.v149 runB.sl.v151 runB.sl.v152 runB.sl.v153 runB.sl.v154 runB.sl.v155 runB.sl.v156 runB.sl.v158 runB.sl.v159 runB.sl.v160 runB.sl.v162 runB.sl.v164 runB.sl.v165 runB.sl.v167 runB.sl.v168 runB.sl.v169 runB.sl.v170 runB.sl.v172 runB.sl.v173 runB.sl.v174 runB.sl.v175 runB.sl.v176 runB.sl.v177 runB.sl.v178 runB.sl.v179 runB.sl.v180 runB.sl.v182 runB.sl.v183 runB.sl.v184 runB.sl.v185 runB.sl.v186 runB.sl.v187 runB.sl.v189 runB.sl.v190 runB.sl.v191 runB.sl.v193 runB.sl.v195 runB.sl.v196 runB.sl.v197 runB.sl.v23 runB.sl.v25 runB.sl.v27 runB.sl.v28 runB.sl.v30 runB.sl.v31 runB.sl.v32 runB.sl.v33 runB.sl.v34 runB.sl.v35 runB.sl.v37 runB.sl.v38 runB.sl.v39 runB.sl.v42 runB.sl.v43 runB.sl.v44 runB.sl.v46 runB.sl.v48 runB.sl.v49 runB.sl.v50 runB.sl.v53 runB.sl.v54 runB.sl.v55 runB.sl.v57 runB.sl.v59 runB.sl.v60 runB.sl.v61 runB.sl.v64 runB.sl.v65 runB.sl.v66 runB.sl.v68 runB.sl.v7 runB.sl.v70 runB.sl.v71 runB.sl.v72 runB.sl.v74 runB.sl.v75 runB.sl.v76 runB.sl.v77 runB.sl.v79 runB.sl.v8 runB.sl.v80 runB.sl.v81 runB.sl.v82 runB.sl.v83 runB.sl.v85 runB.sl.v86 runB.sl.v87 runB.sl.v89 runB.sl.v9 runB.sl.v90 runB.sl.v92 runB.sl.v93 runB.sl.v94 runB.sl.v96 runB.sl.v97 runB.sl.v98 runB.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hr, View.readCov, harg14.read_unread, rwQ, rwR]
        try simp only [View.readAt_rep]
        rfl
    isplitl [HO11]
    · iexists _; isplitr; swap; · iexact HO11
      ipureintro
      exact harg15.read_unread _
    isplitl [HS0]
    · iapply (accQ_of_read c)
      iexists _; isplitr; swap; · iexact HS0
      ipureintro
      delta runB.sl.r
      refine (View.read_writes_cons_put _ _ _ _ _ oq).trans ?_
      unfold newQ; refine congrArg₂ (fun x w => VecWindow.put x _ _ w) ?_ ?_
      · rfl
      · delta runB.sl.HS1_1 runB.sl.HS1_2 runB.sl.HS1_3 runB.sl.HS1_4 runB.sl.HS2_1 runB.sl.HS2_2 runB.sl.HS2_3 runB.sl.HS2_4 runB.sl.cst runB.sl.cst_14 runB.sl.cst_15 runB.sl.cst_45 runB.sl.cst_53 runB.sl.cst_56 runB.sl.r runB.sl.r_1 runB.sl.r_2 runB.sl.v100 runB.sl.v101 runB.sl.v102 runB.sl.v103 runB.sl.v105 runB.sl.v106 runB.sl.v107 runB.sl.v108 runB.sl.v110 runB.sl.v111 runB.sl.v112 runB.sl.v113 runB.sl.v114 runB.sl.v115 runB.sl.v116 runB.sl.v117 runB.sl.v118 runB.sl.v120 runB.sl.v121 runB.sl.v122 runB.sl.v123 runB.sl.v124 runB.sl.v125 runB.sl.v127 runB.sl.v128 runB.sl.v129 runB.sl.v131 runB.sl.v133 runB.sl.v134 runB.sl.v136 runB.sl.v137 runB.sl.v138 runB.sl.v139 runB.sl.v141 runB.sl.v142 runB.sl.v143 runB.sl.v144 runB.sl.v145 runB.sl.v146 runB.sl.v147 runB.sl.v148 runB.sl.v149 runB.sl.v151 runB.sl.v152 runB.sl.v153 runB.sl.v154 runB.sl.v155 runB.sl.v156 runB.sl.v158 runB.sl.v159 runB.sl.v160 runB.sl.v162 runB.sl.v164 runB.sl.v165 runB.sl.v167 runB.sl.v168 runB.sl.v169 runB.sl.v170 runB.sl.v172 runB.sl.v173 runB.sl.v174 runB.sl.v175 runB.sl.v176 runB.sl.v177 runB.sl.v178 runB.sl.v179 runB.sl.v180 runB.sl.v182 runB.sl.v183 runB.sl.v184 runB.sl.v185 runB.sl.v186 runB.sl.v187 runB.sl.v189 runB.sl.v190 runB.sl.v191 runB.sl.v193 runB.sl.v195 runB.sl.v196 runB.sl.v197 runB.sl.v23 runB.sl.v25 runB.sl.v27 runB.sl.v28 runB.sl.v30 runB.sl.v31 runB.sl.v32 runB.sl.v33 runB.sl.v34 runB.sl.v35 runB.sl.v37 runB.sl.v38 runB.sl.v39 runB.sl.v42 runB.sl.v43 runB.sl.v44 runB.sl.v46 runB.sl.v48 runB.sl.v49 runB.sl.v50 runB.sl.v53 runB.sl.v54 runB.sl.v55 runB.sl.v57 runB.sl.v59 runB.sl.v60 runB.sl.v61 runB.sl.v64 runB.sl.v65 runB.sl.v66 runB.sl.v68 runB.sl.v7 runB.sl.v70 runB.sl.v71 runB.sl.v72 runB.sl.v74 runB.sl.v75 runB.sl.v76 runB.sl.v77 runB.sl.v79 runB.sl.v8 runB.sl.v80 runB.sl.v81 runB.sl.v82 runB.sl.v83 runB.sl.v85 runB.sl.v86 runB.sl.v87 runB.sl.v89 runB.sl.v9 runB.sl.v90 runB.sl.v92 runB.sl.v93 runB.sl.v94 runB.sl.v96 runB.sl.v97 runB.sl.v98 runB.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hq, View.readCov, rwQ, rwR]
        try simp only [View.readAt_rep]
        rfl
    isplitl [HS1]
    · iapply (accK_of_read c)
      iexists _; isplitr; swap; · iexact HS1
      ipureintro
      delta runB.sl.HS1_1 runB.sl.HS1_2 runB.sl.HS1_3 runB.sl.HS1_4 runB.sl.HS2_1 runB.sl.HS2_2 runB.sl.HS2_3 runB.sl.HS2_4 runB.sl.cst runB.sl.cst_14 runB.sl.cst_15 runB.sl.cst_45 runB.sl.cst_53 runB.sl.cst_56 runB.sl.r runB.sl.r_1 runB.sl.r_2 runB.sl.v100 runB.sl.v101 runB.sl.v102 runB.sl.v103 runB.sl.v105 runB.sl.v106 runB.sl.v107 runB.sl.v108 runB.sl.v110 runB.sl.v111 runB.sl.v112 runB.sl.v113 runB.sl.v114 runB.sl.v115 runB.sl.v116 runB.sl.v117 runB.sl.v118 runB.sl.v120 runB.sl.v121 runB.sl.v122 runB.sl.v123 runB.sl.v124 runB.sl.v125 runB.sl.v127 runB.sl.v128 runB.sl.v129 runB.sl.v131 runB.sl.v133 runB.sl.v134 runB.sl.v136 runB.sl.v137 runB.sl.v138 runB.sl.v139 runB.sl.v141 runB.sl.v142 runB.sl.v143 runB.sl.v144 runB.sl.v145 runB.sl.v146 runB.sl.v147 runB.sl.v148 runB.sl.v149 runB.sl.v151 runB.sl.v152 runB.sl.v153 runB.sl.v154 runB.sl.v155 runB.sl.v156 runB.sl.v158 runB.sl.v159 runB.sl.v160 runB.sl.v162 runB.sl.v164 runB.sl.v165 runB.sl.v167 runB.sl.v168 runB.sl.v169 runB.sl.v170 runB.sl.v172 runB.sl.v173 runB.sl.v174 runB.sl.v175 runB.sl.v176 runB.sl.v177 runB.sl.v178 runB.sl.v179 runB.sl.v180 runB.sl.v182 runB.sl.v183 runB.sl.v184 runB.sl.v185 runB.sl.v186 runB.sl.v187 runB.sl.v189 runB.sl.v190 runB.sl.v191 runB.sl.v193 runB.sl.v195 runB.sl.v196 runB.sl.v197 runB.sl.v23 runB.sl.v25 runB.sl.v27 runB.sl.v28 runB.sl.v30 runB.sl.v31 runB.sl.v32 runB.sl.v33 runB.sl.v34 runB.sl.v35 runB.sl.v37 runB.sl.v38 runB.sl.v39 runB.sl.v42 runB.sl.v43 runB.sl.v44 runB.sl.v46 runB.sl.v48 runB.sl.v49 runB.sl.v50 runB.sl.v53 runB.sl.v54 runB.sl.v55 runB.sl.v57 runB.sl.v59 runB.sl.v60 runB.sl.v61 runB.sl.v64 runB.sl.v65 runB.sl.v66 runB.sl.v68 runB.sl.v7 runB.sl.v70 runB.sl.v71 runB.sl.v72 runB.sl.v74 runB.sl.v75 runB.sl.v76 runB.sl.v77 runB.sl.v79 runB.sl.v8 runB.sl.v80 runB.sl.v81 runB.sl.v82 runB.sl.v83 runB.sl.v85 runB.sl.v86 runB.sl.v87 runB.sl.v89 runB.sl.v9 runB.sl.v90 runB.sl.v92 runB.sl.v93 runB.sl.v94 runB.sl.v96 runB.sl.v97 runB.sl.v98 runB.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl
    · iapply (accV_of_read c)
      iexists _; isplitr; swap; · iexact HS2
      ipureintro
      delta runB.sl.HS1_1 runB.sl.HS1_2 runB.sl.HS1_3 runB.sl.HS1_4 runB.sl.HS2_1 runB.sl.HS2_2 runB.sl.HS2_3 runB.sl.HS2_4 runB.sl.cst runB.sl.cst_14 runB.sl.cst_15 runB.sl.cst_45 runB.sl.cst_53 runB.sl.cst_56 runB.sl.r runB.sl.r_1 runB.sl.r_2 runB.sl.v100 runB.sl.v101 runB.sl.v102 runB.sl.v103 runB.sl.v105 runB.sl.v106 runB.sl.v107 runB.sl.v108 runB.sl.v110 runB.sl.v111 runB.sl.v112 runB.sl.v113 runB.sl.v114 runB.sl.v115 runB.sl.v116 runB.sl.v117 runB.sl.v118 runB.sl.v120 runB.sl.v121 runB.sl.v122 runB.sl.v123 runB.sl.v124 runB.sl.v125 runB.sl.v127 runB.sl.v128 runB.sl.v129 runB.sl.v131 runB.sl.v133 runB.sl.v134 runB.sl.v136 runB.sl.v137 runB.sl.v138 runB.sl.v139 runB.sl.v141 runB.sl.v142 runB.sl.v143 runB.sl.v144 runB.sl.v145 runB.sl.v146 runB.sl.v147 runB.sl.v148 runB.sl.v149 runB.sl.v151 runB.sl.v152 runB.sl.v153 runB.sl.v154 runB.sl.v155 runB.sl.v156 runB.sl.v158 runB.sl.v159 runB.sl.v160 runB.sl.v162 runB.sl.v164 runB.sl.v165 runB.sl.v167 runB.sl.v168 runB.sl.v169 runB.sl.v170 runB.sl.v172 runB.sl.v173 runB.sl.v174 runB.sl.v175 runB.sl.v176 runB.sl.v177 runB.sl.v178 runB.sl.v179 runB.sl.v180 runB.sl.v182 runB.sl.v183 runB.sl.v184 runB.sl.v185 runB.sl.v186 runB.sl.v187 runB.sl.v189 runB.sl.v190 runB.sl.v191 runB.sl.v193 runB.sl.v195 runB.sl.v196 runB.sl.v197 runB.sl.v23 runB.sl.v25 runB.sl.v27 runB.sl.v28 runB.sl.v30 runB.sl.v31 runB.sl.v32 runB.sl.v33 runB.sl.v34 runB.sl.v35 runB.sl.v37 runB.sl.v38 runB.sl.v39 runB.sl.v42 runB.sl.v43 runB.sl.v44 runB.sl.v46 runB.sl.v48 runB.sl.v49 runB.sl.v50 runB.sl.v53 runB.sl.v54 runB.sl.v55 runB.sl.v57 runB.sl.v59 runB.sl.v60 runB.sl.v61 runB.sl.v64 runB.sl.v65 runB.sl.v66 runB.sl.v68 runB.sl.v7 runB.sl.v70 runB.sl.v71 runB.sl.v72 runB.sl.v74 runB.sl.v75 runB.sl.v76 runB.sl.v77 runB.sl.v79 runB.sl.v8 runB.sl.v80 runB.sl.v81 runB.sl.v82 runB.sl.v83 runB.sl.v85 runB.sl.v86 runB.sl.v87 runB.sl.v89 runB.sl.v9 runB.sl.v90 runB.sl.v92 runB.sl.v93 runB.sl.v94 runB.sl.v96 runB.sl.v97 runB.sl.v98 runB.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl

end Cert.KernelIdeal.Fox

end
-- ==== Proof.Fox.RunC.lean ====
/- One visit of the attention kernel's body, a tile below the diagonal that is its key tile's last: the keys' and the values' gradients are written out. -/
module

public import proofs.«01_k».proof.Proof.Fox.Words
public import Idealize.ShloMosaic.Lib.Ring

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
set_option backward.proofsInPublic true in
/-- The body at a tile below the diagonal that is its key tile's last: the keys' and the values' gradients are written out. -/
theorem runC (c : Dev nD) (i : grid0.Coords)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1x1024x128 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S128x1024 .f32) (harg10 : arg10.IsWhole)
    (arg11 : Memref sig .tc .vmem S8192x128 .bf16) (harg11 : arg11.IsWhole)
    (arg12 : Memref sig .tc .vmem S1024x128 .bf16) (harg12 : arg12.IsWhole)
    (arg13 : Memref sig .tc .vmem S1024x128 .bf16) (harg13 : arg13.IsWhole)
    (arg14 : Memref sig .tc .vmem S1x8x1024 .f32) (harg14 : arg14.IsWhole)
    (arg15 : Memref sig .tc .vmem S1x1024x1 .f32) (harg15 : arg15.IsWhole)
    (T0 T1 : S36.Idx → Elt F .i32) (b : Blk F)
    (xr : S1x8x1024.Idx → Elt F .f32) (xq : S8x128x1024.Idx → Elt F .f32) (xk : S1024x256.Idx → Elt F .f32) (xv : S1024x128.Idx → Elt F .f32)
    (qi kj : Fin 8)
    (hw1 : View.readAt (Elt F) tabQ.view (Rect.unit (s := S36) (k0_off1 i) S1.size (k0_off1_inb i)).toLoadRect T0 (Shape.Idx.first (numel1_S1.symm ▸ Nat.one_pos)) = wd qi)
    (hw3 : View.readAt (Elt F) tabK.view (Rect.unit (s := S36) (k0_off1 i) S1.size (k0_off1_inb i)).toLoadRect T1 (Shape.Idx.first (numel1_S1.symm ▸ Nat.one_pos)) = wd kj)
    (hfirst : (i 1).val ≠ 0) (hdiag : kj < qi) (hlast : qi = 7) (hend : (i 1).val ≠ 35)
    (y7 : S8192x128.Idx → Elt F .bf16) (y8 : S1024x128.Idx → Elt F .bf16) (y9 : S1024x128.Idx → Elt F .bf16) (y11 : S1x1024x1.Idx → Elt F .f32) (K : PUnit → sProp 𝕄) :
      iprop((arg4.view.loc (c : Thread nD τ) ↦[arg4.view.set]{fullShare} arg4.view.rep b.q)
          ∗ (arg5.view.loc (c : Thread nD τ) ↦[arg5.view.set]{fullShare} arg5.view.rep b.k)
          ∗ (arg6.view.loc (c : Thread nD τ) ↦[arg6.view.set]{fullShare} arg6.view.rep b.v)
          ∗ (arg7.view.loc (c : Thread nD τ) ↦[arg7.view.set]{fullShare} arg7.view.rep b.ck)
          ∗ (arg8.view.loc (c : Thread nD τ) ↦[arg8.view.set]{fullShare} arg8.view.rep b.lse)
          ∗ (arg9.view.loc (c : Thread nD τ) ↦[arg9.view.set]{fullShare} arg9.view.rep b.dl)
          ∗ (arg10.view.loc (c : Thread nD τ) ↦[arg10.view.set]{fullShare} arg10.view.rep b.ct)
          ∗ (tabQ.view.loc (c : Thread nD τ) ↦{fullShare.right} T0)
          ∗ (tabK.view.loc (c : Thread nD τ) ↦{fullShare.right} T1)
          ∗ owns (c : Thread nD τ) arg11 fullShare y7
          ∗ owns (c : Thread nD τ) arg12 fullShare y8
          ∗ owns (c : Thread nD τ) arg13 fullShare y9
          ∗ owns (c : Thread nD τ) arg14 fullShare xr
          ∗ owns (c : Thread nD τ) arg15 fullShare y11
          ∗ (accQ.view.loc (c : Thread nD τ) ↦{fullShare} xq)
          ∗ (accK.view.loc (c : Thread nD τ) ↦{fullShare} xk)
          ∗ (accV.view.loc (c : Thread nD τ) ↦{fullShare} xv)
          ∗ (iprop((arg4.view.loc (c : Thread nD τ) ↦[arg4.view.set]{fullShare} arg4.view.rep b.q)
            ∗ (arg5.view.loc (c : Thread nD τ) ↦[arg5.view.set]{fullShare} arg5.view.rep b.k)
            ∗ (arg6.view.loc (c : Thread nD τ) ↦[arg6.view.set]{fullShare} arg6.view.rep b.v)
            ∗ (arg7.view.loc (c : Thread nD τ) ↦[arg7.view.set]{fullShare} arg7.view.rep b.ck)
            ∗ (arg8.view.loc (c : Thread nD τ) ↦[arg8.view.set]{fullShare} arg8.view.rep b.lse)
            ∗ (arg9.view.loc (c : Thread nD τ) ↦[arg9.view.set]{fullShare} arg9.view.rep b.dl)
            ∗ (arg10.view.loc (c : Thread nD τ) ↦[arg10.view.set]{fullShare} arg10.view.rep b.ct)
            ∗ (tabQ.view.loc (c : Thread nD τ) ↦{fullShare.right} T0)
            ∗ (tabK.view.loc (c : Thread nD τ) ↦{fullShare.right} T1)
            ∗ owns (c : Thread nD τ) arg11 fullShare y7
            ∗ owns (c : Thread nD τ) arg12 fullShare (outK (newK b false xk))
            ∗ owns (c : Thread nD τ) arg13 fullShare (outV (newV b false xv))
            ∗ owns (c : Thread nD τ) arg14 fullShare (newR b false qi xr)
            ∗ owns (c : Thread nD τ) arg15 fullShare (outC (newK b false xk))
            ∗ (accQ.view.loc (c : Thread nD τ) ↦{fullShare} (newQ b false qi xq))
            ∗ (accK.view.loc (c : Thread nD τ) ↦{fullShare} (newK b false xk))
            ∗ (accV.view.loc (c : Thread nD τ) ↦{fullShare} (newV b false xv))) -∗ K ⟨⟩))
        ⊢ wp frame (wpE (defs₀ (F := F)) Variants.none c none) Set.univ (cc0_fox_bwd i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 accQ (Memref.isWhole_whole _) accK (Memref.isWhole_whole _) accV (Memref.isWhole_whole _)) K := by
    have k0_hw1 : k0_chk1 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) := by rw [hw1, hw3]; exact chk_wd qi kj
    have k0_h1 : ¬(k0_cond1 i = 1#1) := by exact fun h => hfirst ((cond1_at i).1 h)
    have hc2 : ¬((Scalar.cmpi .ne (Scalar.extui (Scalar.cmpi .eq (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos)))) : BitVec 32) 0#32 = 1#1)) := by rw [hw1, hw3]; exact fun h => (ne_of_gt hdiag) ((eq_wd qi kj).1 h)
    have k0_h3 : ¬(k0_cond3 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1) := by rw [hw1, hw3]; exact fun h => (ne_of_gt hdiag) ((cond3_wd qi kj).1 h)
    have k0_h4 : k0_cond4 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1 := by rw [hw1, hw3]; exact (cond4_wd qi kj).2 hdiag
    have k0_h5 : k0_cond5 (View.readAt (Elt F) tabQ.view (Rect.unit (s := S36) (k0_off1 i) S1.size (k0_off1_inb i)).toLoadRect T0 (Shape.Idx.first (numel1_S1.symm ▸ Nat.one_pos))) = 1#1 := by rw [hw1]; exact (cond5_wd qi).2 hlast
    have k0_h6 : ¬(k0_cond6 i = 1#1) := by exact fun h => hend ((cond6_at i).1 h)
    unfold owns
    rw [cc0_fox_bwd_eq_skeleton]; unfold cc0_fox_bwd_skel
    iintro ⟨H0, H1, H2, H3, H4, H5, H6, HT0, HT1, ⟨%f7, %hf7, HO7⟩, ⟨%f8, %hf8, HO8⟩, ⟨%f9, %hf9, HO9⟩, ⟨%f10, %hf10, HO10⟩, ⟨%f11, %hf11, HO11⟩, HS0, HS1, HS2, Hk⟩
    obtain rfl := harg11.eq_unread hf7; obtain rfl := harg12.eq_unread hf8; obtain rfl := harg13.eq_unread hf9; obtain rfl := harg14.eq_unread hf10; obtain rfl := harg15.eq_unread hf11
    have hS0 : accQ.IsWhole := Memref.isWhole_whole _
    have hS1 : accK.IsWhole := Memref.isWhole_whole _
    have hS2 : accV.IsWhole := Memref.isWhole_whole _
    have hT0 : tabQ.IsWhole := Memref.isWhole_whole _
    have hT1 : tabK.IsWhole := Memref.isWhole_whole _
    sl_exec! (disch := first | (guard_target = k0_chk1 _ _; exact k0_hw1) | (guard_target = ¬(k0_cond1 _ = _); exact k0_h1) | (guard_target = ¬(Scalar.cmpi _ _ _ = _); exact hc2) | (guard_target = ¬(k0_cond3 _ _ = _); exact k0_h3) | (guard_target = k0_cond4 _ _ = _; exact k0_h4) | (guard_target = k0_cond5 _ = _; exact k0_h5) | (guard_target = ¬(k0_cond6 _ = _); exact k0_h6))
    sl_step
    have hck : View.readAt (Elt F) arg7.view (Rect.unit (s := S1x1024x128) ![0, 0, 0] S1x1024x128.size inb_ck).toLoadRect (arg7.view.rep b.ck) = VecWindow.window b.ck ![0, 0, 0] S1x1024x128.size inb_ck := View.readAt_rep _ _ _
    have hk : View.readAt (Elt F) arg5.view (Rect.unit (s := S1024x128) ![0, 0] S1024x128.size inb_k).toLoadRect (arg5.view.rep b.k) = VecWindow.window b.k ![0, 0] S1024x128.size inb_k := View.readAt_rep _ _ _
    have hv : View.readAt (Elt F) arg6.view (Rect.unit (s := S1024x128) ![0, 0] S1024x128.size inb_k).toLoadRect (arg6.view.rep b.v) = VecWindow.window b.v ![0, 0] S1024x128.size inb_k := View.readAt_rep _ _ _
    have ho0 : View.readAt (Elt F) arg10.view (Rect.unit (s := S128x1024) ![0, 0] S128x256.size (inb_ct 0)).toLoadRect (arg10.view.rep b.ct) = VecWindow.window b.ct ![0, 256 * ((0 : Fin 4) : ℕ)] S128x256.size (inb_ct 0) := View.readAt_rep _ _ _
    have hl0 : View.readAt (Elt F) arg8.view (Rect.unit (s := S1x1x1024) ![0, 0, 0] S1x1x256.size (inb_l 0)).toLoadRect (arg8.view.rep b.lse) = VecWindow.window b.lse ![0, 0, 256 * ((0 : Fin 4) : ℕ)] S1x1x256.size (inb_l 0) := View.readAt_rep _ _ _
    have hd0 : View.readAt (Elt F) arg9.view (Rect.unit (s := S1x1x1024) ![0, 0, 0] S1x1x256.size (inb_l 0)).toLoadRect (arg9.view.rep b.dl) = VecWindow.window b.dl ![0, 0, 256 * ((0 : Fin 4) : ℕ)] S1x1x256.size (inb_l 0) := View.readAt_rep _ _ _
    have hx0 : View.readAt (Elt F) arg4.view (Rect.unit (s := S1024x128) ![0, 0] S256x128.size (inb_q 0)).toLoadRect (arg4.view.rep b.q) = VecWindow.window b.q ![256 * ((0 : Fin 4) : ℕ), 0] S256x128.size (inb_q 0) := View.readAt_rep _ _ _
    have ho1 : View.readAt (Elt F) arg10.view (Rect.unit (s := S128x1024) ![0, 256] S128x256.size (inb_ct 1)).toLoadRect (arg10.view.rep b.ct) = VecWindow.window b.ct ![0, 256 * ((1 : Fin 4) : ℕ)] S128x256.size (inb_ct 1) := View.readAt_rep _ _ _
    have hl1 : View.readAt (Elt F) arg8.view (Rect.unit (s := S1x1x1024) ![0, 0, 256] S1x1x256.size (inb_l 1)).toLoadRect (arg8.view.rep b.lse) = VecWindow.window b.lse ![0, 0, 256 * ((1 : Fin 4) : ℕ)] S1x1x256.size (inb_l 1) := View.readAt_rep _ _ _
    have hd1 : View.readAt (Elt F) arg9.view (Rect.unit (s := S1x1x1024) ![0, 0, 256] S1x1x256.size (inb_l 1)).toLoadRect (arg9.view.rep b.dl) = VecWindow.window b.dl ![0, 0, 256 * ((1 : Fin 4) : ℕ)] S1x1x256.size (inb_l 1) := View.readAt_rep _ _ _
    have hx1 : View.readAt (Elt F) arg4.view (Rect.unit (s := S1024x128) ![256, 0] S256x128.size (inb_q 1)).toLoadRect (arg4.view.rep b.q) = VecWindow.window b.q ![256 * ((1 : Fin 4) : ℕ), 0] S256x128.size (inb_q 1) := View.readAt_rep _ _ _
    have ho2 : View.readAt (Elt F) arg10.view (Rect.unit (s := S128x1024) ![0, 512] S128x256.size (inb_ct 2)).toLoadRect (arg10.view.rep b.ct) = VecWindow.window b.ct ![0, 256 * ((2 : Fin 4) : ℕ)] S128x256.size (inb_ct 2) := View.readAt_rep _ _ _
    have hl2 : View.readAt (Elt F) arg8.view (Rect.unit (s := S1x1x1024) ![0, 0, 512] S1x1x256.size (inb_l 2)).toLoadRect (arg8.view.rep b.lse) = VecWindow.window b.lse ![0, 0, 256 * ((2 : Fin 4) : ℕ)] S1x1x256.size (inb_l 2) := View.readAt_rep _ _ _
    have hd2 : View.readAt (Elt F) arg9.view (Rect.unit (s := S1x1x1024) ![0, 0, 512] S1x1x256.size (inb_l 2)).toLoadRect (arg9.view.rep b.dl) = VecWindow.window b.dl ![0, 0, 256 * ((2 : Fin 4) : ℕ)] S1x1x256.size (inb_l 2) := View.readAt_rep _ _ _
    have hx2 : View.readAt (Elt F) arg4.view (Rect.unit (s := S1024x128) ![512, 0] S256x128.size (inb_q 2)).toLoadRect (arg4.view.rep b.q) = VecWindow.window b.q ![256 * ((2 : Fin 4) : ℕ), 0] S256x128.size (inb_q 2) := View.readAt_rep _ _ _
    have ho3 : View.readAt (Elt F) arg10.view (Rect.unit (s := S128x1024) ![0, 768] S128x256.size (inb_ct 3)).toLoadRect (arg10.view.rep b.ct) = VecWindow.window b.ct ![0, 256 * ((3 : Fin 4) : ℕ)] S128x256.size (inb_ct 3) := View.readAt_rep _ _ _
    have hl3 : View.readAt (Elt F) arg8.view (Rect.unit (s := S1x1x1024) ![0, 0, 768] S1x1x256.size (inb_l 3)).toLoadRect (arg8.view.rep b.lse) = VecWindow.window b.lse ![0, 0, 256 * ((3 : Fin 4) : ℕ)] S1x1x256.size (inb_l 3) := View.readAt_rep _ _ _
    have hd3 : View.readAt (Elt F) arg9.view (Rect.unit (s := S1x1x1024) ![0, 0, 768] S1x1x256.size (inb_l 3)).toLoadRect (arg9.view.rep b.dl) = VecWindow.window b.dl ![0, 0, 256 * ((3 : Fin 4) : ℕ)] S1x1x256.size (inb_l 3) := View.readAt_rep _ _ _
    have hx3 : View.readAt (Elt F) arg4.view (Rect.unit (s := S1024x128) ![768, 0] S256x128.size (inb_q 3)).toLoadRect (arg4.view.rep b.q) = VecWindow.window b.q ![256 * ((3 : Fin 4) : ℕ), 0] S256x128.size (inb_q 3) := View.readAt_rep _ _ _
    iapply Hk
    have hq : ∀ (f : accQ.view.ty.Contents (Elt F)) (inb : ∀ a, k0_off4 (View.readAt (Elt F) tabQ.view (Rect.unit (s := S36) (k0_off1 i) S1.size (k0_off1_inb i)).toLoadRect T0 (Shape.Idx.first (numel1_S1.symm ▸ Nat.one_pos))) a + S1x128x1024.size a ≤ S8x128x1024.size a), View.readAt (Elt F) accQ.view (Rect.unit (s := S8x128x1024) (k0_off4 (View.readAt (Elt F) tabQ.view (Rect.unit (s := S36) (k0_off1 i) S1.size (k0_off1_inb i)).toLoadRect T0 (Shape.Idx.first (numel1_S1.symm ▸ Nat.one_pos)))) S1x128x1024.size inb).toLoadRect f = VecWindow.window (accQ.view.read (Elt F) f) ![qi.val, 0, 0] S1x128x1024.size (inb_rowQ qi) :=
      fun f inb => View.readAt_unit _ _ _ (by rw [hw1]; exact off4_wd qi) _
    have hr : ∀ (f : arg14.view.ty.Contents (Elt F)) (inb : ∀ a, k0_off5 (View.readAt (Elt F) tabQ.view (Rect.unit (s := S36) (k0_off1 i) S1.size (k0_off1_inb i)).toLoadRect T0 (Shape.Idx.first (numel1_S1.symm ▸ Nat.one_pos))) a + S1x1x1024.size a ≤ S1x8x1024.size a), View.readAt (Elt F) arg14.view (Rect.unit (s := S1x8x1024) (k0_off5 (View.readAt (Elt F) tabQ.view (Rect.unit (s := S36) (k0_off1 i) S1.size (k0_off1_inb i)).toLoadRect T0 (Shape.Idx.first (numel1_S1.symm ▸ Nat.one_pos)))) S1x1x1024.size inb).toLoadRect f = VecWindow.window (arg14.view.read (Elt F) f) ![0, qi.val, 0] S1x1x1024.size (inb_rowR qi) :=
      fun f inb => View.readAt_unit _ _ _ (by rw [hw1]; exact off5_wd qi) _
    have oq : k0_off4 (View.readAt (Elt F) tabQ.view (Rect.unit (s := S36) (k0_off1 i) S1.size (k0_off1_inb i)).toLoadRect T0 (Shape.Idx.first (numel1_S1.symm ▸ Nat.one_pos))) = ![qi.val, 0, 0] := by rw [hw1]; exact off4_wd qi
    have or : k0_off5 (View.readAt (Elt F) tabQ.view (Rect.unit (s := S36) (k0_off1 i) S1.size (k0_off1_inb i)).toLoadRect T0 (Shape.Idx.first (numel1_S1.symm ▸ Nat.one_pos))) = ![0, qi.val, 0] := by rw [hw1]; exact off5_wd qi
    have rwK : ∀ (f : accK.view.ty.Contents (Elt F)) (off : Fin S1024x256.rank → ℕ) (inb : ∀ a, off a + S1024x256.size a ≤ S1024x256.size a) (w : S1024x256.Idx → Elt F .f32) (L : List (View.Piece (Elt F) S1024x256 .f32)), accK.view.read (Elt F) (accK.view.writes (Elt F) f (⟨Rect.unit (s := S1024x256) off S1024x256.size inb, w⟩ :: L)) = w := fun f off inb w L => View.read_writes_full _ _ _ _ _
    have rcK : ∀ (off off' : Fin S1024x256.rank → ℕ) (inb : ∀ a, off a + S1024x256.size a ≤ S1024x256.size a) (inb' : ∀ a, off' a + S1024x256.size a ≤ S1024x256.size a) (w : S1024x256.Idx → Elt F .f32) (L : List (View.Piece (Elt F) S1024x256 .f32)), accK.view.readCov (⟨Rect.unit (s := S1024x256) off' S1024x256.size inb', w⟩ :: L) (Rect.unit (s := S1024x256) off S1024x256.size inb).toLoadRect = w := fun off off' inb inb' w L => View.readCov_full _ _ _ _ _
    have raK : ∀ (f : accK.view.ty.Contents (Elt F)) (off : Fin S1024x256.rank → ℕ) (inb : ∀ a, off a + S1024x256.size a ≤ S1024x256.size a), accK.view.readAt (Elt F) (Rect.unit (s := S1024x256) off S1024x256.size inb).toLoadRect f = accK.view.read (Elt F) f := fun f off inb => View.readAt_full _ _ _
    have rwV : ∀ (f : accV.view.ty.Contents (Elt F)) (off : Fin S1024x128.rank → ℕ) (inb : ∀ a, off a + S1024x128.size a ≤ S1024x128.size a) (w : S1024x128.Idx → Elt F .f32) (L : List (View.Piece (Elt F) S1024x128 .f32)), accV.view.read (Elt F) (accV.view.writes (Elt F) f (⟨Rect.unit (s := S1024x128) off S1024x128.size inb, w⟩ :: L)) = w := fun f off inb w L => View.read_writes_full _ _ _ _ _
    have rcV : ∀ (off off' : Fin S1024x128.rank → ℕ) (inb : ∀ a, off a + S1024x128.size a ≤ S1024x128.size a) (inb' : ∀ a, off' a + S1024x128.size a ≤ S1024x128.size a) (w : S1024x128.Idx → Elt F .f32) (L : List (View.Piece (Elt F) S1024x128 .f32)), accV.view.readCov (⟨Rect.unit (s := S1024x128) off' S1024x128.size inb', w⟩ :: L) (Rect.unit (s := S1024x128) off S1024x128.size inb).toLoadRect = w := fun off off' inb inb' w L => View.readCov_full _ _ _ _ _
    have raV : ∀ (f : accV.view.ty.Contents (Elt F)) (off : Fin S1024x128.rank → ℕ) (inb : ∀ a, off a + S1024x128.size a ≤ S1024x128.size a), accV.view.readAt (Elt F) (Rect.unit (s := S1024x128) off S1024x128.size inb).toLoadRect f = accV.view.read (Elt F) f := fun f off inb => View.readAt_full _ _ _
    have rwQ : ∀ (f : accQ.view.ty.Contents (Elt F)) (off : Fin S8x128x1024.rank → ℕ) (inb : ∀ a, off a + S8x128x1024.size a ≤ S8x128x1024.size a) (w : S8x128x1024.Idx → Elt F .f32) (L : List (View.Piece (Elt F) S8x128x1024 .f32)), accQ.view.read (Elt F) (accQ.view.writes (Elt F) f (⟨Rect.unit (s := S8x128x1024) off S8x128x1024.size inb, w⟩ :: L)) = w := fun f off inb w L => View.read_writes_full _ _ _ _ _
    have rwR : ∀ (f : arg14.view.ty.Contents (Elt F)) (off : Fin S1x8x1024.rank → ℕ) (inb : ∀ a, off a + S1x8x1024.size a ≤ S1x8x1024.size a) (w : S1x8x1024.Idx → Elt F .f32) (L : List (View.Piece (Elt F) S1x8x1024 .f32)), arg14.view.read (Elt F) (arg14.view.writes (Elt F) f (⟨Rect.unit (s := S1x8x1024) off S1x8x1024.size inb, w⟩ :: L)) = w := fun f off inb w L => View.read_writes_full _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    have rw12 : ∀ (f : arg12.view.ty.Contents (Elt F)) (off : Fin S1024x128.rank → ℕ) (inb : ∀ a, off a + S1024x128.size a ≤ S1024x128.size a) (w : S1024x128.Idx → Elt F .bf16) (L : List (View.Piece (Elt F) S1024x128 .bf16)), arg12.view.read (Elt F) (arg12.view.writes (Elt F) f (⟨Rect.unit (s := S1024x128) off S1024x128.size inb, w⟩ :: L)) = w := fun f off inb w L => View.read_writes_full _ _ _ _ _
    have rw13 : ∀ (f : arg13.view.ty.Contents (Elt F)) (off : Fin S1024x128.rank → ℕ) (inb : ∀ a, off a + S1024x128.size a ≤ S1024x128.size a) (w : S1024x128.Idx → Elt F .bf16) (L : List (View.Piece (Elt F) S1024x128 .bf16)), arg13.view.read (Elt F) (arg13.view.writes (Elt F) f (⟨Rect.unit (s := S1024x128) off S1024x128.size inb, w⟩ :: L)) = w := fun f off inb w L => View.read_writes_full _ _ _ _ _
    have rw15 : ∀ (f : arg15.view.ty.Contents (Elt F)) (off : Fin S1x1024x1.rank → ℕ) (inb : ∀ a, off a + S1x1024x1.size a ≤ S1x1024x1.size a) (w : S1x1024x1.Idx → Elt F .f32) (L : List (View.Piece (Elt F) S1x1024x1 .f32)), arg15.view.read (Elt F) (arg15.view.writes (Elt F) f (⟨Rect.unit (s := S1x1024x1) off S1x1024x1.size inb, w⟩ :: L)) = w := fun f off inb w L => View.read_writes_full _ _ _ _ _
    isplitl [HO7]
    · iexists _; isplitr; swap; · iexact HO7
      ipureintro
      exact harg11.read_unread _
    isplitl [HO8]
    · iexists _; isplitr; swap; · iexact HO8
      ipureintro
      delta runC.sl.HO8_1 runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HO9]
    · iexists _; isplitr; swap; · iexact HO9
      ipureintro
      delta runC.sl.HO9_1 runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HO10]
    · iexists _; isplitr; swap; · iexact HO10
      ipureintro
      delta runC.sl.r
      refine (View.read_writes_cons_put _ _ _ _ _ or).trans ?_
      unfold newR; refine congrArg₂ (fun x w => VecWindow.put x _ _ w) ?_ ?_
      · exact harg14.read_unread _
      · delta runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hr, View.readCov, harg14.read_unread, rwQ, rwR]
        try simp only [View.readAt_rep]
        rfl
    isplitl [HO11]
    · iexists _; isplitr; swap; · iexact HO11
      ipureintro
      delta runC.sl.HO11_1 runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HS0]
    · iapply (accQ_of_read c)
      iexists _; isplitr; swap; · iexact HS0
      ipureintro
      delta runC.sl.r
      refine (View.read_writes_cons_put _ _ _ _ _ oq).trans ?_
      unfold newQ; refine congrArg₂ (fun x w => VecWindow.put x _ _ w) ?_ ?_
      · rfl
      · delta runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hq, View.readCov, rwQ, rwR]
        try simp only [View.readAt_rep]
        rfl
    isplitl [HS1]
    · iapply (accK_of_read c)
      iexists _; isplitr; swap; · iexact HS1
      ipureintro
      delta runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl
    · iapply (accV_of_read c)
      iexists _; isplitr; swap; · iexact HS2
      ipureintro
      delta runC.sl.HS1_1 runC.sl.HS1_2 runC.sl.HS1_3 runC.sl.HS1_4 runC.sl.HS2_1 runC.sl.HS2_2 runC.sl.HS2_3 runC.sl.HS2_4 runC.sl.cst runC.sl.cst_14 runC.sl.cst_15 runC.sl.cst_45 runC.sl.cst_53 runC.sl.cst_56 runC.sl.r runC.sl.r_1 runC.sl.r_2 runC.sl.v100 runC.sl.v101 runC.sl.v102 runC.sl.v103 runC.sl.v105 runC.sl.v106 runC.sl.v107 runC.sl.v108 runC.sl.v110 runC.sl.v111 runC.sl.v112 runC.sl.v113 runC.sl.v114 runC.sl.v115 runC.sl.v116 runC.sl.v117 runC.sl.v118 runC.sl.v120 runC.sl.v121 runC.sl.v122 runC.sl.v123 runC.sl.v124 runC.sl.v125 runC.sl.v127 runC.sl.v128 runC.sl.v129 runC.sl.v131 runC.sl.v133 runC.sl.v134 runC.sl.v136 runC.sl.v137 runC.sl.v138 runC.sl.v139 runC.sl.v141 runC.sl.v142 runC.sl.v143 runC.sl.v144 runC.sl.v145 runC.sl.v146 runC.sl.v147 runC.sl.v148 runC.sl.v149 runC.sl.v151 runC.sl.v152 runC.sl.v153 runC.sl.v154 runC.sl.v155 runC.sl.v156 runC.sl.v158 runC.sl.v159 runC.sl.v160 runC.sl.v162 runC.sl.v164 runC.sl.v165 runC.sl.v167 runC.sl.v168 runC.sl.v169 runC.sl.v170 runC.sl.v172 runC.sl.v173 runC.sl.v174 runC.sl.v175 runC.sl.v176 runC.sl.v177 runC.sl.v178 runC.sl.v179 runC.sl.v180 runC.sl.v182 runC.sl.v183 runC.sl.v184 runC.sl.v185 runC.sl.v186 runC.sl.v187 runC.sl.v189 runC.sl.v190 runC.sl.v191 runC.sl.v193 runC.sl.v195 runC.sl.v196 runC.sl.v197 runC.sl.v22 runC.sl.v23 runC.sl.v25 runC.sl.v27 runC.sl.v28 runC.sl.v30 runC.sl.v30_1 runC.sl.v31 runC.sl.v32 runC.sl.v33 runC.sl.v34 runC.sl.v35 runC.sl.v37 runC.sl.v38 runC.sl.v39 runC.sl.v42 runC.sl.v43 runC.sl.v44 runC.sl.v46 runC.sl.v48 runC.sl.v49 runC.sl.v50 runC.sl.v53 runC.sl.v54 runC.sl.v55 runC.sl.v57 runC.sl.v59 runC.sl.v60 runC.sl.v61 runC.sl.v64 runC.sl.v65 runC.sl.v66 runC.sl.v68 runC.sl.v7 runC.sl.v70 runC.sl.v71 runC.sl.v72 runC.sl.v74 runC.sl.v75 runC.sl.v76 runC.sl.v77 runC.sl.v79 runC.sl.v8 runC.sl.v80 runC.sl.v81 runC.sl.v82 runC.sl.v83 runC.sl.v85 runC.sl.v86 runC.sl.v87 runC.sl.v89 runC.sl.v9 runC.sl.v90 runC.sl.v92 runC.sl.v93 runC.sl.v94 runC.sl.v96 runC.sl.v97 runC.sl.v98 runC.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl

end Cert.KernelIdeal.Fox

end
-- ==== Proof.Fox.RunD.lean ====
/- One visit of the attention kernel's body, a tile on the diagonal that is neither the head's first nor its last. -/
module

public import proofs.«01_k».proof.Proof.Fox.Words
public import Idealize.ShloMosaic.Lib.Ring

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
set_option backward.proofsInPublic true in
/-- The body at a tile on the diagonal that is neither the head's first nor its last. -/
theorem runD (c : Dev nD) (i : grid0.Coords)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1x1024x128 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S128x1024 .f32) (harg10 : arg10.IsWhole)
    (arg11 : Memref sig .tc .vmem S8192x128 .bf16) (harg11 : arg11.IsWhole)
    (arg12 : Memref sig .tc .vmem S1024x128 .bf16) (harg12 : arg12.IsWhole)
    (arg13 : Memref sig .tc .vmem S1024x128 .bf16) (harg13 : arg13.IsWhole)
    (arg14 : Memref sig .tc .vmem S1x8x1024 .f32) (harg14 : arg14.IsWhole)
    (arg15 : Memref sig .tc .vmem S1x1024x1 .f32) (harg15 : arg15.IsWhole)
    (T0 T1 : S36.Idx → Elt F .i32) (b : Blk F)
    (xr : S1x8x1024.Idx → Elt F .f32) (xq : S8x128x1024.Idx → Elt F .f32) (xk : S1024x256.Idx → Elt F .f32) (xv : S1024x128.Idx → Elt F .f32)
    (qi kj : Fin 8)
    (hw1 : View.readAt (Elt F) tabQ.view (Rect.unit (s := S36) (k0_off1 i) S1.size (k0_off1_inb i)).toLoadRect T0 (Shape.Idx.first (numel1_S1.symm ▸ Nat.one_pos)) = wd qi)
    (hw3 : View.readAt (Elt F) tabK.view (Rect.unit (s := S36) (k0_off1 i) S1.size (k0_off1_inb i)).toLoadRect T1 (Shape.Idx.first (numel1_S1.symm ▸ Nat.one_pos)) = wd kj)
    (hfirst : (i 1).val ≠ 0) (hdiag : qi = kj) (hlast : qi ≠ 7) (hend : (i 1).val ≠ 35)
    (y7 : S8192x128.Idx → Elt F .bf16) (y8 : S1024x128.Idx → Elt F .bf16) (y9 : S1024x128.Idx → Elt F .bf16) (y11 : S1x1024x1.Idx → Elt F .f32) (K : PUnit → sProp 𝕄) :
      iprop((arg4.view.loc (c : Thread nD τ) ↦[arg4.view.set]{fullShare} arg4.view.rep b.q)
          ∗ (arg5.view.loc (c : Thread nD τ) ↦[arg5.view.set]{fullShare} arg5.view.rep b.k)
          ∗ (arg6.view.loc (c : Thread nD τ) ↦[arg6.view.set]{fullShare} arg6.view.rep b.v)
          ∗ (arg7.view.loc (c : Thread nD τ) ↦[arg7.view.set]{fullShare} arg7.view.rep b.ck)
          ∗ (arg8.view.loc (c : Thread nD τ) ↦[arg8.view.set]{fullShare} arg8.view.rep b.lse)
          ∗ (arg9.view.loc (c : Thread nD τ) ↦[arg9.view.set]{fullShare} arg9.view.rep b.dl)
          ∗ (arg10.view.loc (c : Thread nD τ) ↦[arg10.view.set]{fullShare} arg10.view.rep b.ct)
          ∗ (tabQ.view.loc (c : Thread nD τ) ↦{fullShare.right} T0)
          ∗ (tabK.view.loc (c : Thread nD τ) ↦{fullShare.right} T1)
          ∗ owns (c : Thread nD τ) arg11 fullShare y7
          ∗ owns (c : Thread nD τ) arg12 fullShare y8
          ∗ owns (c : Thread nD τ) arg13 fullShare y9
          ∗ owns (c : Thread nD τ) arg14 fullShare xr
          ∗ owns (c : Thread nD τ) arg15 fullShare y11
          ∗ (accQ.view.loc (c : Thread nD τ) ↦{fullShare} xq)
          ∗ (accK.view.loc (c : Thread nD τ) ↦{fullShare} xk)
          ∗ (accV.view.loc (c : Thread nD τ) ↦{fullShare} xv)
          ∗ (iprop((arg4.view.loc (c : Thread nD τ) ↦[arg4.view.set]{fullShare} arg4.view.rep b.q)
            ∗ (arg5.view.loc (c : Thread nD τ) ↦[arg5.view.set]{fullShare} arg5.view.rep b.k)
            ∗ (arg6.view.loc (c : Thread nD τ) ↦[arg6.view.set]{fullShare} arg6.view.rep b.v)
            ∗ (arg7.view.loc (c : Thread nD τ) ↦[arg7.view.set]{fullShare} arg7.view.rep b.ck)
            ∗ (arg8.view.loc (c : Thread nD τ) ↦[arg8.view.set]{fullShare} arg8.view.rep b.lse)
            ∗ (arg9.view.loc (c : Thread nD τ) ↦[arg9.view.set]{fullShare} arg9.view.rep b.dl)
            ∗ (arg10.view.loc (c : Thread nD τ) ↦[arg10.view.set]{fullShare} arg10.view.rep b.ct)
            ∗ (tabQ.view.loc (c : Thread nD τ) ↦{fullShare.right} T0)
            ∗ (tabK.view.loc (c : Thread nD τ) ↦{fullShare.right} T1)
            ∗ owns (c : Thread nD τ) arg11 fullShare y7
            ∗ owns (c : Thread nD τ) arg12 fullShare y8
            ∗ owns (c : Thread nD τ) arg13 fullShare y9
            ∗ owns (c : Thread nD τ) arg14 fullShare (newR b true qi xr)
            ∗ owns (c : Thread nD τ) arg15 fullShare y11
            ∗ (accQ.view.loc (c : Thread nD τ) ↦{fullShare} (newQ b true qi xq))
            ∗ (accK.view.loc (c : Thread nD τ) ↦{fullShare} (newK b true zK))
            ∗ (accV.view.loc (c : Thread nD τ) ↦{fullShare} (newV b true zV))) -∗ K ⟨⟩))
        ⊢ wp frame (wpE (defs₀ (F := F)) Variants.none c none) Set.univ (cc0_fox_bwd i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 accQ (Memref.isWhole_whole _) accK (Memref.isWhole_whole _) accV (Memref.isWhole_whole _)) K := by
    have k0_hw1 : k0_chk1 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) := by rw [hw1, hw3]; exact chk_wd qi kj
    have k0_h1 : ¬(k0_cond1 i = 1#1) := by exact fun h => hfirst ((cond1_at i).1 h)
    have hc2 : (Scalar.cmpi .ne (Scalar.extui (Scalar.cmpi .eq (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos)))) : BitVec 32) 0#32 = 1#1) := by rw [hw1, hw3]; exact (eq_wd qi kj).2 hdiag
    have k0_h3 : k0_cond3 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1 := by rw [hw1, hw3]; exact (cond3_wd qi kj).2 hdiag
    have k0_h4 : ¬(k0_cond4 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1) := by rw [hw1, hw3]; exact fun h => absurd ((cond4_wd qi kj).1 h) (by rw [hdiag]; exact lt_irrefl _)
    have k0_h5 : ¬(k0_cond5 (View.readAt (Elt F) tabQ.view (Rect.unit (s := S36) (k0_off1 i) S1.size (k0_off1_inb i)).toLoadRect T0 (Shape.Idx.first (numel1_S1.symm ▸ Nat.one_pos))) = 1#1) := by rw [hw1]; exact fun h => hlast ((cond5_wd qi).1 h)
    have k0_h6 : ¬(k0_cond6 i = 1#1) := by exact fun h => hend ((cond6_at i).1 h)
    unfold owns
    rw [cc0_fox_bwd_eq_skeleton]; unfold cc0_fox_bwd_skel
    iintro ⟨H0, H1, H2, H3, H4, H5, H6, HT0, HT1, ⟨%f7, %hf7, HO7⟩, ⟨%f8, %hf8, HO8⟩, ⟨%f9, %hf9, HO9⟩, ⟨%f10, %hf10, HO10⟩, ⟨%f11, %hf11, HO11⟩, HS0, HS1, HS2, Hk⟩
    obtain rfl := harg11.eq_unread hf7; obtain rfl := harg12.eq_unread hf8; obtain rfl := harg13.eq_unread hf9; obtain rfl := harg14.eq_unread hf10; obtain rfl := harg15.eq_unread hf11
    have hS0 : accQ.IsWhole := Memref.isWhole_whole _
    have hS1 : accK.IsWhole := Memref.isWhole_whole _
    have hS2 : accV.IsWhole := Memref.isWhole_whole _
    have hT0 : tabQ.IsWhole := Memref.isWhole_whole _
    have hT1 : tabK.IsWhole := Memref.isWhole_whole _
    sl_exec! (disch := first | (guard_target = k0_chk1 _ _; exact k0_hw1) | (guard_target = ¬(k0_cond1 _ = _); exact k0_h1) | (guard_target = Scalar.cmpi _ _ _ = _; exact hc2) | (guard_target = k0_cond3 _ _ = _; exact k0_h3) | (guard_target = ¬(k0_cond4 _ _ = _); exact k0_h4) | (guard_target = ¬(k0_cond5 _ = _); exact k0_h5) | (guard_target = ¬(k0_cond6 _ = _); exact k0_h6))
    sl_step
    have hck : View.readAt (Elt F) arg7.view (Rect.unit (s := S1x1024x128) ![0, 0, 0] S1x1024x128.size inb_ck).toLoadRect (arg7.view.rep b.ck) = VecWindow.window b.ck ![0, 0, 0] S1x1024x128.size inb_ck := View.readAt_rep _ _ _
    have hk : View.readAt (Elt F) arg5.view (Rect.unit (s := S1024x128) ![0, 0] S1024x128.size inb_k).toLoadRect (arg5.view.rep b.k) = VecWindow.window b.k ![0, 0] S1024x128.size inb_k := View.readAt_rep _ _ _
    have hv : View.readAt (Elt F) arg6.view (Rect.unit (s := S1024x128) ![0, 0] S1024x128.size inb_k).toLoadRect (arg6.view.rep b.v) = VecWindow.window b.v ![0, 0] S1024x128.size inb_k := View.readAt_rep _ _ _
    have ho0 : View.readAt (Elt F) arg10.view (Rect.unit (s := S128x1024) ![0, 0] S128x256.size (inb_ct 0)).toLoadRect (arg10.view.rep b.ct) = VecWindow.window b.ct ![0, 256 * ((0 : Fin 4) : ℕ)] S128x256.size (inb_ct 0) := View.readAt_rep _ _ _
    have hl0 : View.readAt (Elt F) arg8.view (Rect.unit (s := S1x1x1024) ![0, 0, 0] S1x1x256.size (inb_l 0)).toLoadRect (arg8.view.rep b.lse) = VecWindow.window b.lse ![0, 0, 256 * ((0 : Fin 4) : ℕ)] S1x1x256.size (inb_l 0) := View.readAt_rep _ _ _
    have hd0 : View.readAt (Elt F) arg9.view (Rect.unit (s := S1x1x1024) ![0, 0, 0] S1x1x256.size (inb_l 0)).toLoadRect (arg9.view.rep b.dl) = VecWindow.window b.dl ![0, 0, 256 * ((0 : Fin 4) : ℕ)] S1x1x256.size (inb_l 0) := View.readAt_rep _ _ _
    have hx0 : View.readAt (Elt F) arg4.view (Rect.unit (s := S1024x128) ![0, 0] S256x128.size (inb_q 0)).toLoadRect (arg4.view.rep b.q) = VecWindow.window b.q ![256 * ((0 : Fin 4) : ℕ), 0] S256x128.size (inb_q 0) := View.readAt_rep _ _ _
    have ho1 : View.readAt (Elt F) arg10.view (Rect.unit (s := S128x1024) ![0, 256] S128x256.size (inb_ct 1)).toLoadRect (arg10.view.rep b.ct) = VecWindow.window b.ct ![0, 256 * ((1 : Fin 4) : ℕ)] S128x256.size (inb_ct 1) := View.readAt_rep _ _ _
    have hl1 : View.readAt (Elt F) arg8.view (Rect.unit (s := S1x1x1024) ![0, 0, 256] S1x1x256.size (inb_l 1)).toLoadRect (arg8.view.rep b.lse) = VecWindow.window b.lse ![0, 0, 256 * ((1 : Fin 4) : ℕ)] S1x1x256.size (inb_l 1) := View.readAt_rep _ _ _
    have hd1 : View.readAt (Elt F) arg9.view (Rect.unit (s := S1x1x1024) ![0, 0, 256] S1x1x256.size (inb_l 1)).toLoadRect (arg9.view.rep b.dl) = VecWindow.window b.dl ![0, 0, 256 * ((1 : Fin 4) : ℕ)] S1x1x256.size (inb_l 1) := View.readAt_rep _ _ _
    have hx1 : View.readAt (Elt F) arg4.view (Rect.unit (s := S1024x128) ![256, 0] S256x128.size (inb_q 1)).toLoadRect (arg4.view.rep b.q) = VecWindow.window b.q ![256 * ((1 : Fin 4) : ℕ), 0] S256x128.size (inb_q 1) := View.readAt_rep _ _ _
    have ho2 : View.readAt (Elt F) arg10.view (Rect.unit (s := S128x1024) ![0, 512] S128x256.size (inb_ct 2)).toLoadRect (arg10.view.rep b.ct) = VecWindow.window b.ct ![0, 256 * ((2 : Fin 4) : ℕ)] S128x256.size (inb_ct 2) := View.readAt_rep _ _ _
    have hl2 : View.readAt (Elt F) arg8.view (Rect.unit (s := S1x1x1024) ![0, 0, 512] S1x1x256.size (inb_l 2)).toLoadRect (arg8.view.rep b.lse) = VecWindow.window b.lse ![0, 0, 256 * ((2 : Fin 4) : ℕ)] S1x1x256.size (inb_l 2) := View.readAt_rep _ _ _
    have hd2 : View.readAt (Elt F) arg9.view (Rect.unit (s := S1x1x1024) ![0, 0, 512] S1x1x256.size (inb_l 2)).toLoadRect (arg9.view.rep b.dl) = VecWindow.window b.dl ![0, 0, 256 * ((2 : Fin 4) : ℕ)] S1x1x256.size (inb_l 2) := View.readAt_rep _ _ _
    have hx2 : View.readAt (Elt F) arg4.view (Rect.unit (s := S1024x128) ![512, 0] S256x128.size (inb_q 2)).toLoadRect (arg4.view.rep b.q) = VecWindow.window b.q ![256 * ((2 : Fin 4) : ℕ), 0] S256x128.size (inb_q 2) := View.readAt_rep _ _ _
    have ho3 : View.readAt (Elt F) arg10.view (Rect.unit (s := S128x1024) ![0, 768] S128x256.size (inb_ct 3)).toLoadRect (arg10.view.rep b.ct) = VecWindow.window b.ct ![0, 256 * ((3 : Fin 4) : ℕ)] S128x256.size (inb_ct 3) := View.readAt_rep _ _ _
    have hl3 : View.readAt (Elt F) arg8.view (Rect.unit (s := S1x1x1024) ![0, 0, 768] S1x1x256.size (inb_l 3)).toLoadRect (arg8.view.rep b.lse) = VecWindow.window b.lse ![0, 0, 256 * ((3 : Fin 4) : ℕ)] S1x1x256.size (inb_l 3) := View.readAt_rep _ _ _
    have hd3 : View.readAt (Elt F) arg9.view (Rect.unit (s := S1x1x1024) ![0, 0, 768] S1x1x256.size (inb_l 3)).toLoadRect (arg9.view.rep b.dl) = VecWindow.window b.dl ![0, 0, 256 * ((3 : Fin 4) : ℕ)] S1x1x256.size (inb_l 3) := View.readAt_rep _ _ _
    have hx3 : View.readAt (Elt F) arg4.view (Rect.unit (s := S1024x128) ![768, 0] S256x128.size (inb_q 3)).toLoadRect (arg4.view.rep b.q) = VecWindow.window b.q ![256 * ((3 : Fin 4) : ℕ), 0] S256x128.size (inb_q 3) := View.readAt_rep _ _ _
    iapply Hk
    have hq : ∀ (f : accQ.view.ty.Contents (Elt F)) (inb : ∀ a, k0_off2 (View.readAt (Elt F) tabQ.view (Rect.unit (s := S36) (k0_off1 i) S1.size (k0_off1_inb i)).toLoadRect T0 (Shape.Idx.first (numel1_S1.symm ▸ Nat.one_pos))) a + S1x128x1024.size a ≤ S8x128x1024.size a), View.readAt (Elt F) accQ.view (Rect.unit (s := S8x128x1024) (k0_off2 (View.readAt (Elt F) tabQ.view (Rect.unit (s := S36) (k0_off1 i) S1.size (k0_off1_inb i)).toLoadRect T0 (Shape.Idx.first (numel1_S1.symm ▸ Nat.one_pos)))) S1x128x1024.size inb).toLoadRect f = VecWindow.window (accQ.view.read (Elt F) f) ![qi.val, 0, 0] S1x128x1024.size (inb_rowQ qi) :=
      fun f inb => View.readAt_unit _ _ _ (by rw [hw1]; exact off2_wd qi) _
    have hr : ∀ (f : arg14.view.ty.Contents (Elt F)) (inb : ∀ a, k0_off3 (View.readAt (Elt F) tabQ.view (Rect.unit (s := S36) (k0_off1 i) S1.size (k0_off1_inb i)).toLoadRect T0 (Shape.Idx.first (numel1_S1.symm ▸ Nat.one_pos))) a + S1x1x1024.size a ≤ S1x8x1024.size a), View.readAt (Elt F) arg14.view (Rect.unit (s := S1x8x1024) (k0_off3 (View.readAt (Elt F) tabQ.view (Rect.unit (s := S36) (k0_off1 i) S1.size (k0_off1_inb i)).toLoadRect T0 (Shape.Idx.first (numel1_S1.symm ▸ Nat.one_pos)))) S1x1x1024.size inb).toLoadRect f = VecWindow.window (arg14.view.read (Elt F) f) ![0, qi.val, 0] S1x1x1024.size (inb_rowR qi) :=
      fun f inb => View.readAt_unit _ _ _ (by rw [hw1]; exact off3_wd qi) _
    have oq : k0_off2 (View.readAt (Elt F) tabQ.view (Rect.unit (s := S36) (k0_off1 i) S1.size (k0_off1_inb i)).toLoadRect T0 (Shape.Idx.first (numel1_S1.symm ▸ Nat.one_pos))) = ![qi.val, 0, 0] := by rw [hw1]; exact off2_wd qi
    have or : k0_off3 (View.readAt (Elt F) tabQ.view (Rect.unit (s := S36) (k0_off1 i) S1.size (k0_off1_inb i)).toLoadRect T0 (Shape.Idx.first (numel1_S1.symm ▸ Nat.one_pos))) = ![0, qi.val, 0] := by rw [hw1]; exact off3_wd qi
    have rwK : ∀ (f : accK.view.ty.Contents (Elt F)) (off : Fin S1024x256.rank → ℕ) (inb : ∀ a, off a + S1024x256.size a ≤ S1024x256.size a) (w : S1024x256.Idx → Elt F .f32) (L : List (View.Piece (Elt F) S1024x256 .f32)), accK.view.read (Elt F) (accK.view.writes (Elt F) f (⟨Rect.unit (s := S1024x256) off S1024x256.size inb, w⟩ :: L)) = w := fun f off inb w L => View.read_writes_full _ _ _ _ _
    have rcK : ∀ (off off' : Fin S1024x256.rank → ℕ) (inb : ∀ a, off a + S1024x256.size a ≤ S1024x256.size a) (inb' : ∀ a, off' a + S1024x256.size a ≤ S1024x256.size a) (w : S1024x256.Idx → Elt F .f32) (L : List (View.Piece (Elt F) S1024x256 .f32)), accK.view.readCov (⟨Rect.unit (s := S1024x256) off' S1024x256.size inb', w⟩ :: L) (Rect.unit (s := S1024x256) off S1024x256.size inb).toLoadRect = w := fun off off' inb inb' w L => View.readCov_full _ _ _ _ _
    have raK : ∀ (f : accK.view.ty.Contents (Elt F)) (off : Fin S1024x256.rank → ℕ) (inb : ∀ a, off a + S1024x256.size a ≤ S1024x256.size a), accK.view.readAt (Elt F) (Rect.unit (s := S1024x256) off S1024x256.size inb).toLoadRect f = accK.view.read (Elt F) f := fun f off inb => View.readAt_full _ _ _
    have rwV : ∀ (f : accV.view.ty.Contents (Elt F)) (off : Fin S1024x128.rank → ℕ) (inb : ∀ a, off a + S1024x128.size a ≤ S1024x128.size a) (w : S1024x128.Idx → Elt F .f32) (L : List (View.Piece (Elt F) S1024x128 .f32)), accV.view.read (Elt F) (accV.view.writes (Elt F) f (⟨Rect.unit (s := S1024x128) off S1024x128.size inb, w⟩ :: L)) = w := fun f off inb w L => View.read_writes_full _ _ _ _ _
    have rcV : ∀ (off off' : Fin S1024x128.rank → ℕ) (inb : ∀ a, off a + S1024x128.size a ≤ S1024x128.size a) (inb' : ∀ a, off' a + S1024x128.size a ≤ S1024x128.size a) (w : S1024x128.Idx → Elt F .f32) (L : List (View.Piece (Elt F) S1024x128 .f32)), accV.view.readCov (⟨Rect.unit (s := S1024x128) off' S1024x128.size inb', w⟩ :: L) (Rect.unit (s := S1024x128) off S1024x128.size inb).toLoadRect = w := fun off off' inb inb' w L => View.readCov_full _ _ _ _ _
    have raV : ∀ (f : accV.view.ty.Contents (Elt F)) (off : Fin S1024x128.rank → ℕ) (inb : ∀ a, off a + S1024x128.size a ≤ S1024x128.size a), accV.view.readAt (Elt F) (Rect.unit (s := S1024x128) off S1024x128.size inb).toLoadRect f = accV.view.read (Elt F) f := fun f off inb => View.readAt_full _ _ _
    have rwQ : ∀ (f : accQ.view.ty.Contents (Elt F)) (off : Fin S8x128x1024.rank → ℕ) (inb : ∀ a, off a + S8x128x1024.size a ≤ S8x128x1024.size a) (w : S8x128x1024.Idx → Elt F .f32) (L : List (View.Piece (Elt F) S8x128x1024 .f32)), accQ.view.read (Elt F) (accQ.view.writes (Elt F) f (⟨Rect.unit (s := S8x128x1024) off S8x128x1024.size inb, w⟩ :: L)) = w := fun f off inb w L => View.read_writes_full _ _ _ _ _
    have rwR : ∀ (f : arg14.view.ty.Contents (Elt F)) (off : Fin S1x8x1024.rank → ℕ) (inb : ∀ a, off a + S1x8x1024.size a ≤ S1x8x1024.size a) (w : S1x8x1024.Idx → Elt F .f32) (L : List (View.Piece (Elt F) S1x8x1024 .f32)), arg14.view.read (Elt F) (arg14.view.writes (Elt F) f (⟨Rect.unit (s := S1x8x1024) off S1x8x1024.size inb, w⟩ :: L)) = w := fun f off inb w L => View.read_writes_full _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]
    · iexists _; isplitr; swap; · iexact HO7
      ipureintro
      exact harg11.read_unread _
    isplitl [HO8]
    · iexists _; isplitr; swap; · iexact HO8
      ipureintro
      exact harg12.read_unread _
    isplitl [HO9]
    · iexists _; isplitr; swap; · iexact HO9
      ipureintro
      exact harg13.read_unread _
    isplitl [HO10]
    · iexists _; isplitr; swap; · iexact HO10
      ipureintro
      delta runD.sl.r
      refine (View.read_writes_cons_put _ _ _ _ _ or).trans ?_
      unfold newR; refine congrArg₂ (fun x w => VecWindow.put x _ _ w) ?_ ?_
      · exact harg14.read_unread _
      · delta runD.sl.HS1_1 runD.sl.HS1_2 runD.sl.HS1_3 runD.sl.HS1_4 runD.sl.HS1_5 runD.sl.HS2_1 runD.sl.HS2_2 runD.sl.HS2_3 runD.sl.HS2_4 runD.sl.HS2_5 runD.sl.cst_24 runD.sl.cst_41 runD.sl.cst_50 runD.sl.cst_58 runD.sl.cst_59 runD.sl.cst_60 runD.sl.cst_61 runD.sl.r runD.sl.r_1 runD.sl.r_10 runD.sl.r_11 runD.sl.r_12 runD.sl.r_13 runD.sl.r_14 runD.sl.r_15 runD.sl.r_16 runD.sl.r_17 runD.sl.r_18 runD.sl.r_19 runD.sl.r_2 runD.sl.r_20 runD.sl.r_21 runD.sl.r_22 runD.sl.r_3 runD.sl.r_4 runD.sl.r_5 runD.sl.r_6 runD.sl.r_7 runD.sl.r_8 runD.sl.r_9 runD.sl.v100 runD.sl.v102 runD.sl.v103 runD.sl.v104 runD.sl.v105 runD.sl.v107 runD.sl.v108 runD.sl.v109 runD.sl.v110 runD.sl.v111 runD.sl.v112 runD.sl.v113 runD.sl.v114 runD.sl.v115 runD.sl.v117 runD.sl.v118 runD.sl.v119 runD.sl.v120 runD.sl.v121 runD.sl.v122 runD.sl.v124 runD.sl.v125 runD.sl.v126 runD.sl.v127 runD.sl.v128 runD.sl.v129 runD.sl.v130 runD.sl.v131 runD.sl.v133 runD.sl.v134 runD.sl.v135 runD.sl.v136 runD.sl.v138 runD.sl.v139 runD.sl.v140 runD.sl.v141 runD.sl.v142 runD.sl.v143 runD.sl.v144 runD.sl.v145 runD.sl.v146 runD.sl.v148 runD.sl.v149 runD.sl.v150 runD.sl.v151 runD.sl.v152 runD.sl.v153 runD.sl.v155 runD.sl.v156 runD.sl.v157 runD.sl.v159 runD.sl.v161 runD.sl.v162 runD.sl.v164 runD.sl.v165 runD.sl.v166 runD.sl.v167 runD.sl.v169 runD.sl.v170 runD.sl.v171 runD.sl.v172 runD.sl.v173 runD.sl.v174 runD.sl.v175 runD.sl.v176 runD.sl.v177 runD.sl.v179 runD.sl.v180 runD.sl.v181 runD.sl.v182 runD.sl.v183 runD.sl.v184 runD.sl.v186 runD.sl.v187 runD.sl.v188 runD.sl.v190 runD.sl.v192 runD.sl.v193 runD.sl.v195 runD.sl.v196 runD.sl.v197 runD.sl.v198 runD.sl.v200 runD.sl.v201 runD.sl.v202 runD.sl.v203 runD.sl.v204 runD.sl.v205 runD.sl.v206 runD.sl.v207 runD.sl.v208 runD.sl.v210 runD.sl.v211 runD.sl.v212 runD.sl.v213 runD.sl.v214 runD.sl.v215 runD.sl.v217 runD.sl.v218 runD.sl.v219 runD.sl.v221 runD.sl.v223 runD.sl.v224 runD.sl.v225 runD.sl.v227 runD.sl.v228 runD.sl.v229 runD.sl.v233 runD.sl.v236 runD.sl.v237 runD.sl.v238 runD.sl.v7 runD.sl.v8 runD.sl.v9 runD.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hr, View.readCov, harg14.read_unread, rwQ, rwR]
        try simp only [View.readAt_rep]
        rfl
    isplitl [HO11]
    · iexists _; isplitr; swap; · iexact HO11
      ipureintro
      exact harg15.read_unread _
    isplitl [HS0]
    · iapply (accQ_of_read c)
      iexists _; isplitr; swap; · iexact HS0
      ipureintro
      delta runD.sl.r
      refine (View.read_writes_cons_put _ _ _ _ _ oq).trans ?_
      unfold newQ; refine congrArg₂ (fun x w => VecWindow.put x _ _ w) ?_ ?_
      · rfl
      · delta runD.sl.HS1_1 runD.sl.HS1_2 runD.sl.HS1_3 runD.sl.HS1_4 runD.sl.HS1_5 runD.sl.HS2_1 runD.sl.HS2_2 runD.sl.HS2_3 runD.sl.HS2_4 runD.sl.HS2_5 runD.sl.cst_24 runD.sl.cst_41 runD.sl.cst_50 runD.sl.cst_58 runD.sl.cst_59 runD.sl.cst_60 runD.sl.cst_61 runD.sl.r runD.sl.r_1 runD.sl.r_10 runD.sl.r_11 runD.sl.r_12 runD.sl.r_13 runD.sl.r_14 runD.sl.r_15 runD.sl.r_16 runD.sl.r_17 runD.sl.r_18 runD.sl.r_19 runD.sl.r_2 runD.sl.r_20 runD.sl.r_21 runD.sl.r_22 runD.sl.r_3 runD.sl.r_4 runD.sl.r_5 runD.sl.r_6 runD.sl.r_7 runD.sl.r_8 runD.sl.r_9 runD.sl.v100 runD.sl.v102 runD.sl.v103 runD.sl.v104 runD.sl.v105 runD.sl.v107 runD.sl.v108 runD.sl.v109 runD.sl.v110 runD.sl.v111 runD.sl.v112 runD.sl.v113 runD.sl.v114 runD.sl.v115 runD.sl.v117 runD.sl.v118 runD.sl.v119 runD.sl.v120 runD.sl.v121 runD.sl.v122 runD.sl.v124 runD.sl.v125 runD.sl.v126 runD.sl.v127 runD.sl.v128 runD.sl.v129 runD.sl.v130 runD.sl.v131 runD.sl.v133 runD.sl.v134 runD.sl.v135 runD.sl.v136 runD.sl.v138 runD.sl.v139 runD.sl.v140 runD.sl.v141 runD.sl.v142 runD.sl.v143 runD.sl.v144 runD.sl.v145 runD.sl.v146 runD.sl.v148 runD.sl.v149 runD.sl.v150 runD.sl.v151 runD.sl.v152 runD.sl.v153 runD.sl.v155 runD.sl.v156 runD.sl.v157 runD.sl.v159 runD.sl.v161 runD.sl.v162 runD.sl.v164 runD.sl.v165 runD.sl.v166 runD.sl.v167 runD.sl.v169 runD.sl.v170 runD.sl.v171 runD.sl.v172 runD.sl.v173 runD.sl.v174 runD.sl.v175 runD.sl.v176 runD.sl.v177 runD.sl.v179 runD.sl.v180 runD.sl.v181 runD.sl.v182 runD.sl.v183 runD.sl.v184 runD.sl.v186 runD.sl.v187 runD.sl.v188 runD.sl.v190 runD.sl.v192 runD.sl.v193 runD.sl.v195 runD.sl.v196 runD.sl.v197 runD.sl.v198 runD.sl.v200 runD.sl.v201 runD.sl.v202 runD.sl.v203 runD.sl.v204 runD.sl.v205 runD.sl.v206 runD.sl.v207 runD.sl.v208 runD.sl.v210 runD.sl.v211 runD.sl.v212 runD.sl.v213 runD.sl.v214 runD.sl.v215 runD.sl.v217 runD.sl.v218 runD.sl.v219 runD.sl.v221 runD.sl.v223 runD.sl.v224 runD.sl.v225 runD.sl.v227 runD.sl.v228 runD.sl.v229 runD.sl.v233 runD.sl.v236 runD.sl.v237 runD.sl.v238 runD.sl.v7 runD.sl.v8 runD.sl.v9 runD.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hq, View.readCov, rwQ, rwR]
        try simp only [View.readAt_rep]
        rfl
    isplitl [HS1]
    · iapply (accK_of_read c)
      iexists _; isplitr; swap; · iexact HS1
      ipureintro
      delta runD.sl.HS1_1 runD.sl.HS1_2 runD.sl.HS1_3 runD.sl.HS1_4 runD.sl.HS1_5 runD.sl.HS2_1 runD.sl.HS2_2 runD.sl.HS2_3 runD.sl.HS2_4 runD.sl.HS2_5 runD.sl.cst_24 runD.sl.cst_41 runD.sl.cst_50 runD.sl.cst_58 runD.sl.cst_59 runD.sl.cst_60 runD.sl.cst_61 runD.sl.r runD.sl.r_1 runD.sl.r_10 runD.sl.r_11 runD.sl.r_12 runD.sl.r_13 runD.sl.r_14 runD.sl.r_15 runD.sl.r_16 runD.sl.r_17 runD.sl.r_18 runD.sl.r_19 runD.sl.r_2 runD.sl.r_20 runD.sl.r_21 runD.sl.r_22 runD.sl.r_3 runD.sl.r_4 runD.sl.r_5 runD.sl.r_6 runD.sl.r_7 runD.sl.r_8 runD.sl.r_9 runD.sl.v100 runD.sl.v102 runD.sl.v103 runD.sl.v104 runD.sl.v105 runD.sl.v107 runD.sl.v108 runD.sl.v109 runD.sl.v110 runD.sl.v111 runD.sl.v112 runD.sl.v113 runD.sl.v114 runD.sl.v115 runD.sl.v117 runD.sl.v118 runD.sl.v119 runD.sl.v120 runD.sl.v121 runD.sl.v122 runD.sl.v124 runD.sl.v125 runD.sl.v126 runD.sl.v127 runD.sl.v128 runD.sl.v129 runD.sl.v130 runD.sl.v131 runD.sl.v133 runD.sl.v134 runD.sl.v135 runD.sl.v136 runD.sl.v138 runD.sl.v139 runD.sl.v140 runD.sl.v141 runD.sl.v142 runD.sl.v143 runD.sl.v144 runD.sl.v145 runD.sl.v146 runD.sl.v148 runD.sl.v149 runD.sl.v150 runD.sl.v151 runD.sl.v152 runD.sl.v153 runD.sl.v155 runD.sl.v156 runD.sl.v157 runD.sl.v159 runD.sl.v161 runD.sl.v162 runD.sl.v164 runD.sl.v165 runD.sl.v166 runD.sl.v167 runD.sl.v169 runD.sl.v170 runD.sl.v171 runD.sl.v172 runD.sl.v173 runD.sl.v174 runD.sl.v175 runD.sl.v176 runD.sl.v177 runD.sl.v179 runD.sl.v180 runD.sl.v181 runD.sl.v182 runD.sl.v183 runD.sl.v184 runD.sl.v186 runD.sl.v187 runD.sl.v188 runD.sl.v190 runD.sl.v192 runD.sl.v193 runD.sl.v195 runD.sl.v196 runD.sl.v197 runD.sl.v198 runD.sl.v200 runD.sl.v201 runD.sl.v202 runD.sl.v203 runD.sl.v204 runD.sl.v205 runD.sl.v206 runD.sl.v207 runD.sl.v208 runD.sl.v210 runD.sl.v211 runD.sl.v212 runD.sl.v213 runD.sl.v214 runD.sl.v215 runD.sl.v217 runD.sl.v218 runD.sl.v219 runD.sl.v221 runD.sl.v223 runD.sl.v224 runD.sl.v225 runD.sl.v227 runD.sl.v228 runD.sl.v229 runD.sl.v233 runD.sl.v236 runD.sl.v237 runD.sl.v238 runD.sl.v7 runD.sl.v8 runD.sl.v9 runD.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl
    · iapply (accV_of_read c)
      iexists _; isplitr; swap; · iexact HS2
      ipureintro
      delta runD.sl.HS1_1 runD.sl.HS1_2 runD.sl.HS1_3 runD.sl.HS1_4 runD.sl.HS1_5 runD.sl.HS2_1 runD.sl.HS2_2 runD.sl.HS2_3 runD.sl.HS2_4 runD.sl.HS2_5 runD.sl.cst_24 runD.sl.cst_41 runD.sl.cst_50 runD.sl.cst_58 runD.sl.cst_59 runD.sl.cst_60 runD.sl.cst_61 runD.sl.r runD.sl.r_1 runD.sl.r_10 runD.sl.r_11 runD.sl.r_12 runD.sl.r_13 runD.sl.r_14 runD.sl.r_15 runD.sl.r_16 runD.sl.r_17 runD.sl.r_18 runD.sl.r_19 runD.sl.r_2 runD.sl.r_20 runD.sl.r_21 runD.sl.r_22 runD.sl.r_3 runD.sl.r_4 runD.sl.r_5 runD.sl.r_6 runD.sl.r_7 runD.sl.r_8 runD.sl.r_9 runD.sl.v100 runD.sl.v102 runD.sl.v103 runD.sl.v104 runD.sl.v105 runD.sl.v107 runD.sl.v108 runD.sl.v109 runD.sl.v110 runD.sl.v111 runD.sl.v112 runD.sl.v113 runD.sl.v114 runD.sl.v115 runD.sl.v117 runD.sl.v118 runD.sl.v119 runD.sl.v120 runD.sl.v121 runD.sl.v122 runD.sl.v124 runD.sl.v125 runD.sl.v126 runD.sl.v127 runD.sl.v128 runD.sl.v129 runD.sl.v130 runD.sl.v131 runD.sl.v133 runD.sl.v134 runD.sl.v135 runD.sl.v136 runD.sl.v138 runD.sl.v139 runD.sl.v140 runD.sl.v141 runD.sl.v142 runD.sl.v143 runD.sl.v144 runD.sl.v145 runD.sl.v146 runD.sl.v148 runD.sl.v149 runD.sl.v150 runD.sl.v151 runD.sl.v152 runD.sl.v153 runD.sl.v155 runD.sl.v156 runD.sl.v157 runD.sl.v159 runD.sl.v161 runD.sl.v162 runD.sl.v164 runD.sl.v165 runD.sl.v166 runD.sl.v167 runD.sl.v169 runD.sl.v170 runD.sl.v171 runD.sl.v172 runD.sl.v173 runD.sl.v174 runD.sl.v175 runD.sl.v176 runD.sl.v177 runD.sl.v179 runD.sl.v180 runD.sl.v181 runD.sl.v182 runD.sl.v183 runD.sl.v184 runD.sl.v186 runD.sl.v187 runD.sl.v188 runD.sl.v190 runD.sl.v192 runD.sl.v193 runD.sl.v195 runD.sl.v196 runD.sl.v197 runD.sl.v198 runD.sl.v200 runD.sl.v201 runD.sl.v202 runD.sl.v203 runD.sl.v204 runD.sl.v205 runD.sl.v206 runD.sl.v207 runD.sl.v208 runD.sl.v210 runD.sl.v211 runD.sl.v212 runD.sl.v213 runD.sl.v214 runD.sl.v215 runD.sl.v217 runD.sl.v218 runD.sl.v219 runD.sl.v221 runD.sl.v223 runD.sl.v224 runD.sl.v225 runD.sl.v227 runD.sl.v228 runD.sl.v229 runD.sl.v233 runD.sl.v236 runD.sl.v237 runD.sl.v238 runD.sl.v7 runD.sl.v8 runD.sl.v9 runD.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl

end Cert.KernelIdeal.Fox

end
-- ==== Proof.Fox.RunE.lean ====
/- One visit of the attention kernel's body, the head's last visit: a tile on the diagonal, after which every gradient is written out. -/
module

public import proofs.«01_k».proof.Proof.Fox.Words
public import Idealize.ShloMosaic.Lib.Ring

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
set_option backward.proofsInPublic true in
/-- The body at the head's last visit: a tile on the diagonal, after which every gradient is written out. -/
theorem runE (c : Dev nD) (i : grid0.Coords)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1x1024x128 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S128x1024 .f32) (harg10 : arg10.IsWhole)
    (arg11 : Memref sig .tc .vmem S8192x128 .bf16) (harg11 : arg11.IsWhole)
    (arg12 : Memref sig .tc .vmem S1024x128 .bf16) (harg12 : arg12.IsWhole)
    (arg13 : Memref sig .tc .vmem S1024x128 .bf16) (harg13 : arg13.IsWhole)
    (arg14 : Memref sig .tc .vmem S1x8x1024 .f32) (harg14 : arg14.IsWhole)
    (arg15 : Memref sig .tc .vmem S1x1024x1 .f32) (harg15 : arg15.IsWhole)
    (T0 T1 : S36.Idx → Elt F .i32) (b : Blk F)
    (xr : S1x8x1024.Idx → Elt F .f32) (xq : S8x128x1024.Idx → Elt F .f32) (xk : S1024x256.Idx → Elt F .f32) (xv : S1024x128.Idx → Elt F .f32)
    (qi kj : Fin 8)
    (hw1 : View.readAt (Elt F) tabQ.view (Rect.unit (s := S36) (k0_off1 i) S1.size (k0_off1_inb i)).toLoadRect T0 (Shape.Idx.first (numel1_S1.symm ▸ Nat.one_pos)) = wd qi)
    (hw3 : View.readAt (Elt F) tabK.view (Rect.unit (s := S36) (k0_off1 i) S1.size (k0_off1_inb i)).toLoadRect T1 (Shape.Idx.first (numel1_S1.symm ▸ Nat.one_pos)) = wd kj)
    (hfirst : (i 1).val ≠ 0) (hdiag : qi = kj) (hlast : qi = 7) (hend : (i 1).val = 35)
    (y7 : S8192x128.Idx → Elt F .bf16) (y8 : S1024x128.Idx → Elt F .bf16) (y9 : S1024x128.Idx → Elt F .bf16) (y11 : S1x1024x1.Idx → Elt F .f32) (K : PUnit → sProp 𝕄) :
      iprop((arg4.view.loc (c : Thread nD τ) ↦[arg4.view.set]{fullShare} arg4.view.rep b.q)
          ∗ (arg5.view.loc (c : Thread nD τ) ↦[arg5.view.set]{fullShare} arg5.view.rep b.k)
          ∗ (arg6.view.loc (c : Thread nD τ) ↦[arg6.view.set]{fullShare} arg6.view.rep b.v)
          ∗ (arg7.view.loc (c : Thread nD τ) ↦[arg7.view.set]{fullShare} arg7.view.rep b.ck)
          ∗ (arg8.view.loc (c : Thread nD τ) ↦[arg8.view.set]{fullShare} arg8.view.rep b.lse)
          ∗ (arg9.view.loc (c : Thread nD τ) ↦[arg9.view.set]{fullShare} arg9.view.rep b.dl)
          ∗ (arg10.view.loc (c : Thread nD τ) ↦[arg10.view.set]{fullShare} arg10.view.rep b.ct)
          ∗ (tabQ.view.loc (c : Thread nD τ) ↦{fullShare.right} T0)
          ∗ (tabK.view.loc (c : Thread nD τ) ↦{fullShare.right} T1)
          ∗ owns (c : Thread nD τ) arg11 fullShare y7
          ∗ owns (c : Thread nD τ) arg12 fullShare y8
          ∗ owns (c : Thread nD τ) arg13 fullShare y9
          ∗ owns (c : Thread nD τ) arg14 fullShare xr
          ∗ owns (c : Thread nD τ) arg15 fullShare y11
          ∗ (accQ.view.loc (c : Thread nD τ) ↦{fullShare} xq)
          ∗ (accK.view.loc (c : Thread nD τ) ↦{fullShare} xk)
          ∗ (accV.view.loc (c : Thread nD τ) ↦{fullShare} xv)
          ∗ (iprop((arg4.view.loc (c : Thread nD τ) ↦[arg4.view.set]{fullShare} arg4.view.rep b.q)
            ∗ (arg5.view.loc (c : Thread nD τ) ↦[arg5.view.set]{fullShare} arg5.view.rep b.k)
            ∗ (arg6.view.loc (c : Thread nD τ) ↦[arg6.view.set]{fullShare} arg6.view.rep b.v)
            ∗ (arg7.view.loc (c : Thread nD τ) ↦[arg7.view.set]{fullShare} arg7.view.rep b.ck)
            ∗ (arg8.view.loc (c : Thread nD τ) ↦[arg8.view.set]{fullShare} arg8.view.rep b.lse)
            ∗ (arg9.view.loc (c : Thread nD τ) ↦[arg9.view.set]{fullShare} arg9.view.rep b.dl)
            ∗ (arg10.view.loc (c : Thread nD τ) ↦[arg10.view.set]{fullShare} arg10.view.rep b.ct)
            ∗ (tabQ.view.loc (c : Thread nD τ) ↦{fullShare.right} T0)
            ∗ (tabK.view.loc (c : Thread nD τ) ↦{fullShare.right} T1)
            ∗ owns (c : Thread nD τ) arg11 fullShare (outQ (newQ b true qi xq))
            ∗ owns (c : Thread nD τ) arg12 fullShare (outK (newK b true zK))
            ∗ owns (c : Thread nD τ) arg13 fullShare (outV (newV b true zV))
            ∗ owns (c : Thread nD τ) arg14 fullShare (newR b true qi xr)
            ∗ owns (c : Thread nD τ) arg15 fullShare (outC (newK b true zK))
            ∗ (accQ.view.loc (c : Thread nD τ) ↦{fullShare} (newQ b true qi xq))
            ∗ (accK.view.loc (c : Thread nD τ) ↦{fullShare} (newK b true zK))
            ∗ (accV.view.loc (c : Thread nD τ) ↦{fullShare} (newV b true zV))) -∗ K ⟨⟩))
        ⊢ wp frame (wpE (defs₀ (F := F)) Variants.none c none) Set.univ (cc0_fox_bwd i tabQ (Memref.isWhole_whole _) tabK (Memref.isWhole_whole _) arg4 harg4 arg5 harg5 arg6 harg6 arg7 harg7 arg8 harg8 arg9 harg9 arg10 harg10 arg11 harg11 arg12 harg12 arg13 harg13 arg14 harg14 arg15 harg15 accQ (Memref.isWhole_whole _) accK (Memref.isWhole_whole _) accV (Memref.isWhole_whole _)) K := by
    have k0_hw1 : k0_chk1 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) := by rw [hw1, hw3]; exact chk_wd qi kj
    have k0_h1 : ¬(k0_cond1 i = 1#1) := by exact fun h => hfirst ((cond1_at i).1 h)
    have hc2 : (Scalar.cmpi .ne (Scalar.extui (Scalar.cmpi .eq (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos)))) : BitVec 32) 0#32 = 1#1) := by rw [hw1, hw3]; exact (eq_wd qi kj).2 hdiag
    have k0_h3 : k0_cond3 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1 := by rw [hw1, hw3]; exact (cond3_wd qi kj).2 hdiag
    have k0_h4 : ¬(k0_cond4 (View.readAt (Elt F) tabQ.view (Rect.unit (s := S36) (k0_off1 i) S1.size (k0_off1_inb i)).toLoadRect T0 (Shape.Idx.first (numel1_S1.symm ▸ Nat.one_pos))) (View.readAt (Elt F) tabK.view (Rect.unit (s := S36) (k0_off1 i) S1.size (k0_off1_inb i)).toLoadRect T1 (Shape.Idx.first (numel1_S1.symm ▸ Nat.one_pos))) = 1#1) := by rw [hw1, hw3]; exact fun h => absurd ((cond4_wd qi kj).1 h) (by rw [hdiag]; exact lt_irrefl _)
    have k0_h5 : k0_cond5 (View.readAt (Elt F) tabQ.view (Rect.unit (s := S36) (k0_off1 i) S1.size (k0_off1_inb i)).toLoadRect T0 (Shape.Idx.first (numel1_S1.symm ▸ Nat.one_pos))) = 1#1 := by rw [hw1]; exact (cond5_wd qi).2 hlast
    have k0_h6 : k0_cond6 i = 1#1 := by exact (cond6_at i).2 hend
    unfold owns
    rw [cc0_fox_bwd_eq_skeleton]; unfold cc0_fox_bwd_skel
    iintro ⟨H0, H1, H2, H3, H4, H5, H6, HT0, HT1, ⟨%f7, %hf7, HO7⟩, ⟨%f8, %hf8, HO8⟩, ⟨%f9, %hf9, HO9⟩, ⟨%f10, %hf10, HO10⟩, ⟨%f11, %hf11, HO11⟩, HS0, HS1, HS2, Hk⟩
    obtain rfl := harg11.eq_unread hf7; obtain rfl := harg12.eq_unread hf8; obtain rfl := harg13.eq_unread hf9; obtain rfl := harg14.eq_unread hf10; obtain rfl := harg15.eq_unread hf11
    have hS0 : accQ.IsWhole := Memref.isWhole_whole _
    have hS1 : accK.IsWhole := Memref.isWhole_whole _
    have hS2 : accV.IsWhole := Memref.isWhole_whole _
    have hT0 : tabQ.IsWhole := Memref.isWhole_whole _
    have hT1 : tabK.IsWhole := Memref.isWhole_whole _
    sl_exec! (disch := first | (guard_target = k0_chk1 _ _; exact k0_hw1) | (guard_target = ¬(k0_cond1 _ = _); exact k0_h1) | (guard_target = Scalar.cmpi _ _ _ = _; exact hc2) | (guard_target = k0_cond3 _ _ = _; exact k0_h3) | (guard_target = ¬(k0_cond4 _ _ = _); exact k0_h4) | (guard_target = k0_cond5 _ = _; exact k0_h5) | (guard_target = k0_cond6 _ = _; exact k0_h6))
    sl_step
    have hck : View.readAt (Elt F) arg7.view (Rect.unit (s := S1x1024x128) ![0, 0, 0] S1x1024x128.size inb_ck).toLoadRect (arg7.view.rep b.ck) = VecWindow.window b.ck ![0, 0, 0] S1x1024x128.size inb_ck := View.readAt_rep _ _ _
    have hk : View.readAt (Elt F) arg5.view (Rect.unit (s := S1024x128) ![0, 0] S1024x128.size inb_k).toLoadRect (arg5.view.rep b.k) = VecWindow.window b.k ![0, 0] S1024x128.size inb_k := View.readAt_rep _ _ _
    have hv : View.readAt (Elt F) arg6.view (Rect.unit (s := S1024x128) ![0, 0] S1024x128.size inb_k).toLoadRect (arg6.view.rep b.v) = VecWindow.window b.v ![0, 0] S1024x128.size inb_k := View.readAt_rep _ _ _
    have ho0 : View.readAt (Elt F) arg10.view (Rect.unit (s := S128x1024) ![0, 0] S128x256.size (inb_ct 0)).toLoadRect (arg10.view.rep b.ct) = VecWindow.window b.ct ![0, 256 * ((0 : Fin 4) : ℕ)] S128x256.size (inb_ct 0) := View.readAt_rep _ _ _
    have hl0 : View.readAt (Elt F) arg8.view (Rect.unit (s := S1x1x1024) ![0, 0, 0] S1x1x256.size (inb_l 0)).toLoadRect (arg8.view.rep b.lse) = VecWindow.window b.lse ![0, 0, 256 * ((0 : Fin 4) : ℕ)] S1x1x256.size (inb_l 0) := View.readAt_rep _ _ _
    have hd0 : View.readAt (Elt F) arg9.view (Rect.unit (s := S1x1x1024) ![0, 0, 0] S1x1x256.size (inb_l 0)).toLoadRect (arg9.view.rep b.dl) = VecWindow.window b.dl ![0, 0, 256 * ((0 : Fin 4) : ℕ)] S1x1x256.size (inb_l 0) := View.readAt_rep _ _ _
    have hx0 : View.readAt (Elt F) arg4.view (Rect.unit (s := S1024x128) ![0, 0] S256x128.size (inb_q 0)).toLoadRect (arg4.view.rep b.q) = VecWindow.window b.q ![256 * ((0 : Fin 4) : ℕ), 0] S256x128.size (inb_q 0) := View.readAt_rep _ _ _
    have ho1 : View.readAt (Elt F) arg10.view (Rect.unit (s := S128x1024) ![0, 256] S128x256.size (inb_ct 1)).toLoadRect (arg10.view.rep b.ct) = VecWindow.window b.ct ![0, 256 * ((1 : Fin 4) : ℕ)] S128x256.size (inb_ct 1) := View.readAt_rep _ _ _
    have hl1 : View.readAt (Elt F) arg8.view (Rect.unit (s := S1x1x1024) ![0, 0, 256] S1x1x256.size (inb_l 1)).toLoadRect (arg8.view.rep b.lse) = VecWindow.window b.lse ![0, 0, 256 * ((1 : Fin 4) : ℕ)] S1x1x256.size (inb_l 1) := View.readAt_rep _ _ _
    have hd1 : View.readAt (Elt F) arg9.view (Rect.unit (s := S1x1x1024) ![0, 0, 256] S1x1x256.size (inb_l 1)).toLoadRect (arg9.view.rep b.dl) = VecWindow.window b.dl ![0, 0, 256 * ((1 : Fin 4) : ℕ)] S1x1x256.size (inb_l 1) := View.readAt_rep _ _ _
    have hx1 : View.readAt (Elt F) arg4.view (Rect.unit (s := S1024x128) ![256, 0] S256x128.size (inb_q 1)).toLoadRect (arg4.view.rep b.q) = VecWindow.window b.q ![256 * ((1 : Fin 4) : ℕ), 0] S256x128.size (inb_q 1) := View.readAt_rep _ _ _
    have ho2 : View.readAt (Elt F) arg10.view (Rect.unit (s := S128x1024) ![0, 512] S128x256.size (inb_ct 2)).toLoadRect (arg10.view.rep b.ct) = VecWindow.window b.ct ![0, 256 * ((2 : Fin 4) : ℕ)] S128x256.size (inb_ct 2) := View.readAt_rep _ _ _
    have hl2 : View.readAt (Elt F) arg8.view (Rect.unit (s := S1x1x1024) ![0, 0, 512] S1x1x256.size (inb_l 2)).toLoadRect (arg8.view.rep b.lse) = VecWindow.window b.lse ![0, 0, 256 * ((2 : Fin 4) : ℕ)] S1x1x256.size (inb_l 2) := View.readAt_rep _ _ _
    have hd2 : View.readAt (Elt F) arg9.view (Rect.unit (s := S1x1x1024) ![0, 0, 512] S1x1x256.size (inb_l 2)).toLoadRect (arg9.view.rep b.dl) = VecWindow.window b.dl ![0, 0, 256 * ((2 : Fin 4) : ℕ)] S1x1x256.size (inb_l 2) := View.readAt_rep _ _ _
    have hx2 : View.readAt (Elt F) arg4.view (Rect.unit (s := S1024x128) ![512, 0] S256x128.size (inb_q 2)).toLoadRect (arg4.view.rep b.q) = VecWindow.window b.q ![256 * ((2 : Fin 4) : ℕ), 0] S256x128.size (inb_q 2) := View.readAt_rep _ _ _
    have ho3 : View.readAt (Elt F) arg10.view (Rect.unit (s := S128x1024) ![0, 768] S128x256.size (inb_ct 3)).toLoadRect (arg10.view.rep b.ct) = VecWindow.window b.ct ![0, 256 * ((3 : Fin 4) : ℕ)] S128x256.size (inb_ct 3) := View.readAt_rep _ _ _
    have hl3 : View.readAt (Elt F) arg8.view (Rect.unit (s := S1x1x1024) ![0, 0, 768] S1x1x256.size (inb_l 3)).toLoadRect (arg8.view.rep b.lse) = VecWindow.window b.lse ![0, 0, 256 * ((3 : Fin 4) : ℕ)] S1x1x256.size (inb_l 3) := View.readAt_rep _ _ _
    have hd3 : View.readAt (Elt F) arg9.view (Rect.unit (s := S1x1x1024) ![0, 0, 768] S1x1x256.size (inb_l 3)).toLoadRect (arg9.view.rep b.dl) = VecWindow.window b.dl ![0, 0, 256 * ((3 : Fin 4) : ℕ)] S1x1x256.size (inb_l 3) := View.readAt_rep _ _ _
    have hx3 : View.readAt (Elt F) arg4.view (Rect.unit (s := S1024x128) ![768, 0] S256x128.size (inb_q 3)).toLoadRect (arg4.view.rep b.q) = VecWindow.window b.q ![256 * ((3 : Fin 4) : ℕ), 0] S256x128.size (inb_q 3) := View.readAt_rep _ _ _
    iapply Hk
    have hq : ∀ (f : accQ.view.ty.Contents (Elt F)) (inb : ∀ a, k0_off2 (View.readAt (Elt F) tabQ.view (Rect.unit (s := S36) (k0_off1 i) S1.size (k0_off1_inb i)).toLoadRect T0 (Shape.Idx.first (numel1_S1.symm ▸ Nat.one_pos))) a + S1x128x1024.size a ≤ S8x128x1024.size a), View.readAt (Elt F) accQ.view (Rect.unit (s := S8x128x1024) (k0_off2 (View.readAt (Elt F) tabQ.view (Rect.unit (s := S36) (k0_off1 i) S1.size (k0_off1_inb i)).toLoadRect T0 (Shape.Idx.first (numel1_S1.symm ▸ Nat.one_pos)))) S1x128x1024.size inb).toLoadRect f = VecWindow.window (accQ.view.read (Elt F) f) ![qi.val, 0, 0] S1x128x1024.size (inb_rowQ qi) :=
      fun f inb => View.readAt_unit _ _ _ (by rw [hw1]; exact off2_wd qi) _
    have hr : ∀ (f : arg14.view.ty.Contents (Elt F)) (inb : ∀ a, k0_off3 (View.readAt (Elt F) tabQ.view (Rect.unit (s := S36) (k0_off1 i) S1.size (k0_off1_inb i)).toLoadRect T0 (Shape.Idx.first (numel1_S1.symm ▸ Nat.one_pos))) a + S1x1x1024.size a ≤ S1x8x1024.size a), View.readAt (Elt F) arg14.view (Rect.unit (s := S1x8x1024) (k0_off3 (View.readAt (Elt F) tabQ.view (Rect.unit (s := S36) (k0_off1 i) S1.size (k0_off1_inb i)).toLoadRect T0 (Shape.Idx.first (numel1_S1.symm ▸ Nat.one_pos)))) S1x1x1024.size inb).toLoadRect f = VecWindow.window (arg14.view.read (Elt F) f) ![0, qi.val, 0] S1x1x1024.size (inb_rowR qi) :=
      fun f inb => View.readAt_unit _ _ _ (by rw [hw1]; exact off3_wd qi) _
    have oq : k0_off2 (View.readAt (Elt F) tabQ.view (Rect.unit (s := S36) (k0_off1 i) S1.size (k0_off1_inb i)).toLoadRect T0 (Shape.Idx.first (numel1_S1.symm ▸ Nat.one_pos))) = ![qi.val, 0, 0] := by rw [hw1]; exact off2_wd qi
    have or : k0_off3 (View.readAt (Elt F) tabQ.view (Rect.unit (s := S36) (k0_off1 i) S1.size (k0_off1_inb i)).toLoadRect T0 (Shape.Idx.first (numel1_S1.symm ▸ Nat.one_pos))) = ![0, qi.val, 0] := by rw [hw1]; exact off3_wd qi
    have rwK : ∀ (f : accK.view.ty.Contents (Elt F)) (off : Fin S1024x256.rank → ℕ) (inb : ∀ a, off a + S1024x256.size a ≤ S1024x256.size a) (w : S1024x256.Idx → Elt F .f32) (L : List (View.Piece (Elt F) S1024x256 .f32)), accK.view.read (Elt F) (accK.view.writes (Elt F) f (⟨Rect.unit (s := S1024x256) off S1024x256.size inb, w⟩ :: L)) = w := fun f off inb w L => View.read_writes_full _ _ _ _ _
    have rcK : ∀ (off off' : Fin S1024x256.rank → ℕ) (inb : ∀ a, off a + S1024x256.size a ≤ S1024x256.size a) (inb' : ∀ a, off' a + S1024x256.size a ≤ S1024x256.size a) (w : S1024x256.Idx → Elt F .f32) (L : List (View.Piece (Elt F) S1024x256 .f32)), accK.view.readCov (⟨Rect.unit (s := S1024x256) off' S1024x256.size inb', w⟩ :: L) (Rect.unit (s := S1024x256) off S1024x256.size inb).toLoadRect = w := fun off off' inb inb' w L => View.readCov_full _ _ _ _ _
    have raK : ∀ (f : accK.view.ty.Contents (Elt F)) (off : Fin S1024x256.rank → ℕ) (inb : ∀ a, off a + S1024x256.size a ≤ S1024x256.size a), accK.view.readAt (Elt F) (Rect.unit (s := S1024x256) off S1024x256.size inb).toLoadRect f = accK.view.read (Elt F) f := fun f off inb => View.readAt_full _ _ _
    have rwV : ∀ (f : accV.view.ty.Contents (Elt F)) (off : Fin S1024x128.rank → ℕ) (inb : ∀ a, off a + S1024x128.size a ≤ S1024x128.size a) (w : S1024x128.Idx → Elt F .f32) (L : List (View.Piece (Elt F) S1024x128 .f32)), accV.view.read (Elt F) (accV.view.writes (Elt F) f (⟨Rect.unit (s := S1024x128) off S1024x128.size inb, w⟩ :: L)) = w := fun f off inb w L => View.read_writes_full _ _ _ _ _
    have rcV : ∀ (off off' : Fin S1024x128.rank → ℕ) (inb : ∀ a, off a + S1024x128.size a ≤ S1024x128.size a) (inb' : ∀ a, off' a + S1024x128.size a ≤ S1024x128.size a) (w : S1024x128.Idx → Elt F .f32) (L : List (View.Piece (Elt F) S1024x128 .f32)), accV.view.readCov (⟨Rect.unit (s := S1024x128) off' S1024x128.size inb', w⟩ :: L) (Rect.unit (s := S1024x128) off S1024x128.size inb).toLoadRect = w := fun off off' inb inb' w L => View.readCov_full _ _ _ _ _
    have raV : ∀ (f : accV.view.ty.Contents (Elt F)) (off : Fin S1024x128.rank → ℕ) (inb : ∀ a, off a + S1024x128.size a ≤ S1024x128.size a), accV.view.readAt (Elt F) (Rect.unit (s := S1024x128) off S1024x128.size inb).toLoadRect f = accV.view.read (Elt F) f := fun f off inb => View.readAt_full _ _ _
    have rwQ : ∀ (f : accQ.view.ty.Contents (Elt F)) (off : Fin S8x128x1024.rank → ℕ) (inb : ∀ a, off a + S8x128x1024.size a ≤ S8x128x1024.size a) (w : S8x128x1024.Idx → Elt F .f32) (L : List (View.Piece (Elt F) S8x128x1024 .f32)), accQ.view.read (Elt F) (accQ.view.writes (Elt F) f (⟨Rect.unit (s := S8x128x1024) off S8x128x1024.size inb, w⟩ :: L)) = w := fun f off inb w L => View.read_writes_full _ _ _ _ _
    have rwR : ∀ (f : arg14.view.ty.Contents (Elt F)) (off : Fin S1x8x1024.rank → ℕ) (inb : ∀ a, off a + S1x8x1024.size a ≤ S1x8x1024.size a) (w : S1x8x1024.Idx → Elt F .f32) (L : List (View.Piece (Elt F) S1x8x1024 .f32)), arg14.view.read (Elt F) (arg14.view.writes (Elt F) f (⟨Rect.unit (s := S1x8x1024) off S1x8x1024.size inb, w⟩ :: L)) = w := fun f off inb w L => View.read_writes_full _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    have rw12 : ∀ (f : arg12.view.ty.Contents (Elt F)) (off : Fin S1024x128.rank → ℕ) (inb : ∀ a, off a + S1024x128.size a ≤ S1024x128.size a) (w : S1024x128.Idx → Elt F .bf16) (L : List (View.Piece (Elt F) S1024x128 .bf16)), arg12.view.read (Elt F) (arg12.view.writes (Elt F) f (⟨Rect.unit (s := S1024x128) off S1024x128.size inb, w⟩ :: L)) = w := fun f off inb w L => View.read_writes_full _ _ _ _ _
    have rw13 : ∀ (f : arg13.view.ty.Contents (Elt F)) (off : Fin S1024x128.rank → ℕ) (inb : ∀ a, off a + S1024x128.size a ≤ S1024x128.size a) (w : S1024x128.Idx → Elt F .bf16) (L : List (View.Piece (Elt F) S1024x128 .bf16)), arg13.view.read (Elt F) (arg13.view.writes (Elt F) f (⟨Rect.unit (s := S1024x128) off S1024x128.size inb, w⟩ :: L)) = w := fun f off inb w L => View.read_writes_full _ _ _ _ _
    have rw15 : ∀ (f : arg15.view.ty.Contents (Elt F)) (off : Fin S1x1024x1.rank → ℕ) (inb : ∀ a, off a + S1x1024x1.size a ≤ S1x1024x1.size a) (w : S1x1024x1.Idx → Elt F .f32) (L : List (View.Piece (Elt F) S1x1024x1 .f32)), arg15.view.read (Elt F) (arg15.view.writes (Elt F) f (⟨Rect.unit (s := S1x1024x1) off S1x1024x1.size inb, w⟩ :: L)) = w := fun f off inb w L => View.read_writes_full _ _ _ _ _
    have hX : accQ.view.read (Elt F) (accQ.view.writes (Elt F) xq (runE.sl.HS0_1 i arg4 arg5 arg6 arg7 arg8 arg9 arg10 T0 T1 b xq k0_hw1 hc2)) = newQ b true qi xq := by
      delta runE.sl.HS0_1 runE.sl.r
      refine (View.read_writes_cons_put _ _ _ _ _ oq).trans ?_
      unfold newQ; refine congrArg₂ (fun x w => VecWindow.put x _ _ w) ?_ ?_
      · rfl
      · delta runE.sl.HS0_1 runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hq, View.readCov, rwQ, rwR]
        try simp only [View.readAt_rep]
        rfl
    isplitl [HO7]
    · iexists _; isplitr; swap; · iexact HO7
      ipureintro
      rw [← hX]
      delta runE.sl.HO7_8
      funext y
      refine View.read_writes_apply_of_pieces _ _ (outQ _) _ ?_ y (View.cover_of_tiledL (s := S8192x128) _ ![1024, 128] (by sl_kernel_rfl) y)
      intro p hp x
      fin_cases hp
      · exact (outQ_emb 7 _ _ _ (by show 7168 + 1 * (x 0).val = 1024 * 7 + (x 0).val; omega) (by show 0 + 1 * (x 1).val = (x 1).val; omega)).symm
      · exact (outQ_emb 6 _ _ _ (by show 6144 + 1 * (x 0).val = 1024 * 6 + (x 0).val; omega) (by show 0 + 1 * (x 1).val = (x 1).val; omega)).symm
      · exact (outQ_emb 5 _ _ _ (by show 5120 + 1 * (x 0).val = 1024 * 5 + (x 0).val; omega) (by show 0 + 1 * (x 1).val = (x 1).val; omega)).symm
      · exact (outQ_emb 4 _ _ _ (by show 4096 + 1 * (x 0).val = 1024 * 4 + (x 0).val; omega) (by show 0 + 1 * (x 1).val = (x 1).val; omega)).symm
      · exact (outQ_emb 3 _ _ _ (by show 3072 + 1 * (x 0).val = 1024 * 3 + (x 0).val; omega) (by show 0 + 1 * (x 1).val = (x 1).val; omega)).symm
      · exact (outQ_emb 2 _ _ _ (by show 2048 + 1 * (x 0).val = 1024 * 2 + (x 0).val; omega) (by show 0 + 1 * (x 1).val = (x 1).val; omega)).symm
      · exact (outQ_emb 1 _ _ _ (by show 1024 + 1 * (x 0).val = 1024 * 1 + (x 0).val; omega) (by show 0 + 1 * (x 1).val = (x 1).val; omega)).symm
      · exact (outQ_emb 0 _ _ _ (by show 0 + 1 * (x 0).val = 1024 * 0 + (x 0).val; omega) (by show 0 + 1 * (x 1).val = (x 1).val; omega)).symm
    isplitl [HO8]
    · iexists _; isplitr; swap; · iexact HO8
      ipureintro
      delta runE.sl.HO8_1 runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HO9]
    · iexists _; isplitr; swap; · iexact HO9
      ipureintro
      delta runE.sl.HO9_1 runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HO10]
    · iexists _; isplitr; swap; · iexact HO10
      ipureintro
      delta runE.sl.r
      refine (View.read_writes_cons_put _ _ _ _ _ or).trans ?_
      unfold newR; refine congrArg₂ (fun x w => VecWindow.put x _ _ w) ?_ ?_
      · exact harg14.read_unread _
      · delta runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
        simp only [hr, View.readCov, harg14.read_unread, rwQ, rwR]
        try simp only [View.readAt_rep]
        rfl
    isplitl [HO11]
    · iexists _; isplitr; swap; · iexact HO11
      ipureintro
      delta runE.sl.HO11_1 runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rw12, rw13, rw15, rcK, rcV, raK, raV, rwK, rwV]
      try simp only [View.readAt_rep]
      rfl
    isplitl [HS0]
    · iapply (accQ_of_read c)
      iexists _; isplitr; swap; · iexact HS0
      ipureintro
      exact hX
    isplitl [HS1]
    · iapply (accK_of_read c)
      iexists _; isplitr; swap; · iexact HS1
      ipureintro
      delta runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl
    · iapply (accV_of_read c)
      iexists _; isplitr; swap; · iexact HS2
      ipureintro
      delta runE.sl.HS1_1 runE.sl.HS1_2 runE.sl.HS1_3 runE.sl.HS1_4 runE.sl.HS1_5 runE.sl.HS2_1 runE.sl.HS2_2 runE.sl.HS2_3 runE.sl.HS2_4 runE.sl.HS2_5 runE.sl.cst_24 runE.sl.cst_41 runE.sl.cst_50 runE.sl.cst_58 runE.sl.cst_59 runE.sl.cst_60 runE.sl.cst_61 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_3 runE.sl.r_4 runE.sl.r_5 runE.sl.r_6 runE.sl.r_7 runE.sl.r_8 runE.sl.r_9 runE.sl.v100 runE.sl.v102 runE.sl.v103 runE.sl.v104 runE.sl.v105 runE.sl.v107 runE.sl.v108 runE.sl.v109 runE.sl.v110 runE.sl.v111 runE.sl.v112 runE.sl.v113 runE.sl.v114 runE.sl.v115 runE.sl.v117 runE.sl.v118 runE.sl.v119 runE.sl.v120 runE.sl.v121 runE.sl.v122 runE.sl.v124 runE.sl.v125 runE.sl.v126 runE.sl.v127 runE.sl.v128 runE.sl.v129 runE.sl.v130 runE.sl.v131 runE.sl.v133 runE.sl.v134 runE.sl.v135 runE.sl.v136 runE.sl.v138 runE.sl.v139 runE.sl.v140 runE.sl.v141 runE.sl.v142 runE.sl.v143 runE.sl.v144 runE.sl.v145 runE.sl.v146 runE.sl.v148 runE.sl.v149 runE.sl.v150 runE.sl.v151 runE.sl.v152 runE.sl.v153 runE.sl.v155 runE.sl.v156 runE.sl.v157 runE.sl.v159 runE.sl.v161 runE.sl.v162 runE.sl.v164 runE.sl.v165 runE.sl.v166 runE.sl.v167 runE.sl.v169 runE.sl.v170 runE.sl.v171 runE.sl.v172 runE.sl.v173 runE.sl.v174 runE.sl.v175 runE.sl.v176 runE.sl.v177 runE.sl.v179 runE.sl.v180 runE.sl.v181 runE.sl.v182 runE.sl.v183 runE.sl.v184 runE.sl.v186 runE.sl.v187 runE.sl.v188 runE.sl.v190 runE.sl.v192 runE.sl.v193 runE.sl.v195 runE.sl.v196 runE.sl.v197 runE.sl.v198 runE.sl.v200 runE.sl.v201 runE.sl.v202 runE.sl.v203 runE.sl.v204 runE.sl.v205 runE.sl.v206 runE.sl.v207 runE.sl.v208 runE.sl.v210 runE.sl.v211 runE.sl.v212 runE.sl.v213 runE.sl.v214 runE.sl.v215 runE.sl.v217 runE.sl.v218 runE.sl.v219 runE.sl.v22 runE.sl.v221 runE.sl.v223 runE.sl.v224 runE.sl.v225 runE.sl.v227 runE.sl.v228 runE.sl.v229 runE.sl.v23 runE.sl.v233 runE.sl.v236 runE.sl.v237 runE.sl.v238 runE.sl.v24 runE.sl.v25 runE.sl.v28 runE.sl.v29 runE.sl.v30 runE.sl.v30_1 runE.sl.v33 runE.sl.v34 runE.sl.v35 runE.sl.v38 runE.sl.v39 runE.sl.v40 runE.sl.v43 runE.sl.v44 runE.sl.v45 runE.sl.v48 runE.sl.v7 runE.sl.v8 runE.sl.v9 runE.sl.v99; rw [hck]; try rw [hk]; try rw [hv]; try rw [hx0]; try rw [hx1]; try rw [hx2]; try rw [hx3]; try rw [ho0]; try rw [ho1]; try rw [ho2]; try rw [ho3]; try rw [hl0]; try rw [hl1]; try rw [hl2]; try rw [hl3]; try rw [hd0]; try rw [hd1]; try rw [hd2]; try rw [hd3]
      simp only [rcK, rcV, raK, raV, rwK, rwV]
      try simp only [View.readAt_rep]
      rfl

end Cert.KernelIdeal.Fox

end
-- ==== Proof.Fox.Body.lean ====
/- The body keeps the invariant at every point. -/
module

public import proofs.«01_k».proof.Proof.Fox.State
public import proofs.«01_k».proof.Proof.Fox.RunA
public import proofs.«01_k».proof.Proof.Fox.RunB
public import proofs.«01_k».proof.Proof.Fox.RunC
public import proofs.«01_k».proof.Proof.Fox.RunD
public import proofs.«01_k».proof.Proof.Fox.RunE

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt 𝔽) ℕ (UR sig nD τ) ℕ

variable (V : (c : Dev nD) → (b : Ref sig .tc) → Buf (Elt 𝔽) ((c.tc : Thread nD τ).loc b))

/-- The body at point `t` on its staging memrefs, as the pipeline calls it. -/
abbrev bodyAt (t : Fin cfgA.N) : Prog (TpuEff nD τ sig (Elt 𝔽) Λ₀ .tc) PUnit :=
  cc0_fox_bwd (crd t) tabQ (Memref.isWhole_whole _) tabK (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) accQ (Memref.isWhole_whole _) accK (Memref.isWhole_whole _) accV (Memref.isWhole_whole _)

set_option maxHeartbeats 12000000 in
theorem bodyA (c : Dev nD) (t : Fin cfgA.N) (h1 : t.val % 36 = 0) (hD : qiT t = kjT t) (hL : qiT t ≠ 7) (hE : t.val % 36 ≠ 35) :
    iprop((dats V 0 c).Φ t.castSucc ∗ (dats V 0 c).owesAt () t.castSucc
        ∗ (∃ d, owns (c : Thread nD τ) (ms0 t) fullShare ((dats V 0 c).before (0 : Fin 12) t d))
        ∗ (∃ d, owns (c : Thread nD τ) (ms1 t) fullShare ((dats V 0 c).before (1 : Fin 12) t d))
        ∗ (∃ d, owns (c : Thread nD τ) (ms2 t) fullShare ((dats V 0 c).before (2 : Fin 12) t d))
        ∗ (∃ d, owns (c : Thread nD τ) (ms3 t) fullShare ((dats V 0 c).before (3 : Fin 12) t d))
        ∗ (∃ d, owns (c : Thread nD τ) (ms4 t) fullShare ((dats V 0 c).before (4 : Fin 12) t d))
        ∗ (∃ d, owns (c : Thread nD τ) (ms5 t) fullShare ((dats V 0 c).before (5 : Fin 12) t d))
        ∗ (∃ d, owns (c : Thread nD τ) (ms6 t) fullShare ((dats V 0 c).before (6 : Fin 12) t d))
        ∗ (∃ d, owns (c : Thread nD τ) (ms7 t) fullShare ((dats V 0 c).before (7 : Fin 12) t d))
        ∗ (∃ d, owns (c : Thread nD τ) (ms8 t) fullShare ((dats V 0 c).before (8 : Fin 12) t d))
        ∗ (∃ d, owns (c : Thread nD τ) (ms9 t) fullShare ((dats V 0 c).before (9 : Fin 12) t d))
        ∗ (∃ d, owns (c : Thread nD τ) (ms10 t) fullShare ((dats V 0 c).before (10 : Fin 12) t d))
        ∗ (∃ d, owns (c : Thread nD τ) (ms11 t) fullShare ((dats V 0 c).before (11 : Fin 12) t d)))
      ⊢ wp frame (wpE (defs₀ (F := 𝔽)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have i7 : cfgA.idle (7 : Fin 12) (crd t) = true := by rw [idle_7 t]; simp [hE]
  have f7 : (cfgA.win (7 : Fin 12)).flush t = false := by rw [flush_7 t]; simp [hE]
  have i8 : cfgA.idle (8 : Fin 12) (crd t) = true := by rw [idle_8 t]; simp [hL]
  have f8 : (cfgA.win (8 : Fin 12)).flush t = false := by rw [flush_8 t]; simp [hL]
  have i9 : cfgA.idle (9 : Fin 12) (crd t) = true := by rw [idle_9 t]; simp [hL]
  have f9 : (cfgA.win (9 : Fin 12)).flush t = false := by rw [flush_9 t]; simp [hL]
  have i11 : cfgA.idle (11 : Fin 12) (crd t) = true := by rw [idle_11 t]; simp [hL]
  have f11 : (cfgA.win (11 : Fin 12)).flush t = false := by rw [flush_11 t]; simp [hL]
  have i10 := idle_10 t
  have st : traj V c (t.val + 1) = ⟨newQ (blkT V c t) true (qiT t) zQ, newK (blkT V c t) true zK, newV (blkT V c t) true zV, newR (blkT V c t) true (qiT t) zR⟩ := by
    rw [traj_succ, decide_eq_true h1]; unfold St.step; rw [decide_eq_true hD]; rfl
  rewrite [i7, i8, i10]
  simp only [before_0, before_1, before_2, before_3, before_4, before_5, before_6, before_7, before_8, before_9, before_10, before_11, after_0, after_1, after_2, after_3, after_4, after_5, after_6, after_7, after_8, after_9, after_10, after_11, f7, f8, f9, f11, h1, ↓reduceIte]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi; simp only [st]
  iintro ⟨⟨⟨%a0, %ha0, HS0⟩, ⟨%a1, %ha1, HS1⟩, ⟨%a2, %ha2, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) T0 T1 (blkT V c t) d10 a0 a1 a2 (qiT t) (kjT t) (word0 t) (word1 t) ((crd1 t).trans h1) hD hL (fun h => hE ((crd1 t).symm.trans h)) d7 d8 d9 d11 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, HT0, HT1, H7, H8, H9, H10, H11, HS0, HS1, HS2⟩
  isplitl [HS0 HS1 HS2 HT0 HT1 Hg]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexists d7; iexact H7
  isplitl [H8]; · iexists d8; iexact H8
  isplitl [H9]; · iexists d9; iexact H9
  isplitl [H10]; · iexact H10
  iexists d11; iexact H11

set_option maxHeartbeats 12000000 in
theorem bodyB (c : Dev nD) (t : Fin cfgA.N) (h1 : t.val % 36 ≠ 0) (hD : qiT t ≠ kjT t) (hlt : kjT t < qiT t) (hL : qiT t ≠ 7) (hE : t.val % 36 ≠ 35) :
    iprop((dats V 0 c).Φ t.castSucc ∗ (dats V 0 c).owesAt () t.castSucc
        ∗ (∃ d, owns (c : Thread nD τ) (ms0 t) fullShare ((dats V 0 c).before (0 : Fin 12) t d))
        ∗ (∃ d, owns (c : Thread nD τ) (ms1 t) fullShare ((dats V 0 c).before (1 : Fin 12) t d))
        ∗ (∃ d, owns (c : Thread nD τ) (ms2 t) fullShare ((dats V 0 c).before (2 : Fin 12) t d))
        ∗ (∃ d, owns (c : Thread nD τ) (ms3 t) fullShare ((dats V 0 c).before (3 : Fin 12) t d))
        ∗ (∃ d, owns (c : Thread nD τ) (ms4 t) fullShare ((dats V 0 c).before (4 : Fin 12) t d))
        ∗ (∃ d, owns (c : Thread nD τ) (ms5 t) fullShare ((dats V 0 c).before (5 : Fin 12) t d))
        ∗ (∃ d, owns (c : Thread nD τ) (ms6 t) fullShare ((dats V 0 c).before (6 : Fin 12) t d))
        ∗ (∃ d, owns (c : Thread nD τ) (ms7 t) fullShare ((dats V 0 c).before (7 : Fin 12) t d))
        ∗ (∃ d, owns (c : Thread nD τ) (ms8 t) fullShare ((dats V 0 c).before (8 : Fin 12) t d))
        ∗ (∃ d, owns (c : Thread nD τ) (ms9 t) fullShare ((dats V 0 c).before (9 : Fin 12) t d))
        ∗ (∃ d, owns (c : Thread nD τ) (ms10 t) fullShare ((dats V 0 c).before (10 : Fin 12) t d))
        ∗ (∃ d, owns (c : Thread nD τ) (ms11 t) fullShare ((dats V 0 c).before (11 : Fin 12) t d)))
      ⊢ wp frame (wpE (defs₀ (F := 𝔽)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have h0 : t.val ≠ 0 := fun h0 => h1 (by rw [h0])
  have i7 : cfgA.idle (7 : Fin 12) (crd t) = true := by rw [idle_7 t]; simp [hE]
  have f7 : (cfgA.win (7 : Fin 12)).flush t = false := by rw [flush_7 t]; simp [hE]
  have i8 : cfgA.idle (8 : Fin 12) (crd t) = true := by rw [idle_8 t]; simp [hL]
  have f8 : (cfgA.win (8 : Fin 12)).flush t = false := by rw [flush_8 t]; simp [hL]
  have i9 : cfgA.idle (9 : Fin 12) (crd t) = true := by rw [idle_9 t]; simp [hL]
  have f9 : (cfgA.win (9 : Fin 12)).flush t = false := by rw [flush_9 t]; simp [hL]
  have i11 : cfgA.idle (11 : Fin 12) (crd t) = true := by rw [idle_11 t]; simp [hL]
  have f11 : (cfgA.win (11 : Fin 12)).flush t = false := by rw [flush_11 t]; simp [hL]
  have i10 := idle_10 t
  have st : traj V c (t.val + 1) = ⟨newQ (blkT V c t) false (qiT t) (traj V c t.val).q, newK (blkT V c t) false (traj V c t.val).k, newV (blkT V c t) false (traj V c t.val).v, newR (blkT V c t) false (qiT t) (traj V c t.val).r⟩ := by
    rw [traj_succ, decide_eq_false h1]; unfold St.step; rw [decide_eq_false hD]; rfl
  rewrite [i7, i8, i10]
  simp only [before_0, before_1, before_2, before_3, before_4, before_5, before_6, before_7, before_8, before_9, before_10, before_11, after_0, after_1, after_2, after_3, after_4, after_5, after_6, after_7, after_8, after_9, after_10, after_11, f7, f8, f9, f11, h1, ↓reduceIte]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi; simp only [st]
  iintro ⟨⟨⟨%a0, %ha0, HS0⟩, ⟨%a1, %ha1, HS1⟩, ⟨%a2, %ha2, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := ha0 h0; obtain rfl := ha1 h0; obtain rfl := ha2 h0
  iapply (runB c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) T0 T1 (blkT V c t) (traj V c t.val).r (traj V c t.val).q (traj V c t.val).k (traj V c t.val).v (qiT t) (kjT t) (word0 t) (word1 t) (fun h => h1 ((crd1 t).symm.trans h)) hlt hL (fun h => hE ((crd1 t).symm.trans h)) d7 d8 d9 d11 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, HT0, HT1, H7, H8, H9, H10, H11, HS0, HS1, HS2⟩
  isplitl [HS0 HS1 HS2 HT0 HT1 Hg]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexists d7; iexact H7
  isplitl [H8]; · iexists d8; iexact H8
  isplitl [H9]; · iexists d9; iexact H9
  isplitl [H10]; · iexact H10
  iexists d11; iexact H11

set_option maxHeartbeats 12000000 in
theorem bodyC (c : Dev nD) (t : Fin cfgA.N) (h1 : t.val % 36 ≠ 0) (hD : qiT t ≠ kjT t) (hlt : kjT t < qiT t) (hL : qiT t = 7) (hE : t.val % 36 ≠ 35) :
    iprop((dats V 0 c).Φ t.castSucc ∗ (dats V 0 c).owesAt () t.castSucc
        ∗ (∃ d, owns (c : Thread nD τ) (ms0 t) fullShare ((dats V 0 c).before (0 : Fin 12) t d))
        ∗ (∃ d, owns (c : Thread nD τ) (ms1 t) fullShare ((dats V 0 c).before (1 : Fin 12) t d))
        ∗ (∃ d, owns (c : Thread nD τ) (ms2 t) fullShare ((dats V 0 c).before (2 : Fin 12) t d))
        ∗ (∃ d, owns (c : Thread nD τ) (ms3 t) fullShare ((dats V 0 c).before (3 : Fin 12) t d))
        ∗ (∃ d, owns (c : Thread nD τ) (ms4 t) fullShare ((dats V 0 c).before (4 : Fin 12) t d))
        ∗ (∃ d, owns (c : Thread nD τ) (ms5 t) fullShare ((dats V 0 c).before (5 : Fin 12) t d))
        ∗ (∃ d, owns (c : Thread nD τ) (ms6 t) fullShare ((dats V 0 c).before (6 : Fin 12) t d))
        ∗ (∃ d, owns (c : Thread nD τ) (ms7 t) fullShare ((dats V 0 c).before (7 : Fin 12) t d))
        ∗ (∃ d, owns (c : Thread nD τ) (ms8 t) fullShare ((dats V 0 c).before (8 : Fin 12) t d))
        ∗ (∃ d, owns (c : Thread nD τ) (ms9 t) fullShare ((dats V 0 c).before (9 : Fin 12) t d))
        ∗ (∃ d, owns (c : Thread nD τ) (ms10 t) fullShare ((dats V 0 c).before (10 : Fin 12) t d))
        ∗ (∃ d, owns (c : Thread nD τ) (ms11 t) fullShare ((dats V 0 c).before (11 : Fin 12) t d)))
      ⊢ wp frame (wpE (defs₀ (F := 𝔽)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have h0 : t.val ≠ 0 := fun h0 => h1 (by rw [h0])
  have i7 : cfgA.idle (7 : Fin 12) (crd t) = true := by rw [idle_7 t]; simp [hE]
  have f7 : (cfgA.win (7 : Fin 12)).flush t = false := by rw [flush_7 t]; simp [hE]
  have i8 : cfgA.idle (8 : Fin 12) (crd t) = false := by rw [idle_8 t]; simp [hL]
  have f8 : (cfgA.win (8 : Fin 12)).flush t = true := by rw [flush_8 t]; simp [hL]
  have i9 : cfgA.idle (9 : Fin 12) (crd t) = false := by rw [idle_9 t]; simp [hL]
  have f9 : (cfgA.win (9 : Fin 12)).flush t = true := by rw [flush_9 t]; simp [hL]
  have i11 : cfgA.idle (11 : Fin 12) (crd t) = false := by rw [idle_11 t]; simp [hL]
  have f11 : (cfgA.win (11 : Fin 12)).flush t = true := by rw [flush_11 t]; simp [hL]
  have i10 := idle_10 t
  have st : traj V c (t.val + 1) = ⟨newQ (blkT V c t) false (qiT t) (traj V c t.val).q, newK (blkT V c t) false (traj V c t.val).k, newV (blkT V c t) false (traj V c t.val).v, newR (blkT V c t) false (qiT t) (traj V c t.val).r⟩ := by
    rw [traj_succ, decide_eq_false h1]; unfold St.step; rw [decide_eq_false hD]; rfl
  rewrite [i7, i8, i10]
  simp only [before_0, before_1, before_2, before_3, before_4, before_5, before_6, before_7, before_8, before_9, before_10, before_11, after_0, after_1, after_2, after_3, after_4, after_5, after_6, after_7, after_8, after_9, after_10, after_11, f7, f8, f9, f11, h1, ↓reduceIte]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi; simp only [st]
  iintro ⟨⟨⟨%a0, %ha0, HS0⟩, ⟨%a1, %ha1, HS1⟩, ⟨%a2, %ha2, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := ha0 h0; obtain rfl := ha1 h0; obtain rfl := ha2 h0
  iapply (runC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) T0 T1 (blkT V c t) (traj V c t.val).r (traj V c t.val).q (traj V c t.val).k (traj V c t.val).v (qiT t) (kjT t) (word0 t) (word1 t) (fun h => h1 ((crd1 t).symm.trans h)) hlt hL (fun h => hE ((crd1 t).symm.trans h)) d7 d8 d9 d11 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, HT0, HT1, H7, H8, H9, H10, H11, HS0, HS1, HS2⟩
  isplitl [HS0 HS1 HS2 HT0 HT1 Hg]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexists d7; iexact H7
  isplitl [H8]; · iexact H8
  isplitl [H9]; · iexact H9
  isplitl [H10]; · iexact H10
  iexact H11

set_option maxHeartbeats 12000000 in
theorem bodyD (c : Dev nD) (t : Fin cfgA.N) (h1 : t.val % 36 ≠ 0) (hD : qiT t = kjT t) (hL : qiT t ≠ 7) (hE : t.val % 36 ≠ 35) :
    iprop((dats V 0 c).Φ t.castSucc ∗ (dats V 0 c).owesAt () t.castSucc
        ∗ (∃ d, owns (c : Thread nD τ) (ms0 t) fullShare ((dats V 0 c).before (0 : Fin 12) t d))
        ∗ (∃ d, owns (c : Thread nD τ) (ms1 t) fullShare ((dats V 0 c).before (1 : Fin 12) t d))
        ∗ (∃ d, owns (c : Thread nD τ) (ms2 t) fullShare ((dats V 0 c).before (2 : Fin 12) t d))
        ∗ (∃ d, owns (c : Thread nD τ) (ms3 t) fullShare ((dats V 0 c).before (3 : Fin 12) t d))
        ∗ (∃ d, owns (c : Thread nD τ) (ms4 t) fullShare ((dats V 0 c).before (4 : Fin 12) t d))
        ∗ (∃ d, owns (c : Thread nD τ) (ms5 t) fullShare ((dats V 0 c).before (5 : Fin 12) t d))
        ∗ (∃ d, owns (c : Thread nD τ) (ms6 t) fullShare ((dats V 0 c).before (6 : Fin 12) t d))
        ∗ (∃ d, owns (c : Thread nD τ) (ms7 t) fullShare ((dats V 0 c).before (7 : Fin 12) t d))
        ∗ (∃ d, owns (c : Thread nD τ) (ms8 t) fullShare ((dats V 0 c).before (8 : Fin 12) t d))
        ∗ (∃ d, owns (c : Thread nD τ) (ms9 t) fullShare ((dats V 0 c).before (9 : Fin 12) t d))
        ∗ (∃ d, owns (c : Thread nD τ) (ms10 t) fullShare ((dats V 0 c).before (10 : Fin 12) t d))
        ∗ (∃ d, owns (c : Thread nD τ) (ms11 t) fullShare ((dats V 0 c).before (11 : Fin 12) t d)))
      ⊢ wp frame (wpE (defs₀ (F := 𝔽)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have h0 : t.val ≠ 0 := fun h0 => h1 (by rw [h0])
  have i7 : cfgA.idle (7 : Fin 12) (crd t) = true := by rw [idle_7 t]; simp [hE]
  have f7 : (cfgA.win (7 : Fin 12)).flush t = false := by rw [flush_7 t]; simp [hE]
  have i8 : cfgA.idle (8 : Fin 12) (crd t) = true := by rw [idle_8 t]; simp [hL]
  have f8 : (cfgA.win (8 : Fin 12)).flush t = false := by rw [flush_8 t]; simp [hL]
  have i9 : cfgA.idle (9 : Fin 12) (crd t) = true := by rw [idle_9 t]; simp [hL]
  have f9 : (cfgA.win (9 : Fin 12)).flush t = false := by rw [flush_9 t]; simp [hL]
  have i11 : cfgA.idle (11 : Fin 12) (crd t) = true := by rw [idle_11 t]; simp [hL]
  have f11 : (cfgA.win (11 : Fin 12)).flush t = false := by rw [flush_11 t]; simp [hL]
  have i10 := idle_10 t
  have st : traj V c (t.val + 1) = ⟨newQ (blkT V c t) true (qiT t) (traj V c t.val).q, newK (blkT V c t) true zK, newV (blkT V c t) true zV, newR (blkT V c t) true (qiT t) (traj V c t.val).r⟩ := by
    rw [traj_succ, decide_eq_false h1]; unfold St.step; rw [decide_eq_true hD]; rfl
  rewrite [i7, i8, i10]
  simp only [before_0, before_1, before_2, before_3, before_4, before_5, before_6, before_7, before_8, before_9, before_10, before_11, after_0, after_1, after_2, after_3, after_4, after_5, after_6, after_7, after_8, after_9, after_10, after_11, f7, f8, f9, f11, h1, ↓reduceIte]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi; simp only [st]
  iintro ⟨⟨⟨%a0, %ha0, HS0⟩, ⟨%a1, %ha1, HS1⟩, ⟨%a2, %ha2, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := ha0 h0; obtain rfl := ha1 h0; obtain rfl := ha2 h0
  iapply (runD c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) T0 T1 (blkT V c t) (traj V c t.val).r (traj V c t.val).q (traj V c t.val).k (traj V c t.val).v (qiT t) (kjT t) (word0 t) (word1 t) (fun h => h1 ((crd1 t).symm.trans h)) hD hL (fun h => hE ((crd1 t).symm.trans h)) d7 d8 d9 d11 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, HT0, HT1, H7, H8, H9, H10, H11, HS0, HS1, HS2⟩
  isplitl [HS0 HS1 HS2 HT0 HT1 Hg]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexists d7; iexact H7
  isplitl [H8]; · iexists d8; iexact H8
  isplitl [H9]; · iexists d9; iexact H9
  isplitl [H10]; · iexact H10
  iexists d11; iexact H11

set_option maxHeartbeats 12000000 in
theorem bodyE (c : Dev nD) (t : Fin cfgA.N) (h1 : t.val % 36 ≠ 0) (hD : qiT t = kjT t) (hL : qiT t = 7) (hE : t.val % 36 = 35) :
    iprop((dats V 0 c).Φ t.castSucc ∗ (dats V 0 c).owesAt () t.castSucc
        ∗ (∃ d, owns (c : Thread nD τ) (ms0 t) fullShare ((dats V 0 c).before (0 : Fin 12) t d))
        ∗ (∃ d, owns (c : Thread nD τ) (ms1 t) fullShare ((dats V 0 c).before (1 : Fin 12) t d))
        ∗ (∃ d, owns (c : Thread nD τ) (ms2 t) fullShare ((dats V 0 c).before (2 : Fin 12) t d))
        ∗ (∃ d, owns (c : Thread nD τ) (ms3 t) fullShare ((dats V 0 c).before (3 : Fin 12) t d))
        ∗ (∃ d, owns (c : Thread nD τ) (ms4 t) fullShare ((dats V 0 c).before (4 : Fin 12) t d))
        ∗ (∃ d, owns (c : Thread nD τ) (ms5 t) fullShare ((dats V 0 c).before (5 : Fin 12) t d))
        ∗ (∃ d, owns (c : Thread nD τ) (ms6 t) fullShare ((dats V 0 c).before (6 : Fin 12) t d))
        ∗ (∃ d, owns (c : Thread nD τ) (ms7 t) fullShare ((dats V 0 c).before (7 : Fin 12) t d))
        ∗ (∃ d, owns (c : Thread nD τ) (ms8 t) fullShare ((dats V 0 c).before (8 : Fin 12) t d))
        ∗ (∃ d, owns (c : Thread nD τ) (ms9 t) fullShare ((dats V 0 c).before (9 : Fin 12) t d))
        ∗ (∃ d, owns (c : Thread nD τ) (ms10 t) fullShare ((dats V 0 c).before (10 : Fin 12) t d))
        ∗ (∃ d, owns (c : Thread nD τ) (ms11 t) fullShare ((dats V 0 c).before (11 : Fin 12) t d)))
      ⊢ wp frame (wpE (defs₀ (F := 𝔽)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have h0 : t.val ≠ 0 := fun h0 => h1 (by rw [h0])
  have i7 : cfgA.idle (7 : Fin 12) (crd t) = false := by rw [idle_7 t]; simp [hE]
  have f7 : (cfgA.win (7 : Fin 12)).flush t = true := by rw [flush_7 t]; simp [hE]
  have i8 : cfgA.idle (8 : Fin 12) (crd t) = false := by rw [idle_8 t]; simp [hL]
  have f8 : (cfgA.win (8 : Fin 12)).flush t = true := by rw [flush_8 t]; simp [hL]
  have i9 : cfgA.idle (9 : Fin 12) (crd t) = false := by rw [idle_9 t]; simp [hL]
  have f9 : (cfgA.win (9 : Fin 12)).flush t = true := by rw [flush_9 t]; simp [hL]
  have i11 : cfgA.idle (11 : Fin 12) (crd t) = false := by rw [idle_11 t]; simp [hL]
  have f11 : (cfgA.win (11 : Fin 12)).flush t = true := by rw [flush_11 t]; simp [hL]
  have i10 := idle_10 t
  have st : traj V c (t.val + 1) = ⟨newQ (blkT V c t) true (qiT t) (traj V c t.val).q, newK (blkT V c t) true zK, newV (blkT V c t) true zV, newR (blkT V c t) true (qiT t) (traj V c t.val).r⟩ := by
    rw [traj_succ, decide_eq_false h1]; unfold St.step; rw [decide_eq_true hD]; rfl
  rewrite [i7, i8, i10]
  simp only [before_0, before_1, before_2, before_3, before_4, before_5, before_6, before_7, before_8, before_9, before_10, before_11, after_0, after_1, after_2, after_3, after_4, after_5, after_6, after_7, after_8, after_9, after_10, after_11, f7, f8, f9, f11, h1, ↓reduceIte]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi; simp only [st]
  iintro ⟨⟨⟨%a0, %ha0, HS0⟩, ⟨%a1, %ha1, HS1⟩, ⟨%a2, %ha2, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := ha0 h0; obtain rfl := ha1 h0; obtain rfl := ha2 h0
  iapply (runE c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) T0 T1 (blkT V c t) (traj V c t.val).r (traj V c t.val).q (traj V c t.val).k (traj V c t.val).v (qiT t) (kjT t) (word0 t) (word1 t) (fun h => h1 ((crd1 t).symm.trans h)) hD hL ((crd1 t).trans hE) d7 d8 d9 d11 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, HT0, HT1, H7, H8, H9, H10, H11, HS0, HS1, HS2⟩
  isplitl [HS0 HS1 HS2 HT0 HT1 Hg]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexact H7
  isplitl [H8]; · iexact H8
  isplitl [H9]; · iexact H9
  isplitl [H10]; · iexact H10
  iexact H11

/-- The pipeline's obligation on the body, at every point. -/
theorem body_obligation (c : Dev nD) : BodyObligation (dats V 0 c) (defs₀ (F := 𝔽)) Variants.none () Set.univ := fun t => by
  rw [bigSep_W0 (fun w => iprop(∃ d, owns (c : Thread nD τ) ((cfgA.win w).stage (cfgA.slots t w)) fullShare ((dats V 0 c).before w t d)))]
  by_cases h1 : t.val % 36 = 0
  · obtain ⟨hq, hk⟩ := tile_first t h1
    exact bodyA V c t h1 (by rw [hq, hk]) (by rw [hq]; decide) (by omega)
  · by_cases hE : t.val % 36 = 35
    · obtain ⟨hq, hk⟩ := tile_last t hE
      exact bodyE V c t h1 (by rw [hq, hk]) hq hE
    · by_cases hD : qiT t = kjT t
      · exact bodyD V c t h1 hD (tile_zero t h1 hD hE) hE
      · have hlt := lt_of_le_of_ne (tile_le t) (fun h => hD h.symm)
        by_cases hL : qiT t = 7
        · exact bodyC V c t h1 hD hlt hL hE
        · exact bodyB V c t h1 hD hlt hL hE

end Cert.KernelIdeal.Fox

end
-- ==== Proof.Fox.Launch.lean ====
/- The run of the whole program: the host operations, then the kernel at the two tables. -/
module

public import proofs.«01_k».proof.Proof.Fox.Body
public import Idealize.ShloMosaic.Lib.Pipeline.Frame
public import Idealize.ShloMosaic.Lib.StableHlo.RunRead
public import Idealize.ShloMosaic.Lib.Pipeline.Quiescent
public import Idealize.ShloMosaic.Lib.Claim

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt 𝔽) ℕ (UR sig nD τ) ℕ

variable (m : (ℓ : Loc nD τ sig) → Buf (Elt 𝔽) ℓ) (ρ : Dev nD → PrngReg)

/-- The host operations before the kernel. -/
abbrev hostAll : List (List (HloOp τ sig (Elt 𝔽))) := [hostOps0, hostOps0_1, hostOps0_2]

theorem hostAll_fresh : hostAll.Forall fun ops => ops.Forall fun op => op.fresh = ∅ := by
  dsimp only [hostAll, List.Forall, hostOps0, hostOps0_1, hostOps0_2]
  repeat' apply And.intro
  all_goals rfl

/-- The contents of every array when the kernel starts. -/
def V (c : Dev nD) (b : Ref sig .tc) : Buf (Elt 𝔽) ((c.tc : Thread nD τ).loc b) :=
  StableHlo.after hostAll.flatten (fun b => m (c, b)) b

theorem V_arg0 (c : Dev nD) : V m c main_arg0 = m ((c.tc : Thread nD τ).loc main_arg0) := by
  unfold V; dsimp only [hostAll, List.flatten, List.append, hostOps0, hostOps0_1, hostOps0_2]; after_reads_simp
theorem V_arg1 (c : Dev nD) : V m c main_arg1 = m ((c.tc : Thread nD τ).loc main_arg1) := by
  unfold V; dsimp only [hostAll, List.flatten, List.append, hostOps0, hostOps0_1, hostOps0_2]; after_reads_simp
theorem V_arg2 (c : Dev nD) : V m c main_arg2 = m ((c.tc : Thread nD τ).loc main_arg2) := by
  unfold V; dsimp only [hostAll, List.flatten, List.append, hostOps0, hostOps0_1, hostOps0_2]; after_reads_simp
theorem V_tabQ (c : Dev nD) : V m c main_c = T0 := by
  unfold V; dsimp only [hostAll, List.flatten, List.append, hostOps0, hostOps0_1, hostOps0_2]; after_reads_simp; rfl
theorem V_tabK (c : Dev nD) : V m c main_c_0 = T1 := by
  unfold V; dsimp only [hostAll, List.flatten, List.append, hostOps0, hostOps0_1, hostOps0_2]; after_reads_simp; rfl

theorem V_pre (c : Dev nD) (k : Fin 2) : V m c (pre0.ref k) = adm.1 k := by
  fin_cases k
  · exact V_tabQ m c
  · exact V_tabK m c

/-- The tables as the launch hands them to the region, one by one. -/
theorem prefHeld_eq (c : Dev nD) (q : Fin 2 → PosShare TreeShare) (v : pre0.Contents (Elt 𝔽)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches. -/
theorem phi_intro (c : Dev nD) :
    iprop(Pipeline.ΦA cfgA.spec c ∗ Pipeline.ΦT pre0 adm.1 c) ⊢ (dats (V m) 0 c).Φ 0 := by
  unfold Pipeline.ΦA Pipeline.ΦT
  rw [prefHeld_eq, show (Pipeline.scopedRest (Ix := Unit) (Name := ℕ) (U := UR sig nD τ) (Lvl := ℕ) (Val := Elt 𝔽) cfgA.spec c : sProp 𝕄) = _ from scopedRest0_eq c,
    show (dats (V m) 0 c).Φ 0 = Phi (V m) c 0 from rfl]
  unfold Phi
  iintro ⟨⟨⟨⟨%a0, HS0⟩, ⟨%a1, HS1⟩, ⟨%a2, HS2⟩⟩, Hg⟩, HT0, HT1⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]; · iexact HT0
  isplitl [HT1]; · iexact HT1
  iexact Hg

/-- The scratches given back at the last point. -/
theorem phi_exit (c : Dev nD) : (dats (V m) 0 c).Φ (Fin.last cfgA.N) ⊢ Pipeline.ΦA cfgA.spec c := by
  unfold Pipeline.ΦA
  rw [show (Pipeline.scopedRest (Ix := Unit) (Name := ℕ) (U := UR sig nD τ) (Lvl := ℕ) (Val := Elt 𝔽) cfgA.spec c : sProp 𝕄) = _ from scopedRest0_eq c,
    show (dats (V m) 0 c).Φ (Fin.last cfgA.N) = Phi (V m) c cfgA.N from rfl]
  unfold Phi
  iintro ⟨⟨%a0, -, HS0⟩, ⟨%a1, -, HS1⟩, ⟨%a2, -, HS2⟩, -, -, Hg⟩
  isplitr [Hg]
  · isplitl [HS0]
    · iexists a0; iexact HS0
    isplitl [HS1]
    · iexists a1; iexact HS1
    iexists a2; iexact HS2
  iexact Hg

/-- The pipeline of the program, and its proof data. -/
abbrev post (r : PUnit × MemSt nD τ sig (Elt 𝔽)) : Prop :=
  Pipeline.FramePost (Pipeline.pin (pcfgs (F := 𝔽)) fun _ => adm) (dats (V m)) 0 (V m) r

set_option backward.isDefEq.respectTransparency.types false in
set_option maxHeartbeats 4000000 in
/-- Every execution ends with each array at what the proof data compute and every semaphore at zero. -/
theorem run_main : θ_run (defs (F := 𝔽)) (onTc (τ := τ) (main (F := 𝔽))) ⟨m, fun _ => 0, ρ⟩ (fun r => post m r ∧ r.2.sem = fun _ => 0) :=
  Pipeline.θ_run_frameP_track_shared (Q' := _) (pcfgs (F := 𝔽)) (fun _ => adm) (dats (V m)) (0 : Fin 1) launch₀0 defs₀ Variants.none m ρ main
    (hbody := fun c => (body_obligation (V m) c).loose)
    (hq := fun _ _ _ => rfl) (howed := fun _ _ => rfl) (V := V m)
    (hmain := Pipeline.hmainP_prefixes (pcfgs (F := 𝔽)) 0 defs₀ Variants.none m main hostAll ⟨hostOps0_sub, hostOps0_1_sub, hostOps0_2_sub⟩
      hostAll_fresh
      (fun c => main_chain c))
    (hA := fun _ _ => rfl) (hpf := V_pre m) (hin := phi_intro m) (hout := phi_exit m)

/-- The arguments end as they began. -/
theorem args_kept {r : PUnit × MemSt nD τ sig (Elt 𝔽)} (h : post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).1 (0 : Fin 12)).trans ((dats (V m) 0 c).arrAt_in (0 : Fin 12) rfl _)).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c)⟩

/-- The frame: every execution ends, the arguments as they began and every semaphore at zero. -/
theorem frame_run : θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_kept m h.1 c, h.2⟩) (run_main m ρ)

end Cert.KernelIdeal.Fox

end
-- ==== Proof.Ref.Stages.lean ====
/- The reference's arithmetic in stages: the scores, the probabilities, their gradients. -/
module

public import proofs.«01_k».proof.Proof.Gen.ReferenceIdeal.Run
public import Idealize.ShloMosaic.Lib.Pointwise
public import Idealize.ShloMosaic.Lib.IdealHost
public import Idealize.ShloMosaic.Lib.WordCmp

@[expose] public section

set_option maxRecDepth 16384

noncomputable section

namespace Cert.ReferenceIdeal.Ref

open Cert.ReferenceIdeal Cert.ReferenceIdeal.Gen
open Idealize.ShloMosaic Idealize.ShloMosaic.TcCoe

abbrev 𝔽 : FTy → Type := Idealize.ShloMosaic.Ideal

variable (X0 : FVec 𝔽 S8192x7168 .f32) (X1 : FVec 𝔽 S8192x8 .f32) (X2 : FVec 𝔽 S8192x1024 .f32)

/-- The scaled queries, the keys, the values and the cotangents, head by head. -/
def rQ : FVec 𝔽 S8x8192x128 .f32 :=
  mulf (transpose S8x8192x128 [1, 0, 2] (shapeCast _ (extractStridedSlice S8192x1024 ![0, 4096] X0 slices_S8192x7168_S8192x1024_0_4096) shapeCasts_S8192x1024_S8192x8x128) transposes_S8192x8x128_S8x8192x128_1_0_2)
    (broadcastInDim S8x8192x128 ![] bcast_S_S8x8192x128 (constant S_ .f32 0x3DB504F3#32))
def rK : FVec 𝔽 S8x8192x128 .f32 :=
  transpose S8x8192x128 [1, 0, 2] (shapeCast _ (extractStridedSlice S8192x1024 ![0, 5120] X0 slices_S8192x7168_S8192x1024_0_5120) shapeCasts_S8192x1024_S8192x8x128) transposes_S8192x8x128_S8x8192x128_1_0_2
def rV : FVec 𝔽 S8x8192x128 .f32 :=
  transpose S8x8192x128 [1, 0, 2] (shapeCast _ (extractStridedSlice S8192x1024 ![0, 6144] X0 slices_S8192x7168_S8192x1024_0_6144) shapeCasts_S8192x1024_S8192x8x128) transposes_S8192x8x128_S8x8192x128_1_0_2
def rO : FVec 𝔽 S8x8192x128 .f32 :=
  transpose S8x8192x128 [1, 0, 2] (shapeCast _ X2 shapeCasts_S8192x1024_S8192x8x128) transposes_S8192x8x128_S8x8192x128_1_0_2

/-- Which key a query may see. -/
def rB : S8x8192x8192.Idx → Elt 𝔽 .i1 :=
  broadcastInDim S8x8192x8192 ![0, 1, 2] bcast_S1x8192x8192_S8x8192x8192_0_1_2 (broadcastInDim S1x8192x8192 ![1, 2] bcast_S8192x8192_S1x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))

/-- The scores before the mask, and after. -/
def rZ0 : FVec 𝔽 S8x8192x8192 .f32 :=
  subf (addf (Host.dotGeneral dot_S8x8192x128_S8x8192x128_S8x8192x8192_2_2_1_1_0_0 none (rQ X0) (rK X0))
    (broadcastInDim S8x8192x8192 ![0, 1, 2] bcast_S8x8192x1_S8x8192x8192_0_1_2 (broadcastInDim S8x8192x1 ![0, 1] bcast_S8x8192_S8x8192x1_0_1 (transpose S8x8192 [1, 0] X1 transposes_S8192x8_S8x8192_1_0))))
    (broadcastInDim S8x8192x8192 ![0, 1, 2] bcast_S8x1x8192_S8x8192x8192_0_1_2 (broadcastInDim S8x1x8192 ![0, 2] bcast_S8x8192_S8x1x8192_0_2 (transpose S8x8192 [1, 0] X1 transposes_S8192x8_S8x8192_1_0)))
def rZ : FVec 𝔽 S8x8192x8192 .f32 :=
  select rB (rZ0 X0 X1) (broadcastInDim S8x8192x8192 ![] bcast_S_S8x8192x8192 (id (constant S_ .f32 0xFF800000#32)))

/-- A query's greatest score. -/
def rM : FVec 𝔽 S8x8192 .f32 :=
  Host.reduce FloatOps.maximumf (rZ X0 X1) (constant S_ .f32 0xFF800000#32) reducesTo_S8x8192x8192_S8x8192_d2 h_S_

/-- The weights, their sum, the probabilities. -/
def rE : FVec 𝔽 S8x8192x8192 .f32 :=
  Host.exp (subf (rZ X0 X1) (broadcastInDim S8x8192x8192 ![0, 1, 2] bcast_S8x8192x1_S8x8192x8192_0_1_2 (broadcastInDim S8x8192x1 ![0, 1] bcast_S8x8192_S8x8192x1_0_1
    (maximumf (broadcastInDim S8x8192 ![] bcast_S_S8x8192 (constant S_ .f32 0xFF800000#32)) (rM X0 X1)))))
def rL : FVec 𝔽 S8x8192x1 .f32 :=
  broadcastInDim S8x8192x1 ![0, 1] bcast_S8x8192_S8x8192x1_0_1 (Host.reduceAdd (rE X0 X1) (constant S_ .f32 0x00000000#32) reducesTo_S8x8192x8192_S8x8192_d2 h_S_)
def rP : FVec 𝔽 S8x8192x8192 .f32 :=
  Host.divf (rE X0 X1) (broadcastInDim S8x8192x8192 ![0, 1, 2] bcast_S8x8192x1_S8x8192x8192_0_1_2 (rL X0 X1))

/-- The gradients of the probabilities, of the weights, of the scores. -/
def rDP : FVec 𝔽 S8x8192x8192 .f32 :=
  Host.dotGeneral dot_S8x8192x128_S8x8192x128_S8x8192x8192_2_2_1_1_0_0 none (rO X2) (rV X0)
def rI : FVec 𝔽 S8x8192x1 .f32 :=
  Host.divf (broadcastInDim S8x8192x1 ![] bcast_S_S8x8192x1 (constant S_ .f32 0x3F800000#32)) (mulf (rL X0 X1) (rL X0 X1))
def rN : FVec 𝔽 S8x8192 .f32 :=
  Host.reduceAdd (Host.negf (shapeCast _ (Host.reduceAdd (mulf (mulf (rDP X0 X2) (broadcastInDim S8x8192x8192 ![0, 1, 2] bcast_S8x8192x1_S8x8192x8192_0_1_2 (rI X0 X1))) (rE X0 X1)) (constant S_ .f32 0x00000000#32) reducesTo_S8x8192x8192_S8x8192_d2 h_S_) shapeCasts_S8x8192_S8x8192x1))
    (constant S_ .f32 0x00000000#32) reducesTo_S8x8192x1_S8x8192_d2 h_S_
def rDE : FVec 𝔽 S8x8192x8192 .f32 :=
  mulf (addf (Host.divf (rDP X0 X2) (broadcastInDim S8x8192x8192 ![0, 1, 2] bcast_S8x8192x1_S8x8192x8192_0_1_2 (rL X0 X1))) (broadcastInDim S8x8192x8192 ![0, 1] bcast_S8x8192_S8x8192x8192_0_1 (rN X0 X1 X2))) (rE X0 X1)
def rDS : FVec 𝔽 S8x8192x8192 .f32 :=
  select rB (rDE X0 X1 X2) (broadcastInDim S8x8192x8192 ![] bcast_S_S8x8192x8192 (constant S_ .f32 0x00000000#32))

/-- The five results. -/
def rDQ : FVec 𝔽 S8192x1024 .bf16 :=
  truncf .bf16 (shapeCast S8192x1024 (transpose S8192x8x128 [1, 0, 2] (mulf (Host.dotGeneral dot_S8x8192x8192_S8x8192x128_S8x8192x128_2_1_1_2_0_0 none (rDS X0 X1 X2) (rK X0)) (broadcastInDim S8x8192x128 ![] bcast_S_S8x8192x128 (constant S_ .f32 0x3DB504F3#32))) transposes_S8x8192x128_S8192x8x128_1_0_2) shapeCasts_S8192x8x128_S8192x1024 : FVec 𝔽 S8192x1024 .f32) bitsLt_bf16_f32
def rDK : FVec 𝔽 S8192x1024 .bf16 :=
  truncf .bf16 (shapeCast S8192x1024 (transpose S8192x8x128 [1, 0, 2] (Host.dotGeneral dot_S8x8192x8192_S8x8192x128_S8x8192x128_1_1_2_2_0_0 none (rDS X0 X1 X2) (rQ X0)) transposes_S8x8192x128_S8192x8x128_1_0_2) shapeCasts_S8192x8x128_S8192x1024 : FVec 𝔽 S8192x1024 .f32) bitsLt_bf16_f32
def rDV : FVec 𝔽 S8192x1024 .bf16 :=
  truncf .bf16 (shapeCast S8192x1024 (transpose S8192x8x128 [1, 0, 2] (transpose S8x8192x128 [0, 2, 1] (Host.dotGeneral dot_S8x8192x128_S8x8192x8192_S8x128x8192_1_1_2_2_0_0 none (rO X2) (rP X0 X1)) transposes_S8x128x8192_S8x8192x128_0_2_1) transposes_S8x8192x128_S8192x8x128_1_0_2) shapeCasts_S8192x8x128_S8192x1024 : FVec 𝔽 S8192x1024 .f32) bitsLt_bf16_f32
def rDR : FVec 𝔽 S8x8x1024 .f32 :=
  shapeCast _ (transpose S8x8192 [1, 0] (transpose S8192x8 [1, 0] (Host.reduceAdd (shapeCast _ (Host.reduceAdd (rDS X0 X1 X2) (constant S_ .f32 0x00000000#32) reducesTo_S8x8192x8192_S8x8192_d2 h_S_) shapeCasts_S8x8192_S8x8192x1) (constant S_ .f32 0x00000000#32) reducesTo_S8x8192x1_S8x8192_d2 h_S_) transposes_S8x8192_S8192x8_1_0) transposes_S8192x8_S8x8192_1_0) shapeCasts_S8x8192_S8x8x1024
def rDC : FVec 𝔽 S8x8192x1 .f32 :=
  Host.negf (shapeCast _ (transpose S8x8192 [1, 0] (transpose S8192x8 [1, 0] (Host.reduceAdd (shapeCast _ (Host.reduceAdd (Host.negf (rDS X0 X1 X2)) (constant S_ .f32 0x00000000#32) reducesTo_S8x8192x8192_S8x8192_d1 h_S_) shapeCasts_S8x8192_S8x1x8192) (constant S_ .f32 0x00000000#32) reducesTo_S8x1x8192_S8x8192_d1 h_S_) transposes_S8x8192_S8192x8_1_0) transposes_S8192x8_S8x8192_1_0) shapeCasts_S8x8192_S8x8192x1)

end Cert.ReferenceIdeal.Ref

end
-- ==== Proof.Spec.lean ====
/- The gradient of the forgetting attention over the real numbers, and the two ways of getting its probabilities: from
   the weights and their sum, and from the saved log-sum. -/
module

public import Idealize.ShloMosaic.PureOps.Ideal
public import Idealize.ShloMosaic.Lib.IdealHost
public import Mathlib.Analysis.SpecialFunctions.Log.Basic
public import Mathlib.Tactic.Ring
public import Mathlib.Tactic.FieldSimp

@[expose] public section

noncomputable section

namespace Cert.Fox

open Idealize.ShloMosaic

/-- A finite sum of real numbers, read among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The factor of the scores, as a real number. -/
def scl : ℝ := (Ideal.ofBits .f32 0x3DB504F3#32).toReal

theorem ofBits_scl : Ideal.ofBits .f32 0x3DB504F3#32 = (scl : EReal) := by
  refine (EReal.coe_toReal ?_ ?_).symm <;>
    · simp only [Ideal.ofBits, Ideal.ieee]
      first | exact EReal.coe_ne_top _ | exact EReal.coe_ne_bot _ | (simp; first | exact EReal.coe_ne_top _ | exact EReal.coe_ne_bot _)

/-- The pattern of minus infinity stands for it. -/
theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

/-- A quotient of real numbers. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem exp_bot_sub (a : ℝ) : Ideal.exp ((⊥ : EReal) - (a : EReal)) = ((0 : ℝ) : EReal) := by
  rw [EReal.bot_sub]; rfl

theorem exp_real (a b : ℝ) : Ideal.exp ((a : EReal) - (b : EReal)) = ((Real.exp (a - b) : ℝ) : EReal) := by
  rw [← EReal.coe_sub]; rfl

theorem log_real (a : ℝ) (ha : 0 < a) : Ideal.log (a : EReal) = ((Real.log a : ℝ) : EReal) := by
  show (if a ≤ 0 then (⊥ : EReal) else _) = _
  rw [if_neg (not_le.2 ha)]

/-- The greatest of finitely many scores is a real number, when each is one or minus infinity and one at least is one. -/
theorem max_real {ι : Type} [Fintype ι] (f : ι → EReal) (hf : ∀ i, f i ≠ ⊤) (i : ι) (hi : f i ≠ ⊥) :
    ((Finset.univ.fold max (⊥ : EReal) f).toReal : EReal) = Finset.univ.fold max (⊥ : EReal) f := by
  refine EReal.coe_toReal (ne_of_lt ?_) (ne_of_gt ?_)
  · rw [Finset.fold_max_lt]
    exact ⟨bot_lt_top, fun x _ => lt_top_iff_ne_top.2 (hf x)⟩
  · rw [Finset.lt_fold_max]
    exact Or.inr ⟨i, Finset.mem_univ _, bot_lt_iff_ne_bot.2 hi⟩

/-- The attention's numbers: queries, keys, values and cotangents of every head, and the running sums of the gates. -/
structure Att where
  q : Fin 8 → Fin 8192 → Fin 128 → ℝ
  k : Fin 8 → Fin 8192 → Fin 128 → ℝ
  v : Fin 8 → Fin 8192 → Fin 128 → ℝ
  o : Fin 8 → Fin 8192 → Fin 128 → ℝ
  c : Fin 8 → Fin 8192 → ℝ

namespace Att
variable (A : Att) (h : Fin 8)

/-- The score of key `k` for query `t`. -/
def Z (t k : Fin 8192) : ℝ := (∑ d, (A.q h t d * scl) * A.k h k d) + A.c h t - A.c h k

/-- The weight of key `k` for query `t`, the scores shifted by `M`; a later key has none. -/
def W (M : ℝ) (t k : Fin 8192) : ℝ := if k.val ≤ t.val then Real.exp (A.Z h t k - M) else 0
def L (M : ℝ) (t : Fin 8192) : ℝ := ∑ k, A.W h M t k

theorem W_nonneg (M : ℝ) (t k : Fin 8192) : 0 ≤ A.W h M t k := by
  unfold W; split_ifs; exacts [(Real.exp_pos _).le, le_rfl]

/-- The sum of the weights is positive: a query sees itself. -/
theorem L_pos (M : ℝ) (t : Fin 8192) : 0 < A.L h M t := by
  refine Finset.sum_pos' (fun k _ => A.W_nonneg h M t k) ⟨t, Finset.mem_univ _, ?_⟩
  rw [W, if_pos le_rfl]; exact Real.exp_pos _

/-- The probability; it does not depend on the shift. -/
def P (t k : Fin 8192) : ℝ := A.W h 0 t k / A.L h 0 t

theorem W_shift (M : ℝ) (t k : Fin 8192) : A.W h M t k = Real.exp (-M) * A.W h 0 t k := by
  unfold W
  split_ifs
  · rw [← Real.exp_add]; congr 1; ring
  · rw [mul_zero]

theorem L_shift (M : ℝ) (t : Fin 8192) : A.L h M t = Real.exp (-M) * A.L h 0 t := by
  unfold L
  rw [Finset.mul_sum]
  exact Finset.sum_congr rfl fun k _ => A.W_shift h M t k

theorem P_eq (M : ℝ) (t k : Fin 8192) : A.W h M t k / A.L h M t = A.P h t k := by
  rw [W_shift, L_shift, P, mul_div_mul_left _ _ (Real.exp_ne_zero _)]

/-- The probability from the saved log-sum, with the query's own gate taken off both. -/
theorem P_log (M : ℝ) (t k : Fin 8192) :
    (if t.val < k.val then 0 else Real.exp (∑ d, A.k h k d * (A.q h t d * scl) - A.c h k - (M + Real.log (A.L h M t) - A.c h t))) = A.P h t k := by
  rw [← A.P_eq h M t k, W]
  by_cases hk : k.val ≤ t.val
  · rw [if_neg (not_lt.2 hk), if_pos hk]
    have e : ∑ d, A.k h k d * (A.q h t d * scl) = ∑ d, (A.q h t d * scl) * A.k h k d := Finset.sum_congr rfl fun d _ => mul_comm _ _
    rw [e, show (∑ d, (A.q h t d * scl) * A.k h k d) - A.c h k - (M + Real.log (A.L h M t) - A.c h t) = (A.Z h t k - M) - Real.log (A.L h M t) by unfold Z; ring,
      Real.exp_sub, Real.exp_log (A.L_pos h M t)]
  · rw [if_pos (not_le.1 hk), if_neg hk, zero_div]

theorem P_late (t k : Fin 8192) (hk : ¬ k.val ≤ t.val) : A.P h t k = 0 := by
  rw [P, W, if_neg hk, zero_div]

/-- The gradient of the probability, its mean, the gradient of the score. -/
def dP (t k : Fin 8192) : ℝ := ∑ d, A.o h t d * A.v h k d
def D (t : Fin 8192) : ℝ := ∑ k, A.P h t k * A.dP h t k
def dS (t k : Fin 8192) : ℝ := A.P h t k * (A.dP h t k - A.D h t)

/-- The gradients: of the queries, the keys, the values, the row sums and the column sums. -/
def dQ (t : Fin 8192) (d : Fin 128) : ℝ := (∑ k, A.dS h t k * A.k h k d) * scl
def dK (k : Fin 8192) (d : Fin 128) : ℝ := ∑ t, A.dS h t k * (A.q h t d * scl)
def dV (k : Fin 8192) (d : Fin 128) : ℝ := ∑ t, A.o h t d * A.P h t k
def dR (t : Fin 8192) : ℝ := ∑ k, A.dS h t k
def dC (k : Fin 8192) : ℝ := ∑ t, A.dS h t k

/-- The mean, as the cotangent times the attention's output. -/
theorem D_out (t : Fin 8192) : ∑ d, A.o h t d * (∑ k, A.P h t k * A.v h k d) = A.D h t := by
  unfold D dP
  simp only [Finset.mul_sum]
  rw [Finset.sum_comm]
  exact Finset.sum_congr rfl fun k _ => Finset.sum_congr rfl fun d _ => by ring

theorem dS_late (t k : Fin 8192) (hk : ¬ k.val ≤ t.val) : A.dS h t k = 0 := by
  rw [dS, P_late A h t k hk, zero_mul]

/-- The gradient of the score through the quotient of the weight by the sum. -/
theorem dS_quot (M : ℝ) (t k : Fin 8192) :
    (A.dP h t k / A.L h M t + -(∑ k', A.dP h t k' * (1 / (A.L h M t * A.L h M t)) * A.W h M t k')) * A.W h M t k = A.dS h t k := by
  have hL : A.L h M t ≠ 0 := (A.L_pos h M t).ne'
  have e : ∑ k', A.dP h t k' * (1 / (A.L h M t * A.L h M t)) * A.W h M t k' = A.D h t / A.L h M t := by
    rw [D, Finset.sum_div]
    refine Finset.sum_congr rfl fun k' _ => ?_
    rw [← A.P_eq h M t k']
    field_simp
  rw [e, dS, ← A.P_eq h M t k]
  field_simp
  ring

end Att

end Cert.Fox

end
-- ==== Proof.Ref.Real.lean ====
/- The reference's stages entry by entry, when its arguments hold real numbers: its results are the gradients of the
   attention over the real numbers. -/
module

public import proofs.«01_k».proof.Proof.Ref.Stages
public import proofs.«01_k».proof.Proof.Spec

@[expose] public section

set_option maxRecDepth 16384

noncomputable section

namespace Cert.ReferenceIdeal.Ref

open Cert.ReferenceIdeal Cert.ReferenceIdeal.Gen
open Idealize.ShloMosaic Idealize.ShloMosaic.TcCoe Cert.Fox

/-- Column `d` of head `h` among the columns of all heads. -/
def col (h : Fin 8) (d : Fin 128) : Fin 1024 := ⟨h.val * 128 + d.val, by omega⟩

/-- The attention's numbers, from the real numbers that the arguments hold. -/
def att (x0 : Fin 8192 → Fin 7168 → ℝ) (x1 : Fin 8192 → Fin 8 → ℝ) (x2 : Fin 8192 → Fin 1024 → ℝ) : Att where
  q h t d := x0 t ⟨4096 + (h.val * 128 + d.val), by omega⟩
  k h t d := x0 t ⟨5120 + (h.val * 128 + d.val), by omega⟩
  v h t d := x0 t ⟨6144 + (h.val * 128 + d.val), by omega⟩
  o h t d := x2 t ⟨h.val * 128 + d.val, by omega⟩
  c h t := x1 t h

section Generic
variable (Z : FVec 𝔽 S8x8192x8192 .f32) (M : FVec 𝔽 S8x8192 .f32) (h : Fin 8) (t k : Fin 8192)

theorem expsub : Host.exp (subf Z (broadcastInDim S8x8192x8192 ![0, 1, 2] bcast_S8x8192x1_S8x8192x8192_0_1_2 (broadcastInDim S8x8192x1 ![0, 1] bcast_S8x8192_S8x8192x1_0_1 M))) (ix3 h t k)
    = Idealize.ShloMosaic.Ideal.exp (Z (ix3 h t k) - M (ix2 h t)) := by
  pointwise

theorem maxbot : maximumf (broadcastInDim S8x8192 ![] bcast_S_S8x8192 (constant S_ .f32 0xFF800000#32)) M (ix2 h t) = M (ix2 h t) := by
  pointwise
  rw [ofBits_bot]; exact max_bot_left _

theorem maxfold : Host.reduce FloatOps.maximumf Z (constant S_ .f32 0xFF800000#32) reducesTo_S8x8192x8192_S8x8192_d2 h_S_ (ix2 h t)
    = Finset.univ.fold max (⊥ : EReal) (fun k : Fin 8192 => Z (ix3 h t k)) := by
  pointwise
  rw [ofBits_bot]

theorem sumlast : broadcastInDim S8x8192x1 ![0, 1] bcast_S8x8192_S8x8192x1_0_1 (Host.reduceAdd Z (constant S_ .f32 0x00000000#32) reducesTo_S8x8192x8192_S8x8192_d2 h_S_) (ix3 h t 0)
    = ∑ k, Z (ix3 h t k) := by
  pointwise

theorem seen : rB (ix3 h t k) = BitVec.ofBool (decide (k.val ≤ t.val)) := by
  pointwise [rB]
  exact WordCmp.cmpi_sge_ofNat (w := 32) (by have := t.isLt; omega) (by have := k.isLt; omega)

theorem sel (p : Prop) [Decidable p] {α : Type} (a b : α) : Scalar.select (BitVec.ofBool (decide p)) a b = if p then a else b := by
  by_cases h : p <;> simp [h, Scalar.select]

theorem negbot : (id (constant (F := 𝔽) S_ .f32 4286578688#32)) ix0 = (⊥ : EReal) := ofBits_bot

end Generic

variable {X0 : FVec 𝔽 S8192x7168 .f32} {X1 : FVec 𝔽 S8192x8 .f32} {X2 : FVec 𝔽 S8192x1024 .f32}
  {x0 : Fin 8192 → Fin 7168 → ℝ} {x1 : Fin 8192 → Fin 8 → ℝ} {x2 : Fin 8192 → Fin 1024 → ℝ}
  (h0 : ∀ t n, X0 (ix2 t n) = (x0 t n : EReal)) (h1 : ∀ t n, X1 (ix2 t n) = (x1 t n : EReal)) (h2 : ∀ t n, X2 (ix2 t n) = (x2 t n : EReal))
  (h : Fin 8) (t k : Fin 8192) (d : Fin 128)

local notation "𝐀" => att x0 x1 x2

section
include h0

theorem rQ_real : rQ X0 (ix3 h t d) = ((𝐀.q h t d * scl : ℝ) : EReal) := by
  pointwise [rQ]
  rw [h0, ofBits_scl, ← EReal.coe_mul]; rfl
theorem rK_real : rK X0 (ix3 h t d) = (𝐀.k h t d : EReal) := by
  pointwise [rK]
  rw [h0]; rfl
theorem rV_real : rV X0 (ix3 h t d) = (𝐀.v h t d : EReal) := by
  pointwise [rV]
  rw [h0]; rfl
end

include h2 in
theorem rO_real : rO X2 (ix3 h t d) = (𝐀.o h t d : EReal) := by
  pointwise [rO]
  rw [h2]; rfl

section
include h0 h1

theorem rZ_real : rZ X0 X1 (ix3 h t k) = if k.val ≤ t.val then (𝐀.Z h t k : EReal) else ⊥ := by
  have e : rZ0 X0 X1 (ix3 h t k) = (𝐀.Z h t k : EReal) := by
    pointwise [rZ0]
    rw [h1, h1, Finset.sum_congr rfl (fun d _ => by rw [rQ_real (x1 := x1) (x2 := x2) h0, rK_real (x1 := x1) (x2 := x2) h0, ← EReal.coe_mul]), coe_sum, ← EReal.coe_add, ← EReal.coe_sub]
    rfl
  pointwise [rZ]
  rw [negbot, seen, e, sel]

/-- A query's greatest score, as a real number. -/
theorem rM_real : ((rM X0 X1 (ix2 h t)).toReal : EReal) = rM X0 X1 (ix2 h t) := by
  rw [show rM X0 X1 (ix2 h t) = _ from maxfold (rZ X0 X1) h t]
  refine max_real _ (fun k => ?_) t ?_
  · rw [rZ_real (x2 := fun _ _ => 0) h0 h1]; split_ifs; exacts [EReal.coe_ne_top _, bot_ne_top]
  · rw [rZ_real (x2 := fun _ _ => 0) h0 h1, if_pos le_rfl]; exact EReal.coe_ne_bot _

local notation "𝐌" => EReal.toReal (rM X0 X1 (ix2 h t))

theorem rE_real : rE X0 X1 (ix3 h t k) = (𝐀.W h 𝐌 t k : EReal) := by
  refine (expsub _ _ h t k).trans ?_
  rw [maxbot]
  refine (congrArg₂ (fun a b => Idealize.ShloMosaic.Ideal.exp (a - b)) (rZ_real (x2 := x2) h0 h1 h t k) (rM_real h0 h1 h t).symm).trans ?_
  show Idealize.ShloMosaic.Ideal.exp ((if k.val ≤ t.val then _ else _) - _) = _
  rw [Att.W]
  split_ifs
  · exact exp_real _ _
  · exact exp_bot_sub _

theorem rL_real : rL X0 X1 (ix3 h t 0) = (𝐀.L h 𝐌 t : EReal) := by
  rw [show rL X0 X1 (ix3 h t 0) = _ from sumlast _ h t, Finset.sum_congr rfl (fun k _ => rE_real (x2 := x2) h0 h1 h t k), coe_sum]; rfl

theorem rP_real : rP X0 X1 (ix3 h t k) = (𝐀.P h t k : EReal) := by
  pointwise [rP]
  rw [rE_real (x2 := x2) h0 h1, rL_real (x2 := x2) h0 h1, div_real _ _ (Att.L_pos _ _ _ _).ne', Att.P_eq]

theorem rI_real : rI X0 X1 (ix3 h t 0) = ((1 / (𝐀.L h 𝐌 t * 𝐀.L h 𝐌 t) : ℝ) : EReal) := by
  pointwise [rI]
  have hL := (Att.L_pos (att x0 x1 x2) h (EReal.toReal (rM X0 X1 (ix2 h t))) t).ne'
  rw [rL_real (x2 := x2) h0 h1, ← EReal.coe_mul, ← EReal.coe_one, div_real _ _ (mul_ne_zero hL hL)]

include h2

omit h1 in
theorem rDP_real : rDP X0 X2 (ix3 h t k) = (𝐀.dP h t k : EReal) := by
  pointwise [rDP]
  rw [Finset.sum_congr rfl (fun d _ => by rw [rO_real (x0 := x0) (x1 := x1) h2, rV_real (x1 := x1) (x2 := x2) h0, ← EReal.coe_mul]), coe_sum]
  rfl

theorem rN_real : rN X0 X1 X2 (ix2 h t)
    = ((-(∑ k, 𝐀.dP h t k * (1 / (𝐀.L h 𝐌 t * 𝐀.L h 𝐌 t)) * 𝐀.W h 𝐌 t k) : ℝ) : EReal) := by
  pointwise [rN]
  rw [Fin.sum_univ_one, Finset.sum_congr rfl (fun k _ => by
    rw [rDP_real (x1 := x1) h0 h2, rI_real (x2 := x2) h0 h1, rE_real (x2 := x2) h0 h1, ← EReal.coe_mul, ← EReal.coe_mul]), coe_sum, ← EReal.coe_neg]

theorem rDE_real : rDE X0 X1 X2 (ix3 h t k) = (𝐀.dS h t k : EReal) := by
  pointwise [rDE]
  rw [rDP_real (x1 := x1) h0 h2, rL_real (x2 := x2) h0 h1, rN_real h0 h1 h2, rE_real (x2 := x2) h0 h1, div_real _ _ (Att.L_pos _ _ _ _).ne',
    ← EReal.coe_add, ← EReal.coe_mul, Att.dS_quot]

theorem rDS_real : rDS X0 X1 X2 (ix3 h t k) = (𝐀.dS h t k : EReal) := by
  pointwise [rDS]
  rw [rDE_real h0 h1 h2, seen, sel]
  split_ifs with hk
  · rfl
  · rw [Att.dS_late _ _ _ _ hk]; rfl

/-- The gradient of the queries. -/
theorem rDQ_real : rDQ X0 X1 X2 (ix2 t (col h d)) = (𝐀.dQ h t d : EReal) := by
  pointwise [rDQ]
  have eh : (⟨(col h d).val / 128, by have := (col h d).isLt; omega⟩ : Fin 8) = h := Fin.ext (by simp only [col]; omega)
  have ed : (⟨(col h d).val % 128, Nat.mod_lt _ (by decide)⟩ : Fin 128) = d := Fin.ext (by simp only [col]; omega)
  simp only [eh, ed]
  rw [Finset.sum_congr rfl (fun k _ => by rw [rDS_real h0 h1 h2, rK_real (x1 := x1) (x2 := x2) h0, ← EReal.coe_mul]), coe_sum, ofBits_scl, ← EReal.coe_mul]
  rfl

/-- The gradient of the keys. -/
theorem rDK_real : rDK X0 X1 X2 (ix2 k (col h d)) = (𝐀.dK h k d : EReal) := by
  pointwise [rDK]
  have eh : (⟨(col h d).val / 128, by have := (col h d).isLt; omega⟩ : Fin 8) = h := Fin.ext (by simp only [col]; omega)
  have ed : (⟨(col h d).val % 128, Nat.mod_lt _ (by decide)⟩ : Fin 128) = d := Fin.ext (by simp only [col]; omega)
  simp only [eh, ed]
  rw [Finset.sum_congr rfl (fun t _ => by rw [rDS_real h0 h1 h2, rQ_real (x1 := x1) (x2 := x2) h0, ← EReal.coe_mul]), coe_sum]
  rfl

/-- The gradient of the values. -/
theorem rDV_real : rDV X0 X1 X2 (ix2 k (col h d)) = (𝐀.dV h k d : EReal) := by
  pointwise [rDV]
  have eh : (⟨(col h d).val / 128, by have := (col h d).isLt; omega⟩ : Fin 8) = h := Fin.ext (by simp only [col]; omega)
  have ed : (⟨(col h d).val % 128, Nat.mod_lt _ (by decide)⟩ : Fin 128) = d := Fin.ext (by simp only [col]; omega)
  simp only [eh, ed]
  rw [Finset.sum_congr rfl (fun t _ => by rw [rO_real (x0 := x0) (x1 := x1) h2, rP_real (x2 := x2) h0 h1, ← EReal.coe_mul]), coe_sum]
  rfl

/-- The row sums. -/
theorem rDR_real (i : Fin 8) (y : Fin 1024) : rDR X0 X1 X2 (ix3 h i y) = (𝐀.dR h ⟨i.val * 1024 + y.val, by omega⟩ : EReal) := by
  pointwise [rDR]
  rw [Fin.sum_univ_one, Finset.sum_congr rfl (fun k _ => rDS_real h0 h1 h2 _ _ k), coe_sum]
  rfl

/-- The column sums. -/
theorem rDC_real : rDC X0 X1 X2 (ix3 h k 0) = (𝐀.dC h k : EReal) := by
  pointwise [rDC]
  rw [Fin.sum_univ_one, Finset.sum_congr rfl (fun t _ => by rw [rDS_real h0 h1 h2, ← EReal.coe_neg]), coe_sum, ← EReal.coe_neg, Finset.sum_neg_distrib, neg_neg]
  rfl

end

end Cert.ReferenceIdeal.Ref

end
-- ==== Proof.Fox.Host.lean ====
/- What the operations before the kernel leave for it: the saved log-sums, the deltas, the gates beside every lane, the
   cotangents transposed. -/
module

public import proofs.«01_k».proof.Proof.Ref.Real
public import proofs.«01_k».proof.Proof.Fox.Launch
public import Idealize.ShloMosaic.Lib.StableHlo.RunRead

@[expose] public section

set_option maxRecDepth 16384

noncomputable section

namespace Cert.KernelIdeal.Fox

open Cert.KernelIdeal Cert.KernelIdeal.Gen
open Idealize.ShloMosaic Idealize.ShloMosaic.TcCoe
open Cert.Fox (Att scl ofBits_scl coe_sum)
open Cert.ReferenceIdeal (Ref.rZ Ref.rM Ref.rV Ref.rO)

variable (X0 : FVec 𝔽 S8192x7168 .f32) (X1 : FVec 𝔽 S8192x8 .f32) (X2 : FVec 𝔽 S8192x1024 .f32)

/-- A query's value beside every key. -/
def along (M : FVec 𝔽 S8x8192x1 .f32) : FVec 𝔽 S8x8192x8192 .f32 :=
  broadcastInDim S8x8192x8192 ![0, 1, 2] bcast_S8x8192x1_S8x8192x8192_0_1_2 M
/-- A query's value as a column. -/
def asCol (M : FVec 𝔽 S8x8192 .f32) : FVec 𝔽 S8x8192x1 .f32 := broadcastInDim S8x8192x1 ![0, 1] bcast_S8x8192_S8x8192x1_0_1 M

/-- The weights, their sums, the attention's output. -/
def hE (Z : FVec 𝔽 S8x8192x8192 .f32) (M : FVec 𝔽 S8x8192 .f32) : FVec 𝔽 S8x8192x8192 .f32 := Host.exp (subf Z (along (asCol M)))
def hL (E : FVec 𝔽 S8x8192x8192 .f32) : FVec 𝔽 S8x8192x1 .f32 :=
  asCol (Host.reduceAdd E (constant S_ .f32 0x00000000#32) reducesTo_S8x8192x8192_S8x8192_d2 h_S_)
def hP (E : FVec 𝔽 S8x8192x8192 .f32) : FVec 𝔽 S8x8192x8192 .f32 := Host.divf E (along (hL E))
def hO (E : FVec 𝔽 S8x8192x8192 .f32) (W : FVec 𝔽 S8x8192x128 .f32) : FVec 𝔽 S8x8192x128 .f32 :=
  Host.dotGeneral dot_S8x8192x8192_S8x8192x128_S8x8192x128_2_1_1_2_0_0 none (hP E) W
/-- The log-sums less the queries' gates; the deltas; the gates; the cotangents. -/
def hLse (E : FVec 𝔽 S8x8192x8192 .f32) (M : FVec 𝔽 S8x8192 .f32) : FVec 𝔽 S8x1x8192 .f32 :=
  shapeCast _ (subf (addf (asCol M) (Host.log (hL E))) (asCol (transpose S8x8192 [1, 0] X1 transposes_S8192x8_S8x8192_1_0))) shapeCasts_S8x8192x1_S8x1x8192
def hDl (E : FVec 𝔽 S8x8192x8192 .f32) (W U : FVec 𝔽 S8x8192x128 .f32) : FVec 𝔽 S8x1x8192 .f32 :=
  shapeCast _ (Host.reduceAdd (mulf U (hO E W)) (constant S_ .f32 0x00000000#32) reducesTo_S8x8192x128_S8x8192_d2 h_S_) shapeCasts_S8x8192_S8x1x8192
def hC : FVec 𝔽 S8x8192x128 .f32 :=
  broadcastInDim S8x8192x128 ![0, 1, 2] bcast_S8x8192x1_S8x8192x128_0_1_2 (asCol (transpose S8x8192 [1, 0] X1 transposes_S8192x8_S8x8192_1_0))
def hT : FVec 𝔽 S1024x8192 .f32 := transpose S1024x8192 [1, 0] X2 transposes_S8192x1024_S1024x8192_1_0

section Read
variable (m : (ℓ : Loc nD τ sig) → Buf (Elt 𝔽) ℓ) (c : Dev nD)

theorem V_gate : V m c main_v49 = hC (m ((c.tc : Thread nD τ).loc main_arg1)) := by
  unfold V; dsimp only [hostAll, List.flatten, List.append, hostOps0, hostOps0_1, hostOps0_2]; after_reads_simp; rfl
theorem V_ct : V m c main_v52 = hT (m ((c.tc : Thread nD τ).loc main_arg2)) := by
  unfold V; dsimp only [hostAll, List.flatten, List.append, hostOps0, hostOps0_1, hostOps0_2]; after_reads_simp; rfl
set_option maxRecDepth 100000 in
theorem V_lse : V m c main_v50 = hLse (m ((c.tc : Thread nD τ).loc main_arg1)) (hE (Ref.rZ (m ((c.tc : Thread nD τ).loc main_arg0)) (m ((c.tc : Thread nD τ).loc main_arg1))) (Ref.rM (m ((c.tc : Thread nD τ).loc main_arg0)) (m ((c.tc : Thread nD τ).loc main_arg1)))) (Ref.rM (m ((c.tc : Thread nD τ).loc main_arg0)) (m ((c.tc : Thread nD τ).loc main_arg1))) := by
  unfold V; dsimp only [hostAll, List.flatten, List.append, hostOps0, hostOps0_1, hostOps0_2]; after_reads_simp; rfl
set_option maxRecDepth 100000 in
theorem V_dl : V m c main_v51 = hDl (hE (Ref.rZ (m ((c.tc : Thread nD τ).loc main_arg0)) (m ((c.tc : Thread nD τ).loc main_arg1))) (Ref.rM (m ((c.tc : Thread nD τ).loc main_arg0)) (m ((c.tc : Thread nD τ).loc main_arg1)))) (Ref.rV (m ((c.tc : Thread nD τ).loc main_arg0))) (Ref.rO (m ((c.tc : Thread nD τ).loc main_arg2))) := by
  unfold V; dsimp only [hostAll, List.flatten, List.append, hostOps0, hostOps0_1, hostOps0_2]; after_reads_simp; rfl

end Read

section Entry
variable (Z E : FVec 𝔽 S8x8192x8192 .f32) (M : FVec 𝔽 S8x8192 .f32) (W U : FVec 𝔽 S8x8192x128 .f32) (h : Fin 8) (t k : Fin 8192) (d : Fin 128)

theorem hE_apply : hE Z M (ix3 h t k) = Idealize.ShloMosaic.Ideal.exp (Z (ix3 h t k) - M (ix2 h t)) := by
  pointwise [hE, along, asCol]
theorem hL_apply : hL E (ix3 h t 0) = ∑ k, E (ix3 h t k) := by
  pointwise [hL, asCol]
theorem hP_apply : hP E (ix3 h t k) = Idealize.ShloMosaic.Ideal.div (E (ix3 h t k)) (hL E (ix3 h t 0)) := by
  pointwise [hP, along]
theorem hO_apply : hO E W (ix3 h t d) = ∑ k, hP E (ix3 h t k) * W (ix3 h k d) := by
  pointwise [hO]
theorem hLse_apply : hLse X1 E M (ix3 h 0 t) = M (ix2 h t) + Idealize.ShloMosaic.Ideal.log (hL E (ix3 h t 0)) - X1 (ix2 t h) := by
  pointwise [hLse, asCol]
theorem hDl_apply : hDl E W U (ix3 h 0 t) = ∑ d, U (ix3 h t d) * hO E W (ix3 h t d) := by
  pointwise [hDl]
theorem hC_apply : hC X1 (ix3 h t d) = X1 (ix2 t h) := by
  pointwise [hC, asCol]
theorem hT_apply (n : Fin 1024) : hT X2 (ix2 n t) = X2 (ix2 t n) := by
  pointwise [hT]

end Entry

section Real
variable {X0 X1 X2}
  {x0 : Fin 8192 → Fin 7168 → ℝ} {x1 : Fin 8192 → Fin 8 → ℝ} {x2 : Fin 8192 → Fin 1024 → ℝ}
  (h0 : ∀ t n, X0 (ix2 t n) = (x0 t n : EReal)) (h1 : ∀ t n, X1 (ix2 t n) = (x1 t n : EReal)) (h2 : ∀ t n, X2 (ix2 t n) = (x2 t n : EReal))
  (h : Fin 8) (t k : Fin 8192) (d : Fin 128)
include h0 h1

local notation "𝐀" => Cert.ReferenceIdeal.Ref.att x0 x1 x2
local notation "𝐌" => EReal.toReal (Ref.rM X0 X1 (ix2 h t))

theorem hE_real : hE (Ref.rZ X0 X1) (Ref.rM X0 X1) (ix3 h t k) = (𝐀.W h 𝐌 t k : EReal) := by
  refine (hE_apply (Ref.rZ X0 X1) (Ref.rM X0 X1) h t k).trans ?_
  refine (congrArg₂ (fun a b => Idealize.ShloMosaic.Ideal.exp (a - b)) (Cert.ReferenceIdeal.Ref.rZ_real (x2 := x2) h0 h1 h t k)
    (Cert.ReferenceIdeal.Ref.rM_real h0 h1 h t).symm).trans ?_
  show Idealize.ShloMosaic.Ideal.exp ((if k.val ≤ t.val then _ else _) - _) = _
  rw [Att.W]
  split_ifs
  · exact Cert.Fox.exp_real _ _
  · exact Cert.Fox.exp_bot_sub _

theorem hL_real : hL (hE (Ref.rZ X0 X1) (Ref.rM X0 X1)) (ix3 h t 0) = (𝐀.L h 𝐌 t : EReal) := by
  rw [hL_apply, Finset.sum_congr rfl (fun k _ => hE_real (x2 := x2) h0 h1 h t k), coe_sum]; rfl

theorem hP_real : hP (hE (Ref.rZ X0 X1) (Ref.rM X0 X1)) (ix3 h t k) = (𝐀.P h t k : EReal) := by
  rw [hP_apply, hE_real (x2 := x2) h0 h1, hL_real (x2 := x2) h0 h1, Cert.Fox.div_real _ _ (Att.L_pos _ _ _ _).ne', Att.P_eq]

/-- The log-sums. -/
theorem hLse_real : hLse X1 (hE (Ref.rZ X0 X1) (Ref.rM X0 X1)) (Ref.rM X0 X1) (ix3 h 0 t)
    = ((𝐌 + Real.log (𝐀.L h 𝐌 t) - 𝐀.c h t : ℝ) : EReal) := by
  rw [hLse_apply, hL_real (x2 := x2) h0 h1, Cert.Fox.log_real _ (Att.L_pos _ _ _ _), h1]
  obtain ⟨μ, hμ⟩ : ∃ μ : ℝ, Ref.rM X0 X1 (ix2 h t) = (μ : EReal) :=
    ⟨_, (Cert.ReferenceIdeal.Ref.rM_real h0 h1 h t).symm⟩
  rw [hμ, EReal.toReal_coe]
  show (_ : EReal) + _ - _ = _
  rw [← EReal.coe_add, ← EReal.coe_sub]; rfl

include h2

/-- The deltas. -/
theorem hDl_real : hDl (hE (Ref.rZ X0 X1) (Ref.rM X0 X1)) (Ref.rV X0) (Ref.rO X2) (ix3 h 0 t) = (𝐀.D h t : EReal) := by
  rw [hDl_apply, ← Att.D_out]
  refine (Finset.sum_congr rfl fun d _ => ?_).trans (coe_sum _ fun d => 𝐀.o h t d * ∑ k, 𝐀.P h t k * 𝐀.v h k d)
  have e : hO (hE (Ref.rZ X0 X1) (Ref.rM X0 X1)) (Ref.rV X0) (ix3 h t d) = ((∑ k, 𝐀.P h t k * 𝐀.v h k d : ℝ) : EReal) := by
    rw [hO_apply]
    refine (Finset.sum_congr rfl fun k _ => ?_).trans (coe_sum _ fun k => 𝐀.P h t k * 𝐀.v h k d)
    rw [hP_real (x2 := x2) h0 h1, EReal.coe_mul]
    exact congrArg (_ * ·) (Cert.ReferenceIdeal.Ref.rV_real (x1 := x1) (x2 := x2) h0 h k d)
  rw [e, EReal.coe_mul]
  exact congrArg (· * _) (Cert.ReferenceIdeal.Ref.rO_real (x0 := x0) (x1 := x1) h2 h t d)

end Real

end Cert.KernelIdeal.Fox

end
-- ==== Proof.Fox.Tile.lean ====
/- What one visit adds to the running sums, over the real numbers: when the blocks that a visit reads hold real numbers,
   each sum grows by a finite sum of real products. -/
module

public import proofs.«01_k».proof.Proof.Fox.Tables
public import proofs.«01_k».proof.Proof.Spec
public import Idealize.ShloMosaic.Lib.Pointwise
public import Idealize.ShloMosaic.Lib.IdealHost
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe
open Cert.Fox (scl ofBits_scl coe_sum)

/-- The real numbers that a visit's blocks hold: queries, keys, values, the keys' gates, the queries' log-sums and
    deltas, and the cotangents. -/
structure RBlk where
  q : Fin 1024 → Fin 128 → ℝ
  k : Fin 1024 → Fin 128 → ℝ
  v : Fin 1024 → Fin 128 → ℝ
  ck : Fin 1024 → ℝ
  lse : Fin 1024 → ℝ
  dl : Fin 1024 → ℝ
  ct : Fin 128 → Fin 1024 → ℝ

/-- The blocks `b` hold the real numbers `r`. -/
structure Holds (b : Blk 𝔽) (r : RBlk) : Prop where
  q : ∀ x j, b.q (ix2 x j) = (r.q x j : EReal)
  k : ∀ x j, b.k (ix2 x j) = (r.k x j : EReal)
  v : ∀ x j, b.v (ix2 x j) = (r.v x j : EReal)
  ck : ∀ x j, b.ck (ix3 0 x j) = (r.ck x : EReal)
  lse : ∀ x, b.lse (ix3 0 0 x) = (r.lse x : EReal)
  dl : ∀ x, b.dl (ix3 0 0 x) = (r.dl x : EReal)
  ct : ∀ j x, b.ct (ix2 j x) = (r.ct j x : EReal)

namespace RBlk
variable (r : RBlk) (d : Bool)

/-- The probability of key `x` for query `y`, from the saved log-sum; in a tile on the diagonal a later key has none. -/
def pr (x y : Fin 1024) : ℝ :=
  if d = true ∧ y.val < x.val then 0 else Real.exp (∑ j, r.k x j * (r.q y j * scl) - r.ck x - r.lse y)

/-- The gradient of the probability. -/
def dp (x y : Fin 1024) : ℝ := ∑ j, r.v x j * r.ct j y

/-- The gradient of the score. -/
def ds (x y : Fin 1024) : ℝ := r.pr d x y * (r.dp x y - r.dl y)

/-- What the visit adds to the values' gradient, the keys' (beside the column sums), the queries', the row sums. -/
def addV (x : Fin 1024) (j : Fin 128) : ℝ := ∑ y, r.pr d x y * r.ct j y
def addK (x : Fin 1024) (j : Fin 256) : ℝ := ∑ y, r.ds d x y * (if h : j.val < 128 then r.q y ⟨j.val, h⟩ * scl else 1)
def addQ (j : Fin 128) (y : Fin 1024) : ℝ := (∑ x, r.k x j * r.ds d x y) * scl
def addR (y : Fin 1024) : ℝ := ∑ x, r.ds d x y

end RBlk

/-- Query `y` of group `g` among the tile's queries. -/
def gy (g : Fin 4) (y : Fin 256) : Fin 1024 := ⟨g.val * 256 + y.val, by omega⟩

section Windows
variable (b : Blk 𝔽) (g : Fin 4)

theorem win_q (y : Fin 256) (j : Fin 128) :
    VecWindow.window b.q ![256 * g.val, 0] ![256, 128] (inb_q g) (ix2 y j) = b.q (ix2 (gy g y) j) := by
  refine congrArg b.q (funext fun a => ?_)
  match a with
  | 0 => exact Fin.ext (show 256 * g.val + 1 * y.val = g.val * 256 + y.val by omega)
  | 1 => exact Fin.ext (show 0 + 1 * j.val = j.val by omega)

theorem win_ct (j : Fin 128) (y : Fin 256) :
    VecWindow.window b.ct ![0, 256 * g.val] ![128, 256] (inb_ct g) (ix2 j y) = b.ct (ix2 j (gy g y)) := by
  refine congrArg b.ct (funext fun a => ?_)
  match a with
  | 1 => exact Fin.ext (show 256 * g.val + 1 * y.val = g.val * 256 + y.val by omega)
  | 0 => exact Fin.ext (show 0 + 1 * j.val = j.val by omega)

theorem win_l (X : S1x1x1024.Idx → Elt 𝔽 .f32) (y : Fin 256) :
    VecWindow.window X ![0, 0, 256 * g.val] ![1, 1, 256] (inb_l g) (ix3 0 0 y) = X (ix3 0 0 (gy g y)) := by
  refine congrArg X (funext fun a => ?_)
  match a with
  | 0 => exact Fin.ext (show 0 + 1 * 0 = 0 by omega)
  | 1 => exact Fin.ext (show 0 + 1 * 0 = 0 by omega)
  | 2 => exact Fin.ext (show 256 * g.val + 1 * y.val = g.val * 256 + y.val by omega)

theorem win_k (X : S1024x128.Idx → Elt 𝔽 .f32) (x : Fin 1024) (j : Fin 128) :
    VecWindow.window X ![0, 0] ![1024, 128] inb_k (ix2 x j) = X (ix2 x j) := by
  refine congrArg X (funext fun a => ?_)
  match a with
  | 0 => exact Fin.ext (show 0 + 1 * x.val = x.val by omega)
  | 1 => exact Fin.ext (show 0 + 1 * j.val = j.val by omega)

theorem win_ck (x : Fin 1024) (j : Fin 128) :
    VecWindow.window b.ck ![0, 0, 0] ![1, 1024, 128] inb_ck (ix3 0 x j) = b.ck (ix3 0 x j) := by
  refine congrArg b.ck (funext fun a => ?_)
  match a with
  | 0 => exact Fin.ext (show 0 + 1 * 0 = 0 by omega)
  | 1 => exact Fin.ext (show 0 + 1 * x.val = x.val by omega)
  | 2 => exact Fin.ext (show 0 + 1 * j.val = j.val by omega)

end Windows

section Group
variable {b : Blk 𝔽} {r : RBlk} (hb : Holds b r) (d : Bool) (g : Fin 4)
include hb

theorem sc_real (x : Fin 1024) (y : Fin 256) :
    sc b g (ix2 x y) = ((∑ j, r.k x j * (r.q (gy g y) j * scl) - r.ck x : ℝ) : EReal) := by
  pointwise [sc, kb, qs, ck2]
  have h1 : ∀ j, VecWindow.window b.k ![0, 0] ![1024, 128] inb_k (ix2 x j)
      * (VecWindow.window b.q ![256 * g.val, 0] ![256, 128] (inb_q g) (ix2 y j) * Idealize.ShloMosaic.Ideal.ofBits .f32 0x3DB504F3#32)
        = ((r.k x j * (r.q (gy g y) j * scl) : ℝ) : EReal) := fun j => by
    rw [win_k, win_q, hb.k, hb.q, ofBits_scl, ← EReal.coe_mul, ← EReal.coe_mul]
  refine (congrArg₂ (· - ·) ((Finset.sum_congr rfl fun j _ => h1 j).trans (coe_sum _ _)) (?_ : _ = (r.ck x : EReal))).trans (EReal.coe_sub _ _).symm
  split_ifs <;> rw [win_ck, hb.ck]

theorem pr_real (x : Fin 1024) (y : Fin 256) : pr b d g (ix2 x y) = (r.pr d x (gy g y) : EReal) := by
  have hsc := sc_real hb g x y
  pointwise [pr]
  rw [win_l, hb.lse]
  cases d
  · rw [cond_false, hsc, ← EReal.coe_sub, RBlk.pr, if_neg (by simp)]; rfl
  · rw [cond_true]
    pointwise [scD]
    have hx : x.val < 1024 := x.isLt
    have hy : y.val < 256 := y.isLt
    have hg : g.val < 4 := g.isLt
    have e : IntOp.addi (BitVec.ofNat 32 (256 * g.val)) (BitVec.ofNat 32 y.val) = BitVec.ofNat 32 (gy g y).val := by
      show BitVec.ofNat 32 (256 * g.val) + BitVec.ofNat 32 y.val = BitVec.ofNat 32 (g.val * 256 + y.val)
      rw [Nat.mul_comm, BitVec.ofNat_add]
    have hgy : (gy g y).val < 1024 := (gy g y).isLt
    rw [e, WordCmp.cmpi_sle_ofNat (w := 32) (by omega) (by omega), IdealRules.named_const.ideal_named_scalar _ _ _ _ rfl]
    by_cases h : x.val ≤ (gy g y).val
    · rw [RBlk.pr, if_neg (by omega), decide_eq_true h, hsc]
      exact congrArg Idealize.ShloMosaic.Ideal.exp (EReal.coe_sub _ _).symm
    · rw [RBlk.pr, if_pos ⟨rfl, by omega⟩, decide_eq_false h]
      exact (congrArg Idealize.ShloMosaic.Ideal.exp (EReal.bot_sub _)).trans rfl

theorem ds_real (x : Fin 1024) (y : Fin 256) : ds b d g (ix2 x y) = (r.ds d x (gy g y) : EReal) := by
  have hpr := pr_real hb d g x y
  have hdp : dp b g (ix2 x y) = (r.dp x (gy g y) : EReal) := by
    pointwise [dp, dob]
    refine (Finset.sum_congr rfl fun j _ => ?_).trans (coe_sum _ _)
    rw [win_k, win_ct, hb.v, hb.ct, ← EReal.coe_mul]
  pointwise [ds]
  rw [win_l, hb.dl, hpr, hdp, ← EReal.coe_sub, ← EReal.coe_mul]; rfl

theorem addV_real (acc : FVec 𝔽 S1024x128 .f32) (x : Fin 1024) (j : Fin 128) :
    addV b d g acc (ix2 x j) = acc (ix2 x j) + ((∑ y, r.pr d x (gy g y) * r.ct j (gy g y) : ℝ) : EReal) := by
  have hpr := pr_real hb d g x
  pointwise [addV, dob]
  refine congrArg (acc (ix2 x j) + ·) ((Finset.sum_congr rfl fun y _ => ?_).trans (coe_sum _ _))
  rw [hpr, win_ct, hb.ct, ← EReal.coe_mul]

theorem addK_real (acc : FVec 𝔽 S1024x256 .f32) (x : Fin 1024) (j : Fin 256) :
    addK b d g acc (ix2 x j) = acc (ix2 x j)
      + ((∑ y, r.ds d x (gy g y) * (if h : j.val < 128 then r.q (gy g y) ⟨j.val, h⟩ * scl else 1) : ℝ) : EReal) := by
  have hds := ds_real hb d g x
  pointwise [addK, qs]
  refine congrArg (acc (ix2 x j) + ·) ((Finset.sum_congr rfl fun y _ => ?_).trans (coe_sum _ _))
  rw [hds]
  by_cases h : j.val < 128
  · rw [dif_pos h, dif_pos h, win_q, hb.q, ofBits_scl, ← EReal.coe_mul, ← EReal.coe_mul]
  · rw [dif_neg h, dif_neg h, mul_one, mul_one]

theorem dqg_real (j : Fin 128) (y : Fin 256) : dqg b d g (ix2 j y) = (r.addQ d j (gy g y) : EReal) := by
  have hds := fun x => ds_real hb d g x y
  pointwise [dqg, kb]
  refine (congrArg₂ (· * ·) ((Finset.sum_congr rfl fun x _ => (?_ : _ = ((r.k x j * r.ds d x (gy g y) : ℝ) : EReal))).trans (coe_sum _ _))
    ofBits_scl).trans (EReal.coe_mul _ _).symm
  rw [hds, win_k, hb.k, ← EReal.coe_mul]

theorem drg_real (y : Fin 256) : drg b d g (ix2 0 y) = (r.addR d (gy g y) : EReal) := by
  have hds := fun x => ds_real hb d g x y
  pointwise [drg]
  simp only [hds, coe_sum]; rfl

end Group

/-- Four sums over the groups of a tile's queries are one sum over its queries. -/
theorem four_groups (f : Fin 1024 → ℝ) (a : EReal) :
    a + ((∑ y, f (gy 0 y) : ℝ) : EReal) + ((∑ y, f (gy 1 y) : ℝ) : EReal) + ((∑ y, f (gy 2 y) : ℝ) : EReal)
      + ((∑ y, f (gy 3 y) : ℝ) : EReal) = a + ((∑ y, f y : ℝ) : EReal) := by
  rw [Fin.sum_univ_tiles 4 256 rfl f, Fin.sum_univ_four]
  simp only [EReal.coe_add, add_assoc]
  rfl

section Visit
variable {b : Blk 𝔽} {r : RBlk} (hb : Holds b r) (d : Bool)
include hb

/-- A visit adds to the values' gradient. -/
theorem newV_real (acc : FVec 𝔽 S1024x128 .f32) (x : Fin 1024) (j : Fin 128) :
    newV b d acc (ix2 x j) = acc (ix2 x j) + (r.addV d x j : EReal) := by
  rw [newV, addV_real hb, addV_real hb, addV_real hb, addV_real hb]
  exact four_groups (fun y => r.pr d x y * r.ct j y) _

/-- A visit adds to the keys' gradient and to the column sums. -/
theorem newK_real (acc : FVec 𝔽 S1024x256 .f32) (x : Fin 1024) (j : Fin 256) :
    newK b d acc (ix2 x j) = acc (ix2 x j) + (r.addK d x j : EReal) := by
  rw [newK, addK_real hb, addK_real hb, addK_real hb, addK_real hb]
  exact four_groups (fun y => r.ds d x y * (if h : j.val < 128 then r.q y ⟨j.val, h⟩ * scl else 1)) _

theorem rowQ_real (old : FVec 𝔽 S1x128x1024 .f32) (j : Fin 128) (y : Fin 1024) :
    rowQ b d old (ix3 0 j y) = old (ix3 0 j y) + (r.addQ d j y : EReal) := by
  have h0 := dqg_real hb d
  pointwise [rowQ]
  simp only [h0]
  have hy : y.val < 1024 := y.isLt
  refine congrArg (old (ix3 0 j y) + ·) ?_
  split_ifs <;> exact congrArg (fun z => (r.addQ d j z : EReal)) (Fin.ext (by simp only [gy]; omega))

theorem rowR_real (old : FVec 𝔽 S1x1x1024 .f32) (y : Fin 1024) :
    rowR b d old (ix3 0 0 y) = old (ix3 0 0 y) + (r.addR d y : EReal) := by
  have h0 := drg_real hb d
  pointwise [rowR]
  simp only [h0]
  have hy : y.val < 1024 := y.isLt
  refine congrArg (old (ix3 0 0 y) + ·) ?_
  split_ifs <;> exact congrArg (fun z => (r.addR d z : EReal)) (Fin.ext (by simp only [gy]; omega))

/-- A visit of query tile `i` adds to that tile's part of the queries' gradient and leaves the others. -/
theorem newQ_real (i : Fin 8) (X : S8x128x1024.Idx → Elt 𝔽 .f32) (i' : Fin 8) (j : Fin 128) (y : Fin 1024) :
    newQ b d i X (ix3 i' j y) = X (ix3 i' j y) + ((if i' = i then r.addQ d j y else 0 : ℝ) : EReal) := by
  unfold newQ VecWindow.put
  have hj : j.val < 128 := j.isLt
  have hy : y.val < 1024 := y.isLt
  by_cases h : i' = i
  · subst h
    rw [dif_pos (by
      intro a
      match a with
      | 0 => exact (⟨le_refl _, Nat.lt_succ_self _⟩ : i'.val ≤ i'.val ∧ i'.val < i'.val + 1)
      | 1 => exact (⟨Nat.zero_le _, by omega⟩ : 0 ≤ j.val ∧ j.val < 0 + 128)
      | 2 => exact (⟨Nat.zero_le _, by omega⟩ : 0 ≤ y.val ∧ y.val < 0 + 1024)), if_pos rfl]
    refine Eq.trans (congrArg (rowQ b d _) (a₂ := ix3 0 j y) ?_) ?_
    · funext a
      match a with
      | 0 => exact Fin.ext (show i'.val - i'.val = 0 by omega)
      | 1 => exact Fin.ext (show j.val - 0 = j.val by omega)
      | 2 => exact Fin.ext (show y.val - 0 = y.val by omega)
    · refine (rowQ_real hb d _ j y).trans (congrArg (· + (r.addQ d j y : EReal)) ?_)
      refine congrArg X (funext fun a => ?_)
      match a with
      | 0 => exact Fin.ext (show i'.val + 1 * 0 = i'.val by omega)
      | 1 => exact Fin.ext (show 0 + 1 * j.val = j.val by omega)
      | 2 => exact Fin.ext (show 0 + 1 * y.val = y.val by omega)
  · rw [dif_neg (by
      intro hh
      have h0 : i.val ≤ i'.val ∧ i'.val < i.val + 1 := hh 0
      exact h (Fin.ext (by omega))), if_neg h, EReal.coe_zero, add_zero]

/-- A visit of query tile `i` adds to that tile's row sums and leaves the others. -/
theorem newR_real (i : Fin 8) (X : S1x8x1024.Idx → Elt 𝔽 .f32) (i' : Fin 8) (y : Fin 1024) :
    newR b d i X (ix3 0 i' y) = X (ix3 0 i' y) + ((if i' = i then r.addR d y else 0 : ℝ) : EReal) := by
  unfold newR VecWindow.put
  have hy : y.val < 1024 := y.isLt
  by_cases h : i' = i
  · subst h
    rw [dif_pos (by
      intro a
      match a with
      | 0 => exact (⟨Nat.zero_le _, by omega⟩ : 0 ≤ 0 ∧ 0 < 0 + 1)
      | 1 => exact (⟨le_refl _, Nat.lt_succ_self _⟩ : i'.val ≤ i'.val ∧ i'.val < i'.val + 1)
      | 2 => exact (⟨Nat.zero_le _, by omega⟩ : 0 ≤ y.val ∧ y.val < 0 + 1024)), if_pos rfl]
    refine Eq.trans (congrArg (rowR b d _) (a₂ := ix3 0 0 y) ?_) ?_
    · funext a
      match a with
      | 0 => exact Fin.ext (show 0 - 0 = 0 by omega)
      | 1 => exact Fin.ext (show i'.val - i'.val = 0 by omega)
      | 2 => exact Fin.ext (show y.val - 0 = y.val by omega)
    · refine (rowR_real hb d _ y).trans (congrArg (· + (r.addR d y : EReal)) ?_)
      refine congrArg X (funext fun a => ?_)
      match a with
      | 0 => exact Fin.ext (show 0 + 1 * 0 = 0 by omega)
      | 1 => exact Fin.ext (show i'.val + 1 * 0 = i'.val by omega)
      | 2 => exact Fin.ext (show 0 + 1 * y.val = y.val by omega)
  · rw [dif_neg (by
      intro hh
      have h0 : i.val ≤ i'.val ∧ i'.val < i.val + 1 := hh 1
      exact h (Fin.ext (by omega))), if_neg h, EReal.coe_zero, add_zero]

end Visit

theorem zK_apply (x : Fin 1024) (j : Fin 256) : zK (F := 𝔽) (ix2 x j) = 0 := by pointwise [zK, k0_pay3]
theorem zV_apply (x : Fin 1024) (j : Fin 128) : zV (F := 𝔽) (ix2 x j) = 0 := by pointwise [zV, k0_pay4]
theorem zQ_apply (i : Fin 8) (j : Fin 128) (y : Fin 1024) : zQ (F := 𝔽) (ix3 i j y) = 0 := by pointwise [zQ, k0_pay1]
theorem zR_apply (i : Fin 8) (y : Fin 1024) : zR (F := 𝔽) (ix3 0 i y) = 0 := by pointwise [zR, k0_pay2]

/-- What is written out, entry by entry. -/
theorem outK_apply (X : S1024x256.Idx → Elt 𝔽 .f32) (x : Fin 1024) (j : Fin 128) :
    outK X (ix2 x j) = X (ix2 x ⟨j.val, by omega⟩) := by pointwise [outK, k0_pay8]
theorem outC_apply (X : S1024x256.Idx → Elt 𝔽 .f32) (x : Fin 1024) :
    outC X (ix3 0 x 0) = X (ix2 x 128) := by pointwise [outC, k0_pay9]
theorem outV_apply (X : S1024x128.Idx → Elt 𝔽 .f32) (x : Fin 1024) (j : Fin 128) :
    outV X (ix2 x j) = X (ix2 x j) := by pointwise [outV, k0_pay10]
theorem outQ_apply (X : S8x128x1024.Idx → Elt 𝔽 .f32) (t : Fin 8192) (j : Fin 128) :
    outQ X (ix2 t j) = X (ix3 ⟨t.val / 1024, by omega⟩ j ⟨t.val % 1024, Nat.mod_lt _ (by decide)⟩) := by
  have ht : t.val < 8192 := t.isLt
  rw [outQ_emb ⟨t.val / 1024, by omega⟩ X (ix2 ⟨t.val % 1024, Nat.mod_lt _ (by decide)⟩ j) (ix2 t j)
    (by show t.val = 1024 * (t.val / 1024) + t.val % 1024; omega) rfl]
  pointwise [k0_pay109]
  refine congrArg X (funext fun a => ?_)
  match a with
  | 0 => exact Fin.ext (show t.val / 1024 + 1 * 0 = t.val / 1024 by omega)
  | 1 => exact Fin.ext (show 0 + 1 * j.val = j.val by omega)
  | 2 => exact Fin.ext (show 0 + 1 * (t.val % 1024) = t.val % 1024 by omega)

end Cert.KernelIdeal.Fox

end
-- ==== Proof.Fox.Sums.lean ====
/- The running sums over a head's visits, and what they come to at the last one: the attention's gradients as sums of
   real numbers over all the queries and all the keys. -/
module

public import proofs.«01_k».proof.Proof.Fox.State
public import proofs.«01_k».proof.Proof.Fox.Tile

@[expose] public section

set_option maxRecDepth 16384

noncomputable section

namespace Cert.KernelIdeal.Fox

open Cert.KernelIdeal Cert.KernelIdeal.Gen
open Idealize.ShloMosaic Idealize.ShloMosaic.TcCoe
open Cert.Fox (scl)

/-- The tiles of a head's visit `s`. -/
def qiN (s : ℕ) : Fin 8 := qiF ⟨s % 36, Nat.mod_lt _ (by decide)⟩
def kjN (s : ℕ) : Fin 8 := kjF ⟨s % 36, Nat.mod_lt _ (by decide)⟩

/-- Row `y` of tile `i`. -/
def gl (i : Fin 8) (y : Fin 1024) : Fin 8192 := ⟨i.val * 1024 + y.val, by omega⟩

theorem gl_tile (t : Fin 8192) : gl ⟨t.val / 1024, by omega⟩ ⟨t.val % 1024, Nat.mod_lt _ (by decide)⟩ = t :=
  Fin.ext (by simp only [gl]; omega)

theorem qiN_0 : qiN 0 = 0 := by decide
theorem kjN_0 : kjN 0 = 0 := by decide
theorem visit_le (s : Fin 36) : kjN s.val ≤ qiN s.val := by revert s; decide +kernel
/-- At the visit on the diagonal no earlier visit had this key tile; at any other the one before had it. -/
theorem visit_diag : ∀ s : Fin 36, qiN s.val = kjN s.val → ∀ s' : Fin 36, s' < s → kjN s'.val ≠ kjN s.val := by decide +kernel
theorem visit_off : ∀ s : Fin 36, qiN (s.val + 1) ≠ kjN (s.val + 1) → s.val + 1 < 36 → kjN s.val = kjN (s.val + 1) := by decide +kernel
/-- After the visit of the last query tile no later visit has this key tile. -/
theorem visit_last : ∀ s : Fin 36, qiN s.val = 7 → ∀ s' : Fin 36, s < s' → kjN s'.val ≠ kjN s.val := by decide +kernel
theorem visit_inj : ∀ s s' : Fin 36, qiN s.val = qiN s'.val → kjN s.val = kjN s'.val → s = s' := by decide +kernel
theorem visit_onto : ∀ i j : Fin 8, j ≤ i → ∃ s : Fin 36, qiN s.val = i ∧ kjN s.val = j := by decide +kernel

/-- The visits of a head are the pairs of a query tile and a key tile not after it. -/
theorem sum_visits (g : Fin 8 → Fin 8 → ℝ) :
    ∑ s ∈ Finset.range 36, g (qiN s) (kjN s) = ∑ i, ∑ j, if j ≤ i then g i j else 0 := by
  rw [Finset.sum_range (fun s => g (qiN s) (kjN s)), ← Fintype.sum_prod_type' (fun i j : Fin 8 => if j ≤ i then g i j else 0),
    ← Finset.sum_filter (fun p : Fin 8 × Fin 8 => p.2 ≤ p.1) (fun p => g p.1 p.2)]
  refine Finset.sum_bij (fun s _ => (qiN s.val, kjN s.val)) (fun s _ => by simpa using visit_le s)
    (fun s _ s' _ h => visit_inj s s' (congrArg Prod.fst h) (congrArg Prod.snd h))
    (fun p hp => ?_) (fun s _ => rfl)
  obtain ⟨s, h1, h2⟩ := visit_onto p.1 p.2 (by simpa using hp)
  exact ⟨s, Finset.mem_univ _, Prod.ext h1 h2⟩

/-- The real numbers of all heads: queries, keys, values, the keys' gates, the queries' log-sums and deltas, and the
    cotangents. -/
structure GData where
  q : Fin 8 → Fin 8192 → Fin 128 → ℝ
  k : Fin 8 → Fin 8192 → Fin 128 → ℝ
  v : Fin 8 → Fin 8192 → Fin 128 → ℝ
  ck : Fin 8 → Fin 8192 → ℝ
  lse : Fin 8 → Fin 8192 → ℝ
  dl : Fin 8 → Fin 8192 → ℝ
  ct : Fin 8 → Fin 128 → Fin 8192 → ℝ

namespace GData
variable (G : GData) (h : Fin 8)

/-- Query tile `i` and key tile `j` of head `h`. -/
def blk (i j : Fin 8) : RBlk where
  q y d := G.q h (gl i y) d
  k x d := G.k h (gl j x) d
  v x d := G.v h (gl j x) d
  ck x := G.ck h (gl j x)
  lse y := G.lse h (gl i y)
  dl y := G.dl h (gl i y)
  ct d y := G.ct h d (gl i y)

/-- The probability of key `k` for query `t`; its gradient; the gradient of the score. -/
def pr (t k : Fin 8192) : ℝ := if t.val < k.val then 0 else Real.exp (∑ d, G.k h k d * (G.q h t d * scl) - G.ck h k - G.lse h t)
def dp (t k : Fin 8192) : ℝ := ∑ d, G.v h k d * G.ct h d t
def ds (t k : Fin 8192) : ℝ := G.pr h t k * (G.dp h t k - G.dl h t)

/-- The gradients: of the values, of the keys, the column sums, of the queries, the row sums. -/
def dv (k : Fin 8192) (d : Fin 128) : ℝ := ∑ t, G.pr h t k * G.ct h d t
def dk (k : Fin 8192) (d : Fin 128) : ℝ := ∑ t, G.ds h t k * (G.q h t d * scl)
def dc (k : Fin 8192) : ℝ := ∑ t, G.ds h t k
def dq (t : Fin 8192) (d : Fin 128) : ℝ := (∑ k, G.k h k d * G.ds h t k) * scl
def dr (t : Fin 8192) : ℝ := ∑ k, G.ds h t k

theorem blk_pr (i j : Fin 8) (hij : j ≤ i) (x y : Fin 1024) :
    (G.blk h i j).pr (decide (i = j)) x y = G.pr h (gl i y) (gl j x) := by
  have hx := x.isLt
  have hy := y.isLt
  have hij' : j.val ≤ i.val := hij
  have e : (decide (i = j) = true ∧ y.val < x.val) ↔ (gl i y).val < (gl j x).val := by
    rw [decide_eq_true_eq, Fin.ext_iff]
    simp only [gl]
    omega
  unfold RBlk.pr pr
  by_cases hc : (gl i y).val < (gl j x).val
  · rw [if_pos hc, if_pos (e.2 hc)]
  · rw [if_neg hc, if_neg (fun hh => hc (e.1 hh))]; rfl

theorem blk_ds (i j : Fin 8) (hij : j ≤ i) (x y : Fin 1024) :
    (G.blk h i j).ds (decide (i = j)) x y = G.ds h (gl i y) (gl j x) := by
  unfold RBlk.ds ds
  rw [blk_pr G h i j hij]; rfl

/-- Past the diagonal every probability is zero. -/
theorem pr_late (i j : Fin 8) (hij : ¬ j ≤ i) (x y : Fin 1024) : G.pr h (gl i y) (gl j x) = 0 := by
  have hx := x.isLt
  have hy := y.isLt
  have hij' : ¬ j.val ≤ i.val := hij
  exact if_pos (by simp only [gl]; omega)

theorem ds_late (i j : Fin 8) (hij : ¬ j ≤ i) (x y : Fin 1024) : G.ds h (gl i y) (gl j x) = 0 := by
  rw [ds, pr_late G h i j hij, zero_mul]

end GData

/-- A sum over all the rows, tile by tile. -/
theorem sum_tiles (f : Fin 8192 → ℝ) : ∑ t, f t = ∑ i, ∑ y, f (gl i y) := Fin.sum_univ_tiles 8 1024 rfl f

section Traj
variable (V : (c : Dev nD) → (b : Ref sig .tc) → Buf (Elt 𝔽) ((c.tc : Thread nD τ).loc b)) (c : Dev nD) (G : GData)

/-- The blocks of every visit hold the tiles of the numbers `G`. -/
def Reads : Prop := ∀ t : Fin cfgA.N, ∀ h : Fin 8, h.val = t.val / 36 → Holds (blkT V c t) (G.blk h (qiT t) (kjT t))

/-- What visit `s` of head `h` adds. -/
abbrev vis (h : Fin 8) (s : ℕ) : RBlk := G.blk h (qiN s) (kjN s)
abbrev dg (s : ℕ) : Bool := decide (qiN s = kjN s)

/-- The running sums after visit `s` of head `h`. -/
structure After (h : Fin 8) (s : ℕ) (a : St) : Prop where
  q : ∀ i d y, a.q (ix3 i d y) = ((∑ s' ∈ Finset.range (s + 1), if i = qiN s' then (vis G h s').addQ (dg s') d y else 0 : ℝ) : EReal)
  r : ∀ i y, a.r (ix3 0 i y) = ((∑ s' ∈ Finset.range (s + 1), if i = qiN s' then (vis G h s').addR (dg s') y else 0 : ℝ) : EReal)
  k : ∀ x e, a.k (ix2 x e) = ((∑ s' ∈ Finset.range (s + 1), if kjN s' = kjN s then (vis G h s').addK (dg s') x e else 0 : ℝ) : EReal)
  v : ∀ x d, a.v (ix2 x d) = ((∑ s' ∈ Finset.range (s + 1), if kjN s' = kjN s then (vis G h s').addV (dg s') x d else 0 : ℝ) : EReal)

/-- One more visit, of a sum that starts anew or goes on. -/
theorem grow (s : ℕ) (hs : s < 36) (f : ℕ → ℝ) (a : EReal)
    (ha : ∀ s0, s = s0 + 1 → qiN s ≠ kjN s → a = ((∑ s' ∈ Finset.range (s0 + 1), if kjN s' = kjN s0 then f s' else 0 : ℝ) : EReal))
    (a0 : qiN s = kjN s → a = 0) :
    a + (f s : EReal) = ((∑ s' ∈ Finset.range (s + 1), if kjN s' = kjN s then f s' else 0 : ℝ) : EReal) := by
  rw [Finset.sum_range_succ, if_pos rfl, EReal.coe_add]
  refine congrArg (· + (f s : EReal)) ?_
  by_cases hd : qiN s = kjN s
  · rw [a0 hd, Finset.sum_eq_zero, EReal.coe_zero]
    intro s' hs'
    have hl := Finset.mem_range.1 hs'
    exact if_neg (visit_diag ⟨s, hs⟩ hd ⟨s', by omega⟩ hl)
  · cases s with
    | zero => exact absurd (qiN_0.trans kjN_0.symm) hd
    | succ s0 => rw [ha s0 rfl hd, visit_off ⟨s0, by omega⟩ hd hs]

theorem after (hG : Reads V c G) (h : Fin 8) (s : ℕ) (hs : s < 36) : After G h s (traj V c (36 * h.val + s + 1)) := by
  have hN : cfgA.N = 288 := by decide
  have hh := h.isLt
  induction s with
  | zero =>
    have ht : 36 * h.val + 0 < cfgA.N := by omega
    have hm : (36 * h.val + 0) % 36 = 0 := by omega
    have hb := hG ⟨36 * h.val + 0, ht⟩ h (by simp only; omega)
    have eq : qiT ⟨36 * h.val + 0, ht⟩ = qiN 0 := congrArg qiF (Fin.ext (by simp only; omega))
    have ek : kjT ⟨36 * h.val + 0, ht⟩ = kjN 0 := congrArg kjF (Fin.ext (by simp only; omega))
    have hd : decide (qiN 0 = kjN 0) = true := by decide
    have es := traj_succ V c ⟨36 * h.val + 0, ht⟩
    rw [eq, ek] at hb es
    rw [show 36 * h.val + 0 + 1 = (⟨36 * h.val + 0, ht⟩ : Fin cfgA.N).val + 1 from rfl, es]
    refine ⟨fun i d y => ?_, fun i y => ?_, fun x e => ?_, fun x d => ?_⟩
    · refine (newQ_real hb _ _ _ i d y).trans ?_
      simp only [hm, decide_true, cond_true, zQ_apply, zero_add, Finset.sum_range_one]
    · refine (newR_real hb _ _ _ i y).trans ?_
      simp only [hm, decide_true, cond_true, zR_apply, zero_add, Finset.sum_range_one]
    · refine (newK_real hb _ _ x e).trans ?_
      rw [hd, cond_true, zK_apply, zero_add, Finset.sum_range_one, if_pos rfl, dg, hd]
    · refine (newV_real hb _ _ x d).trans ?_
      rw [hd, cond_true, zV_apply, zero_add, Finset.sum_range_one, if_pos rfl, dg, hd]
  | succ s0 ih =>
    have ih := ih (by omega)
    have ht : 36 * h.val + (s0 + 1) < cfgA.N := by omega
    have hm : ¬ (36 * h.val + (s0 + 1)) % 36 = 0 := by omega
    have hb := hG ⟨36 * h.val + (s0 + 1), ht⟩ h (by simp only; omega)
    have eq : qiT ⟨36 * h.val + (s0 + 1), ht⟩ = qiN (s0 + 1) := congrArg qiF (Fin.ext (by simp only; omega))
    have ek : kjT ⟨36 * h.val + (s0 + 1), ht⟩ = kjN (s0 + 1) := congrArg kjF (Fin.ext (by simp only; omega))
    have es := traj_succ V c ⟨36 * h.val + (s0 + 1), ht⟩
    rw [eq, ek] at hb es
    rw [show 36 * h.val + (s0 + 1) + 1 = (⟨36 * h.val + (s0 + 1), ht⟩ : Fin cfgA.N).val + 1 from rfl, es]
    have ih' : After G h s0 (traj V c (⟨36 * h.val + (s0 + 1), ht⟩ : Fin cfgA.N).val) := ih
    refine ⟨fun i d y => ?_, fun i y => ?_, fun x e => ?_, fun x d => ?_⟩
    · refine (newQ_real hb _ _ _ i d y).trans ?_
      simp only [hm, decide_false, cond_false]
      rw [ih'.q, Finset.sum_range_succ _ (s0 + 1), EReal.coe_add]
    · refine (newR_real hb _ _ _ i y).trans ?_
      simp only [hm, decide_false, cond_false]
      rw [ih'.r, Finset.sum_range_succ _ (s0 + 1), EReal.coe_add]
    · refine (newK_real hb _ _ x e).trans (grow (s0 + 1) hs (fun s' => (vis G h s').addK (dg s') x e) _ (fun s1 e1 hd => ?_) (fun hd => ?_))
      · obtain rfl : s0 = s1 := by omega
        rw [decide_eq_false hd, cond_false]
        exact ih'.k x e
      · rw [decide_eq_true hd, cond_true, zK_apply]
    · refine (newV_real hb _ _ x d).trans (grow (s0 + 1) hs (fun s' => (vis G h s').addV (dg s') x d) _ (fun s1 e1 hd => ?_) (fun hd => ?_))
      · obtain rfl : s0 = s1 := by omega
        rw [decide_eq_false hd, cond_false]
        exact ih'.v x d
      · rw [decide_eq_true hd, cond_true, zV_apply]

/-- A sum over a head's visits of one query tile, of a quantity that is zero past the diagonal. -/
theorem over_keys (i : Fin 8) (f : ℕ → ℝ) (g : Fin 8 → Fin 8 → ℝ) (hf : ∀ s, kjN s ≤ qiN s → f s = g (qiN s) (kjN s))
    (h0 : ∀ j, ¬ j ≤ i → g i j = 0) : (∑ s ∈ Finset.range 36, if i = qiN s then f s else 0) = ∑ j, g i j := by
  have e : ∀ s ∈ Finset.range 36, (if i = qiN s then f s else 0) = (fun i' j => if i = i' then g i' j else 0) (qiN s) (kjN s) := by
    intro s hs
    show _ = if i = qiN s then g (qiN s) (kjN s) else 0
    rw [hf s (visit_le ⟨s, Finset.mem_range.1 hs⟩)]
  rw [Finset.sum_congr rfl e, sum_visits (fun i' j => if i = i' then g i' j else 0), Finset.sum_eq_single i]
  · refine Finset.sum_congr rfl fun j _ => ?_
    by_cases hj : j ≤ i
    · rw [if_pos hj, if_pos rfl]
    · rw [if_neg hj, h0 j hj]
  · intro i' _ hi
    refine Finset.sum_eq_zero fun j _ => ?_
    rw [if_neg (Ne.symm hi), ite_self]
  · intro hi; exact absurd (Finset.mem_univ i) hi

/-- A sum over a head's visits of one key tile up to its last, of a quantity that is zero past the diagonal. -/
theorem over_queries (s : ℕ) (hs : s < 36) (h7 : qiN s = 7) (f : ℕ → ℝ) (g : Fin 8 → Fin 8 → ℝ)
    (hf : ∀ s, kjN s ≤ qiN s → f s = g (qiN s) (kjN s))
    (h0 : ∀ i, ¬ kjN s ≤ i → g i (kjN s) = 0) :
    (∑ s' ∈ Finset.range (s + 1), if kjN s' = kjN s then f s' else 0) = ∑ i, g i (kjN s) := by
  have e0 : (∑ s' ∈ Finset.range (s + 1), if kjN s' = kjN s then f s' else 0) = ∑ s' ∈ Finset.range 36, if kjN s' = kjN s then f s' else 0 := by
    refine Finset.sum_subset (fun x hx => Finset.mem_range.2 (by have := Finset.mem_range.1 hx; omega)) fun x hx hx' => ?_
    have h1 := Finset.mem_range.1 hx
    have h2 : ¬ x < s + 1 := fun hh => hx' (Finset.mem_range.2 hh)
    exact if_neg (visit_last ⟨s, hs⟩ h7 ⟨x, h1⟩ (show s < x by omega))
  have e : ∀ s' ∈ Finset.range 36, (if kjN s' = kjN s then f s' else 0) = (fun i j => if j = kjN s then g i j else 0) (qiN s') (kjN s') := by
    intro s' hs
    show _ = if kjN s' = kjN s then g (qiN s') (kjN s') else 0
    rw [hf s' (visit_le ⟨s', Finset.mem_range.1 hs⟩)]
  rw [e0, Finset.sum_congr rfl e, sum_visits (fun i j => if j = kjN s then g i j else 0)]
  refine Finset.sum_congr rfl fun i _ => ?_
  rw [Finset.sum_eq_single (kjN s)]
  · by_cases hj : kjN s ≤ i
    · rw [if_pos hj, if_pos rfl]
    · rw [if_neg hj, h0 i hj]
  · intro j _ hj
    rw [if_neg hj, ite_self]
  · intro hi; exact absurd (Finset.mem_univ _) hi

variable (hG : Reads V c G) (h : Fin 8)
include hG

/-- The queries' gradient after a head's last visit. -/
theorem final_q (i : Fin 8) (d : Fin 128) (y : Fin 1024) :
    (traj V c (36 * h.val + 35 + 1)).q (ix3 i d y) = (G.dq h (gl i y) d : EReal) := by
  refine ((after V c G hG h 35 (by decide)).q i d y).trans (congrArg _ ?_)
  refine (over_keys i _ (fun i' j => (∑ x, G.k h (gl j x) d * G.ds h (gl i' y) (gl j x)) * scl) (fun s hs => ?_) (fun j hj => ?_)).trans ?_
  · unfold RBlk.addQ
    refine congrArg (· * scl) (Finset.sum_congr rfl fun x _ => ?_)
    rw [GData.blk_ds G h _ _ hs]; rfl
  · rw [Finset.sum_eq_zero, zero_mul]
    intro x _
    rw [GData.ds_late G h i j hj, mul_zero]
  · rw [GData.dq, sum_tiles, Finset.sum_mul]

/-- The row sums after a head's last visit. -/
theorem final_r (i : Fin 8) (y : Fin 1024) :
    (traj V c (36 * h.val + 35 + 1)).r (ix3 0 i y) = (G.dr h (gl i y) : EReal) := by
  refine ((after V c G hG h 35 (by decide)).r i y).trans (congrArg _ ?_)
  refine (over_keys i _ (fun i' j => ∑ x, G.ds h (gl i' y) (gl j x)) (fun s hs => ?_) (fun j hj => ?_)).trans ?_
  · exact Finset.sum_congr rfl fun x _ => GData.blk_ds G h _ _ hs x y
  · exact Finset.sum_eq_zero fun x _ => GData.ds_late G h i j hj x y
  · rw [GData.dr, sum_tiles]

/-- The keys' gradient after a key tile's last visit. -/
theorem final_k (s : ℕ) (hs : s < 36) (h7 : qiN s = 7) (x : Fin 1024) (e : Fin 256) (he : e.val < 128) :
    (traj V c (36 * h.val + s + 1)).k (ix2 x e) = (G.dk h (gl (kjN s) x) ⟨e.val, he⟩ : EReal) := by
  refine ((after V c G hG h s hs).k x e).trans (congrArg _ ?_)
  refine (over_queries s hs h7 _ (fun i j => ∑ y, G.ds h (gl i y) (gl j x) * (G.q h (gl i y) ⟨e.val, he⟩ * scl)) (fun s hs => ?_) (fun i hi => ?_)).trans ?_
  · refine Finset.sum_congr rfl fun y _ => ?_
    rw [GData.blk_ds G h _ _ hs, dif_pos he]; rfl
  · exact Finset.sum_eq_zero fun y _ => by rw [GData.ds_late G h _ _ hi, zero_mul]
  · rw [GData.dk, sum_tiles]

/-- The column sums after a key tile's last visit. -/
theorem final_c (s : ℕ) (hs : s < 36) (h7 : qiN s = 7) (x : Fin 1024) (e : Fin 256) (he : ¬ e.val < 128) :
    (traj V c (36 * h.val + s + 1)).k (ix2 x e) = (G.dc h (gl (kjN s) x) : EReal) := by
  refine ((after V c G hG h s hs).k x e).trans (congrArg _ ?_)
  refine (over_queries s hs h7 _ (fun i j => ∑ y, G.ds h (gl i y) (gl j x)) (fun s hs => ?_) (fun i hi => ?_)).trans ?_
  · refine Finset.sum_congr rfl fun y _ => ?_
    rw [GData.blk_ds G h _ _ hs, dif_neg he, mul_one]
  · exact Finset.sum_eq_zero fun y _ => GData.ds_late G h _ _ hi x y
  · rw [GData.dc, sum_tiles]

/-- The values' gradient after a key tile's last visit. -/
theorem final_v (s : ℕ) (hs : s < 36) (h7 : qiN s = 7) (x : Fin 1024) (d : Fin 128) :
    (traj V c (36 * h.val + s + 1)).v (ix2 x d) = (G.dv h (gl (kjN s) x) d : EReal) := by
  refine ((after V c G hG h s hs).v x d).trans (congrArg _ ?_)
  refine (over_queries s hs h7 _ (fun i j => ∑ y, G.pr h (gl i y) (gl j x) * G.ct h d (gl i y)) (fun s hs => ?_) (fun i hi => ?_)).trans ?_
  · refine Finset.sum_congr rfl fun y _ => ?_
    rw [GData.blk_pr G h _ _ hs]; rfl
  · exact Finset.sum_eq_zero fun y _ => by rw [GData.pr_late G h _ _ hi, zero_mul]
  · rw [GData.dv, sum_tiles]

end Traj

end Cert.KernelIdeal.Fox

end
-- ==== Proof.Fox.Blocks.lean ====
/- Where each block of the attention kernel lies in its array: what the body reads at a point, and what the arrays it writes
   hold at the end. -/
module

public import proofs.«01_k».proof.Proof.Ref.Real
public import proofs.«01_k».proof.Proof.Fox.Sums
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe
open Cert.Fox (Att scl)
open Cert.ReferenceIdeal.Ref (col att)

/-! The block each window is at. -/

theorem idx_0 : ∀ t : Fin cfgA.N, (cfgA.win (0 : Fin 12)).index t = (![(qiT t).val, 32 + t.val / 36] : Fin 2 → ℕ) := by decide +kernel
theorem idx_1 : ∀ t : Fin cfgA.N, (cfgA.win (1 : Fin 12)).index t = (![(kjT t).val, 40 + t.val / 36] : Fin 2 → ℕ) := by decide +kernel
theorem idx_2 : ∀ t : Fin cfgA.N, (cfgA.win (2 : Fin 12)).index t = (![(kjT t).val, 48 + t.val / 36] : Fin 2 → ℕ) := by decide +kernel
theorem idx_3 : ∀ t : Fin cfgA.N, (cfgA.win (3 : Fin 12)).index t = (![t.val / 36, (kjT t).val, 0] : Fin 3 → ℕ) := by decide +kernel
theorem idx_4 : ∀ t : Fin cfgA.N, (cfgA.win (4 : Fin 12)).index t = (![t.val / 36, 0, (qiT t).val] : Fin 3 → ℕ) := by decide +kernel
theorem idx_5 : ∀ t : Fin cfgA.N, (cfgA.win (5 : Fin 12)).index t = (![t.val / 36, 0, (qiT t).val] : Fin 3 → ℕ) := by decide +kernel
theorem idx_6 : ∀ t : Fin cfgA.N, (cfgA.win (6 : Fin 12)).index t = (![t.val / 36, (qiT t).val] : Fin 2 → ℕ) := by decide +kernel
theorem idx_7 : ∀ t : Fin cfgA.N, (cfgA.win (7 : Fin 12)).index t = (![0, t.val / 36] : Fin 2 → ℕ) := by decide +kernel
theorem idx_8 : ∀ t : Fin cfgA.N, (cfgA.win (8 : Fin 12)).index t = (![(kjT t).val, t.val / 36] : Fin 2 → ℕ) := by decide +kernel
theorem idx_9 : ∀ t : Fin cfgA.N, (cfgA.win (9 : Fin 12)).index t = (![(kjT t).val, t.val / 36] : Fin 2 → ℕ) := by decide +kernel
theorem idx_10 : ∀ t : Fin cfgA.N, (cfgA.win (10 : Fin 12)).index t = (![t.val / 36, 0, 0] : Fin 3 → ℕ) := by decide +kernel
theorem idx_11 : ∀ t : Fin cfgA.N, (cfgA.win (11 : Fin 12)).index t = (![t.val / 36, (kjT t).val, 0] : Fin 3 → ℕ) := by decide +kernel

/-! Every output is written everywhere. -/

theorem cov_7 : (cfgA.win (7 : Fin 12)).Covers := by decide +kernel
theorem cov_8 : (cfgA.win (8 : Fin 12)).Covers := by decide +kernel
theorem cov_9 : (cfgA.win (9 : Fin 12)).Covers := by decide +kernel
theorem cov_10 : (cfgA.win (10 : Fin 12)).Covers := by decide +kernel
theorem cov_11 : (cfgA.win (11 : Fin 12)).Covers := by decide +kernel

/-! Where an element of a block lies in the array. -/

section Place
variable (t : Fin cfgA.N) (h : Fin 8) (hh : h.val = t.val / 36)
include hh

theorem emb_0 (x : Fin 1024) (j : Fin 128) : ((cfgA.win (0 : Fin 12)).blk t).view.emb (ix2 x j) = (ix2 (gl (qiT t) x) ⟨4096 + (h.val * 128 + j.val), by omega⟩) := by
  refine funext fun a => Fin.ext ?_
  fin_cases a
  · refine (Pipeline.Window.rect_emb_val _ _ _ _).trans ?_
    rw [idx_0]
    show ((qiT t).val) * 1024 + x.val = ((qiT t).val * 1024 + x.val)
    omega
  · refine (Pipeline.Window.rect_emb_val _ _ _ _).trans ?_
    rw [idx_0]
    show (32 + t.val / 36) * 128 + j.val = (4096 + (h.val * 128 + j.val))
    omega
theorem emb_1 (x : Fin 1024) (j : Fin 128) : ((cfgA.win (1 : Fin 12)).blk t).view.emb (ix2 x j) = (ix2 (gl (kjT t) x) ⟨5120 + (h.val * 128 + j.val), by omega⟩) := by
  refine funext fun a => Fin.ext ?_
  fin_cases a
  · refine (Pipeline.Window.rect_emb_val _ _ _ _).trans ?_
    rw [idx_1]
    show ((kjT t).val) * 1024 + x.val = ((kjT t).val * 1024 + x.val)
    omega
  · refine (Pipeline.Window.rect_emb_val _ _ _ _).trans ?_
    rw [idx_1]
    show (40 + t.val / 36) * 128 + j.val = (5120 + (h.val * 128 + j.val))
    omega
theorem emb_2 (x : Fin 1024) (j : Fin 128) : ((cfgA.win (2 : Fin 12)).blk t).view.emb (ix2 x j) = (ix2 (gl (kjT t) x) ⟨6144 + (h.val * 128 + j.val), by omega⟩) := by
  refine funext fun a => Fin.ext ?_
  fin_cases a
  · refine (Pipeline.Window.rect_emb_val _ _ _ _).trans ?_
    rw [idx_2]
    show ((kjT t).val) * 1024 + x.val = ((kjT t).val * 1024 + x.val)
    omega
  · refine (Pipeline.Window.rect_emb_val _ _ _ _).trans ?_
    rw [idx_2]
    show (48 + t.val / 36) * 128 + j.val = (6144 + (h.val * 128 + j.val))
    omega
theorem emb_3 (x : Fin 1024) (j : Fin 128) : ((cfgA.win (3 : Fin 12)).blk t).view.emb (ix3 0 x j) = (ix3 h (gl (kjT t) x) j) := by
  refine funext fun a => Fin.ext ?_
  fin_cases a
  · refine (Pipeline.Window.rect_emb_val _ _ _ _).trans ?_
    rw [idx_3]
    show (t.val / 36) * 1 + 0 = h.val
    omega
  · refine (Pipeline.Window.rect_emb_val _ _ _ _).trans ?_
    rw [idx_3]
    show ((kjT t).val) * 1024 + x.val = ((kjT t).val * 1024 + x.val)
    omega
  · refine (Pipeline.Window.rect_emb_val _ _ _ _).trans ?_
    rw [idx_3]
    show (0) * 128 + j.val = j.val
    omega
theorem emb_4 (x : Fin 1024) : ((cfgA.win (4 : Fin 12)).blk t).view.emb (ix3 0 0 x) = (ix3 h 0 (gl (qiT t) x)) := by
  refine funext fun a => Fin.ext ?_
  fin_cases a
  · refine (Pipeline.Window.rect_emb_val _ _ _ _).trans ?_
    rw [idx_4]
    show (t.val / 36) * 1 + 0 = h.val
    omega
  · refine (Pipeline.Window.rect_emb_val _ _ _ _).trans ?_
    rw [idx_4]
    show (0) * 1 + 0 = 0
    omega
  · refine (Pipeline.Window.rect_emb_val _ _ _ _).trans ?_
    rw [idx_4]
    show ((qiT t).val) * 1024 + x.val = ((qiT t).val * 1024 + x.val)
    omega
theorem emb_5 (x : Fin 1024) : ((cfgA.win (5 : Fin 12)).blk t).view.emb (ix3 0 0 x) = (ix3 h 0 (gl (qiT t) x)) := by
  refine funext fun a => Fin.ext ?_
  fin_cases a
  · refine (Pipeline.Window.rect_emb_val _ _ _ _).trans ?_
    rw [idx_5]
    show (t.val / 36) * 1 + 0 = h.val
    omega
  · refine (Pipeline.Window.rect_emb_val _ _ _ _).trans ?_
    rw [idx_5]
    show (0) * 1 + 0 = 0
    omega
  · refine (Pipeline.Window.rect_emb_val _ _ _ _).trans ?_
    rw [idx_5]
    show ((qiT t).val) * 1024 + x.val = ((qiT t).val * 1024 + x.val)
    omega
theorem emb_6 (j : Fin 128) (x : Fin 1024) : ((cfgA.win (6 : Fin 12)).blk t).view.emb (ix2 j x) = (ix2 (col h j) (gl (qiT t) x)) := by
  refine funext fun a => Fin.ext ?_
  fin_cases a
  · refine (Pipeline.Window.rect_emb_val _ _ _ _).trans ?_
    rw [idx_6]
    show (t.val / 36) * 128 + j.val = (h.val * 128 + j.val)
    omega
  · refine (Pipeline.Window.rect_emb_val _ _ _ _).trans ?_
    rw [idx_6]
    show ((qiT t).val) * 1024 + x.val = ((qiT t).val * 1024 + x.val)
    omega
theorem emb_7 (r : Fin 8192) (j : Fin 128) : ((cfgA.win (7 : Fin 12)).blk t).view.emb (ix2 r j) = (ix2 r (col h j)) := by
  refine funext fun a => Fin.ext ?_
  fin_cases a
  · refine (Pipeline.Window.rect_emb_val _ _ _ _).trans ?_
    rw [idx_7]
    show (0) * 8192 + r.val = r.val
    omega
  · refine (Pipeline.Window.rect_emb_val _ _ _ _).trans ?_
    rw [idx_7]
    show (t.val / 36) * 128 + j.val = (h.val * 128 + j.val)
    omega
theorem emb_8 (x : Fin 1024) (j : Fin 128) : ((cfgA.win (8 : Fin 12)).blk t).view.emb (ix2 x j) = (ix2 (gl (kjT t) x) (col h j)) := by
  refine funext fun a => Fin.ext ?_
  fin_cases a
  · refine (Pipeline.Window.rect_emb_val _ _ _ _).trans ?_
    rw [idx_8]
    show ((kjT t).val) * 1024 + x.val = ((kjT t).val * 1024 + x.val)
    omega
  · refine (Pipeline.Window.rect_emb_val _ _ _ _).trans ?_
    rw [idx_8]
    show (t.val / 36) * 128 + j.val = (h.val * 128 + j.val)
    omega
theorem emb_9 (x : Fin 1024) (j : Fin 128) : ((cfgA.win (9 : Fin 12)).blk t).view.emb (ix2 x j) = (ix2 (gl (kjT t) x) (col h j)) := by
  refine funext fun a => Fin.ext ?_
  fin_cases a
  · refine (Pipeline.Window.rect_emb_val _ _ _ _).trans ?_
    rw [idx_9]
    show ((kjT t).val) * 1024 + x.val = ((kjT t).val * 1024 + x.val)
    omega
  · refine (Pipeline.Window.rect_emb_val _ _ _ _).trans ?_
    rw [idx_9]
    show (t.val / 36) * 128 + j.val = (h.val * 128 + j.val)
    omega
theorem emb_10 (i : Fin 8) (y : Fin 1024) : ((cfgA.win (10 : Fin 12)).blk t).view.emb (ix3 0 i y) = (ix3 h i y) := by
  refine funext fun a => Fin.ext ?_
  fin_cases a
  · refine (Pipeline.Window.rect_emb_val _ _ _ _).trans ?_
    rw [idx_10]
    show (t.val / 36) * 1 + 0 = h.val
    omega
  · refine (Pipeline.Window.rect_emb_val _ _ _ _).trans ?_
    rw [idx_10]
    show (0) * 8 + i.val = i.val
    omega
  · refine (Pipeline.Window.rect_emb_val _ _ _ _).trans ?_
    rw [idx_10]
    show (0) * 1024 + y.val = y.val
    omega
theorem emb_11 (x : Fin 1024) : ((cfgA.win (11 : Fin 12)).blk t).view.emb (ix3 0 x 0) = (ix3 h (gl (kjT t) x) 0) := by
  refine funext fun a => Fin.ext ?_
  fin_cases a
  · refine (Pipeline.Window.rect_emb_val _ _ _ _).trans ?_
    rw [idx_11]
    show (t.val / 36) * 1 + 0 = h.val
    omega
  · refine (Pipeline.Window.rect_emb_val _ _ _ _).trans ?_
    rw [idx_11]
    show ((kjT t).val) * 1024 + x.val = ((kjT t).val * 1024 + x.val)
    omega
  · refine (Pipeline.Window.rect_emb_val _ _ _ _).trans ?_
    rw [idx_11]
    show (0) * 1 + 0 = 0
    omega

end Place

section Blocks
variable (V : (c : Dev nD) → (b : Ref sig .tc) → Buf (Elt 𝔽) ((c.tc : Thread nD τ).loc b)) (c : Dev nD)
variable (G : GData)

/-- The blocks hold the tiles of `G` when the arrays hold `G`. -/
theorem reads_of
    (h0 : ∀ h t d, V c main_arg0 (ix2 t ⟨4096 + (h.val * 128 + d.val), by omega⟩) = (G.q h t d : EReal))
    (h1 : ∀ h t d, V c main_arg0 (ix2 t ⟨5120 + (h.val * 128 + d.val), by omega⟩) = (G.k h t d : EReal))
    (h2 : ∀ h t d, V c main_arg0 (ix2 t ⟨6144 + (h.val * 128 + d.val), by omega⟩) = (G.v h t d : EReal))
    (h3 : ∀ h t (d : Fin 128), V c main_v49 (ix3 h t d) = (G.ck h t : EReal))
    (h4 : ∀ h t, V c main_v50 (ix3 h 0 t) = (G.lse h t : EReal))
    (h5 : ∀ h t, V c main_v51 (ix3 h 0 t) = (G.dl h t : EReal))
    (h6 : ∀ h d t, V c main_v52 (ix2 (col h d) t) = (G.ct h d t : EReal)) : Reads V c G := fun t h hh =>
  { q := fun x j => (congrArg (V c main_arg0) (emb_0 t h hh x j)).trans (h0 h _ j)
    k := fun x j => (congrArg (V c main_arg0) (emb_1 t h hh x j)).trans (h1 h _ j)
    v := fun x j => (congrArg (V c main_arg0) (emb_2 t h hh x j)).trans (h2 h _ j)
    ck := fun x j => (congrArg (V c main_v49) (emb_3 t h hh x j)).trans (h3 h _ j)
    lse := fun x => (congrArg (V c main_v50) (emb_4 t h hh x)).trans (h4 h _)
    dl := fun x => (congrArg (V c main_v51) (emb_5 t h hh x)).trans (h5 h _)
    ct := fun j x => (congrArg (V c main_v52) (emb_6 t h hh j x)).trans (h6 h j _) }

/-- A grid point's head and visit. -/
theorem head_visit (t : Fin cfgA.N) : ∃ h : Fin 8, ∃ s : ℕ, s < 36 ∧ h.val = t.val / 36 ∧ t.val = 36 * h.val + s ∧ s = t.val % 36 :=
  ⟨⟨t.val / 36, by have h288 : t.val < 288 := t.isLt; omega⟩, t.val % 36, Nat.mod_lt _ (by decide), rfl, by simp only; omega, rfl⟩

variable {V c G} (hG : Reads V c G)
include hG

/-! What each output's array holds at the end. -/

theorem out_7 (R : FVec 𝔽 S8192x1024 .bf16) (hR : ∀ h t d, R (ix2 t (col h d)) = (G.dq h t d : EReal)) :
    (dats V 0 c).arrAt (7 : Fin 12) cfgA.N = R := by
  refine (dats V 0 c).arrAt_eq_of_covers (7 : Fin 12) R cov_7 fun t hf y => ?_
  obtain ⟨h, s, hs, hh, et, es⟩ := head_visit t
  have e35 : t.val % 36 = 35 := of_decide_eq_true ((flush_7 t).symm.trans hf)
  have et' : t.val + 1 = 36 * h.val + 35 + 1 := by omega
  obtain ⟨r, j, rfl⟩ : ∃ (r : Fin 8192) (j : Fin 128), y = ix2 r j := ⟨y 0, y 1, eq_ix2 y⟩
  refine Eq.trans ?_ (congrArg R (emb_7 t h hh r j)).symm
  refine (outQ_apply _ r j).trans ?_
  rw [et', final_q V c G hG, gl_tile, hR]

theorem out_8 (R : FVec 𝔽 S8192x1024 .bf16) (hR : ∀ h k d, R (ix2 k (col h d)) = (G.dk h k d : EReal)) :
    (dats V 0 c).arrAt (8 : Fin 12) cfgA.N = R := by
  refine (dats V 0 c).arrAt_eq_of_covers (8 : Fin 12) R cov_8 fun t hf y => ?_
  obtain ⟨h, s, hs, hh, et, es⟩ := head_visit t
  have e7 : qiT t = 7 := of_decide_eq_true ((flush_8 t).symm.trans hf)
  have ej : kjT t = kjN s := congrArg kjF (Fin.ext (by simp only; omega))
  have h7 : qiN s = 7 := (congrArg qiF (Fin.ext (by simp only; omega))).trans e7
  obtain ⟨x, j, rfl⟩ : ∃ (x : Fin 1024) (j : Fin 128), y = ix2 x j := ⟨y 0, y 1, eq_ix2 y⟩
  refine Eq.trans ?_ (congrArg R (emb_8 t h hh x j)).symm
  refine (outK_apply _ x j).trans ?_
  rw [et, final_k V c G hG h s hs h7 x _ j.isLt, hR, ej]

theorem out_9 (R : FVec 𝔽 S8192x1024 .bf16) (hR : ∀ h k d, R (ix2 k (col h d)) = (G.dv h k d : EReal)) :
    (dats V 0 c).arrAt (9 : Fin 12) cfgA.N = R := by
  refine (dats V 0 c).arrAt_eq_of_covers (9 : Fin 12) R cov_9 fun t hf y => ?_
  obtain ⟨h, s, hs, hh, et, es⟩ := head_visit t
  have e7 : qiT t = 7 := of_decide_eq_true ((flush_9 t).symm.trans hf)
  have ej : kjT t = kjN s := congrArg kjF (Fin.ext (by simp only; omega))
  have h7 : qiN s = 7 := (congrArg qiF (Fin.ext (by simp only; omega))).trans e7
  obtain ⟨x, j, rfl⟩ : ∃ (x : Fin 1024) (j : Fin 128), y = ix2 x j := ⟨y 0, y 1, eq_ix2 y⟩
  refine Eq.trans ?_ (congrArg R (emb_9 t h hh x j)).symm
  refine (outV_apply _ x j).trans ?_
  rw [et, final_v V c G hG h s hs h7 x j, hR, ej]

theorem out_10 (R : FVec 𝔽 S8x8x1024 .f32) (hR : ∀ h i y, R (ix3 h i y) = (G.dr h (gl i y) : EReal)) :
    (dats V 0 c).arrAt (10 : Fin 12) cfgA.N = R := by
  refine (dats V 0 c).arrAt_eq_of_covers (10 : Fin 12) R cov_10 fun t hf y => ?_
  obtain ⟨h, s, hs, hh, et, es⟩ := head_visit t
  have e35 : t.val % 36 = 35 := of_decide_eq_true ((flush_10 t).symm.trans hf)
  have et' : t.val + 1 = 36 * h.val + 35 + 1 := by omega
  obtain ⟨z, i, x, rfl⟩ : ∃ (z : Fin 1) (i : Fin 8) (x : Fin 1024), y = ix3 z i x := ⟨y 0, y 1, y 2, eq_ix3 y⟩
  obtain rfl : z = 0 := Subsingleton.elim _ _
  refine Eq.trans ?_ (congrArg R (emb_10 t h hh i x)).symm
  show (traj V c (t.val + 1)).r (ix3 0 i x) = _
  rw [et', final_r V c G hG, hR]

theorem out_11 (R : FVec 𝔽 S8x8192x1 .f32) (hR : ∀ h k, R (ix3 h k 0) = (G.dc h k : EReal)) :
    (dats V 0 c).arrAt (11 : Fin 12) cfgA.N = R := by
  refine (dats V 0 c).arrAt_eq_of_covers (11 : Fin 12) R cov_11 fun t hf y => ?_
  obtain ⟨h, s, hs, hh, et, es⟩ := head_visit t
  have e7 : qiT t = 7 := of_decide_eq_true ((flush_11 t).symm.trans hf)
  have ej : kjT t = kjN s := congrArg kjF (Fin.ext (by simp only; omega))
  have h7 : qiN s = 7 := (congrArg qiF (Fin.ext (by simp only; omega))).trans e7
  obtain ⟨z, x, z', rfl⟩ : ∃ (z : Fin 1) (x : Fin 1024) (z' : Fin 1), y = ix3 z x z' := ⟨y 0, y 1, y 2, eq_ix3 y⟩
  obtain rfl : z = 0 := Subsingleton.elim _ _
  obtain rfl : z' = 0 := Subsingleton.elim _ _
  refine Eq.trans ?_ (congrArg R (emb_11 t h hh x)).symm
  refine (outC_apply _ x).trans ?_
  rw [et]
  refine (final_c V c G hG h s hs h7 x 128 (by decide)).trans ?_
  rw [hR, ej]

end Blocks

end Cert.KernelIdeal.Fox

end
-- ==== Proof.Fox.Value.lean ====
/- The attention kernel against the reference: on finite arguments its five results are the reference's. -/
module

public import proofs.«01_k».proof.Proof.Fox.Host
public import proofs.«01_k».proof.Proof.Fox.Blocks

@[expose] public section

set_option maxRecDepth 16384

noncomputable section

namespace Cert.KernelIdeal.Fox

open Cert.KernelIdeal Cert.KernelIdeal.Gen
open Idealize.ShloMosaic Idealize.ShloMosaic.TcCoe
open Cert.Fox (Att scl)
open Cert.ReferenceIdeal.Ref (col att)

/-- The numbers the kernel computes from, `M` the shifts the log-sums were taken with. -/
def gdata (A : Att) (M : Fin 8 → Fin 8192 → ℝ) : GData where
  q := A.q
  k := A.k
  v := A.v
  ck := A.c
  lse h t := M h t + Real.log (A.L h (M h t) t) - A.c h t
  dl := A.D
  ct h d t := A.o h t d

section Numbers
variable (A : Att) (M : Fin 8 → Fin 8192 → ℝ) (h : Fin 8)

/-! Its gradients are the attention's. -/

theorem pr_eq (t k : Fin 8192) : (gdata A M).pr h t k = A.P h t k := A.P_log h (M h t) t k
theorem ds_eq (t k : Fin 8192) : (gdata A M).ds h t k = A.dS h t k := by
  unfold GData.ds
  rw [pr_eq]
  unfold Att.dS Att.dP GData.dp gdata
  simp only [mul_comm]
theorem dv_eq (k : Fin 8192) (d : Fin 128) : (gdata A M).dv h k d = A.dV h k d :=
  Finset.sum_congr rfl fun t _ => by rw [pr_eq, mul_comm]; rfl
theorem dk_eq (k : Fin 8192) (d : Fin 128) : (gdata A M).dk h k d = A.dK h k d :=
  Finset.sum_congr rfl fun t _ => by rw [ds_eq]; rfl
theorem dc_eq (k : Fin 8192) : (gdata A M).dc h k = A.dC h k :=
  Finset.sum_congr rfl fun t _ => by rw [ds_eq]
theorem dq_eq (t : Fin 8192) (d : Fin 128) : (gdata A M).dq h t d = A.dQ h t d :=
  congrArg (· * scl) (Finset.sum_congr rfl fun k _ => by rw [ds_eq, mul_comm]; rfl)
theorem dr_eq (t : Fin 8192) : (gdata A M).dr h t = A.dR h t :=
  Finset.sum_congr rfl fun k _ => by rw [ds_eq]

end Numbers

section Results
variable (m : (ℓ : Loc nD τ sig) → Buf (Elt 𝔽) ℓ) (c : Dev nD)

/-- The arguments. -/
abbrev A0 : FVec 𝔽 S8192x7168 .f32 := m ((c.tc : Thread nD τ).loc main_arg0)
abbrev A1 : FVec 𝔽 S8192x8 .f32 := m ((c.tc : Thread nD τ).loc main_arg1)
abbrev A2 : FVec 𝔽 S8192x1024 .f32 := m ((c.tc : Thread nD τ).loc main_arg2)

variable {m c}
  {x0 : Fin 8192 → Fin 7168 → ℝ} {x1 : Fin 8192 → Fin 8 → ℝ} {x2 : Fin 8192 → Fin 1024 → ℝ}
  (h0 : ∀ t n, A0 m c (ix2 t n) = (x0 t n : EReal)) (h1 : ∀ t n, A1 m c (ix2 t n) = (x1 t n : EReal))
  (h2 : ∀ t n, A2 m c (ix2 t n) = (x2 t n : EReal))
include h0 h1 h2

/-- What the kernel's blocks hold. -/
theorem reads : Reads (V m) c (gdata (att x0 x1 x2) fun h t => EReal.toReal (Cert.ReferenceIdeal.Ref.rM (A0 m c) (A1 m c) (ix2 h t))) := by
  refine reads_of (V m) c _ (fun h t d => ?_) (fun h t d => ?_) (fun h t d => ?_) (fun h t d => ?_) (fun h t => ?_) (fun h t => ?_) (fun h d t => ?_)
  · exact (congrFun (V_arg0 m c) _).trans (h0 t _)
  · exact (congrFun (V_arg0 m c) _).trans (h0 t _)
  · exact (congrFun (V_arg0 m c) _).trans (h0 t _)
  · exact (congrFun (V_gate m c) _).trans ((hC_apply (A1 m c) h t d).trans (h1 t h))
  · exact (congrFun (V_lse m c) _).trans (hLse_real (x2 := x2) h0 h1 h t)
  · exact (congrFun (V_dl m c) _).trans (hDl_real h0 h1 h2 h t)
  · exact (congrFun (V_ct m c) _).trans ((hT_apply (A2 m c) t (col h d)).trans (h2 t (col h d)))

/-! The five results, as the reference's. -/

theorem result_7 : (dats (V m) 0 c).arrAt (7 : Fin 12) cfgA.N = Cert.ReferenceIdeal.Ref.rDQ (A0 m c) (A1 m c) (A2 m c) :=
  out_7 (reads h0 h1 h2) _ fun h t d => (Cert.ReferenceIdeal.Ref.rDQ_real h0 h1 h2 h t d).trans (congrArg _ (dq_eq _ _ h t d).symm)
theorem result_8 : (dats (V m) 0 c).arrAt (8 : Fin 12) cfgA.N = Cert.ReferenceIdeal.Ref.rDK (A0 m c) (A1 m c) (A2 m c) :=
  out_8 (reads h0 h1 h2) _ fun h t d => (Cert.ReferenceIdeal.Ref.rDK_real h0 h1 h2 h t d).trans (congrArg _ (dk_eq _ _ h t d).symm)
theorem result_9 : (dats (V m) 0 c).arrAt (9 : Fin 12) cfgA.N = Cert.ReferenceIdeal.Ref.rDV (A0 m c) (A1 m c) (A2 m c) :=
  out_9 (reads h0 h1 h2) _ fun h t d => (Cert.ReferenceIdeal.Ref.rDV_real h0 h1 h2 h t d).trans (congrArg _ (dv_eq _ _ h t d).symm)
theorem result_10 : (dats (V m) 0 c).arrAt (10 : Fin 12) cfgA.N = Cert.ReferenceIdeal.Ref.rDR (A0 m c) (A1 m c) (A2 m c) :=
  out_10 (reads h0 h1 h2) _ fun h i y => (Cert.ReferenceIdeal.Ref.rDR_real h0 h1 h2 h i y).trans (congrArg _ (dr_eq _ _ h _).symm)
theorem result_11 : (dats (V m) 0 c).arrAt (11 : Fin 12) cfgA.N = Cert.ReferenceIdeal.Ref.rDC (A0 m c) (A1 m c) (A2 m c) :=
  out_11 (reads h0 h1 h2) _ fun h t => (Cert.ReferenceIdeal.Ref.rDC_real h0 h1 h2 h t).trans (congrArg _ (dc_eq _ _ h t).symm)

end Results

end Cert.KernelIdeal.Fox

end
-- ==== Proof.Ref.Result.lean ====
/- The reference's results, as the stages of the attention's gradients. -/
module

public import proofs.«01_k».proof.Proof.Ref.Stages

@[expose] public section

set_option maxRecDepth 16384

noncomputable section

namespace Cert.ReferenceIdeal.Ref

open Cert.ReferenceIdeal Cert.ReferenceIdeal.Gen
open Idealize.ShloMosaic Idealize.ShloMosaic.TcCoe

variable (m : (ℓ : Loc nD τ sig) → Buf (Elt 𝔽) ℓ) (c : Dev nD)

/-- The arguments. -/
abbrev A0 : FVec 𝔽 S8192x7168 .f32 := m ((c.tc : Thread nD τ).loc main_arg0)
abbrev A1 : FVec 𝔽 S8192x8 .f32 := m ((c.tc : Thread nD τ).loc main_arg1)
abbrev A2 : FVec 𝔽 S8192x1024 .f32 := m ((c.tc : Thread nD τ).loc main_arg2)

theorem res_0 : Value.res_main_v96 m c = rDQ (A0 m c) (A1 m c) (A2 m c) := by
  unfold Value.res_main_v96; rfl
theorem res_1 : Value.res_main_v97 m c = rDK (A0 m c) (A1 m c) (A2 m c) := by
  unfold Value.res_main_v97; rfl
theorem res_2 : Value.res_main_v98 m c = rDV (A0 m c) (A1 m c) (A2 m c) := by
  unfold Value.res_main_v98; rfl
theorem res_3 : Value.res_main_v100 m c = rDR (A0 m c) (A1 m c) (A2 m c) := by
  unfold Value.res_main_v100; rfl
theorem res_4 : Value.res_main_v103 m c = rDC (A0 m c) (A1 m c) (A2 m c) := by
  unfold Value.res_main_v103; rfl

end Cert.ReferenceIdeal.Ref

end
-- ==== Proof.Finite.lean ====
/- The precondition: an argument whose elements are all of finite absolute value holds real numbers. -/
module

public import proofs.«01_k».proof.Pre_finite
public import proofs.«01_k».proof.Proof.Spec
public import Idealize.ShloMosaic.Lib.Pointwise

@[expose] public section

noncomputable section

namespace Cert.Pre_finite

open Idealize.ShloMosaic Idealize.ShloMosaic.TcCoe

/-- The side conditions the precondition's operations state. -/
theorem facts_hold : Cert.Pre_finite.Facts where
  bcast_S_S8192x7168 := by decide
  bcast_S_S8192x8 := by decide
  bcast_S_S8192x1024 := by decide

/-- An element whose absolute value compares below infinity is a real number. -/
theorem real_of_lt (x : EReal) (h : Idealize.ShloMosaic.Ideal.cmp .olt (max x (-x)) (Idealize.ShloMosaic.Ideal.ofBits .f32 0x7F800000#32) = 1#1) : x = (x.toReal : EReal) := by
  rw [Cert.Fox.ofBits_top] at h
  have hlt : max x (-x) < ⊤ := Idealize.ShloMosaic.Ideal.cmp_olt_eq_one _ _ |>.1 h
  refine (EReal.coe_toReal (fun e => ?_) (fun e => ?_)).symm
  · rw [e] at hlt; simp at hlt
  · rw [e] at hlt; simp at hlt

section
variable [hf : Cert.Pre_finite.Facts] (X0 : FVec Idealize.ShloMosaic.Ideal S8192x7168 .f32) (X1 : FVec Idealize.ShloMosaic.Ideal S8192x8 .f32)
  (X2 : FVec Idealize.ShloMosaic.Ideal S8192x1024 .f32)

/-! Each argument in turn. -/

theorem real_0 (h : (fn X0 X1 X2).1 = fun _ => 1#1) (t : Fin 8192) (n : Fin 7168) : X0 (ix2 t n) = ((X0 (ix2 t n)).toReal : EReal) :=
  real_of_lt _ (congrFun h (ix2 t n))
theorem real_1 (h : (fn X0 X1 X2).2.1 = fun _ => 1#1) (t : Fin 8192) (n : Fin 8) : X1 (ix2 t n) = ((X1 (ix2 t n)).toReal : EReal) :=
  real_of_lt _ (congrFun h (ix2 t n))
theorem real_2 (h : (fn X0 X1 X2).2.2 = fun _ => 1#1) (t : Fin 8192) (n : Fin 1024) : X2 (ix2 t n) = ((X2 (ix2 t n)).toReal : EReal) :=
  real_of_lt _ (congrFun h (ix2 t n))
end

end Cert.Pre_finite

end
-- ==== Proof.Mm.DwFfnDown.lean ====
/- The gradient of the down projection's weights: the kernel sums 8192 products per entry in four steps. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Reference3Ideal.Mm

open Cert.Reference3Ideal Cert.Reference3Ideal.Gen
open Idealize.ShloMosaic Idealize.ShloMosaic.TcCoe

local notation "𝔽" => Idealize.ShloMosaic.Ideal

/-- The product, as the reference writes it. -/
abbrev res (X0 : FVec 𝔽 S8192x5632 .bf16) (X1 : FVec 𝔽 S8192x2048 .bf16) : FVec 𝔽 S5632x2048 .f32 :=
  transpose S5632x2048 [1, 0] (Host.dotGeneral dot_S8192x2048_S8192x5632_S2048x5632_0_0_1_1_n_n none (extf .f32 X1 bitsLt_bf16_f32) (extf .f32 X0 bitsLt_bf16_f32)) transposes_S2048x5632_S5632x2048_1_0

theorem res_apply (X0 : FVec 𝔽 S8192x5632 .bf16) (X1 : FVec 𝔽 S8192x2048 .bf16) (y : S5632x2048.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference3Ideal.Mm

namespace Cert.Kernel3Ideal.Mm

open Cert.Kernel3Ideal Cert.Kernel3Ideal.Gen
open Idealize.ShloMosaic Idealize.ShloMosaic.TcCoe

local notation "𝔽" => Idealize.ShloMosaic.Ideal

/-- A step's product. -/
def part (a : Vec 𝔽 S2048x1408 .bf16) (b : Vec 𝔽 S2048x1024 .bf16) (y : S1408x1024.Idx) : EReal :=
  ∑ k : Fin 2048, a (ix2 k (y 0)) * b (ix2 k (y 1))

theorem pay_first (a : Vec 𝔽 S2048x1408 .bf16) (b : Vec 𝔽 S2048x1024 .bf16) (y : S1408x1024.Idx) :
    k0_pay2 a b y = 0 + part a b y := by
  pointwise [k0_pay2, k0_pay1, part]

theorem pay_next (a : Vec 𝔽 S2048x1408 .bf16) (b : Vec 𝔽 S2048x1024 .bf16) (s : Vec 𝔽 S1408x1024 .f32) (y : S1408x1024.Idx) :
    k0_pay3 a b s y = s y + part a b y := by
  pointwise [k0_pay3, k0_pay1, part]

theorem pay_last (a : Vec 𝔽 S2048x1408 .bf16) (b : Vec 𝔽 S2048x1024 .bf16) (s : Vec 𝔽 S1408x1024 .f32) (y : S1408x1024.Idx) :
    k0_pay4 a b s y = s y + part a b y := by
  pointwise [k0_pay4, k0_pay1, part]

theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1408x1024.Idx → EReal :=
  if n % 4 = 3 then (outsAt0 m c n h).1 else (outsAt0 m c n h).2

theorem run_first (c : Dev nD) (t : Fin cfg0.N) (h : t.val % 4 = 0) (y : S1408x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1408x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference3Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference3Ideal.Mm.res_apply]
  refine Fin.sum_mul_add_congr fun s k hl => ?_
  blk_point [iblk, V, idx t, idx ⟨_, Pipeline.run_point_lt_of_flush t h3 s⟩]

end Cert.Kernel3Ideal.Mm

end
-- ==== Proof.Mm.DH3Gate.lean ====
/- The hidden gradient through the gate projection: the kernel sums 5632 products per entry in two steps. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Reference4Ideal.Mm

open Cert.Reference4Ideal Cert.Reference4Ideal.Gen
open Idealize.ShloMosaic Idealize.ShloMosaic.TcCoe

local notation "𝔽" => Idealize.ShloMosaic.Ideal

/-- The product, as the reference writes it. -/
abbrev res (X0 : FVec 𝔽 S8192x5632 .bf16) (X1 : FVec 𝔽 S2048x5632 .bf16) : FVec 𝔽 S8192x2048 .f32 :=
  Host.dotGeneral dot_S8192x5632_S2048x5632_S8192x2048_1_1_0_0_n_n none (extf .f32 X0 bitsLt_bf16_f32) (extf .f32 X1 bitsLt_bf16_f32)

theorem res_apply (X0 : FVec 𝔽 S8192x5632 .bf16) (X1 : FVec 𝔽 S2048x5632 .bf16) (y : S8192x2048.Idx) :
    res X0 X1 y = (∑ k : Fin 5632, X0 (ix2 (y 0) k) * X1 (ix2 (y 1) k)) := by
  pointwise [res]

end Cert.Reference4Ideal.Mm

namespace Cert.Kernel4Ideal.Mm

open Cert.Kernel4Ideal Cert.Kernel4Ideal.Gen
open Idealize.ShloMosaic Idealize.ShloMosaic.TcCoe

local notation "𝔽" => Idealize.ShloMosaic.Ideal

/-- A step's product. -/
def part (a : Vec 𝔽 S1024x2816 .bf16) (b : Vec 𝔽 S1024x2816 .bf16) (y : S1024x1024.Idx) : EReal :=
  ∑ k : Fin 2816, a (ix2 (y 0) k) * b (ix2 (y 1) k)

theorem pay_first (a : Vec 𝔽 S1024x2816 .bf16) (b : Vec 𝔽 S1024x2816 .bf16) (y : S1024x1024.Idx) :
    k0_pay2 a b y = 0 + part a b y := by
  pointwise [k0_pay2, k0_pay1, part]

theorem pay_last (a : Vec 𝔽 S1024x2816 .bf16) (b : Vec 𝔽 S1024x2816 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val / 4, t.val % 2] ∧ win0_1.index t = ![t.val / 2 % 2, t.val % 2]
    ∧ win0_2.index t = ![t.val / 4, t.val / 2 % 2] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 2 = 1 then (outsAt0 m c n h).1 else (outsAt0 m c n h).2

theorem run_first (c : Dev nD) (t : Fin cfg0.N) (h : t.val % 2 = 0) (y : S1024x1024.Idx) :
    run m c t.val t.isLt y = 0 + part (iblk m c 0 t) (iblk m c 1 t) y := by
  rw [run, if_neg (by omega), outsAt0_A m c t h (by omega)]
  frame_out
  exact pay_first _ _ y

theorem run_next (c : Dev nD) (t : Fin cfg0.N) (h : ¬t.val % 2 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  have h3 : t.val % 2 = 1 := by omega
  rw [run, if_pos h3, outsAt0_B m c t h h3]
  frame_out
  exact (pay_last _ _ _ y).trans (congrArg (· + _) (congrFun (Memref.IsWhole.read_unread (Memref.isWhole_whole cc0_scratch0) _) y))

theorem final (c : Dev nD) : (dats m 0 c).arrAt 2 cfg0.N = Cert.Reference4Ideal.Mm.res (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 2 (fun _ => 0)
    (fun t => part (iblk m c 0 t) (iblk m c 1 t)) (run_first m c) (run_next m c) t h3 _, zero_add, Cert.Reference4Ideal.Mm.res_apply]
  refine Fin.sum_mul_add_congr fun s k hl => ?_
  blk_point [iblk, V, idx t, idx ⟨_, Pipeline.run_point_lt_of_flush t h3 s⟩]

end Cert.Kernel4Ideal.Mm

end
-- ==== Proof.Mm.DH3Up.lean ====
/- The hidden gradient through the up projection, added to the one through the gate projection: the kernel sums 5632 products per entry in four steps. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Reference5Ideal.Mm

open Cert.Reference5Ideal Cert.Reference5Ideal.Gen
open Idealize.ShloMosaic Idealize.ShloMosaic.TcCoe

local notation "𝔽" => Idealize.ShloMosaic.Ideal

/-- The product, as the reference writes it. -/
abbrev res (X0 : FVec 𝔽 S8192x5632 .bf16) (X1 : FVec 𝔽 S2048x5632 .bf16) (X2 : FVec 𝔽 S8192x2048 .f32) : FVec 𝔽 S8192x2048 .f32 :=
  addf (Host.dotGeneral dot_S8192x5632_S2048x5632_S8192x2048_1_1_0_0_n_n none (extf .f32 X0 bitsLt_bf16_f32) (extf .f32 X1 bitsLt_bf16_f32)) X2

theorem res_apply (X0 : FVec 𝔽 S8192x5632 .bf16) (X1 : FVec 𝔽 S2048x5632 .bf16) (X2 : FVec 𝔽 S8192x2048 .f32) (y : S8192x2048.Idx) :
    res X0 X1 X2 y = (∑ k : Fin 5632, X0 (ix2 (y 0) k) * X1 (ix2 (y 1) k)) + X2 y := by
  pointwise [res]

end Cert.Reference5Ideal.Mm

namespace Cert.Kernel5Ideal.Mm

open Cert.Kernel5Ideal Cert.Kernel5Ideal.Gen
open Idealize.ShloMosaic Idealize.ShloMosaic.TcCoe

local notation "𝔽" => Idealize.ShloMosaic.Ideal

/-- A step's product. -/
def part (a : Vec 𝔽 S1024x1408 .bf16) (b : Vec 𝔽 S1024x1408 .bf16) (y : S1024x1024.Idx) : EReal :=
  ∑ k : Fin 1408, a (ix2 (y 0) k) * b (ix2 (y 1) k)

theorem pay_first (a : Vec 𝔽 S1024x1408 .bf16) (b : Vec 𝔽 S1024x1408 .bf16) (y : S1024x1024.Idx) :
    k0_pay2 a b y = 0 + part a b y := by
  pointwise [k0_pay2, k0_pay1, part]

theorem pay_next (a : Vec 𝔽 S1024x1408 .bf16) (b : Vec 𝔽 S1024x1408 .bf16) (s : Vec 𝔽 S1024x1024 .f32) (y : S1024x1024.Idx) :
    k0_pay3 a b s y = s y + part a b y := by
  pointwise [k0_pay3, k0_pay1, part]

theorem pay_last (a : Vec 𝔽 S1024x1408 .bf16) (b : Vec 𝔽 S1024x1408 .bf16) (s : Vec 𝔽 S1024x1024 .f32) (x : Vec 𝔽 S1024x1024 .f32) (y : S1024x1024.Idx) :
    k0_pay4 a b s x y = (s y + part a b y) + x y := by
  pointwise [k0_pay4, k0_pay1, part]

theorem idx : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2] := (by decide +kernel : ∀ t : Fin grid0.N, _)

variable (m : (ℓ : Loc nD τ sig) → Buf (Elt 𝔽) ℓ)

/-- What is being summed: the scratch, and at a run's last point the scratch before it with the point's own product. -/
def run (c : Dev nD) (n : ℕ) (h : n < cfg0.N) : S1024x1024.Idx → EReal :=
  if n % 4 = 3 then fun y => (outsAt0 m c (n - 1) (Nat.lt_of_le_of_lt (Nat.sub_le _ _) h)).2 y + part (iblk m c 0 ⟨n, h⟩) (iblk m c 1 ⟨n, h⟩) y
  else (outsAt0 m c n h).2

/-- What a run's last point writes is the sum and the block to add. -/
theorem out_last (c : Dev nD) (t : Fin cfg0.N) (h : t.val % 4 = 3) (y : S1024x1024.Idx) :
    (outsAt0 m c t.val t.isLt).1 y = run m c t.val t.isLt y + (iblk m c 2 t : Vec 𝔽 S1024x1024 .f32) y := by
  rw [run, if_pos h, outsAt0_C m c t (by omega) (by omega) h]
  frame_out
  exact (pay_last _ _ _ _ y).trans (congrArg (fun z => z + _ + _) (congrFun (Memref.IsWhole.read_unread (Memref.isWhole_whole cc0_scratch0) _) y))

theorem run_first (c : Dev nD) (t : Fin cfg0.N) (h : t.val % 4 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3]
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 3 cfg0.N = Cert.Reference5Ideal.Mm.res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3, out_last m c t h3, Pipeline.eq_sum_fin_of_reset_step_apply_of_flush (fun n h => run m c n h) 4 (fun _ => 0)
    (fun t => part (iblk m c 0 t) (iblk m c 1 t)) (run_first m c) (run_next m c) t h3 _, zero_add, Cert.Reference5Ideal.Mm.res_apply]
  refine congrArg₂ (· + ·) (Fin.sum_mul_add_congr fun s k hl => ?_) ?_
  · blk_point [iblk, V, idx t, idx ⟨_, Pipeline.run_point_lt_of_flush t h3 s⟩]
  · blk_point [iblk, V, idx t]

end Cert.Kernel5Ideal.Mm

end
-- ==== Proof.Mm.DwFfnGate.lean ====
/- The gradient of the gate projection's weights: the kernel sums 8192 products per entry in four steps. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Reference6Ideal.Mm

open Cert.Reference6Ideal Cert.Reference6Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S8192x5632 .bf16) : FVec 𝔽 S2048x5632 .f32 :=
  transpose S2048x5632 [1, 0] (Host.dotGeneral dot_S8192x5632_S8192x2048_S5632x2048_0_0_1_1_n_n none (extf .f32 X1 bitsLt_bf16_f32) (extf .f32 X0 bitsLt_bf16_f32)) transposes_S5632x2048_S2048x5632_1_0

theorem res_apply (X0 : FVec 𝔽 S8192x2048 .bf16) (X1 : FVec 𝔽 S8192x5632 .bf16) (y : S2048x5632.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference6Ideal.Mm

namespace Cert.Kernel6Ideal.Mm

open Cert.Kernel6Ideal Cert.Kernel6Ideal.Gen
open Idealize.ShloMosaic Idealize.ShloMosaic.TcCoe

local notation "𝔽" => Idealize.ShloMosaic.Ideal

/-- A step's product. -/
def part (a : Vec 𝔽 S2048x1024 .bf16) (b : Vec 𝔽 S2048x1408 .bf16) (y : S1024x1408.Idx) : EReal :=
  ∑ k : Fin 2048, a (ix2 k (y 0)) * b (ix2 k (y 1))

theorem pay_first (a : Vec 𝔽 S2048x1024 .bf16) (b : Vec 𝔽 S2048x1408 .bf16) (y : S1024x1408.Idx) :
    k0_pay2 a b y = 0 + part a b y := by
  pointwise [k0_pay2, k0_pay1, part]

theorem pay_next (a : Vec 𝔽 S2048x1024 .bf16) (b : Vec 𝔽 S2048x1408 .bf16) (s : Vec 𝔽 S1024x1408 .f32) (y : S1024x1408.Idx) :
    k0_pay3 a b s y = s y + part a b y := by
  pointwise [k0_pay3, k0_pay1, part]

theorem pay_last (a : Vec 𝔽 S2048x1024 .bf16) (b : Vec 𝔽 S2048x1408 .bf16) (s : Vec 𝔽 S1024x1408 .f32) (y : S1024x1408.Idx) :
    k0_pay4 a b s y = s y + part a b y := by
  pointwise [k0_pay4, k0_pay1, part]

theorem idx : ∀ t : Fin cfg0.N, win0_0.index t = ![t.val % 4, t.val / 16] ∧ win0_1.index t = ![t.val % 4, t.val / 4 % 4]
    ∧ win0_2.index t = ![t.val / 16, t.val / 4 % 4] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1408.Idx → EReal :=
  if n % 4 = 3 then (outsAt0 m c n h).1 else (outsAt0 m c n h).2

theorem run_first (c : Dev nD) (t : Fin cfg0.N) (h : t.val % 4 = 0) (y : S1024x1408.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1408.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference6Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference6Ideal.Mm.res_apply]
  refine Fin.sum_mul_add_congr fun s k hl => ?_
  blk_point [iblk, V, idx t, idx ⟨_, Pipeline.run_point_lt_of_flush t h3 s⟩]

end Cert.Kernel6Ideal.Mm

end
-- ==== Proof.Mm.DwFfnUp.lean ====
/- The gradient of the up projection's weights: the kernel sums 8192 products per entry in four steps. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Reference7Ideal.Mm

open Cert.Reference7Ideal Cert.Reference7Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S8192x5632 .bf16) : FVec 𝔽 S2048x5632 .f32 :=
  transpose S2048x5632 [1, 0] (Host.dotGeneral dot_S8192x5632_S8192x2048_S5632x2048_0_0_1_1_n_n none (extf .f32 X1 bitsLt_bf16_f32) (extf .f32 X0 bitsLt_bf16_f32)) transposes_S5632x2048_S2048x5632_1_0

theorem res_apply (X0 : FVec 𝔽 S8192x2048 .bf16) (X1 : FVec 𝔽 S8192x5632 .bf16) (y : S2048x5632.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference7Ideal.Mm

namespace Cert.Kernel7Ideal.Mm

open Cert.Kernel7Ideal Cert.Kernel7Ideal.Gen
open Idealize.ShloMosaic Idealize.ShloMosaic.TcCoe

local notation "𝔽" => Idealize.ShloMosaic.Ideal

/-- A step's product. -/
def part (a : Vec 𝔽 S2048x1024 .bf16) (b : Vec 𝔽 S2048x1408 .bf16) (y : S1024x1408.Idx) : EReal :=
  ∑ k : Fin 2048, a (ix2 k (y 0)) * b (ix2 k (y 1))

theorem pay_first (a : Vec 𝔽 S2048x1024 .bf16) (b : Vec 𝔽 S2048x1408 .bf16) (y : S1024x1408.Idx) :
    k0_pay2 a b y = 0 + part a b y := by
  pointwise [k0_pay2, k0_pay1, part]

theorem pay_next (a : Vec 𝔽 S2048x1024 .bf16) (b : Vec 𝔽 S2048x1408 .bf16) (s : Vec 𝔽 S1024x1408 .f32) (y : S1024x1408.Idx) :
    k0_pay3 a b s y = s y + part a b y := by
  pointwise [k0_pay3, k0_pay1, part]

theorem pay_last (a : Vec 𝔽 S2048x1024 .bf16) (b : Vec 𝔽 S2048x1408 .bf16) (s : Vec 𝔽 S1024x1408 .f32) (y : S1024x1408.Idx) :
    k0_pay4 a b s y = s y + part a b y := by
  pointwise [k0_pay4, k0_pay1, part]

theorem idx : ∀ t : Fin cfg0.N, win0_0.index t = ![t.val % 4, t.val / 16] ∧ win0_1.index t = ![t.val % 4, t.val / 4 % 4]
    ∧ win0_2.index t = ![t.val / 16, t.val / 4 % 4] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1408.Idx → EReal :=
  if n % 4 = 3 then (outsAt0 m c n h).1 else (outsAt0 m c n h).2

theorem run_first (c : Dev nD) (t : Fin cfg0.N) (h : t.val % 4 = 0) (y : S1024x1408.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1408.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference7Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference7Ideal.Mm.res_apply]
  refine Fin.sum_mul_add_congr fun s k hl => ?_
  blk_point [iblk, V, idx t, idx ⟨_, Pipeline.run_point_lt_of_flush t h3 s⟩]

end Cert.Kernel7Ideal.Mm

end
-- ==== Proof.Mm.DwMain.lean ====
/- The gradient of the attention projections' weights: the kernel sums 8192 products per entry in four steps. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Reference8Ideal.Mm

open Cert.Reference8Ideal Cert.Reference8Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S8192x7168 .bf16) : FVec 𝔽 S2048x7168 .f32 :=
  transpose S2048x7168 [1, 0] (Host.dotGeneral dot_S8192x7168_S8192x2048_S7168x2048_0_0_1_1_n_n none (extf .f32 X1 bitsLt_bf16_f32) (extf .f32 X0 bitsLt_bf16_f32)) transposes_S7168x2048_S2048x7168_1_0

theorem res_apply (X0 : FVec 𝔽 S8192x2048 .bf16) (X1 : FVec 𝔽 S8192x7168 .bf16) (y : S2048x7168.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference8Ideal.Mm

namespace Cert.Kernel8Ideal.Mm

open Cert.Kernel8Ideal Cert.Kernel8Ideal.Gen
open Idealize.ShloMosaic Idealize.ShloMosaic.TcCoe

local notation "𝔽" => Idealize.ShloMosaic.Ideal

/-- A step's product. -/
def part (a : Vec 𝔽 S2048x1024 .bf16) (b : Vec 𝔽 S2048x1024 .bf16) (y : S1024x1024.Idx) : EReal :=
  ∑ k : Fin 2048, a (ix2 k (y 0)) * b (ix2 k (y 1))

theorem pay_first (a : Vec 𝔽 S2048x1024 .bf16) (b : Vec 𝔽 S2048x1024 .bf16) (y : S1024x1024.Idx) :
    k0_pay2 a b y = 0 + part a b y := by
  pointwise [k0_pay2, k0_pay1, part]

theorem pay_next (a : Vec 𝔽 S2048x1024 .bf16) (b : Vec 𝔽 S2048x1024 .bf16) (s : Vec 𝔽 S1024x1024 .f32) (y : S1024x1024.Idx) :
    k0_pay3 a b s y = s y + part a b y := by
  pointwise [k0_pay3, k0_pay1, part]

theorem pay_last (a : Vec 𝔽 S2048x1024 .bf16) (b : Vec 𝔽 S2048x1024 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val % 4, t.val / 28] ∧ win0_1.index t = ![t.val % 4, t.val / 4 % 7]
    ∧ win0_2.index t = ![t.val / 28, t.val / 4 % 7] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 4 = 3 then (outsAt0 m c n h).1 else (outsAt0 m c n h).2

theorem run_first (c : Dev nD) (t : Fin cfg0.N) (h : t.val % 4 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference8Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference8Ideal.Mm.res_apply]
  refine Fin.sum_mul_add_congr fun s k hl => ?_
  blk_point [iblk, V, idx t, idx ⟨_, Pipeline.run_point_lt_of_flush t h3 s⟩]

end Cert.Kernel8Ideal.Mm

end
-- ==== Proof.Mm.ProjMain.lean ====
/- The attention projections: the kernel sums 2048 products per entry in one step. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Reference9Ideal.Mm

open Cert.Reference9Ideal Cert.Reference9Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S2048x7168 .bf16) : FVec 𝔽 S8192x7168 .f32 :=
  Host.dotGeneral dot_S8192x2048_S2048x7168_S8192x7168_1_0_0_1_n_n none (extf .f32 X0 bitsLt_bf16_f32) (extf .f32 X1 bitsLt_bf16_f32)

theorem res_apply (X0 : FVec 𝔽 S8192x2048 .bf16) (X1 : FVec 𝔽 S2048x7168 .bf16) (y : S8192x7168.Idx) :
    res X0 X1 y = (∑ k : Fin 2048, X0 (ix2 (y 0) k) * X1 (ix2 k (y 1))) := by
  pointwise [res]

end Cert.Reference9Ideal.Mm

namespace Cert.Kernel9Ideal.Mm

open Cert.Kernel9Ideal Cert.Kernel9Ideal.Gen
open Idealize.ShloMosaic Idealize.ShloMosaic.TcCoe

local notation "𝔽" => Idealize.ShloMosaic.Ideal

/-- A step's product. -/
def part (a : Vec 𝔽 S1024x2048 .bf16) (b : Vec 𝔽 S2048x1024 .bf16) (y : S1024x1024.Idx) : EReal :=
  ∑ k : Fin 2048, a (ix2 (y 0) k) * b (ix2 k (y 1))

theorem pay (a : Vec 𝔽 S1024x2048 .bf16) (b : Vec 𝔽 S2048x1024 .bf16) (y : S1024x1024.Idx) : k0_pay1 a b y = part a b y := by
  pointwise [k0_pay1, part]

theorem idx : ∀ t : Fin cfg0.N, win0_0.index t = ![t.val / 7, 0] ∧ win0_1.index t = ![0, t.val % 7]
    ∧ win0_2.index t = ![t.val / 7, t.val % 7] := (by decide +kernel : ∀ t : Fin grid0.N, _)

variable (m : (ℓ : Loc nD τ sig) → Buf (Elt 𝔽) ℓ)

theorem final (c : Dev nD) : (dats m 0 c).arrAt 2 cfg0.N = Cert.Reference9Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference9Ideal.Mm.res_apply]
  refine Finset.sum_congr rfl fun k _ => ?_
  blk_point [iblk, V, idx t]

end Cert.Kernel9Ideal.Mm

end
-- ==== Proof.Mm.FfnDown.lean ====
/- The down projection: the kernel sums 5632 products per entry in two steps. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Reference10Ideal.Mm

open Cert.Reference10Ideal Cert.Reference10Ideal.Gen
open Idealize.ShloMosaic Idealize.ShloMosaic.TcCoe

local notation "𝔽" => Idealize.ShloMosaic.Ideal

/-- The product, as the reference writes it. -/
abbrev res (X0 : FVec 𝔽 S8192x5632 .bf16) (X1 : FVec 𝔽 S5632x2048 .bf16) : FVec 𝔽 S8192x2048 .f32 :=
  Host.dotGeneral dot_S8192x5632_S5632x2048_S8192x2048_1_0_0_1_n_n none (extf .f32 X0 bitsLt_bf16_f32) (extf .f32 X1 bitsLt_bf16_f32)

theorem res_apply (X0 : FVec 𝔽 S8192x5632 .bf16) (X1 : FVec 𝔽 S5632x2048 .bf16) (y : S8192x2048.Idx) :
    res X0 X1 y = (∑ k : Fin 5632, X0 (ix2 (y 0) k) * X1 (ix2 k (y 1))) := by
  pointwise [res]

end Cert.Reference10Ideal.Mm

namespace Cert.Kernel10Ideal.Mm

open Cert.Kernel10Ideal Cert.Kernel10Ideal.Gen
open Idealize.ShloMosaic Idealize.ShloMosaic.TcCoe

local notation "𝔽" => Idealize.ShloMosaic.Ideal

/-- A step's product. -/
def part (a : Vec 𝔽 S1024x2816 .bf16) (b : Vec 𝔽 S2816x1024 .bf16) (y : S1024x1024.Idx) : EReal :=
  ∑ k : Fin 2816, a (ix2 (y 0) k) * b (ix2 k (y 1))

theorem pay_first (a : Vec 𝔽 S1024x2816 .bf16) (b : Vec 𝔽 S2816x1024 .bf16) (y : S1024x1024.Idx) :
    k0_pay2 a b y = 0 + part a b y := by
  pointwise [k0_pay2, k0_pay1, part]

theorem pay_last (a : Vec 𝔽 S1024x2816 .bf16) (b : Vec 𝔽 S2816x1024 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val / 4, t.val % 2] ∧ win0_1.index t = ![t.val % 2, t.val / 2 % 2]
    ∧ win0_2.index t = ![t.val / 4, t.val / 2 % 2] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 2 = 1 then (outsAt0 m c n h).1 else (outsAt0 m c n h).2

theorem run_first (c : Dev nD) (t : Fin cfg0.N) (h : t.val % 2 = 0) (y : S1024x1024.Idx) :
    run m c t.val t.isLt y = 0 + part (iblk m c 0 t) (iblk m c 1 t) y := by
  rw [run, if_neg (by omega), outsAt0_A m c t h (by omega)]
  frame_out
  exact pay_first _ _ y

theorem run_next (c : Dev nD) (t : Fin cfg0.N) (h : ¬t.val % 2 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  have h3 : t.val % 2 = 1 := by omega
  rw [run, if_pos h3, outsAt0_B m c t h h3]
  frame_out
  exact (pay_last _ _ _ y).trans (congrArg (· + _) (congrFun (Memref.IsWhole.read_unread (Memref.isWhole_whole cc0_scratch0) _) y))

theorem final (c : Dev nD) : (dats m 0 c).arrAt 2 cfg0.N = Cert.Reference10Ideal.Mm.res (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 2 (fun _ => 0)
    (fun t => part (iblk m c 0 t) (iblk m c 1 t)) (run_first m c) (run_next m c) t h3 _, zero_add, Cert.Reference10Ideal.Mm.res_apply]
  refine Fin.sum_mul_add_congr fun s k hl => ?_
  blk_point [iblk, V, idx t, idx ⟨_, Pipeline.run_point_lt_of_flush t h3 s⟩]

end Cert.Kernel10Ideal.Mm

end
-- ==== Proof.Mm.DwRest.lean ====
/- The gradient of the other projections' weights: the kernel sums 8192 products per entry in four steps. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Reference11Ideal.Mm

open Cert.Reference11Ideal Cert.Reference11Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S8192x4224 .bf16) : FVec 𝔽 S2048x4224 .f32 :=
  transpose S2048x4224 [1, 0] (Host.dotGeneral dot_S8192x4224_S8192x2048_S4224x2048_0_0_1_1_n_n none (extf .f32 X1 bitsLt_bf16_f32) (extf .f32 X0 bitsLt_bf16_f32)) transposes_S4224x2048_S2048x4224_1_0

theorem res_apply (X0 : FVec 𝔽 S8192x2048 .bf16) (X1 : FVec 𝔽 S8192x4224 .bf16) (y : S2048x4224.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference11Ideal.Mm

namespace Cert.Kernel11Ideal.Mm

open Cert.Kernel11Ideal Cert.Kernel11Ideal.Gen
open Idealize.ShloMosaic Idealize.ShloMosaic.TcCoe

local notation "𝔽" => Idealize.ShloMosaic.Ideal

/-- A step's product. -/
def part (a : Vec 𝔽 S2048x1024 .bf16) (b : Vec 𝔽 S2048x1408 .bf16) (y : S1024x1408.Idx) : EReal :=
  ∑ k : Fin 2048, a (ix2 k (y 0)) * b (ix2 k (y 1))

theorem pay_first (a : Vec 𝔽 S2048x1024 .bf16) (b : Vec 𝔽 S2048x1408 .bf16) (y : S1024x1408.Idx) :
    k0_pay2 a b y = 0 + part a b y := by
  pointwise [k0_pay2, k0_pay1, part]

theorem pay_next (a : Vec 𝔽 S2048x1024 .bf16) (b : Vec 𝔽 S2048x1408 .bf16) (s : Vec 𝔽 S1024x1408 .f32) (y : S1024x1408.Idx) :
    k0_pay3 a b s y = s y + part a b y := by
  pointwise [k0_pay3, k0_pay1, part]

theorem pay_last (a : Vec 𝔽 S2048x1024 .bf16) (b : Vec 𝔽 S2048x1408 .bf16) (s : Vec 𝔽 S1024x1408 .f32) (y : S1024x1408.Idx) :
    k0_pay4 a b s y = s y + part a b y := by
  pointwise [k0_pay4, k0_pay1, part]

theorem idx : ∀ t : Fin cfg0.N, win0_0.index t = ![t.val % 4, t.val / 12] ∧ win0_1.index t = ![t.val % 4, t.val / 4 % 3]
    ∧ win0_2.index t = ![t.val / 12, t.val / 4 % 3] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1408.Idx → EReal :=
  if n % 4 = 3 then (outsAt0 m c n h).1 else (outsAt0 m c n h).2

theorem run_first (c : Dev nD) (t : Fin cfg0.N) (h : t.val % 4 = 0) (y : S1024x1408.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1408.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference11Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference11Ideal.Mm.res_apply]
  refine Fin.sum_mul_add_congr fun s k hl => ?_
  blk_point [iblk, V, idx t, idx ⟨_, Pipeline.run_point_lt_of_flush t h3 s⟩]

end Cert.Kernel11Ideal.Mm

end
-- ==== Proof.Mm.ProjRest.lean ====
/- The other projections: the kernel sums 2048 products per entry in one step. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Reference12Ideal.Mm

open Cert.Reference12Ideal Cert.Reference12Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S2048x4224 .bf16) : FVec 𝔽 S8192x4224 .f32 :=
  Host.dotGeneral dot_S8192x2048_S2048x4224_S8192x4224_1_0_0_1_n_n none (extf .f32 X0 bitsLt_bf16_f32) (extf .f32 X1 bitsLt_bf16_f32)

theorem res_apply (X0 : FVec 𝔽 S8192x2048 .bf16) (X1 : FVec 𝔽 S2048x4224 .bf16) (y : S8192x4224.Idx) :
    res X0 X1 y = (∑ k : Fin 2048, X0 (ix2 (y 0) k) * X1 (ix2 k (y 1))) := by
  pointwise [res]

end Cert.Reference12Ideal.Mm

namespace Cert.Kernel12Ideal.Mm

open Cert.Kernel12Ideal Cert.Kernel12Ideal.Gen
open Idealize.ShloMosaic Idealize.ShloMosaic.TcCoe

local notation "𝔽" => Idealize.ShloMosaic.Ideal

/-- A step's product. -/
def part (a : Vec 𝔽 S1024x2048 .bf16) (b : Vec 𝔽 S2048x1408 .bf16) (y : S1024x1408.Idx) : EReal :=
  ∑ k : Fin 2048, a (ix2 (y 0) k) * b (ix2 k (y 1))

theorem pay (a : Vec 𝔽 S1024x2048 .bf16) (b : Vec 𝔽 S2048x1408 .bf16) (y : S1024x1408.Idx) : k0_pay1 a b y = part a b y := by
  pointwise [k0_pay1, part]

theorem idx : ∀ t : Fin cfg0.N, win0_0.index t = ![t.val / 3, 0] ∧ win0_1.index t = ![0, t.val % 3]
    ∧ win0_2.index t = ![t.val / 3, t.val % 3] := (by decide +kernel : ∀ t : Fin grid0.N, _)

variable (m : (ℓ : Loc nD τ sig) → Buf (Elt 𝔽) ℓ)

theorem final (c : Dev nD) : (dats m 0 c).arrAt 2 cfg0.N = Cert.Reference12Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference12Ideal.Mm.res_apply]
  refine Finset.sum_congr rfl fun k _ => ?_
  blk_point [iblk, V, idx t]

end Cert.Kernel12Ideal.Mm

end
-- ==== Proof.Mm.DH1Rest.lean ====
/- The hidden gradient through the other projections, added to the one through the attention projections: the kernel sums 4224 products per entry in three steps. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Reference13Ideal.Mm

open Cert.Reference13Ideal Cert.Reference13Ideal.Gen
open Idealize.ShloMosaic Idealize.ShloMosaic.TcCoe

local notation "𝔽" => Idealize.ShloMosaic.Ideal

/-- The product, as the reference writes it. -/
abbrev res (X0 : FVec 𝔽 S8192x4224 .bf16) (X1 : FVec 𝔽 S2048x4224 .bf16) (X2 : FVec 𝔽 S8192x2048 .f32) : FVec 𝔽 S8192x2048 .f32 :=
  addf (Host.dotGeneral dot_S8192x4224_S2048x4224_S8192x2048_1_1_0_0_n_n none (extf .f32 X0 bitsLt_bf16_f32) (extf .f32 X1 bitsLt_bf16_f32)) X2

theorem res_apply (X0 : FVec 𝔽 S8192x4224 .bf16) (X1 : FVec 𝔽 S2048x4224 .bf16) (X2 : FVec 𝔽 S8192x2048 .f32) (y : S8192x2048.Idx) :
    res X0 X1 X2 y = (∑ k : Fin 4224, X0 (ix2 (y 0) k) * X1 (ix2 (y 1) k)) + X2 y := by
  pointwise [res]

end Cert.Reference13Ideal.Mm

namespace Cert.Kernel13Ideal.Mm

open Cert.Kernel13Ideal Cert.Kernel13Ideal.Gen
open Idealize.ShloMosaic Idealize.ShloMosaic.TcCoe

local notation "𝔽" => Idealize.ShloMosaic.Ideal

/-- A step's product. -/
def part (a : Vec 𝔽 S1024x1408 .bf16) (b : Vec 𝔽 S1024x1408 .bf16) (y : S1024x1024.Idx) : EReal :=
  ∑ k : Fin 1408, a (ix2 (y 0) k) * b (ix2 (y 1) k)

theorem pay_first (a : Vec 𝔽 S1024x1408 .bf16) (b : Vec 𝔽 S1024x1408 .bf16) (y : S1024x1024.Idx) :
    k0_pay2 a b y = 0 + part a b y := by
  pointwise [k0_pay2, k0_pay1, part]

theorem pay_next (a : Vec 𝔽 S1024x1408 .bf16) (b : Vec 𝔽 S1024x1408 .bf16) (s : Vec 𝔽 S1024x1024 .f32) (y : S1024x1024.Idx) :
    k0_pay3 a b s y = s y + part a b y := by
  pointwise [k0_pay3, k0_pay1, part]

theorem pay_last (a : Vec 𝔽 S1024x1408 .bf16) (b : Vec 𝔽 S1024x1408 .bf16) (s : Vec 𝔽 S1024x1024 .f32) (x : Vec 𝔽 S1024x1024 .f32) (y : S1024x1024.Idx) :
    k0_pay4 a b s x y = (s y + part a b y) + x y := by
  pointwise [k0_pay4, k0_pay1, part]

theorem idx : ∀ t : Fin cfg0.N, win0_0.index t = ![t.val / 6, t.val % 3] ∧ win0_1.index t = ![t.val / 3 % 2, t.val % 3]
    ∧ win0_2.index t = ![t.val / 6, t.val / 3 % 2] ∧ win0_3.index t = ![t.val / 6, t.val / 3 % 2] := (by decide +kernel : ∀ t : Fin grid0.N, _)

variable (m : (ℓ : Loc nD τ sig) → Buf (Elt 𝔽) ℓ)

/-- What is being summed: the scratch, and at a run's last point the scratch before it with the point's own product. -/
def run (c : Dev nD) (n : ℕ) (h : n < cfg0.N) : S1024x1024.Idx → EReal :=
  if n % 3 = 2 then fun y => (outsAt0 m c (n - 1) (Nat.lt_of_le_of_lt (Nat.sub_le _ _) h)).2 y + part (iblk m c 0 ⟨n, h⟩) (iblk m c 1 ⟨n, h⟩) y
  else (outsAt0 m c n h).2

/-- What a run's last point writes is the sum and the block to add. -/
theorem out_last (c : Dev nD) (t : Fin cfg0.N) (h : t.val % 3 = 2) (y : S1024x1024.Idx) :
    (outsAt0 m c t.val t.isLt).1 y = run m c t.val t.isLt y + (iblk m c 2 t : Vec 𝔽 S1024x1024 .f32) y := by
  rw [run, if_pos h, outsAt0_C m c t (by omega) (by omega) h]
  frame_out
  exact (pay_last _ _ _ _ y).trans (congrArg (fun z => z + _ + _) (congrFun (Memref.IsWhole.read_unread (Memref.isWhole_whole cc0_scratch0) _) y))

theorem run_first (c : Dev nD) (t : Fin cfg0.N) (h : t.val % 3 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 3 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 3 = 2
  · rw [run, if_pos h3]
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 3 cfg0.N = Cert.Reference13Ideal.Mm.res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 3 = 2 := (flush0_3 t).mp hf
  blk_simp
  rw [after0_3, out_last m c t h3, Pipeline.eq_sum_fin_of_reset_step_apply_of_flush (fun n h => run m c n h) 3 (fun _ => 0)
    (fun t => part (iblk m c 0 t) (iblk m c 1 t)) (run_first m c) (run_next m c) t h3 _, zero_add, Cert.Reference13Ideal.Mm.res_apply]
  refine congrArg₂ (· + ·) (Fin.sum_mul_add_congr fun s k hl => ?_) ?_
  · blk_point [iblk, V, idx t, idx ⟨_, Pipeline.run_point_lt_of_flush t h3 s⟩]
  · blk_point [iblk, V, idx t]

end Cert.Kernel13Ideal.Mm

end
-- ==== Proof.Mm.WO.lean ====
/- The output projection: the kernel sums 2048 products per entry in one step. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Reference14Ideal.Mm

open Cert.Reference14Ideal Cert.Reference14Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S2048x2048 .bf16) : FVec 𝔽 S8192x2048 .f32 :=
  Host.dotGeneral dot_S8192x2048_S2048x2048_S8192x2048_1_0_0_1_n_n none (extf .f32 X0 bitsLt_bf16_f32) (extf .f32 X1 bitsLt_bf16_f32)

theorem res_apply (X0 : FVec 𝔽 S8192x2048 .bf16) (X1 : FVec 𝔽 S2048x2048 .bf16) (y : S8192x2048.Idx) :
    res X0 X1 y = (∑ k : Fin 2048, X0 (ix2 (y 0) k) * X1 (ix2 k (y 1))) := by
  pointwise [res]

end Cert.Reference14Ideal.Mm

namespace Cert.Kernel14Ideal.Mm

open Cert.Kernel14Ideal Cert.Kernel14Ideal.Gen
open Idealize.ShloMosaic Idealize.ShloMosaic.TcCoe

local notation "𝔽" => Idealize.ShloMosaic.Ideal

/-- A step's product. -/
def part (a : Vec 𝔽 S1024x2048 .bf16) (b : Vec 𝔽 S2048x1024 .bf16) (y : S1024x1024.Idx) : EReal :=
  ∑ k : Fin 2048, a (ix2 (y 0) k) * b (ix2 k (y 1))

theorem pay (a : Vec 𝔽 S1024x2048 .bf16) (b : Vec 𝔽 S2048x1024 .bf16) (y : S1024x1024.Idx) : k0_pay1 a b y = part a b y := by
  pointwise [k0_pay1, part]

theorem idx : ∀ t : Fin cfg0.N, win0_0.index t = ![t.val / 2, 0] ∧ win0_1.index t = ![0, t.val % 2]
    ∧ win0_2.index t = ![t.val / 2, t.val % 2] := (by decide +kernel : ∀ t : Fin grid0.N, _)

variable (m : (ℓ : Loc nD τ sig) → Buf (Elt 𝔽) ℓ)

theorem final (c : Dev nD) : (dats m 0 c).arrAt 2 cfg0.N = Cert.Reference14Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference14Ideal.Mm.res_apply]
  refine Finset.sum_congr rfl fun k _ => ?_
  blk_point [iblk, V, idx t]

end Cert.Kernel14Ideal.Mm

end
-- ==== Proof.Mm.DwO.lean ====
/- The gradient of the output projection's weights: the kernel sums 8192 products per entry in four steps. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Reference15Ideal.Mm

open Cert.Reference15Ideal Cert.Reference15Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S8192x2048 .bf16) : FVec 𝔽 S2048x2048 .f32 :=
  transpose S2048x2048 [1, 0] (Host.dotGeneral dot_S8192x2048_S8192x2048_S2048x2048_0_0_1_1_n_n none (extf .f32 X1 bitsLt_bf16_f32) (extf .f32 X0 bitsLt_bf16_f32)) transposes_S2048x2048_S2048x2048_1_0

theorem res_apply (X0 : FVec 𝔽 S8192x2048 .bf16) (X1 : FVec 𝔽 S8192x2048 .bf16) (y : S2048x2048.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference15Ideal.Mm

namespace Cert.Kernel15Ideal.Mm

open Cert.Kernel15Ideal Cert.Kernel15Ideal.Gen
open Idealize.ShloMosaic Idealize.ShloMosaic.TcCoe

local notation "𝔽" => Idealize.ShloMosaic.Ideal

/-- A step's product. -/
def part (a : Vec 𝔽 S2048x1024 .bf16) (b : Vec 𝔽 S2048x1024 .bf16) (y : S1024x1024.Idx) : EReal :=
  ∑ k : Fin 2048, a (ix2 k (y 0)) * b (ix2 k (y 1))

theorem pay_first (a : Vec 𝔽 S2048x1024 .bf16) (b : Vec 𝔽 S2048x1024 .bf16) (y : S1024x1024.Idx) :
    k0_pay2 a b y = 0 + part a b y := by
  pointwise [k0_pay2, k0_pay1, part]

theorem pay_next (a : Vec 𝔽 S2048x1024 .bf16) (b : Vec 𝔽 S2048x1024 .bf16) (s : Vec 𝔽 S1024x1024 .f32) (y : S1024x1024.Idx) :
    k0_pay3 a b s y = s y + part a b y := by
  pointwise [k0_pay3, k0_pay1, part]

theorem pay_last (a : Vec 𝔽 S2048x1024 .bf16) (b : Vec 𝔽 S2048x1024 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 4 = 3 then (outsAt0 m c n h).1 else (outsAt0 m c n h).2

theorem run_first (c : Dev nD) (t : Fin cfg0.N) (h : t.val % 4 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference15Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference15Ideal.Mm.res_apply]
  refine Fin.sum_mul_add_congr fun s k hl => ?_
  blk_point [iblk, V, idx t, idx ⟨_, Pipeline.run_point_lt_of_flush t h3 s⟩]

end Cert.Kernel15Ideal.Mm

end
-- ==== Proof.Mm.UpA.lean ====
/- The recurrent branch's up projection: the kernel sums 1024 products per entry in one step. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Reference16Ideal.Mm

open Cert.Reference16Ideal Cert.Reference16Ideal.Gen
open Idealize.ShloMosaic Idealize.ShloMosaic.TcCoe

local notation "𝔽" => Idealize.ShloMosaic.Ideal

/-- The product, as the reference writes it. -/
abbrev res (X0 : FVec 𝔽 S8192x1024 .bf16) (X1 : FVec 𝔽 S1024x2048 .bf16) : FVec 𝔽 S8192x2048 .f32 :=
  Host.dotGeneral dot_S8192x1024_S1024x2048_S8192x2048_1_0_0_1_n_n none (extf .f32 X0 bitsLt_bf16_f32) (extf .f32 X1 bitsLt_bf16_f32)

theorem res_apply (X0 : FVec 𝔽 S8192x1024 .bf16) (X1 : FVec 𝔽 S1024x2048 .bf16) (y : S8192x2048.Idx) :
    res X0 X1 y = (∑ k : Fin 1024, X0 (ix2 (y 0) k) * X1 (ix2 k (y 1))) := by
  pointwise [res]

end Cert.Reference16Ideal.Mm

namespace Cert.Kernel16Ideal.Mm

open Cert.Kernel16Ideal Cert.Kernel16Ideal.Gen
open Idealize.ShloMosaic Idealize.ShloMosaic.TcCoe

local notation "𝔽" => Idealize.ShloMosaic.Ideal

/-- A step's product. -/
def part (a : Vec 𝔽 S1024x1024 .bf16) (b : Vec 𝔽 S1024x1024 .bf16) (y : S1024x1024.Idx) : EReal :=
  ∑ k : Fin 1024, a (ix2 (y 0) k) * b (ix2 k (y 1))

theorem pay (a : Vec 𝔽 S1024x1024 .bf16) (b : Vec 𝔽 S1024x1024 .bf16) (y : S1024x1024.Idx) : k0_pay1 a b y = part a b y := by
  pointwise [k0_pay1, part]

theorem idx : ∀ t : Fin cfg0.N, win0_0.index t = ![t.val / 2, 0] ∧ win0_1.index t = ![0, t.val % 2]
    ∧ win0_2.index t = ![t.val / 2, t.val % 2] := (by decide +kernel : ∀ t : Fin grid0.N, _)

variable (m : (ℓ : Loc nD τ sig) → Buf (Elt 𝔽) ℓ)

theorem final (c : Dev nD) : (dats m 0 c).arrAt 2 cfg0.N = Cert.Reference16Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference16Ideal.Mm.res_apply]
  refine Finset.sum_congr rfl fun k _ => ?_
  blk_point [iblk, V, idx t]

end Cert.Kernel16Ideal.Mm

end
-- ==== Proof.Mm.UpB.lean ====
/- The attention branch's up projection: the kernel sums 1024 products per entry in one step. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Reference17Ideal.Mm

open Cert.Reference17Ideal Cert.Reference17Ideal.Gen
open Idealize.ShloMosaic Idealize.ShloMosaic.TcCoe

local notation "𝔽" => Idealize.ShloMosaic.Ideal

/-- The product, as the reference writes it. -/
abbrev res (X0 : FVec 𝔽 S1024x8192 .f32) (X1 : FVec 𝔽 S1024x2048 .bf16) : FVec 𝔽 S8192x2048 .f32 :=
  Host.dotGeneral dot_S8192x1024_S1024x2048_S8192x2048_1_0_0_1_n_n none (transpose S8192x1024 [1, 0] X0 transposes_S1024x8192_S8192x1024_1_0) (extf .f32 X1 bitsLt_bf16_f32)

theorem res_apply (X0 : FVec 𝔽 S1024x8192 .f32) (X1 : FVec 𝔽 S1024x2048 .bf16) (y : S8192x2048.Idx) :
    res X0 X1 y = (∑ k : Fin 1024, X0 (ix2 k (y 0)) * X1 (ix2 k (y 1))) := by
  pointwise [res]

end Cert.Reference17Ideal.Mm

namespace Cert.Kernel17Ideal.Mm

open Cert.Kernel17Ideal Cert.Kernel17Ideal.Gen
open Idealize.ShloMosaic Idealize.ShloMosaic.TcCoe

local notation "𝔽" => Idealize.ShloMosaic.Ideal

/-- A step's product. -/
def part (a : Vec 𝔽 S1024x1024 .f32) (b : Vec 𝔽 S1024x1024 .bf16) (y : S1024x1024.Idx) : EReal :=
  ∑ k : Fin 1024, a (ix2 k (y 0)) * b (ix2 k (y 1))

theorem pay (a : Vec 𝔽 S1024x1024 .f32) (b : Vec 𝔽 S1024x1024 .bf16) (y : S1024x1024.Idx) : k0_pay1 a b y = part a b y := by
  pointwise [k0_pay1, part]

theorem idx : ∀ t : Fin cfg0.N, win0_0.index t = ![0, t.val / 2] ∧ win0_1.index t = ![0, t.val % 2]
    ∧ win0_2.index t = ![t.val / 2, t.val % 2] := (by decide +kernel : ∀ t : Fin grid0.N, _)

variable (m : (ℓ : Loc nD τ sig) → Buf (Elt 𝔽) ℓ)

theorem final (c : Dev nD) : (dats m 0 c).arrAt 2 cfg0.N = Cert.Reference17Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference17Ideal.Mm.res_apply]
  refine Finset.sum_congr rfl fun k _ => ?_
  blk_point [iblk, V, idx t]

end Cert.Kernel17Ideal.Mm

end
-- ==== Proof.Mm.DYa.lean ====
/- The recurrent branch's gradient: the kernel sums 2048 products per entry in one step. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Reference18Ideal.Mm

open Cert.Reference18Ideal Cert.Reference18Ideal.Gen
open Idealize.ShloMosaic Idealize.ShloMosaic.TcCoe

local notation "𝔽" => Idealize.ShloMosaic.Ideal

/-- The product, as the reference writes it. -/
abbrev res (X0 : FVec 𝔽 S8192x2048 .bf16) (X1 : FVec 𝔽 S1024x2048 .bf16) : FVec 𝔽 S8192x1024 .f32 :=
  Host.dotGeneral dot_S8192x2048_S1024x2048_S8192x1024_1_1_0_0_n_n none (extf .f32 X0 bitsLt_bf16_f32) (extf .f32 X1 bitsLt_bf16_f32)

theorem res_apply (X0 : FVec 𝔽 S8192x2048 .bf16) (X1 : FVec 𝔽 S1024x2048 .bf16) (y : S8192x1024.Idx) :
    res X0 X1 y = (∑ k : Fin 2048, X0 (ix2 (y 0) k) * X1 (ix2 (y 1) k)) := by
  pointwise [res]

end Cert.Reference18Ideal.Mm

namespace Cert.Kernel18Ideal.Mm

open Cert.Kernel18Ideal Cert.Kernel18Ideal.Gen
open Idealize.ShloMosaic Idealize.ShloMosaic.TcCoe

local notation "𝔽" => Idealize.ShloMosaic.Ideal

/-- A step's product. -/
def part (a : Vec 𝔽 S1024x2048 .bf16) (b : Vec 𝔽 S1024x2048 .bf16) (y : S1024x1024.Idx) : EReal :=
  ∑ k : Fin 2048, a (ix2 (y 0) k) * b (ix2 (y 1) k)

theorem pay (a : Vec 𝔽 S1024x2048 .bf16) (b : Vec 𝔽 S1024x2048 .bf16) (y : S1024x1024.Idx) : k0_pay1 a b y = part a b y := by
  pointwise [k0_pay1, part]

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt 𝔽) ℓ)

theorem final (c : Dev nD) : (dats m 0 c).arrAt 2 cfg0.N = Cert.Reference18Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference18Ideal.Mm.res_apply]
  refine Finset.sum_congr rfl fun k _ => ?_
  blk_point [iblk, V, idx t]

end Cert.Kernel18Ideal.Mm

end
-- ==== Proof.Mm.DwUpA.lean ====
/- The gradient of the recurrent branch's up projection: the kernel sums 8192 products per entry in four steps. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Reference19Ideal.Mm

open Cert.Reference19Ideal Cert.Reference19Ideal.Gen
open Idealize.ShloMosaic Idealize.ShloMosaic.TcCoe

local notation "𝔽" => Idealize.ShloMosaic.Ideal

/-- The product, as the reference writes it. -/
abbrev res (X0 : FVec 𝔽 S8192x1024 .bf16) (X1 : FVec 𝔽 S8192x2048 .bf16) : FVec 𝔽 S1024x2048 .f32 :=
  transpose S1024x2048 [1, 0] (Host.dotGeneral dot_S8192x2048_S8192x1024_S2048x1024_0_0_1_1_n_n none (extf .f32 X1 bitsLt_bf16_f32) (extf .f32 X0 bitsLt_bf16_f32)) transposes_S2048x1024_S1024x2048_1_0

theorem res_apply (X0 : FVec 𝔽 S8192x1024 .bf16) (X1 : FVec 𝔽 S8192x2048 .bf16) (y : S1024x2048.Idx) :
    res X0 X1 y = (∑ k : Fin 8192, X0 (ix2 k (y 0)) * X1 (ix2 k (y 1))) := by
  refine Eq.trans ?_ (Finset.sum_congr rfl fun k _ => mul_comm (X1 (ix2 k (y 1))) (X0 (ix2 k (y 0))))
  pointwise [res]

end Cert.Reference19Ideal.Mm

namespace Cert.Kernel19Ideal.Mm

open Cert.Kernel19Ideal Cert.Kernel19Ideal.Gen
open Idealize.ShloMosaic Idealize.ShloMosaic.TcCoe

local notation "𝔽" => Idealize.ShloMosaic.Ideal

/-- A step's product. -/
def part (a : Vec 𝔽 S2048x1024 .bf16) (b : Vec 𝔽 S2048x1024 .bf16) (y : S1024x1024.Idx) : EReal :=
  ∑ k : Fin 2048, a (ix2 k (y 0)) * b (ix2 k (y 1))

theorem pay_first (a : Vec 𝔽 S2048x1024 .bf16) (b : Vec 𝔽 S2048x1024 .bf16) (y : S1024x1024.Idx) :
    k0_pay2 a b y = 0 + part a b y := by
  pointwise [k0_pay2, k0_pay1, part]

theorem pay_next (a : Vec 𝔽 S2048x1024 .bf16) (b : Vec 𝔽 S2048x1024 .bf16) (s : Vec 𝔽 S1024x1024 .f32) (y : S1024x1024.Idx) :
    k0_pay3 a b s y = s y + part a b y := by
  pointwise [k0_pay3, k0_pay1, part]

theorem pay_last (a : Vec 𝔽 S2048x1024 .bf16) (b : Vec 𝔽 S2048x1024 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val % 4, 0] ∧ win0_1.index t = ![t.val % 4, t.val / 4]
    ∧ win0_2.index t = ![0, t.val / 4] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 4 = 3 then (outsAt0 m c n h).1 else (outsAt0 m c n h).2

theorem run_first (c : Dev nD) (t : Fin cfg0.N) (h : t.val % 4 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference19Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference19Ideal.Mm.res_apply]
  refine Fin.sum_mul_add_congr fun s k hl => ?_
  blk_point [iblk, V, idx t, idx ⟨_, Pipeline.run_point_lt_of_flush t h3 s⟩]

end Cert.Kernel19Ideal.Mm

end
-- ==== Proof.Mm.DOb.lean ====
/- The attention branch's gradient: the kernel sums 2048 products per entry in one step. -/
module

public import proofs.«01_k».proof.Proof.Gen.Kernel20Ideal.Value
public import proofs.«01_k».proof.Proof.Gen.Reference20Ideal.Run
public import Idealize.ShloMosaic.Lib.Pipeline.ValueKit
public import Idealize.ShloMosaic.Lib.Pointwise

@[expose] public section

set_option maxRecDepth 16384

noncomputable section

namespace Cert.Reference20Ideal.Mm

open Cert.Reference20Ideal Cert.Reference20Ideal.Gen
open Idealize.ShloMosaic Idealize.ShloMosaic.TcCoe

local notation "𝔽" => Idealize.ShloMosaic.Ideal

/-- The product, as the reference writes it. -/
abbrev res (X0 : FVec 𝔽 S1024x2048 .bf16) (X1 : FVec 𝔽 S8192x2048 .bf16) : FVec 𝔽 S1024x8192 .f32 :=
  transpose S1024x8192 [1, 0] (Host.dotGeneral dot_S8192x2048_S1024x2048_S8192x1024_1_1_0_0_n_n none (extf .f32 X1 bitsLt_bf16_f32) (extf .f32 X0 bitsLt_bf16_f32)) transposes_S8192x1024_S1024x8192_1_0

theorem res_apply (X0 : FVec 𝔽 S1024x2048 .bf16) (X1 : FVec 𝔽 S8192x2048 .bf16) (y : S1024x8192.Idx) :
    res X0 X1 y = (∑ k : Fin 2048, X0 (ix2 (y 0) k) * X1 (ix2 (y 1) k)) := by
  refine Eq.trans ?_ (Finset.sum_congr rfl fun k _ => mul_comm (X1 (ix2 (y 1) k)) (X0 (ix2 (y 0) k)))
  pointwise [res]

end Cert.Reference20Ideal.Mm

namespace Cert.Kernel20Ideal.Mm

open Cert.Kernel20Ideal Cert.Kernel20Ideal.Gen
open Idealize.ShloMosaic Idealize.ShloMosaic.TcCoe

local notation "𝔽" => Idealize.ShloMosaic.Ideal

/-- A step's product. -/
def part (a : Vec 𝔽 S1024x2048 .bf16) (b : Vec 𝔽 S1024x2048 .bf16) (y : S1024x1024.Idx) : EReal :=
  ∑ k : Fin 2048, a (ix2 (y 0) k) * b (ix2 (y 1) k)

theorem pay (a : Vec 𝔽 S1024x2048 .bf16) (b : Vec 𝔽 S1024x2048 .bf16) (y : S1024x1024.Idx) : k0_pay1 a b y = part a b y := by
  pointwise [k0_pay1, part]

theorem idx : ∀ t : Fin cfg0.N, win0_0.index t = ![0, 0] ∧ win0_1.index t = ![t.val, 0]
    ∧ win0_2.index t = ![0, t.val] := (by decide +kernel : ∀ t : Fin grid0.N, _)

variable (m : (ℓ : Loc nD τ sig) → Buf (Elt 𝔽) ℓ)

theorem final (c : Dev nD) : (dats m 0 c).arrAt 2 cfg0.N = Cert.Reference20Ideal.Mm.res (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay _ _ y).trans ?_
  rw [Cert.Reference20Ideal.Mm.res_apply]
  refine Finset.sum_congr rfl fun k _ => ?_
  blk_point [iblk, V, idx t]

end Cert.Kernel20Ideal.Mm

end
-- ==== Proof.Mm.DH1Main.lean ====
/- The hidden gradient through the attention projections: the kernel sums 7168 products per entry in two steps. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pointwise

@[expose] public section

set_option maxRecDepth 16384

noncomputable section

namespace Cert.Reference22Ideal.Mm

open Cert.Reference22Ideal Cert.Reference22Ideal.Gen
open Idealize.ShloMosaic Idealize.ShloMosaic.TcCoe

local notation "𝔽" => Idealize.ShloMosaic.Ideal

/-- The product, as the reference writes it. -/
abbrev res (X0 : FVec 𝔽 S8192x7168 .bf16) (X1 : FVec 𝔽 S2048x7168 .bf16) : FVec 𝔽 S8192x2048 .f32 :=
  Host.dotGeneral dot_S8192x7168_S2048x7168_S8192x2048_1_1_0_0_n_n none (extf .f32 X0 bitsLt_bf16_f32) (extf .f32 X1 bitsLt_bf16_f32)

theorem res_apply (X0 : FVec 𝔽 S8192x7168 .bf16) (X1 : FVec 𝔽 S2048x7168 .bf16) (y : S8192x2048.Idx) :
    res X0 X1 y = (∑ k : Fin 7168, X0 (ix2 (y 0) k) * X1 (ix2 (y 1) k)) := by
  pointwise [res]

end Cert.Reference22Ideal.Mm

namespace Cert.Kernel22Ideal.Mm

open Cert.Kernel22Ideal Cert.Kernel22Ideal.Gen
open Idealize.ShloMosaic Idealize.ShloMosaic.TcCoe

local notation "𝔽" => Idealize.ShloMosaic.Ideal

/-- A step's product. -/
def part (a : Vec 𝔽 S1024x3584 .bf16) (b : Vec 𝔽 S1024x3584 .bf16) (y : S1024x1024.Idx) : EReal :=
  ∑ k : Fin 3584, a (ix2 (y 0) k) * b (ix2 (y 1) k)

theorem pay_first (a : Vec 𝔽 S1024x3584 .bf16) (b : Vec 𝔽 S1024x3584 .bf16) (y : S1024x1024.Idx) :
    k0_pay2 a b y = 0 + part a b y := by
  pointwise [k0_pay2, k0_pay1, part]

theorem pay_last (a : Vec 𝔽 S1024x3584 .bf16) (b : Vec 𝔽 S1024x3584 .bf16) (s : Vec 𝔽 S1024x1024 .f32) (y : S1024x1024.Idx) :
    k0_pay4 a b s y = s y + part a b y := by
  pointwise [k0_pay4, k0_pay1, part]

theorem idx : ∀ t : Fin cfg0.N, win0_0.index t = ![t.val / 4, t.val % 2] ∧ win0_1.index t = ![t.val / 2 % 2, t.val % 2]
    ∧ win0_2.index t = ![t.val / 4, t.val / 2 % 2] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 2 = 1 then (outsAt0 m c n h).1 else (outsAt0 m c n h).2

theorem run_first (c : Dev nD) (t : Fin cfg0.N) (h : t.val % 2 = 0) (y : S1024x1024.Idx) :
    run m c t.val t.isLt y = 0 + part (iblk m c 0 t) (iblk m c 1 t) y := by
  rw [run, if_neg (by omega), outsAt0_A m c t h (by omega)]
  frame_out
  exact pay_first _ _ y

theorem run_next (c : Dev nD) (t : Fin cfg0.N) (h : ¬t.val % 2 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  have h3 : t.val % 2 = 1 := by omega
  rw [run, if_pos h3, outsAt0_B m c t h h3]
  frame_out
  exact (pay_last _ _ _ y).trans (congrArg (· + _) (congrFun (Memref.IsWhole.read_unread (Memref.isWhole_whole cc0_scratch0) _) y))

theorem final (c : Dev nD) : (dats m 0 c).arrAt 2 cfg0.N = Cert.Reference22Ideal.Mm.res (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 2 (fun _ => 0)
    (fun t => part (iblk m c 0 t) (iblk m c 1 t)) (run_first m c) (run_next m c) t h3 _, zero_add, Cert.Reference22Ideal.Mm.res_apply]
  refine Fin.sum_mul_add_congr fun s k hl => ?_
  blk_point [iblk, V, idx t, idx ⟨_, Pipeline.run_point_lt_of_flush t h3 s⟩]

end Cert.Kernel22Ideal.Mm

end
-- ==== Proof.Mm.DwUpB.lean ====
/- The gradient of the attention branch's up projection: the kernel sums 8192 products per entry in four steps. -/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pointwise

@[expose] public section

set_option maxRecDepth 16384

noncomputable section

namespace Cert.Reference21Ideal.Mm

open Cert.Reference21Ideal Cert.Reference21Ideal.Gen
open Idealize.ShloMosaic Idealize.ShloMosaic.TcCoe

local notation "𝔽" => Idealize.ShloMosaic.Ideal

/-- The product, as the reference writes it. -/
abbrev res (X0 : FVec 𝔽 S1024x8192 .f32) (X1 : FVec 𝔽 S8192x2048 .bf16) : FVec 𝔽 S1024x2048 .f32 :=
  transpose S1024x2048 [1, 0] (Host.dotGeneral dot_S8192x2048_S8192x1024_S2048x1024_0_0_1_1_n_n none (extf .f32 X1 bitsLt_bf16_f32) (transpose S8192x1024 [1, 0] X0 transposes_S1024x8192_S8192x1024_1_0)) transposes_S2048x1024_S1024x2048_1_0

theorem res_apply (X0 : FVec 𝔽 S1024x8192 .f32) (X1 : FVec 𝔽 S8192x2048 .bf16) (y : S1024x2048.Idx) :
    res X0 X1 y = (∑ k : Fin 8192, X0 (ix2 (y 0) k) * X1 (ix2 k (y 1))) := by
  refine Eq.trans ?_ (Finset.sum_congr rfl fun k _ => mul_comm (X1 (ix2 k (y 1))) (X0 (ix2 (y 0) k)))
  pointwise [res]

end Cert.Reference21Ideal.Mm

namespace Cert.Kernel21Ideal.Mm

open Cert.Kernel21Ideal Cert.Kernel21Ideal.Gen
open Idealize.ShloMosaic Idealize.ShloMosaic.TcCoe

local notation "𝔽" => Idealize.ShloMosaic.Ideal

/-- A step's product. -/
def part (a : Vec 𝔽 S1024x2048 .f32) (b : Vec 𝔽 S2048x1024 .bf16) (y : S1024x1024.Idx) : EReal :=
  ∑ k : Fin 2048, a (ix2 (y 0) k) * b (ix2 k (y 1))

theorem pay_first (a : Vec 𝔽 S1024x2048 .f32) (b : Vec 𝔽 S2048x1024 .bf16) (y : S1024x1024.Idx) :
    k0_pay2 a b y = 0 + part a b y := by
  pointwise [k0_pay2, k0_pay1, part]

theorem pay_next (a : Vec 𝔽 S1024x2048 .f32) (b : Vec 𝔽 S2048x1024 .bf16) (s : Vec 𝔽 S1024x1024 .f32) (y : S1024x1024.Idx) :
    k0_pay3 a b s y = s y + part a b y := by
  pointwise [k0_pay3, k0_pay1, part]

theorem pay_last (a : Vec 𝔽 S1024x2048 .f32) (b : Vec 𝔽 S2048x1024 .bf16) (s : Vec 𝔽 S1024x1024 .f32) (y : S1024x1024.Idx) :
    k0_pay4 a b s y = s y + part a b y := by
  pointwise [k0_pay4, k0_pay1, part]

theorem idx : ∀ t : Fin cfg0.N, win0_0.index t = ![0, t.val % 4] ∧ win0_1.index t = ![t.val % 4, t.val / 4]
    ∧ win0_2.index t = ![0, t.val / 4] := (by decide +kernel : ∀ t : Fin grid0.N, _)

variable (m : (ℓ : Loc nD τ sig) → Buf (Elt 𝔽) ℓ)

/-- What is being summed: the scratch, and at a run's last point the output. -/
def run (c : Dev nD) (n : ℕ) (h : n < cfg0.N) : S1024x1024.Idx → EReal :=
  if n % 4 = 3 then (outsAt0 m c n h).1 else (outsAt0 m c n h).2

theorem run_first (c : Dev nD) (t : Fin cfg0.N) (h : t.val % 4 = 0) (y : S1024x1024.Idx) :
    run m c t.val t.isLt y = 0 + part (iblk m c 0 t) (iblk m c 1 t) y := by
  rw [run, if_neg (by omega), outsAt0_A m c t h (by omega) (by omega)]
  frame_out
  exact pay_first _ _ y

theorem run_next (c : Dev nD) (t : Fin cfg0.N) (h : ¬t.val % 4 = 0) (y : S1024x1024.Idx) :
    run m c t.val t.isLt y = run m c (t.val - 1) (Nat.lt_of_le_of_lt (Nat.sub_le _ _) t.isLt) y
      + part (iblk m c 0 t) (iblk m c 1 t) y := by
  have hp : run m c (t.val - 1) (Nat.lt_of_le_of_lt (Nat.sub_le _ _) t.isLt) = (outsAt0 m c (t.val - 1) (Nat.lt_of_le_of_lt (Nat.sub_le _ _) t.isLt)).2 := by
    rw [run, if_neg (by omega)]
  rw [hp]
  by_cases h3 : t.val % 4 = 3
  · rw [run, if_pos h3, outsAt0_C m c t h (by omega) h3]
    frame_out
    exact (pay_last _ _ _ y).trans (congrArg (· + _) (congrFun (Memref.IsWhole.read_unread (Memref.isWhole_whole cc0_scratch0) _) y))
  · rw [run, if_neg h3, outsAt0_B m c t h (by omega) h3]
    frame_out
    exact (pay_next _ _ _ y).trans (congrArg (· + _) (congrFun (Memref.IsWhole.read_unread (Memref.isWhole_whole cc0_scratch0) _) y))

theorem final (c : Dev nD) : (dats m 0 c).arrAt 2 cfg0.N = Cert.Reference21Ideal.Mm.res (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have e : (outsAt0 m c t.val t.isLt).1 = run m c t.val t.isLt := by rw [run, if_pos h3]
  rw [after0_2, e, Pipeline.eq_sum_fin_of_reset_step_apply_of_flush (fun n h => run m c n h) 4 (fun _ => 0)
    (fun t => part (iblk m c 0 t) (iblk m c 1 t)) (run_first m c) (run_next m c) t h3 _, zero_add, Cert.Reference21Ideal.Mm.res_apply]
  refine Fin.sum_mul_add_congr fun s k hl => ?_
  blk_point [iblk, V, idx t, idx ⟨_, Pipeline.run_point_lt_of_flush t h3 s⟩]

end Cert.Kernel21Ideal.Mm

end
-- ==== Proof.Mm.Claims.lean ====
/- The matrix products' claims: each kernel's result is the reference's, whatever the arguments. -/
module

public import proofs.«01_k».proof.Defs
public import Idealize.ShloMosaic.Lib.StableHlo.RunHlo
public import Idealize.ShloMosaic.Lib.Quiescent
public import proofs.«01_k».proof.Proof.Mm.DwFfnDown
public import proofs.«01_k».proof.Proof.Mm.DH3Gate
public import proofs.«01_k».proof.Proof.Mm.DH3Up
public import proofs.«01_k».proof.Proof.Mm.DwFfnGate
public import proofs.«01_k».proof.Proof.Mm.DwFfnUp
public import proofs.«01_k».proof.Proof.Mm.DwMain
public import proofs.«01_k».proof.Proof.Mm.ProjMain
public import proofs.«01_k».proof.Proof.Mm.FfnDown
public import proofs.«01_k».proof.Proof.Mm.DwRest
public import proofs.«01_k».proof.Proof.Mm.ProjRest
public import proofs.«01_k».proof.Proof.Mm.DH1Rest
public import proofs.«01_k».proof.Proof.Mm.WO
public import proofs.«01_k».proof.Proof.Mm.DwO
public import proofs.«01_k».proof.Proof.Mm.UpA
public import proofs.«01_k».proof.Proof.Mm.UpB
public import proofs.«01_k».proof.Proof.Mm.DYa
public import proofs.«01_k».proof.Proof.Mm.DwUpA
public import proofs.«01_k».proof.Proof.Mm.DOb
public import proofs.«01_k».proof.Proof.Mm.DH1Main
public import proofs.«01_k».proof.Proof.Mm.DwUpB

@[expose] public section

noncomputable section

namespace Cert.Mm

open Idealize.ShloMosaic Idealize.ShloMosaic.TcCoe Idealize.SL.Sem

/-- The gradient of the down projection's weights: the reference runs, ends and keeps its arguments. -/
theorem kept_3 : Cert.quiescent_Reference3Ideal (hReference3Ideal := Cert.Reference3Ideal.Gen.facts) := by
  intro m g _
  exact θ_run_mono (Cert.Reference3Ideal.Value.run m g) fun r h => ⟨fun c => (h c).2, sem_eq_zero_of_no_sems rfl r.2⟩

/-- The gradient of the down projection's weights: the kernel's result is the reference's. -/
theorem same_3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Reference3Ideal.Mm.res (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine θ_run_mono (Cert.Kernel3Ideal.Value.run_blocks m g) fun r h c => ?_
    exact ⟨(h c).1.trans (Cert.Kernel3Ideal.Mm.final m c), (h c).2⟩
  · refine θ_run_mono (Cert.Reference3Ideal.Value.run m' g') fun r h c => ?_
    obtain ⟨a0, a1⟩ := hagree c
    exact ⟨(h c).1.trans (by rw [a0, a1]), (h c).2⟩

/-- The hidden gradient through the gate projection: the reference runs, ends and keeps its arguments. -/
theorem kept_4 : Cert.quiescent_Reference4Ideal (hReference4Ideal := Cert.Reference4Ideal.Gen.facts) := by
  intro m g _
  exact θ_run_mono (Cert.Reference4Ideal.Value.run m g) fun r h => ⟨fun c => (h c).2, sem_eq_zero_of_no_sems rfl r.2⟩

/-- The hidden gradient through the gate projection: the kernel's result is the reference's. -/
theorem same_4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Reference4Ideal.Mm.res (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine θ_run_mono (Cert.Kernel4Ideal.Value.run_blocks m g) fun r h c => ?_
    exact ⟨(h c).1.trans (Cert.Kernel4Ideal.Mm.final m c), (h c).2⟩
  · refine θ_run_mono (Cert.Reference4Ideal.Value.run m' g') fun r h c => ?_
    obtain ⟨a0, a1⟩ := hagree c
    exact ⟨(h c).1.trans (by rw [a0, a1]), (h c).2⟩

/-- The hidden gradient through the up projection, added to the one through the gate projection: the reference runs, ends and keeps its arguments. -/
theorem kept_5 : Cert.quiescent_Reference5Ideal (hReference5Ideal := Cert.Reference5Ideal.Gen.facts) := by
  intro m g _
  exact θ_run_mono (Cert.Reference5Ideal.Value.run m g) fun r h => ⟨fun c => (h c).2, sem_eq_zero_of_no_sems rfl r.2⟩

/-- The hidden gradient through the up projection, added to the one through the gate projection: the kernel's result is the reference's. -/
theorem same_5 : Cert.algebraic_Kernel5Ideal_Reference5Ideal (hKernel5Ideal := Cert.Kernel5Ideal.Gen.facts) (hReference5Ideal := Cert.Reference5Ideal.Gen.facts) := by
  intro m g m' g' _ hagree
  refine ⟨fun c => Cert.Reference5Ideal.Mm.res (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · refine θ_run_mono (Cert.Kernel5Ideal.Value.run_blocks m g) fun r h c => ?_
    exact ⟨(h c).1.trans (Cert.Kernel5Ideal.Mm.final m c), (h c).2⟩
  · refine θ_run_mono (Cert.Reference5Ideal.Value.run m' g') fun r h c => ?_
    obtain ⟨a0, a1, a2⟩ := hagree c
    exact ⟨(h c).1.trans (by rw [a0, a1, a2]), (h c).2⟩

/-- The gradient of the gate projection's weights: the reference runs, ends and keeps its arguments. -/
theorem kept_6 : Cert.quiescent_Reference6Ideal (hReference6Ideal := Cert.Reference6Ideal.Gen.facts) := by
  intro m g _
  exact θ_run_mono (Cert.Reference6Ideal.Value.run m g) fun r h => ⟨fun c => (h c).2, sem_eq_zero_of_no_sems rfl r.2⟩

/-- The gradient of the gate projection's weights: the kernel's result is the reference's. -/
theorem same_6 : Cert.algebraic_Kernel6Ideal_Reference6Ideal (hKernel6Ideal := Cert.Kernel6Ideal.Gen.facts) (hReference6Ideal := Cert.Reference6Ideal.Gen.facts) := by
  intro m g m' g' _ hagree
  refine ⟨fun c => Cert.Reference6Ideal.Mm.res (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine θ_run_mono (Cert.Kernel6Ideal.Value.run_blocks m g) fun r h c => ?_
    exact ⟨(h c).1.trans (Cert.Kernel6Ideal.Mm.final m c), (h c).2⟩
  · refine θ_run_mono (Cert.Reference6Ideal.Value.run m' g') fun r h c => ?_
    obtain ⟨a0, a1⟩ := hagree c
    exact ⟨(h c).1.trans (by rw [a0, a1]), (h c).2⟩

/-- The gradient of the up projection's weights: the reference runs, ends and keeps its arguments. -/
theorem kept_7 : Cert.quiescent_Reference7Ideal (hReference7Ideal := Cert.Reference7Ideal.Gen.facts) := by
  intro m g _
  exact θ_run_mono (Cert.Reference7Ideal.Value.run m g) fun r h => ⟨fun c => (h c).2, sem_eq_zero_of_no_sems rfl r.2⟩

/-- The gradient of the up projection's weights: the kernel's result is the reference's. -/
theorem same_7 : Cert.algebraic_Kernel7Ideal_Reference7Ideal (hKernel7Ideal := Cert.Kernel7Ideal.Gen.facts) (hReference7Ideal := Cert.Reference7Ideal.Gen.facts) := by
  intro m g m' g' _ hagree
  refine ⟨fun c => Cert.Reference7Ideal.Mm.res (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine θ_run_mono (Cert.Kernel7Ideal.Value.run_blocks m g) fun r h c => ?_
    exact ⟨(h c).1.trans (Cert.Kernel7Ideal.Mm.final m c), (h c).2⟩
  · refine θ_run_mono (Cert.Reference7Ideal.Value.run m' g') fun r h c => ?_
    obtain ⟨a0, a1⟩ := hagree c
    exact ⟨(h c).1.trans (by rw [a0, a1]), (h c).2⟩

/-- The gradient of the attention projections' weights: the reference runs, ends and keeps its arguments. -/
theorem kept_8 : Cert.quiescent_Reference8Ideal (hReference8Ideal := Cert.Reference8Ideal.Gen.facts) := by
  intro m g _
  exact θ_run_mono (Cert.Reference8Ideal.Value.run m g) fun r h => ⟨fun c => (h c).2, sem_eq_zero_of_no_sems rfl r.2⟩

/-- The gradient of the attention projections' weights: the kernel's result is the reference's. -/
theorem same_8 : Cert.algebraic_Kernel8Ideal_Reference8Ideal (hKernel8Ideal := Cert.Kernel8Ideal.Gen.facts) (hReference8Ideal := Cert.Reference8Ideal.Gen.facts) := by
  intro m g m' g' _ hagree
  refine ⟨fun c => Cert.Reference8Ideal.Mm.res (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine θ_run_mono (Cert.Kernel8Ideal.Value.run_blocks m g) fun r h c => ?_
    exact ⟨(h c).1.trans (Cert.Kernel8Ideal.Mm.final m c), (h c).2⟩
  · refine θ_run_mono (Cert.Reference8Ideal.Value.run m' g') fun r h c => ?_
    obtain ⟨a0, a1⟩ := hagree c
    exact ⟨(h c).1.trans (by rw [a0, a1]), (h c).2⟩

/-- The attention projections: the reference runs, ends and keeps its arguments. -/
theorem kept_9 : Cert.quiescent_Reference9Ideal (hReference9Ideal := Cert.Reference9Ideal.Gen.facts) := by
  intro m g _
  exact θ_run_mono (Cert.Reference9Ideal.Value.run m g) fun r h => ⟨fun c => (h c).2, sem_eq_zero_of_no_sems rfl r.2⟩

/-- The attention projections: the kernel's result is the reference's. -/
theorem same_9 : Cert.algebraic_Kernel9Ideal_Reference9Ideal (hKernel9Ideal := Cert.Kernel9Ideal.Gen.facts) (hReference9Ideal := Cert.Reference9Ideal.Gen.facts) := by
  intro m g m' g' _ hagree
  refine ⟨fun c => Cert.Reference9Ideal.Mm.res (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine θ_run_mono (Cert.Kernel9Ideal.Value.run_blocks m g) fun r h c => ?_
    exact ⟨(h c).1.trans (Cert.Kernel9Ideal.Mm.final m c), (h c).2⟩
  · refine θ_run_mono (Cert.Reference9Ideal.Value.run m' g') fun r h c => ?_
    obtain ⟨a0, a1⟩ := hagree c
    exact ⟨(h c).1.trans (by rw [a0, a1]), (h c).2⟩

/-- The down projection: the reference runs, ends and keeps its arguments. -/
theorem kept_10 : Cert.quiescent_Reference10Ideal (hReference10Ideal := Cert.Reference10Ideal.Gen.facts) := by
  intro m g _
  exact θ_run_mono (Cert.Reference10Ideal.Value.run m g) fun r h => ⟨fun c => (h c).2, sem_eq_zero_of_no_sems rfl r.2⟩

/-- The down projection: the kernel's result is the reference's. -/
theorem same_10 : Cert.algebraic_Kernel10Ideal_Reference10Ideal (hKernel10Ideal := Cert.Kernel10Ideal.Gen.facts) (hReference10Ideal := Cert.Reference10Ideal.Gen.facts) := by
  intro m g m' g' _ hagree
  refine ⟨fun c => Cert.Reference10Ideal.Mm.res (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine θ_run_mono (Cert.Kernel10Ideal.Value.run_blocks m g) fun r h c => ?_
    exact ⟨(h c).1.trans (Cert.Kernel10Ideal.Mm.final m c), (h c).2⟩
  · refine θ_run_mono (Cert.Reference10Ideal.Value.run m' g') fun r h c => ?_
    obtain ⟨a0, a1⟩ := hagree c
    exact ⟨(h c).1.trans (by rw [a0, a1]), (h c).2⟩

/-- The gradient of the other projections' weights: the reference runs, ends and keeps its arguments. -/
theorem kept_11 : Cert.quiescent_Reference11Ideal (hReference11Ideal := Cert.Reference11Ideal.Gen.facts) := by
  intro m g _
  exact θ_run_mono (Cert.Reference11Ideal.Value.run m g) fun r h => ⟨fun c => (h c).2, sem_eq_zero_of_no_sems rfl r.2⟩

/-- The gradient of the other projections' weights: the kernel's result is the reference's. -/
theorem same_11 : Cert.algebraic_Kernel11Ideal_Reference11Ideal (hKernel11Ideal := Cert.Kernel11Ideal.Gen.facts) (hReference11Ideal := Cert.Reference11Ideal.Gen.facts) := by
  intro m g m' g' _ hagree
  refine ⟨fun c => Cert.Reference11Ideal.Mm.res (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine θ_run_mono (Cert.Kernel11Ideal.Value.run_blocks m g) fun r h c => ?_
    exact ⟨(h c).1.trans (Cert.Kernel11Ideal.Mm.final m c), (h c).2⟩
  · refine θ_run_mono (Cert.Reference11Ideal.Value.run m' g') fun r h c => ?_
    obtain ⟨a0, a1⟩ := hagree c
    exact ⟨(h c).1.trans (by rw [a0, a1]), (h c).2⟩

/-- The other projections: the reference runs, ends and keeps its arguments. -/
theorem kept_12 : Cert.quiescent_Reference12Ideal (hReference12Ideal := Cert.Reference12Ideal.Gen.facts) := by
  intro m g _
  exact θ_run_mono (Cert.Reference12Ideal.Value.run m g) fun r h => ⟨fun c => (h c).2, sem_eq_zero_of_no_sems rfl r.2⟩

/-- The other projections: the kernel's result is the reference's. -/
theorem same_12 : Cert.algebraic_Kernel12Ideal_Reference12Ideal (hKernel12Ideal := Cert.Kernel12Ideal.Gen.facts) (hReference12Ideal := Cert.Reference12Ideal.Gen.facts) := by
  intro m g m' g' _ hagree
  refine ⟨fun c => Cert.Reference12Ideal.Mm.res (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine θ_run_mono (Cert.Kernel12Ideal.Value.run_blocks m g) fun r h c => ?_
    exact ⟨(h c).1.trans (Cert.Kernel12Ideal.Mm.final m c), (h c).2⟩
  · refine θ_run_mono (Cert.Reference12Ideal.Value.run m' g') fun r h c => ?_
    obtain ⟨a0, a1⟩ := hagree c
    exact ⟨(h c).1.trans (by rw [a0, a1]), (h c).2⟩

/-- The hidden gradient through the other projections, added to the one through the attention projections: the reference runs, ends and keeps its arguments. -/
theorem kept_13 : Cert.quiescent_Reference13Ideal (hReference13Ideal := Cert.Reference13Ideal.Gen.facts) := by
  intro m g _
  exact θ_run_mono (Cert.Reference13Ideal.Value.run m g) fun r h => ⟨fun c => (h c).2, sem_eq_zero_of_no_sems rfl r.2⟩

/-- The hidden gradient through the other projections, added to the one through the attention projections: the kernel's result is the reference's. -/
theorem same_13 : Cert.algebraic_Kernel13Ideal_Reference13Ideal (hKernel13Ideal := Cert.Kernel13Ideal.Gen.facts) (hReference13Ideal := Cert.Reference13Ideal.Gen.facts) := by
  intro m g m' g' _ hagree
  refine ⟨fun c => Cert.Reference13Ideal.Mm.res (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), ?_, ?_⟩
  · refine θ_run_mono (Cert.Kernel13Ideal.Value.run_blocks m g) fun r h c => ?_
    exact ⟨(h c).1.trans (Cert.Kernel13Ideal.Mm.final m c), (h c).2⟩
  · refine θ_run_mono (Cert.Reference13Ideal.Value.run m' g') fun r h c => ?_
    obtain ⟨a0, a1, a2⟩ := hagree c
    exact ⟨(h c).1.trans (by rw [a0, a1, a2]), (h c).2⟩

/-- The output projection: the reference runs, ends and keeps its arguments. -/
theorem kept_14 : Cert.quiescent_Reference14Ideal (hReference14Ideal := Cert.Reference14Ideal.Gen.facts) := by
  intro m g _
  exact θ_run_mono (Cert.Reference14Ideal.Value.run m g) fun r h => ⟨fun c => (h c).2, sem_eq_zero_of_no_sems rfl r.2⟩

/-- The output projection: the kernel's result is the reference's. -/
theorem same_14 : Cert.algebraic_Kernel14Ideal_Reference14Ideal (hKernel14Ideal := Cert.Kernel14Ideal.Gen.facts) (hReference14Ideal := Cert.Reference14Ideal.Gen.facts) := by
  intro m g m' g' _ hagree
  refine ⟨fun c => Cert.Reference14Ideal.Mm.res (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine θ_run_mono (Cert.Kernel14Ideal.Value.run_blocks m g) fun r h c => ?_
    exact ⟨(h c).1.trans (Cert.Kernel14Ideal.Mm.final m c), (h c).2⟩
  · refine θ_run_mono (Cert.Reference14Ideal.Value.run m' g') fun r h c => ?_
    obtain ⟨a0, a1⟩ := hagree c
    exact ⟨(h c).1.trans (by rw [a0, a1]), (h c).2⟩

/-- The gradient of the output projection's weights: the reference runs, ends and keeps its arguments. -/
theorem kept_15 : Cert.quiescent_Reference15Ideal (hReference15Ideal := Cert.Reference15Ideal.Gen.facts) := by
  intro m g _
  exact θ_run_mono (Cert.Reference15Ideal.Value.run m g) fun r h => ⟨fun c => (h c).2, sem_eq_zero_of_no_sems rfl r.2⟩

/-- The gradient of the output projection's weights: the kernel's result is the reference's. -/
theorem same_15 : Cert.algebraic_Kernel15Ideal_Reference15Ideal (hKernel15Ideal := Cert.Kernel15Ideal.Gen.facts) (hReference15Ideal := Cert.Reference15Ideal.Gen.facts) := by
  intro m g m' g' _ hagree
  refine ⟨fun c => Cert.Reference15Ideal.Mm.res (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine θ_run_mono (Cert.Kernel15Ideal.Value.run_blocks m g) fun r h c => ?_
    exact ⟨(h c).1.trans (Cert.Kernel15Ideal.Mm.final m c), (h c).2⟩
  · refine θ_run_mono (Cert.Reference15Ideal.Value.run m' g') fun r h c => ?_
    obtain ⟨a0, a1⟩ := hagree c
    exact ⟨(h c).1.trans (by rw [a0, a1]), (h c).2⟩

/-- The recurrent branch's up projection: the reference runs, ends and keeps its arguments. -/
theorem kept_16 : Cert.quiescent_Reference16Ideal (hReference16Ideal := Cert.Reference16Ideal.Gen.facts) := by
  intro m g _
  exact θ_run_mono (Cert.Reference16Ideal.Value.run m g) fun r h => ⟨fun c => (h c).2, sem_eq_zero_of_no_sems rfl r.2⟩

/-- The recurrent branch's up projection: the kernel's result is the reference's. -/
theorem same_16 : Cert.algebraic_Kernel16Ideal_Reference16Ideal (hKernel16Ideal := Cert.Kernel16Ideal.Gen.facts) (hReference16Ideal := Cert.Reference16Ideal.Gen.facts) := by
  intro m g m' g' _ hagree
  refine ⟨fun c => Cert.Reference16Ideal.Mm.res (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine θ_run_mono (Cert.Kernel16Ideal.Value.run_blocks m g) fun r h c => ?_
    exact ⟨(h c).1.trans (Cert.Kernel16Ideal.Mm.final m c), (h c).2⟩
  · refine θ_run_mono (Cert.Reference16Ideal.Value.run m' g') fun r h c => ?_
    obtain ⟨a0, a1⟩ := hagree c
    exact ⟨(h c).1.trans (by rw [a0, a1]), (h c).2⟩

/-- The attention branch's up projection: the reference runs, ends and keeps its arguments. -/
theorem kept_17 : Cert.quiescent_Reference17Ideal (hReference17Ideal := Cert.Reference17Ideal.Gen.facts) := by
  intro m g _
  exact θ_run_mono (Cert.Reference17Ideal.Value.run m g) fun r h => ⟨fun c => (h c).2, sem_eq_zero_of_no_sems rfl r.2⟩

/-- The attention branch's up projection: the kernel's result is the reference's. -/
theorem same_17 : Cert.algebraic_Kernel17Ideal_Reference17Ideal (hKernel17Ideal := Cert.Kernel17Ideal.Gen.facts) (hReference17Ideal := Cert.Reference17Ideal.Gen.facts) := by
  intro m g m' g' _ hagree
  refine ⟨fun c => Cert.Reference17Ideal.Mm.res (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine θ_run_mono (Cert.Kernel17Ideal.Value.run_blocks m g) fun r h c => ?_
    exact ⟨(h c).1.trans (Cert.Kernel17Ideal.Mm.final m c), (h c).2⟩
  · refine θ_run_mono (Cert.Reference17Ideal.Value.run m' g') fun r h c => ?_
    obtain ⟨a0, a1⟩ := hagree c
    exact ⟨(h c).1.trans (by rw [a0, a1]), (h c).2⟩

/-- The recurrent branch's gradient: the reference runs, ends and keeps its arguments. -/
theorem kept_18 : Cert.quiescent_Reference18Ideal (hReference18Ideal := Cert.Reference18Ideal.Gen.facts) := by
  intro m g _
  exact θ_run_mono (Cert.Reference18Ideal.Value.run m g) fun r h => ⟨fun c => (h c).2, sem_eq_zero_of_no_sems rfl r.2⟩

/-- The recurrent branch's gradient: the kernel's result is the reference's. -/
theorem same_18 : Cert.algebraic_Kernel18Ideal_Reference18Ideal (hKernel18Ideal := Cert.Kernel18Ideal.Gen.facts) (hReference18Ideal := Cert.Reference18Ideal.Gen.facts) := by
  intro m g m' g' _ hagree
  refine ⟨fun c => Cert.Reference18Ideal.Mm.res (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine θ_run_mono (Cert.Kernel18Ideal.Value.run_blocks m g) fun r h c => ?_
    exact ⟨(h c).1.trans (Cert.Kernel18Ideal.Mm.final m c), (h c).2⟩
  · refine θ_run_mono (Cert.Reference18Ideal.Value.run m' g') fun r h c => ?_
    obtain ⟨a0, a1⟩ := hagree c
    exact ⟨(h c).1.trans (by rw [a0, a1]), (h c).2⟩

/-- The gradient of the recurrent branch's up projection: the reference runs, ends and keeps its arguments. -/
theorem kept_19 : Cert.quiescent_Reference19Ideal (hReference19Ideal := Cert.Reference19Ideal.Gen.facts) := by
  intro m g _
  exact θ_run_mono (Cert.Reference19Ideal.Value.run m g) fun r h => ⟨fun c => (h c).2, sem_eq_zero_of_no_sems rfl r.2⟩

/-- The gradient of the recurrent branch's up projection: the kernel's result is the reference's. -/
theorem same_19 : Cert.algebraic_Kernel19Ideal_Reference19Ideal (hKernel19Ideal := Cert.Kernel19Ideal.Gen.facts) (hReference19Ideal := Cert.Reference19Ideal.Gen.facts) := by
  intro m g m' g' _ hagree
  refine ⟨fun c => Cert.Reference19Ideal.Mm.res (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine θ_run_mono (Cert.Kernel19Ideal.Value.run_blocks m g) fun r h c => ?_
    exact ⟨(h c).1.trans (Cert.Kernel19Ideal.Mm.final m c), (h c).2⟩
  · refine θ_run_mono (Cert.Reference19Ideal.Value.run m' g') fun r h c => ?_
    obtain ⟨a0, a1⟩ := hagree c
    exact ⟨(h c).1.trans (by rw [a0, a1]), (h c).2⟩

/-- The attention branch's gradient: the reference runs, ends and keeps its arguments. -/
theorem kept_20 : Cert.quiescent_Reference20Ideal (hReference20Ideal := Cert.Reference20Ideal.Gen.facts) := by
  intro m g _
  exact θ_run_mono (Cert.Reference20Ideal.Value.run m g) fun r h => ⟨fun c => (h c).2, sem_eq_zero_of_no_sems rfl r.2⟩

/-- The attention branch's gradient: the kernel's result is the reference's. -/
theorem same_20 : Cert.algebraic_Kernel20Ideal_Reference20Ideal (hKernel20Ideal := Cert.Kernel20Ideal.Gen.facts) (hReference20Ideal := Cert.Reference20Ideal.Gen.facts) := by
  intro m g m' g' _ hagree
  refine ⟨fun c => Cert.Reference20Ideal.Mm.res (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), ?_, ?_⟩
  · refine θ_run_mono (Cert.Kernel20Ideal.Value.run_blocks m g) fun r h c => ?_
    exact ⟨(h c).1.trans (Cert.Kernel20Ideal.Mm.final m c), (h c).2⟩
  · refine θ_run_mono (Cert.Reference20Ideal.Value.run m' g') fun r h c => ?_
    obtain ⟨a0, a1⟩ := hagree c
    exact ⟨(h c).1.trans (by rw [a0, a1]), (h c).2⟩

/-- The hidden gradient through the attention projections: the reference runs, ends and keeps its arguments. -/
theorem kept_22 : Cert.quiescent_Reference22Ideal (hReference22Ideal := Cert.Reference22Ideal.Gen.facts) := by
  intro m g _
  exact θ_run_mono (Cert.Reference22Ideal.Value.run m g) fun r h => ⟨fun c => (h c).2, sem_eq_zero_of_no_sems rfl r.2⟩

/-- The hidden gradient through the attention projections: the kernel's result is the reference's. -/
theorem same_22 : Cert.algebraic_Kernel22Ideal_Reference22Ideal (hKernel22Ideal := Cert.Kernel22Ideal.Gen.facts) (hReference22Ideal := Cert.Reference22Ideal.Gen.facts) := by
  intro m g m' g' _ hagree
  refine ⟨fun c => Cert.Reference22Ideal.Mm.res (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), ?_, ?_⟩
  · refine θ_run_mono (Cert.Kernel22Ideal.Value.run_blocks m g) fun r h c => ?_
    exact ⟨(h c).1.trans (Cert.Kernel22Ideal.Mm.final m c), (h c).2⟩
  · refine θ_run_mono (Cert.Reference22Ideal.Value.run m' g') fun r h c => ?_
    obtain ⟨a0, a1⟩ := hagree c
    exact ⟨(h c).1.trans (by rw [a0, a1]), (h c).2⟩

/-- The gradient of the attention branch's up projection: the reference runs, ends and keeps its arguments. -/
theorem kept_21 : Cert.quiescent_Reference21Ideal (hReference21Ideal := Cert.Reference21Ideal.Gen.facts) := by
  intro m g _
  exact θ_run_mono (Cert.Reference21Ideal.Value.run m g) fun r h => ⟨fun c => (h c).2, sem_eq_zero_of_no_sems rfl r.2⟩

/-- The gradient of the attention branch's up projection: the kernel's result is the reference's. -/
theorem same_21 : Cert.algebraic_Kernel21Ideal_Reference21Ideal (hKernel21Ideal := Cert.Kernel21Ideal.Gen.facts) (hReference21Ideal := Cert.Reference21Ideal.Gen.facts) := by
  intro m g m' g' _ hagree
  refine ⟨fun c => Cert.Reference21Ideal.Mm.res (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), ?_, ?_⟩
  · refine θ_run_mono (Cert.Kernel21Ideal.Value.run_blocks m g) fun r h c => ?_
    exact ⟨(h c).1.trans (Cert.Kernel21Ideal.Mm.final m c), (h c).2⟩
  · refine θ_run_mono (Cert.Reference21Ideal.Value.run m' g') fun r h c => ?_
    obtain ⟨a0, a1⟩ := hagree c
    exact ⟨(h c).1.trans (by rw [a0, a1]), (h c).2⟩

end Cert.Mm

end
-- ==== Proof.Act.Back.lean ====
/- The gradient of the gated activation, block by block, and as the reference writes it. -/
module

public import proofs.«01_k».proof.Proof.Gen.Kernel2Ideal.Value
public import proofs.«01_k».proof.Proof.Gen.Reference2Ideal.Run
public import proofs.«01_k».proof.Proof.Spec
public import proofs.«01_k».proof.Proof.Finite
public import proofs.«01_k».proof.Pre_finite2
public import Idealize.ShloMosaic.Lib.Pipeline.ValueKit
public import Idealize.ShloMosaic.Lib.Pointwise

@[expose] public section

set_option maxRecDepth 16384

noncomputable section

namespace Cert.Pre_finite2

open Idealize.ShloMosaic Idealize.ShloMosaic.TcCoe

local notation "𝔽" => Idealize.ShloMosaic.Ideal

/-- The side conditions the precondition's operations state. -/
theorem facts_hold : Cert.Pre_finite2.Facts where
  bcast_S_S8192x2048 := by decide
  bcast_S_S5632x2048 := by decide
  bcast_S_S8192x5632 := by decide

theorem ofBits_top_bf16 : Idealize.ShloMosaic.Ideal.ofBits .bf16 0x7F80#16 = (⊤ : EReal) := by
  simp [Idealize.ShloMosaic.Ideal.ofBits, Idealize.ShloMosaic.Ideal.ieee]

/-- An element whose absolute value compares below the half-width infinity is a real number. -/
theorem real_of_lt (x : EReal) (h : Idealize.ShloMosaic.Ideal.cmp .olt (max x (-x)) (Idealize.ShloMosaic.Ideal.ofBits .bf16 0x7F80#16) = 1#1) : x = (x.toReal : EReal) := by
  refine Cert.Pre_finite.real_of_lt x ?_
  rw [Cert.Fox.ofBits_top]
  rwa [ofBits_top_bf16] at h

section
variable [hf : Cert.Pre_finite2.Facts] (X0 : FVec 𝔽 S8192x2048 .bf16) (X1 : FVec 𝔽 S5632x2048 .bf16) (X2 X3 : FVec 𝔽 S8192x5632 .f32)

theorem real_0 (h : (fn X0 X1 X2 X3).1 = fun _ => 1#1) (y : S8192x2048.Idx) : X0 y = ((X0 y).toReal : EReal) :=
  real_of_lt _ (congrFun h y)
theorem real_1 (h : (fn X0 X1 X2 X3).2.1 = fun _ => 1#1) (y : S5632x2048.Idx) : X1 y = ((X1 y).toReal : EReal) :=
  real_of_lt _ (congrFun h y)
theorem real_2 (h : (fn X0 X1 X2 X3).2.2.1 = fun _ => 1#1) (y : S8192x5632.Idx) : X2 y = ((X2 y).toReal : EReal) :=
  Cert.Pre_finite.real_of_lt _ (congrFun h y)
theorem real_3 (h : (fn X0 X1 X2 X3).2.2.2 = fun _ => 1#1) (y : S8192x5632.Idx) : X3 y = ((X3 y).toReal : EReal) :=
  Cert.Pre_finite.real_of_lt _ (congrFun h y)
end

end Cert.Pre_finite2

namespace Cert.Act

open Idealize.ShloMosaic Idealize.ShloMosaic.TcCoe

local notation "𝔽" => Idealize.ShloMosaic.Ideal

/-- One over one and the exponential of the negated argument. -/
def sg (x : EReal) : EReal := Idealize.ShloMosaic.Ideal.div 1 (1 + Idealize.ShloMosaic.Ideal.exp (-x))

/-- At a real number it is one. -/
theorem sg_real (x : ℝ) : sg (x : EReal) = ((1 / (1 + Real.exp (-x)) : ℝ) : EReal) := by
  have e : Idealize.ShloMosaic.Ideal.exp (-(x : EReal)) = ((Real.exp (-x) : ℝ) : EReal) := by
    rw [← EReal.coe_neg]; rfl
  have h1 : (1 : EReal) = ((1 : ℝ) : EReal) := rfl
  rw [sg, e, h1, ← EReal.coe_add, Cert.Fox.div_real _ _ (ne_of_gt (add_pos one_pos (Real.exp_pos _)))]

/-- The gate's derivative, factored and as the two terms of the product rule. -/
theorem factored (d u x : ℝ) : ((d : EReal) * u) * (sg x * (1 + x * (1 - sg x))) = ((d : EReal) * u) * sg x + (x * ((d : EReal) * u)) * (sg x * (1 - sg x)) := by
  rw [sg_real]
  generalize (1 / (1 + Real.exp (-x)) : ℝ) = s
  have h1 : (1 : EReal) = ((1 : ℝ) : EReal) := rfl
  rw [h1]
  simp only [← EReal.coe_sub, ← EReal.coe_mul, ← EReal.coe_add]
  congr 1
  ring

/-- The same of any numbers that are real. -/
theorem factored_of (d u x : EReal) (hd : d = (d.toReal : EReal)) (hu : u = (u.toReal : EReal)) (hx : x = (x.toReal : EReal)) :
    (d * u) * (sg x * (1 + x * (1 - sg x))) = (d * u) * sg x + (x * (d * u)) * (sg x * (1 - sg x)) := by
  rw [hd, hu, hx]
  exact factored _ _ _

/-- A sum of products of real numbers is one. -/
theorem sum_real {n : ℕ} (f g : Fin n → EReal) (hf : ∀ k, f k = ((f k).toReal : EReal)) (hg : ∀ k, g k = ((g k).toReal : EReal)) :
    ∑ k, f k * g k = ((∑ k, f k * g k).toReal : EReal) := by
  have e : ∑ k, f k * g k = ((∑ k, (f k).toReal * (g k).toReal : ℝ) : EReal) := by
    rw [← Cert.Fox.coe_sum]
    refine Finset.sum_congr rfl fun k _ => ?_
    rw [EReal.coe_mul, ← hf k, ← hg k]
  rw [e, EReal.toReal_coe]

end Cert.Act

namespace Cert.Reference2Ideal.Mm

open Cert.Reference2Ideal Cert.Reference2Ideal.Gen
open Idealize.ShloMosaic Idealize.ShloMosaic.TcCoe

local notation "𝔽" => Idealize.ShloMosaic.Ideal

/-- An entry of the product. -/
def prod (X0 : FVec 𝔽 S8192x2048 .bf16) (X1 : FVec 𝔽 S5632x2048 .bf16) (y : S8192x5632.Idx) : EReal :=
  ∑ k : Fin 2048, X0 (ix2 (y 0) k) * X1 (ix2 (y 1) k)

/-- The gate's gradient, as the reference writes it. -/
abbrev res0 (X0 : FVec 𝔽 S8192x2048 .bf16) (X1 : FVec 𝔽 S5632x2048 .bf16) (X2 X3 : FVec 𝔽 S8192x5632 .f32) : FVec 𝔽 S8192x5632 .bf16 :=
  truncf .bf16 (addf (mulf (mulf (Host.dotGeneral dot_S8192x2048_S5632x2048_S8192x5632_1_1_0_0_n_n none (extf .f32 X0 bitsLt_bf16_f32) (extf .f32 X1 bitsLt_bf16_f32)) X3) (Host.divf (broadcastInDim S8192x5632 ![] bcast_S_S8192x5632 (constant S_ .f32 0x3F800000#32)) (addf (broadcastInDim S8192x5632 ![] bcast_S_S8192x5632 (constant S_ .f32 0x3F800000#32)) (Host.exp (Host.negf X2))))) (mulf (mulf X2 (mulf (Host.dotGeneral dot_S8192x2048_S5632x2048_S8192x5632_1_1_0_0_n_n none (extf .f32 X0 bitsLt_bf16_f32) (extf .f32 X1 bitsLt_bf16_f32)) X3)) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf X2)))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf X2)))))))) bitsLt_bf16_f32

theorem res0_apply (X0 : FVec 𝔽 S8192x2048 .bf16) (X1 : FVec 𝔽 S5632x2048 .bf16) (X2 X3 : FVec 𝔽 S8192x5632 .f32) (y : S8192x5632.Idx) : res0 X0 X1 X2 X3 y = (prod X0 X1 y * X3 y) * Cert.Act.sg (X2 y) + (X2 y * (prod X0 X1 y * X3 y)) * (Cert.Act.sg (X2 y) * (1 - Cert.Act.sg (X2 y))) := by
  pointwise [res0, prod, Cert.Act.sg]

/-- The up projection's gradient, as the reference writes it. -/
abbrev res1 (X0 : FVec 𝔽 S8192x2048 .bf16) (X1 : FVec 𝔽 S5632x2048 .bf16) (X2 X3 : FVec 𝔽 S8192x5632 .f32) : FVec 𝔽 S8192x5632 .bf16 :=
  truncf .bf16 (mulf (mulf X2 (Host.divf (broadcastInDim S8192x5632 ![] bcast_S_S8192x5632 (constant S_ .f32 0x3F800000#32)) (addf (broadcastInDim S8192x5632 ![] bcast_S_S8192x5632 (constant S_ .f32 0x3F800000#32)) (Host.exp (Host.negf X2))))) (Host.dotGeneral dot_S8192x2048_S5632x2048_S8192x5632_1_1_0_0_n_n none (extf .f32 X0 bitsLt_bf16_f32) (extf .f32 X1 bitsLt_bf16_f32))) bitsLt_bf16_f32

theorem res1_apply (X0 : FVec 𝔽 S8192x2048 .bf16) (X1 : FVec 𝔽 S5632x2048 .bf16) (X2 X3 : FVec 𝔽 S8192x5632 .f32) (y : S8192x5632.Idx) : res1 X0 X1 X2 X3 y = (X2 y * Cert.Act.sg (X2 y)) * prod X0 X1 y := by
  pointwise [res1, prod, Cert.Act.sg]

end Cert.Reference2Ideal.Mm

namespace Cert.Kernel2Ideal.Mm

open Cert.Kernel2Ideal Cert.Kernel2Ideal.Gen Cert.Reference2Ideal.Mm
open Idealize.ShloMosaic Idealize.ShloMosaic.TcCoe

local notation "𝔽" => Idealize.ShloMosaic.Ideal

/-- A block's product. -/
def part (a : Vec 𝔽 S1024x2048 .bf16) (b : Vec 𝔽 S512x2048 .bf16) (y : S1024x512.Idx) : EReal :=
  ∑ k : Fin 2048, a (ix2 (y 0) k) * b (ix2 (y 1) k)

theorem pay0 (a : Vec 𝔽 S1024x2048 .bf16) (b : Vec 𝔽 S512x2048 .bf16) (x u : Vec 𝔽 S1024x512 .f32) (y : S1024x512.Idx) :
    k0_pay3 a b x u y = (part a b y * u y) * (Cert.Act.sg (x y) * (1 + x y * (1 - Cert.Act.sg (x y)))) := by
  pointwise [k0_pay3, k0_pay2, k0_pay1, part, Cert.Act.sg, Idealize.ShloMosaic.Ideal.logistic]

theorem pay1 (a : Vec 𝔽 S1024x2048 .bf16) (b : Vec 𝔽 S512x2048 .bf16) (x : Vec 𝔽 S1024x512 .f32) (y : S1024x512.Idx) :
    k0_pay4 a b x y = part a b y * (x y * Cert.Act.sg (x y)) := by
  pointwise [k0_pay4, k0_pay2, k0_pay1, part, Cert.Act.sg, Idealize.ShloMosaic.Ideal.logistic]

theorem idx : ∀ t : Fin cfg0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11] :=
  (by decide +kernel : ∀ t : Fin grid0.N, _)

variable (m : (ℓ : Loc nD τ sig) → Buf (Elt 𝔽) ℓ)

theorem final0 (c : Dev nD)
    (hp : ∀ y, prod (m ((c : Thread nD τ).loc main_arg0)) (m ((c : Thread nD τ).loc main_arg1)) y = ((prod (m ((c : Thread nD τ).loc main_arg0)) (m ((c : Thread nD τ).loc main_arg1)) y).toReal : EReal))
    (h2 : ∀ y : Cert.Reference2Ideal.S8192x5632.Idx, m ((c : Thread nD τ).loc main_arg2) y = ((m ((c : Thread nD τ).loc main_arg2) y).toReal : EReal))
    (h3 : ∀ y : Cert.Reference2Ideal.S8192x5632.Idx, m ((c : Thread nD τ).loc main_arg3) y = ((m ((c : Thread nD τ).loc main_arg3) y).toReal : EReal)) :
    (dats m 0 c).arrAt 4 cfg0.N = Cert.Reference2Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay0 _ _ _ _ y).trans ?_
  rw [Cert.Reference2Ideal.Mm.res0_apply]
  have e0 : part (iblk m c 0 t) (iblk m c 1 t) y = prod (m ((c : Thread nD τ).loc main_arg0)) (m ((c : Thread nD τ).loc main_arg1)) (((cfg0.win 4).blk t).view.emb y) := by
    refine Finset.sum_congr rfl fun k _ => ?_
    blk_point [iblk, V, idx t]
  have e2 : iblk m c 2 t y = m ((c : Thread nD τ).loc main_arg2) (((cfg0.win 4).blk t).view.emb y) := by
    blk_point [iblk, V, idx t]
  have e3 : iblk m c 3 t y = m ((c : Thread nD τ).loc main_arg3) (((cfg0.win 4).blk t).view.emb y) := by
    blk_point [iblk, V, idx t]
  rw [e0, e2, e3]
  exact Cert.Act.factored_of _ _ _ (hp _) (h3 _) (h2 _)

theorem final1 (c : Dev nD) :
    (dats m 0 c).arrAt 5 cfg0.N = Cert.Reference2Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay1 _ _ _ y).trans ?_
  rw [Cert.Reference2Ideal.Mm.res1_apply]
  have e0 : part (iblk m c 0 t) (iblk m c 1 t) y = prod (m ((c : Thread nD τ).loc main_arg0)) (m ((c : Thread nD τ).loc main_arg1)) (((cfg0.win 5).blk t).view.emb y) := by
    refine Finset.sum_congr rfl fun k _ => ?_
    blk_point [iblk, V, idx t]
  have e2 : iblk m c 2 t y = m ((c : Thread nD τ).loc main_arg2) (((cfg0.win 5).blk t).view.emb y) := by
    blk_point [iblk, V, idx t]
  rw [e0, e2]
  exact mul_comm _ _

end Cert.Kernel2Ideal.Mm

end
-- ==== Proof.Act.Claims.lean ====
/- The claims of the gated activation's gradient, on finite arguments. -/
module

public import proofs.«01_k».proof.Defs
public import Idealize.ShloMosaic.Lib.StableHlo.RunHlo
public import Idealize.ShloMosaic.Lib.Quiescent
public import proofs.«01_k».proof.Proof.Act.Back

@[expose] public section

noncomputable section

namespace Cert.Act

open Idealize.ShloMosaic Idealize.ShloMosaic.TcCoe Idealize.SL.Sem

/-- The gated activation's gradient: the reference runs, ends and keeps its arguments. -/
theorem kept : Cert.quiescent_Reference2Ideal (hReference2Ideal := Cert.Reference2Ideal.Gen.facts) := by
  intro m g _
  exact θ_run_mono (Cert.Reference2Ideal.Value.run m g) fun r h => ⟨fun c => (h c).2.2, sem_eq_zero_of_no_sems rfl r.2⟩

/-- The gated activation's gradient: the kernel's results are the reference's. -/
theorem same : Cert.algebraic_Kernel2Ideal_Reference2Ideal_pre_finite2 (hPre_finite2 := Cert.Pre_finite2.facts_hold) (hKernel2Ideal := Cert.Kernel2Ideal.Gen.facts) (hReference2Ideal := Cert.Reference2Ideal.Gen.facts) := by
  intro m g m' g' hpre hagree
  refine ⟨fun c => Cert.Reference2Ideal.Mm.res0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.Reference2Ideal.Mm.res1 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · refine θ_run_mono (Cert.Kernel2Ideal.Value.run_blocks m g) fun r h c => ?_
    obtain ⟨p0, p1, p2, p3⟩ := hpre c
    exact ⟨(h c).1.trans (Cert.Kernel2Ideal.Mm.final0 m c
      (fun y => sum_real _ _ (fun k => Cert.Pre_finite2.real_0 (hf := Cert.Pre_finite2.facts_hold) _ _ _ _ p0 _) (fun k => Cert.Pre_finite2.real_1 (hf := Cert.Pre_finite2.facts_hold) _ _ _ _ p1 _))
      (fun y => Cert.Pre_finite2.real_2 (hf := Cert.Pre_finite2.facts_hold) _ _ _ _ p2 y)
      (fun y => Cert.Pre_finite2.real_3 (hf := Cert.Pre_finite2.facts_hold) _ _ _ _ p3 y)), (h c).2.1.trans (Cert.Kernel2Ideal.Mm.final1 m c), (h c).2.2⟩
  · refine θ_run_mono (Cert.Reference2Ideal.Value.run m' g') fun r h c => ?_
    obtain ⟨a0, a1, a2, a3⟩ := hagree c
    exact ⟨(h c).1.trans (by rw [a0, a1, a2, a3]), (h c).2.1.trans (by rw [a0, a1, a2]), (h c).2.2⟩

end Cert.Act

end
-- ==== Proof.Act.FfnIn.lean ====
/- The gate and the up projection side by side, and the gated activation of them. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pointwise

@[expose] public section

set_option maxRecDepth 16384

noncomputable section

namespace Cert.Reference23Ideal.Mm

open Cert.Reference23Ideal Cert.Reference23Ideal.Gen
open Idealize.ShloMosaic Idealize.ShloMosaic.TcCoe

local notation "𝔽" => Idealize.ShloMosaic.Ideal

/-- One over one and the exponential of the negated argument. -/
def sg (x : EReal) : EReal := Idealize.ShloMosaic.Ideal.div 1 (1 + Idealize.ShloMosaic.Ideal.exp (-x))

/-- An entry of the product with the left half of the weights. -/
def gate (X0 : FVec 𝔽 S8192x2048 .bf16) (X1 : FVec 𝔽 S2048x11264 .bf16) (y : S8192x5632.Idx) : EReal :=
  ∑ k : Fin 2048, X0 (ix2 (y 0) k) * X1 (ix2 k ⟨(y 1).val, Nat.lt_of_lt_of_le (y 1).isLt (by decide)⟩)

/-- An entry of the product with the right half of the weights. -/
def up (X0 : FVec 𝔽 S8192x2048 .bf16) (X1 : FVec 𝔽 S2048x11264 .bf16) (y : S8192x5632.Idx) : EReal :=
  ∑ k : Fin 2048, X0 (ix2 (y 0) k) * X1 (ix2 k ⟨5632 + (y 1).val, Nat.add_lt_add_left (y 1).isLt 5632⟩)

/-- The gate projection, as the reference writes it. -/
abbrev res0 (X0 : FVec 𝔽 S8192x2048 .bf16) (X1 : FVec 𝔽 S2048x11264 .bf16) : FVec 𝔽 S8192x5632 .f32 :=
  extractStridedSlice S8192x5632 ![0, 0] (Host.dotGeneral dot_S8192x2048_S2048x11264_S8192x11264_1_0_0_1_n_n none (extf .f32 X0 bitsLt_bf16_f32) (extf .f32 X1 bitsLt_bf16_f32)) slices_S8192x11264_S8192x5632_0_0

theorem res0_apply (X0 : FVec 𝔽 S8192x2048 .bf16) (X1 : FVec 𝔽 S2048x11264 .bf16) (y : S8192x5632.Idx) : res0 X0 X1 y = gate X0 X1 y := by
  pointwise [res0, gate, up, sg]

/-- The up projection, as the reference writes it. -/
abbrev res1 (X0 : FVec 𝔽 S8192x2048 .bf16) (X1 : FVec 𝔽 S2048x11264 .bf16) : FVec 𝔽 S8192x5632 .f32 :=
  extractStridedSlice S8192x5632 ![0, 5632] (Host.dotGeneral dot_S8192x2048_S2048x11264_S8192x11264_1_0_0_1_n_n none (extf .f32 X0 bitsLt_bf16_f32) (extf .f32 X1 bitsLt_bf16_f32)) slices_S8192x11264_S8192x5632_0_5632

theorem res1_apply (X0 : FVec 𝔽 S8192x2048 .bf16) (X1 : FVec 𝔽 S2048x11264 .bf16) (y : S8192x5632.Idx) : res1 X0 X1 y = up X0 X1 y := by
  pointwise [res1, gate, up, sg]

/-- The gated activation, as the reference writes it. -/
abbrev res2 (X0 : FVec 𝔽 S8192x2048 .bf16) (X1 : FVec 𝔽 S2048x11264 .bf16) : FVec 𝔽 S8192x5632 .bf16 :=
  truncf .bf16 (mulf (mulf (extractStridedSlice S8192x5632 ![0, 0] (Host.dotGeneral dot_S8192x2048_S2048x11264_S8192x11264_1_0_0_1_n_n none (extf .f32 X0 bitsLt_bf16_f32) (extf .f32 X1 bitsLt_bf16_f32)) slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] (Host.dotGeneral dot_S8192x2048_S2048x11264_S8192x11264_1_0_0_1_n_n none (extf .f32 X0 bitsLt_bf16_f32) (extf .f32 X1 bitsLt_bf16_f32)) slices_S8192x11264_S8192x5632_0_0)))))) (extractStridedSlice S8192x5632 ![0, 5632] (Host.dotGeneral dot_S8192x2048_S2048x11264_S8192x11264_1_0_0_1_n_n none (extf .f32 X0 bitsLt_bf16_f32) (extf .f32 X1 bitsLt_bf16_f32)) slices_S8192x11264_S8192x5632_0_5632)) bitsLt_bf16_f32

theorem res2_apply (X0 : FVec 𝔽 S8192x2048 .bf16) (X1 : FVec 𝔽 S2048x11264 .bf16) (y : S8192x5632.Idx) : res2 X0 X1 y = gate X0 X1 y * sg (gate X0 X1 y) * up X0 X1 y := by
  pointwise [res2, gate, up, sg]

end Cert.Reference23Ideal.Mm

namespace Cert.Kernel23Ideal.Mm

open Cert.Kernel23Ideal Cert.Kernel23Ideal.Gen Cert.Reference23Ideal.Mm
open Idealize.ShloMosaic Idealize.ShloMosaic.TcCoe

local notation "𝔽" => Idealize.ShloMosaic.Ideal

/-- A block's product. -/
def part (a : Vec 𝔽 S1024x2048 .bf16) (b : Vec 𝔽 S2048x512 .bf16) (y : S1024x512.Idx) : EReal :=
  ∑ k : Fin 2048, a (ix2 (y 0) k) * b (ix2 k (y 1))

theorem pay0 (a : Vec 𝔽 S1024x2048 .bf16) (b : Vec 𝔽 S2048x512 .bf16) (y : S1024x512.Idx) : k0_pay1 a b y = part a b y := by
  pointwise [k0_pay1, part]

theorem pay1 (a : Vec 𝔽 S1024x2048 .bf16) (b : Vec 𝔽 S2048x512 .bf16) (y : S1024x512.Idx) : k0_pay2 a b y = part a b y := by
  pointwise [k0_pay2, part]

theorem pay2 (a : Vec 𝔽 S1024x2048 .bf16) (b b' : Vec 𝔽 S2048x512 .bf16) (y : S1024x512.Idx) :
    k0_pay3 a b b' y = part a b y * sg (part a b y) * part a b' y := by
  pointwise [k0_pay3, k0_pay2, k0_pay1, part, sg, Idealize.ShloMosaic.Ideal.logistic]

theorem idx : ∀ t : Fin cfg0.N, win0_0.index t = ![t.val / 11, 0] ∧ win0_1.index t = ![0, t.val % 11] ∧ win0_2.index t = ![0, t.val % 11 + 11]
    ∧ win0_3.index t = ![t.val / 11, t.val % 11] ∧ win0_4.index t = ![t.val / 11, t.val % 11] ∧ win0_5.index t = ![t.val / 11, t.val % 11] :=
  (by decide +kernel : ∀ t : Fin grid0.N, _)

variable (m : (ℓ : Loc nD τ sig) → Buf (Elt 𝔽) ℓ)

theorem final0 (c : Dev nD) : (dats m 0 c).arrAt 3 cfg0.N = Cert.Reference23Ideal.Mm.res0 (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (pay0 _ _ y).trans ?_
  rw [Cert.Reference23Ideal.Mm.res0_apply]
  refine Finset.sum_congr rfl fun k _ => ?_
  blk_point [iblk, V, idx t]

theorem final1 (c : Dev nD) : (dats m 0 c).arrAt 4 cfg0.N = Cert.Reference23Ideal.Mm.res1 (m ((c : Thread nD τ).loc main_arg0)) (m ((c : Thread nD τ).loc main_arg1)) := by
  refine (dats m 0 c).arrAt_eq_of_covers 4 _ (by decide +kernel) fun t hf y => ?_
  blk_simp
  rw [after0_4]
  frame_out
  refine (pay1 _ _ y).trans ?_
  rw [Cert.Reference23Ideal.Mm.res1_apply]
  refine Finset.sum_congr rfl fun k _ => ?_
  blk_point [iblk, V, idx t]

theorem final2 (c : Dev nD) : (dats m 0 c).arrAt 5 cfg0.N = Cert.Reference23Ideal.Mm.res2 (m ((c : Thread nD τ).loc main_arg0)) (m ((c : Thread nD τ).loc main_arg1)) := by
  refine (dats m 0 c).arrAt_eq_of_covers 5 _ (by decide +kernel) fun t hf y => ?_
  blk_simp
  rw [after0_5]
  frame_out
  refine (pay2 _ _ _ y).trans ?_
  rw [Cert.Reference23Ideal.Mm.res2_apply]
  have e0 : part (iblk m c 0 t) (iblk m c 1 t) y = gate (m ((c : Thread nD τ).loc main_arg0)) (m ((c : Thread nD τ).loc main_arg1)) (((cfg0.win 5).blk t).view.emb y) := by
    refine Finset.sum_congr rfl fun k _ => ?_
    blk_point [iblk, V, idx t]
  have e1 : part (iblk m c 0 t) (iblk m c 2 t) y = up (m ((c : Thread nD τ).loc main_arg0)) (m ((c : Thread nD τ).loc main_arg1)) (((cfg0.win 5).blk t).view.emb y) := by
    refine Finset.sum_congr rfl fun k _ => ?_
    blk_point [iblk, V, idx t]
  rw [e0, e1]

end Cert.Kernel23Ideal.Mm

end
-- ==== Proof.Act.FfnInClaims.lean ====
/- The claims of the gate and up projections and their gated activation, whatever the arguments. -/
module

public import proofs.«01_k».proof.Defs
public import Idealize.ShloMosaic.Lib.StableHlo.RunHlo
public import Idealize.ShloMosaic.Lib.Quiescent
public import proofs.«01_k».proof.Proof.Act.FfnIn

@[expose] public section

noncomputable section

namespace Cert.Mm

open Idealize.ShloMosaic Idealize.ShloMosaic.TcCoe Idealize.SL.Sem

/-- The gate and up projections and their gated activation: the reference runs, ends and keeps its arguments. -/
theorem kept_23 : Cert.quiescent_Reference23Ideal (hReference23Ideal := Cert.Reference23Ideal.Gen.facts) := by
  intro m g _
  exact θ_run_mono (Cert.Reference23Ideal.Value.run m g) fun r h => ⟨fun c => (h c).2.2.2, sem_eq_zero_of_no_sems rfl r.2⟩

/-- The gate and up projections and their gated activation: the kernel's results are the reference's. -/
theorem same_23 : Cert.algebraic_Kernel23Ideal_Reference23Ideal (hKernel23Ideal := Cert.Kernel23Ideal.Gen.facts) (hReference23Ideal := Cert.Reference23Ideal.Gen.facts) := by
  intro m g m' g' _ hagree
  refine ⟨fun c => Cert.Reference23Ideal.Mm.res0 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), fun c => Cert.Reference23Ideal.Mm.res1 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), fun c => Cert.Reference23Ideal.Mm.res2 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), ?_, ?_⟩
  · refine θ_run_mono (Cert.Kernel23Ideal.Value.run_blocks m g) fun r h c => ?_
    exact ⟨(h c).1.trans (Cert.Kernel23Ideal.Mm.final0 m c), (h c).2.1.trans (Cert.Kernel23Ideal.Mm.final1 m c), (h c).2.2.1.trans (Cert.Kernel23Ideal.Mm.final2 m c), (h c).2.2.2⟩
  · refine θ_run_mono (Cert.Reference23Ideal.Value.run m' g') fun r h c => ?_
    obtain ⟨a0, a1⟩ := hagree c
    exact ⟨(h c).1.trans (by rw [a0, a1]), (h c).2.1.trans (by rw [a0, a1]), (h c).2.2.1.trans (by rw [a0, a1]), (h c).2.2.2⟩

end Cert.Mm

end
-- ==== Proof.Adam.Step.lean ====
/- One step of the optimiser at one weight. -/
module

public import Idealize.ShloMosaic.PureOps
public import Idealize.ShloMosaic.Lib.Pipeline.ValueKit
public import Idealize.ShloMosaic.Lib.Pointwise

@[expose] public section

set_option maxRecDepth 16384

noncomputable section

namespace Cert.Adam

open Idealize.ShloMosaic

/-- A real written as its single precision word. -/
def lit (b : BitVec 32) : EReal := Idealize.ShloMosaic.Ideal.ofBits .f32 b

/-- The first moment after a step. -/
def fstMoment (g m : EReal) : EReal := lit 0x3F666666#32 * m + lit 0x3DCCCCCD#32 * g

/-- The second moment after a step. -/
def sndMoment (g v : EReal) : EReal := lit 0x3F7FBE77#32 * v + lit 0x3A83126F#32 * (g * g)

/-- The weight's change. -/
def change (w g m v : EReal) : EReal :=
  lit 0xBA83126F#32 * (Idealize.ShloMosaic.Ideal.div (Idealize.ShloMosaic.Ideal.div (fstMoment g m) (lit 0x3F26BD02#32))
    (Idealize.ShloMosaic.Ideal.sqrt (Idealize.ShloMosaic.Ideal.div (sndMoment g v) (lit 0x3C231ACC#32)) + lit 0x322BCC77#32) + lit 0x3C23D70A#32 * w)

end Cert.Adam

end
-- ==== Proof.Adam.WIn.lean ====
/- The optimiser's step on `w_in`, block by block of 128 rows. -/
module

public import proofs.«01_k».proof.Proof.Gen.Kernel24Ideal.Value
public import proofs.«01_k».proof.Proof.Gen.Reference24Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference24Ideal.Mm

open Cert.Reference24Ideal Cert.Reference24Ideal.Gen
open Idealize.ShloMosaic Idealize.ShloMosaic.TcCoe

local notation "𝔽" => Idealize.ShloMosaic.Ideal

/-- The weights' change, as the reference writes them. -/
abbrev res0 (X0 : FVec 𝔽 S2048x2818 .f32) (X1 : FVec 𝔽 S2048x2818 .f32) (X2 : FVec 𝔽 S2048x2818 .f32) (X3 : FVec 𝔽 S2048x2818 .f32) : FVec 𝔽 S2048x2818 .f32 :=
  mulf (broadcastInDim S2048x2818 ![] bcast_S_S2048x2818 (constant S_ .f32 0xBA83126F#32)) (addf (Host.divf (Host.divf (addf (mulf (broadcastInDim S2048x2818 ![] bcast_S_S2048x2818 (constant S_ .f32 0x3F666666#32)) X2) (mulf (broadcastInDim S2048x2818 ![] bcast_S_S2048x2818 (constant S_ .f32 0x3DCCCCCD#32)) X1)) (broadcastInDim S2048x2818 ![] bcast_S_S2048x2818 (constant S_ .f32 0x3F26BD02#32))) (addf (Host.sqrt (Host.divf (addf (mulf (broadcastInDim S2048x2818 ![] bcast_S_S2048x2818 (constant S_ .f32 0x3F7FBE77#32)) X3) (mulf (broadcastInDim S2048x2818 ![] bcast_S_S2048x2818 (constant S_ .f32 0x3A83126F#32)) (mulf X1 X1))) (broadcastInDim S2048x2818 ![] bcast_S_S2048x2818 (constant S_ .f32 0x3C231ACC#32)))) (broadcastInDim S2048x2818 ![] bcast_S_S2048x2818 (constant S_ .f32 0x322BCC77#32)))) (mulf (broadcastInDim S2048x2818 ![] bcast_S_S2048x2818 (constant S_ .f32 0x3C23D70A#32)) X0))

theorem res0_apply (X0 : FVec 𝔽 S2048x2818 .f32) (X1 : FVec 𝔽 S2048x2818 .f32) (X2 : FVec 𝔽 S2048x2818 .f32) (X3 : FVec 𝔽 S2048x2818 .f32) (y : S2048x2818.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S2048x2818 .f32) (X1 : FVec 𝔽 S2048x2818 .f32) (X2 : FVec 𝔽 S2048x2818 .f32) (X3 : FVec 𝔽 S2048x2818 .f32) : FVec 𝔽 S2048x2818 .f32 :=
  addf (mulf (broadcastInDim S2048x2818 ![] bcast_S_S2048x2818 (constant S_ .f32 0x3F666666#32)) X2) (mulf (broadcastInDim S2048x2818 ![] bcast_S_S2048x2818 (constant S_ .f32 0x3DCCCCCD#32)) X1)

theorem res1_apply (X0 : FVec 𝔽 S2048x2818 .f32) (X1 : FVec 𝔽 S2048x2818 .f32) (X2 : FVec 𝔽 S2048x2818 .f32) (X3 : FVec 𝔽 S2048x2818 .f32) (y : S2048x2818.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S2048x2818 .f32) (X1 : FVec 𝔽 S2048x2818 .f32) (X2 : FVec 𝔽 S2048x2818 .f32) (X3 : FVec 𝔽 S2048x2818 .f32) : FVec 𝔽 S2048x2818 .f32 :=
  addf (mulf (broadcastInDim S2048x2818 ![] bcast_S_S2048x2818 (constant S_ .f32 0x3F7FBE77#32)) X3) (mulf (broadcastInDim S2048x2818 ![] bcast_S_S2048x2818 (constant S_ .f32 0x3A83126F#32)) (mulf X1 X1))

theorem res2_apply (X0 : FVec 𝔽 S2048x2818 .f32) (X1 : FVec 𝔽 S2048x2818 .f32) (X2 : FVec 𝔽 S2048x2818 .f32) (X3 : FVec 𝔽 S2048x2818 .f32) (y : S2048x2818.Idx) : res2 X0 X1 X2 X3 y = Cert.Adam.sndMoment (X1 y) (X3 y) := by
  pointwise [res2, Cert.Adam.change, Cert.Adam.fstMoment, Cert.Adam.sndMoment, Cert.Adam.lit]

end Cert.Reference24Ideal.Mm

namespace Cert.Kernel24Ideal.Mm

open Cert.Kernel24Ideal Cert.Kernel24Ideal.Gen
open Idealize.ShloMosaic Idealize.ShloMosaic.TcCoe

local notation "𝔽" => Idealize.ShloMosaic.Ideal

theorem pay0 (w g m v : Vec 𝔽 S128x2818 .f32) (y : S128x2818.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x2818 .f32) (y : S128x2818.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x2818 .f32) (y : S128x2818.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference24Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference24Ideal.Mm.res0_apply]
  blk_point [iblk, V, idx t]

theorem final1 (c : Dev nD) : (dats m 0 c).arrAt 6 cfg0.N = Cert.Reference24Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference24Ideal.Mm.res1_apply]
  blk_point [iblk, V, idx t]

theorem final2 (c : Dev nD) : (dats m 0 c).arrAt 7 cfg0.N = Cert.Reference24Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference24Ideal.Mm.res2_apply]
  blk_point [iblk, V, idx t]

end Cert.Kernel24Ideal.Mm

end
-- ==== Proof.Adam.UpA.lean ====
/- The optimiser's step on `w_up_a`, block by block of 128 rows. -/
module

public import proofs.«01_k».proof.Proof.Gen.Kernel25Ideal.Value
public import proofs.«01_k».proof.Proof.Gen.Reference25Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference25Ideal.Mm

open Cert.Reference25Ideal Cert.Reference25Ideal.Gen
open Idealize.ShloMosaic Idealize.ShloMosaic.TcCoe

local notation "𝔽" => Idealize.ShloMosaic.Ideal

/-- The weights' change, as the reference writes them. -/
abbrev res0 (X0 : FVec 𝔽 S1024x512 .f32) (X1 : FVec 𝔽 S1024x512 .f32) (X2 : FVec 𝔽 S1024x512 .f32) (X3 : FVec 𝔽 S1024x512 .f32) : FVec 𝔽 S1024x512 .f32 :=
  mulf (broadcastInDim S1024x512 ![] bcast_S_S1024x512 (constant S_ .f32 0xBA83126F#32)) (addf (Host.divf (Host.divf (addf (mulf (broadcastInDim S1024x512 ![] bcast_S_S1024x512 (constant S_ .f32 0x3F666666#32)) X2) (mulf (broadcastInDim S1024x512 ![] bcast_S_S1024x512 (constant S_ .f32 0x3DCCCCCD#32)) X1)) (broadcastInDim S1024x512 ![] bcast_S_S1024x512 (constant S_ .f32 0x3F26BD02#32))) (addf (Host.sqrt (Host.divf (addf (mulf (broadcastInDim S1024x512 ![] bcast_S_S1024x512 (constant S_ .f32 0x3F7FBE77#32)) X3) (mulf (broadcastInDim S1024x512 ![] bcast_S_S1024x512 (constant S_ .f32 0x3A83126F#32)) (mulf X1 X1))) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) X0))

theorem res0_apply (X0 : FVec 𝔽 S1024x512 .f32) (X1 : FVec 𝔽 S1024x512 .f32) (X2 : FVec 𝔽 S1024x512 .f32) (X3 : FVec 𝔽 S1024x512 .f32) (y : S1024x512.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S1024x512 .f32) (X1 : FVec 𝔽 S1024x512 .f32) (X2 : FVec 𝔽 S1024x512 .f32) (X3 : FVec 𝔽 S1024x512 .f32) : FVec 𝔽 S1024x512 .f32 :=
  addf (mulf (broadcastInDim S1024x512 ![] bcast_S_S1024x512 (constant S_ .f32 0x3F666666#32)) X2) (mulf (broadcastInDim S1024x512 ![] bcast_S_S1024x512 (constant S_ .f32 0x3DCCCCCD#32)) X1)

theorem res1_apply (X0 : FVec 𝔽 S1024x512 .f32) (X1 : FVec 𝔽 S1024x512 .f32) (X2 : FVec 𝔽 S1024x512 .f32) (X3 : FVec 𝔽 S1024x512 .f32) (y : S1024x512.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S1024x512 .f32) (X1 : FVec 𝔽 S1024x512 .f32) (X2 : FVec 𝔽 S1024x512 .f32) (X3 : FVec 𝔽 S1024x512 .f32) : FVec 𝔽 S1024x512 .f32 :=
  addf (mulf (broadcastInDim S1024x512 ![] bcast_S_S1024x512 (constant S_ .f32 0x3F7FBE77#32)) X3) (mulf (broadcastInDim S1024x512 ![] bcast_S_S1024x512 (constant S_ .f32 0x3A83126F#32)) (mulf X1 X1))

theorem res2_apply (X0 : FVec 𝔽 S1024x512 .f32) (X1 : FVec 𝔽 S1024x512 .f32) (X2 : FVec 𝔽 S1024x512 .f32) (X3 : FVec 𝔽 S1024x512 .f32) (y : S1024x512.Idx) : res2 X0 X1 X2 X3 y = Cert.Adam.sndMoment (X1 y) (X3 y) := by
  pointwise [res2, Cert.Adam.change, Cert.Adam.fstMoment, Cert.Adam.sndMoment, Cert.Adam.lit]

end Cert.Reference25Ideal.Mm

namespace Cert.Kernel25Ideal.Mm

open Cert.Kernel25Ideal Cert.Kernel25Ideal.Gen
open Idealize.ShloMosaic Idealize.ShloMosaic.TcCoe

local notation "𝔽" => Idealize.ShloMosaic.Ideal

theorem pay0 (w g m v : Vec 𝔽 S128x512 .f32) (y : S128x512.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x512 .f32) (y : S128x512.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x512 .f32) (y : S128x512.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference25Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference25Ideal.Mm.res0_apply]
  blk_point [iblk, V, idx t]

theorem final1 (c : Dev nD) : (dats m 0 c).arrAt 6 cfg0.N = Cert.Reference25Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference25Ideal.Mm.res1_apply]
  blk_point [iblk, V, idx t]

theorem final2 (c : Dev nD) : (dats m 0 c).arrAt 7 cfg0.N = Cert.Reference25Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference25Ideal.Mm.res2_apply]
  blk_point [iblk, V, idx t]

end Cert.Kernel25Ideal.Mm

end
-- ==== Proof.Adam.UpB.lean ====
/- The optimiser's step on `w_up_b`, block by block of 128 rows. -/
module

public import proofs.«01_k».proof.Proof.Gen.Kernel26Ideal.Value
public import proofs.«01_k».proof.Proof.Gen.Reference26Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference26Ideal.Mm

open Cert.Reference26Ideal Cert.Reference26Ideal.Gen
open Idealize.ShloMosaic Idealize.ShloMosaic.TcCoe

local notation "𝔽" => Idealize.ShloMosaic.Ideal

/-- The weights' change, as the reference writes them. -/
abbrev res0 (X0 : FVec 𝔽 S1024x512 .f32) (X1 : FVec 𝔽 S1024x512 .f32) (X2 : FVec 𝔽 S1024x512 .f32) (X3 : FVec 𝔽 S1024x512 .f32) : FVec 𝔽 S1024x512 .f32 :=
  mulf (broadcastInDim S1024x512 ![] bcast_S_S1024x512 (constant S_ .f32 0xBA83126F#32)) (addf (Host.divf (Host.divf (addf (mulf (broadcastInDim S1024x512 ![] bcast_S_S1024x512 (constant S_ .f32 0x3F666666#32)) X2) (mulf (broadcastInDim S1024x512 ![] bcast_S_S1024x512 (constant S_ .f32 0x3DCCCCCD#32)) X1)) (broadcastInDim S1024x512 ![] bcast_S_S1024x512 (constant S_ .f32 0x3F26BD02#32))) (addf (Host.sqrt (Host.divf (addf (mulf (broadcastInDim S1024x512 ![] bcast_S_S1024x512 (constant S_ .f32 0x3F7FBE77#32)) X3) (mulf (broadcastInDim S1024x512 ![] bcast_S_S1024x512 (constant S_ .f32 0x3A83126F#32)) (mulf X1 X1))) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) X0))

theorem res0_apply (X0 : FVec 𝔽 S1024x512 .f32) (X1 : FVec 𝔽 S1024x512 .f32) (X2 : FVec 𝔽 S1024x512 .f32) (X3 : FVec 𝔽 S1024x512 .f32) (y : S1024x512.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S1024x512 .f32) (X1 : FVec 𝔽 S1024x512 .f32) (X2 : FVec 𝔽 S1024x512 .f32) (X3 : FVec 𝔽 S1024x512 .f32) : FVec 𝔽 S1024x512 .f32 :=
  addf (mulf (broadcastInDim S1024x512 ![] bcast_S_S1024x512 (constant S_ .f32 0x3F666666#32)) X2) (mulf (broadcastInDim S1024x512 ![] bcast_S_S1024x512 (constant S_ .f32 0x3DCCCCCD#32)) X1)

theorem res1_apply (X0 : FVec 𝔽 S1024x512 .f32) (X1 : FVec 𝔽 S1024x512 .f32) (X2 : FVec 𝔽 S1024x512 .f32) (X3 : FVec 𝔽 S1024x512 .f32) (y : S1024x512.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S1024x512 .f32) (X1 : FVec 𝔽 S1024x512 .f32) (X2 : FVec 𝔽 S1024x512 .f32) (X3 : FVec 𝔽 S1024x512 .f32) : FVec 𝔽 S1024x512 .f32 :=
  addf (mulf (broadcastInDim S1024x512 ![] bcast_S_S1024x512 (constant S_ .f32 0x3F7FBE77#32)) X3) (mulf (broadcastInDim S1024x512 ![] bcast_S_S1024x512 (constant S_ .f32 0x3A83126F#32)) (mulf X1 X1))

theorem res2_apply (X0 : FVec 𝔽 S1024x512 .f32) (X1 : FVec 𝔽 S1024x512 .f32) (X2 : FVec 𝔽 S1024x512 .f32) (X3 : FVec 𝔽 S1024x512 .f32) (y : S1024x512.Idx) : res2 X0 X1 X2 X3 y = Cert.Adam.sndMoment (X1 y) (X3 y) := by
  pointwise [res2, Cert.Adam.change, Cert.Adam.fstMoment, Cert.Adam.sndMoment, Cert.Adam.lit]

end Cert.Reference26Ideal.Mm

namespace Cert.Kernel26Ideal.Mm

open Cert.Kernel26Ideal Cert.Kernel26Ideal.Gen
open Idealize.ShloMosaic Idealize.ShloMosaic.TcCoe

local notation "𝔽" => Idealize.ShloMosaic.Ideal

theorem pay0 (w g m v : Vec 𝔽 S128x512 .f32) (y : S128x512.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x512 .f32) (y : S128x512.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x512 .f32) (y : S128x512.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference26Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference26Ideal.Mm.res0_apply]
  blk_point [iblk, V, idx t]

theorem final1 (c : Dev nD) : (dats m 0 c).arrAt 6 cfg0.N = Cert.Reference26Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference26Ideal.Mm.res1_apply]
  blk_point [iblk, V, idx t]

theorem final2 (c : Dev nD) : (dats m 0 c).arrAt 7 cfg0.N = Cert.Reference26Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference26Ideal.Mm.res2_apply]
  blk_point [iblk, V, idx t]

end Cert.Kernel26Ideal.Mm

end
-- ==== Proof.Adam.WO.lean ====
/- The optimiser's step on `w_o`, block by block of 128 rows. -/
module

public import proofs.«01_k».proof.Proof.Gen.Kernel27Ideal.Value
public import proofs.«01_k».proof.Proof.Gen.Reference27Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference27Ideal.Mm

open Cert.Reference27Ideal Cert.Reference27Ideal.Gen
open Idealize.ShloMosaic Idealize.ShloMosaic.TcCoe

local notation "𝔽" => Idealize.ShloMosaic.Ideal

/-- The weights' change, as the reference writes them. -/
abbrev res0 (X0 : FVec 𝔽 S512x2048 .f32) (X1 : FVec 𝔽 S512x2048 .f32) (X2 : FVec 𝔽 S512x2048 .f32) (X3 : FVec 𝔽 S512x2048 .f32) : FVec 𝔽 S512x2048 .f32 :=
  mulf (broadcastInDim S512x2048 ![] bcast_S_S512x2048 (constant S_ .f32 0xBA83126F#32)) (addf (Host.divf (Host.divf (addf (mulf (broadcastInDim S512x2048 ![] bcast_S_S512x2048 (constant S_ .f32 0x3F666666#32)) X2) (mulf (broadcastInDim S512x2048 ![] bcast_S_S512x2048 (constant S_ .f32 0x3DCCCCCD#32)) X1)) (broadcastInDim S512x2048 ![] bcast_S_S512x2048 (constant S_ .f32 0x3F26BD02#32))) (addf (Host.sqrt (Host.divf (addf (mulf (broadcastInDim S512x2048 ![] bcast_S_S512x2048 (constant S_ .f32 0x3F7FBE77#32)) X3) (mulf (broadcastInDim S512x2048 ![] bcast_S_S512x2048 (constant S_ .f32 0x3A83126F#32)) (mulf X1 X1))) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) X0))

theorem res0_apply (X0 : FVec 𝔽 S512x2048 .f32) (X1 : FVec 𝔽 S512x2048 .f32) (X2 : FVec 𝔽 S512x2048 .f32) (X3 : FVec 𝔽 S512x2048 .f32) (y : S512x2048.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S512x2048 .f32) (X1 : FVec 𝔽 S512x2048 .f32) (X2 : FVec 𝔽 S512x2048 .f32) (X3 : FVec 𝔽 S512x2048 .f32) : FVec 𝔽 S512x2048 .f32 :=
  addf (mulf (broadcastInDim S512x2048 ![] bcast_S_S512x2048 (constant S_ .f32 0x3F666666#32)) X2) (mulf (broadcastInDim S512x2048 ![] bcast_S_S512x2048 (constant S_ .f32 0x3DCCCCCD#32)) X1)

theorem res1_apply (X0 : FVec 𝔽 S512x2048 .f32) (X1 : FVec 𝔽 S512x2048 .f32) (X2 : FVec 𝔽 S512x2048 .f32) (X3 : FVec 𝔽 S512x2048 .f32) (y : S512x2048.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S512x2048 .f32) (X1 : FVec 𝔽 S512x2048 .f32) (X2 : FVec 𝔽 S512x2048 .f32) (X3 : FVec 𝔽 S512x2048 .f32) : FVec 𝔽 S512x2048 .f32 :=
  addf (mulf (broadcastInDim S512x2048 ![] bcast_S_S512x2048 (constant S_ .f32 0x3F7FBE77#32)) X3) (mulf (broadcastInDim S512x2048 ![] bcast_S_S512x2048 (constant S_ .f32 0x3A83126F#32)) (mulf X1 X1))

theorem res2_apply (X0 : FVec 𝔽 S512x2048 .f32) (X1 : FVec 𝔽 S512x2048 .f32) (X2 : FVec 𝔽 S512x2048 .f32) (X3 : FVec 𝔽 S512x2048 .f32) (y : S512x2048.Idx) : res2 X0 X1 X2 X3 y = Cert.Adam.sndMoment (X1 y) (X3 y) := by
  pointwise [res2, Cert.Adam.change, Cert.Adam.fstMoment, Cert.Adam.sndMoment, Cert.Adam.lit]

end Cert.Reference27Ideal.Mm

namespace Cert.Kernel27Ideal.Mm

open Cert.Kernel27Ideal Cert.Kernel27Ideal.Gen
open Idealize.ShloMosaic Idealize.ShloMosaic.TcCoe

local notation "𝔽" => Idealize.ShloMosaic.Ideal

theorem pay0 (w g m v : Vec 𝔽 S128x2048 .f32) (y : S128x2048.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x2048 .f32) (y : S128x2048.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x2048 .f32) (y : S128x2048.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference27Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference27Ideal.Mm.res0_apply]
  blk_point [iblk, V, idx t]

theorem final1 (c : Dev nD) : (dats m 0 c).arrAt 6 cfg0.N = Cert.Reference27Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference27Ideal.Mm.res1_apply]
  blk_point [iblk, V, idx t]

theorem final2 (c : Dev nD) : (dats m 0 c).arrAt 7 cfg0.N = Cert.Reference27Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference27Ideal.Mm.res2_apply]
  blk_point [iblk, V, idx t]

end Cert.Kernel27Ideal.Mm

end
-- ==== Proof.Adam.FfnIn.lean ====
/- The optimiser's step on `w_ffn_in`, block by block of 128 rows. -/
module

public import proofs.«01_k».proof.Proof.Gen.Kernel28Ideal.Value
public import proofs.«01_k».proof.Proof.Gen.Reference28Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference28Ideal.Mm

open Cert.Reference28Ideal Cert.Reference28Ideal.Gen
open Idealize.ShloMosaic Idealize.ShloMosaic.TcCoe

local notation "𝔽" => Idealize.ShloMosaic.Ideal

/-- The weights' change, as the reference writes them. -/
abbrev res0 (X0 : FVec 𝔽 S2048x2816 .f32) (X1 : FVec 𝔽 S2048x2816 .f32) (X2 : FVec 𝔽 S2048x2816 .f32) (X3 : FVec 𝔽 S2048x2816 .f32) : FVec 𝔽 S2048x2816 .f32 :=
  mulf (broadcastInDim S2048x2816 ![] bcast_S_S2048x2816 (constant S_ .f32 0xBA83126F#32)) (addf (Host.divf (Host.divf (addf (mulf (broadcastInDim S2048x2816 ![] bcast_S_S2048x2816 (constant S_ .f32 0x3F666666#32)) X2) (mulf (broadcastInDim S2048x2816 ![] bcast_S_S2048x2816 (constant S_ .f32 0x3DCCCCCD#32)) X1)) (broadcastInDim S2048x2816 ![] bcast_S_S2048x2816 (constant S_ .f32 0x3F26BD02#32))) (addf (Host.sqrt (Host.divf (addf (mulf (broadcastInDim S2048x2816 ![] bcast_S_S2048x2816 (constant S_ .f32 0x3F7FBE77#32)) X3) (mulf (broadcastInDim S2048x2816 ![] bcast_S_S2048x2816 (constant S_ .f32 0x3A83126F#32)) (mulf X1 X1))) (broadcastInDim S2048x2816 ![] bcast_S_S2048x2816 (constant S_ .f32 0x3C231ACC#32)))) (broadcastInDim S2048x2816 ![] bcast_S_S2048x2816 (constant S_ .f32 0x322BCC77#32)))) (mulf (broadcastInDim S2048x2816 ![] bcast_S_S2048x2816 (constant S_ .f32 0x3C23D70A#32)) X0))

theorem res0_apply (X0 : FVec 𝔽 S2048x2816 .f32) (X1 : FVec 𝔽 S2048x2816 .f32) (X2 : FVec 𝔽 S2048x2816 .f32) (X3 : FVec 𝔽 S2048x2816 .f32) (y : S2048x2816.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S2048x2816 .f32) (X1 : FVec 𝔽 S2048x2816 .f32) (X2 : FVec 𝔽 S2048x2816 .f32) (X3 : FVec 𝔽 S2048x2816 .f32) : FVec 𝔽 S2048x2816 .f32 :=
  addf (mulf (broadcastInDim S2048x2816 ![] bcast_S_S2048x2816 (constant S_ .f32 0x3F666666#32)) X2) (mulf (broadcastInDim S2048x2816 ![] bcast_S_S2048x2816 (constant S_ .f32 0x3DCCCCCD#32)) X1)

theorem res1_apply (X0 : FVec 𝔽 S2048x2816 .f32) (X1 : FVec 𝔽 S2048x2816 .f32) (X2 : FVec 𝔽 S2048x2816 .f32) (X3 : FVec 𝔽 S2048x2816 .f32) (y : S2048x2816.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S2048x2816 .f32) (X1 : FVec 𝔽 S2048x2816 .f32) (X2 : FVec 𝔽 S2048x2816 .f32) (X3 : FVec 𝔽 S2048x2816 .f32) : FVec 𝔽 S2048x2816 .f32 :=
  addf (mulf (broadcastInDim S2048x2816 ![] bcast_S_S2048x2816 (constant S_ .f32 0x3F7FBE77#32)) X3) (mulf (broadcastInDim S2048x2816 ![] bcast_S_S2048x2816 (constant S_ .f32 0x3A83126F#32)) (mulf X1 X1))

theorem res2_apply (X0 : FVec 𝔽 S2048x2816 .f32) (X1 : FVec 𝔽 S2048x2816 .f32) (X2 : FVec 𝔽 S2048x2816 .f32) (X3 : FVec 𝔽 S2048x2816 .f32) (y : S2048x2816.Idx) : res2 X0 X1 X2 X3 y = Cert.Adam.sndMoment (X1 y) (X3 y) := by
  pointwise [res2, Cert.Adam.change, Cert.Adam.fstMoment, Cert.Adam.sndMoment, Cert.Adam.lit]

end Cert.Reference28Ideal.Mm

namespace Cert.Kernel28Ideal.Mm

open Cert.Kernel28Ideal Cert.Kernel28Ideal.Gen
open Idealize.ShloMosaic Idealize.ShloMosaic.TcCoe

local notation "𝔽" => Idealize.ShloMosaic.Ideal

theorem pay0 (w g m v : Vec 𝔽 S128x2816 .f32) (y : S128x2816.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x2816 .f32) (y : S128x2816.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x2816 .f32) (y : S128x2816.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference28Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference28Ideal.Mm.res0_apply]
  blk_point [iblk, V, idx t]

theorem final1 (c : Dev nD) : (dats m 0 c).arrAt 6 cfg0.N = Cert.Reference28Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference28Ideal.Mm.res1_apply]
  blk_point [iblk, V, idx t]

theorem final2 (c : Dev nD) : (dats m 0 c).arrAt 7 cfg0.N = Cert.Reference28Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference28Ideal.Mm.res2_apply]
  blk_point [iblk, V, idx t]

end Cert.Kernel28Ideal.Mm

end
-- ==== Proof.Adam.FfnDown.lean ====
/- The optimiser's step on `w_ffn_down`, block by block of 128 rows. -/
module

public import proofs.«01_k».proof.Proof.Gen.Kernel29Ideal.Value
public import proofs.«01_k».proof.Proof.Gen.Reference29Ideal.Run
public import proofs.«01_k».proof.Proof.Adam.Step
public import Idealize.ShloMosaic.Lib.Pipeline.ValueKit
public import Idealize.ShloMosaic.Lib.Pointwise

@[expose] public section

set_option maxRecDepth 16384

noncomputable section

namespace Cert.Reference29Ideal.Mm

open Cert.Reference29Ideal Cert.Reference29Ideal.Gen
open Idealize.ShloMosaic Idealize.ShloMosaic.TcCoe

local notation "𝔽" => Idealize.ShloMosaic.Ideal

/-- The weights' change, as the reference writes them. -/
abbrev res0 (X0 : FVec 𝔽 S1408x2048 .f32) (X1 : FVec 𝔽 S1408x2048 .f32) (X2 : FVec 𝔽 S1408x2048 .f32) (X3 : FVec 𝔽 S1408x2048 .f32) : FVec 𝔽 S1408x2048 .f32 :=
  mulf (broadcastInDim S1408x2048 ![] bcast_S_S1408x2048 (constant S_ .f32 0xBA83126F#32)) (addf (Host.divf (Host.divf (addf (mulf (broadcastInDim S1408x2048 ![] bcast_S_S1408x2048 (constant S_ .f32 0x3F666666#32)) X2) (mulf (broadcastInDim S1408x2048 ![] bcast_S_S1408x2048 (constant S_ .f32 0x3DCCCCCD#32)) X1)) (broadcastInDim S1408x2048 ![] bcast_S_S1408x2048 (constant S_ .f32 0x3F26BD02#32))) (addf (Host.sqrt (Host.divf (addf (mulf (broadcastInDim S1408x2048 ![] bcast_S_S1408x2048 (constant S_ .f32 0x3F7FBE77#32)) X3) (mulf (broadcastInDim S1408x2048 ![] bcast_S_S1408x2048 (constant S_ .f32 0x3A83126F#32)) (mulf X1 X1))) (broadcastInDim S1408x2048 ![] bcast_S_S1408x2048 (constant S_ .f32 0x3C231ACC#32)))) (broadcastInDim S1408x2048 ![] bcast_S_S1408x2048 (constant S_ .f32 0x322BCC77#32)))) (mulf (broadcastInDim S1408x2048 ![] bcast_S_S1408x2048 (constant S_ .f32 0x3C23D70A#32)) X0))

theorem res0_apply (X0 : FVec 𝔽 S1408x2048 .f32) (X1 : FVec 𝔽 S1408x2048 .f32) (X2 : FVec 𝔽 S1408x2048 .f32) (X3 : FVec 𝔽 S1408x2048 .f32) (y : S1408x2048.Idx) : res0 X0 X1 X2 X3 y = Cert.Adam.change (X0 y) (X1 y) (X2 y) (X3 y) := by
  pointwise [res0, Cert.Adam.change, Cert.Adam.fstMoment, Cert.Adam.sndMoment, Cert.Adam.lit]

/-- The first moments, as the reference writes them. -/
abbrev res1 (X0 : FVec 𝔽 S1408x2048 .f32) (X1 : FVec 𝔽 S1408x2048 .f32) (X2 : FVec 𝔽 S1408x2048 .f32) (X3 : FVec 𝔽 S1408x2048 .f32) : FVec 𝔽 S1408x2048 .f32 :=
  addf (mulf (broadcastInDim S1408x2048 ![] bcast_S_S1408x2048 (constant S_ .f32 0x3F666666#32)) X2) (mulf (broadcastInDim S1408x2048 ![] bcast_S_S1408x2048 (constant S_ .f32 0x3DCCCCCD#32)) X1)

theorem res1_apply (X0 : FVec 𝔽 S1408x2048 .f32) (X1 : FVec 𝔽 S1408x2048 .f32) (X2 : FVec 𝔽 S1408x2048 .f32) (X3 : FVec 𝔽 S1408x2048 .f32) (y : S1408x2048.Idx) : res1 X0 X1 X2 X3 y = Cert.Adam.fstMoment (X1 y) (X2 y) := by
  pointwise [res1, Cert.Adam.change, Cert.Adam.fstMoment, Cert.Adam.sndMoment, Cert.Adam.lit]

/-- The second moments, as the reference writes them. -/
abbrev res2 (X0 : FVec 𝔽 S1408x2048 .f32) (X1 : FVec 𝔽 S1408x2048 .f32) (X2 : FVec 𝔽 S1408x2048 .f32) (X3 : FVec 𝔽 S1408x2048 .f32) : FVec 𝔽 S1408x2048 .f32 :=
  addf (mulf (broadcastInDim S1408x2048 ![] bcast_S_S1408x2048 (constant S_ .f32 0x3F7FBE77#32)) X3) (mulf (broadcastInDim S1408x2048 ![] bcast_S_S1408x2048 (constant S_ .f32 0x3A83126F#32)) (mulf X1 X1))

theorem res2_apply (X0 : FVec 𝔽 S1408x2048 .f32) (X1 : FVec 𝔽 S1408x2048 .f32) (X2 : FVec 𝔽 S1408x2048 .f32) (X3 : FVec 𝔽 S1408x2048 .f32) (y : S1408x2048.Idx) : res2 X0 X1 X2 X3 y = Cert.Adam.sndMoment (X1 y) (X3 y) := by
  pointwise [res2, Cert.Adam.change, Cert.Adam.fstMoment, Cert.Adam.sndMoment, Cert.Adam.lit]

end Cert.Reference29Ideal.Mm

namespace Cert.Kernel29Ideal.Mm

open Cert.Kernel29Ideal Cert.Kernel29Ideal.Gen
open Idealize.ShloMosaic Idealize.ShloMosaic.TcCoe

local notation "𝔽" => Idealize.ShloMosaic.Ideal

theorem pay0 (w g m v : Vec 𝔽 S128x2048 .f32) (y : S128x2048.Idx) : k0_pay3 g w m v y = Cert.Adam.change (w y) (g y) (m y) (v y) := by
  pointwise [k0_pay3, k0_pay2, k0_pay1, Cert.Adam.change, Cert.Adam.fstMoment, Cert.Adam.sndMoment, Cert.Adam.lit]

theorem pay1 (g m : Vec 𝔽 S128x2048 .f32) (y : S128x2048.Idx) : k0_pay1 g m y = Cert.Adam.fstMoment (g y) (m y) := by
  pointwise [k0_pay1, Cert.Adam.change, Cert.Adam.fstMoment, Cert.Adam.sndMoment, Cert.Adam.lit]

theorem pay2 (g v : Vec 𝔽 S128x2048 .f32) (y : S128x2048.Idx) : k0_pay2 g v y = Cert.Adam.sndMoment (g y) (v y) := by
  pointwise [k0_pay2, Cert.Adam.change, Cert.Adam.fstMoment, Cert.Adam.sndMoment, Cert.Adam.lit]

theorem idx : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt 𝔽) ℓ)

theorem final0 (c : Dev nD) : (dats m 0 c).arrAt 5 cfg0.N = Cert.Reference29Ideal.Mm.res0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine (pay0 _ _ _ _ y).trans ?_
  rw [Cert.Reference29Ideal.Mm.res0_apply]
  blk_point [iblk, V, idx t]

theorem final1 (c : Dev nD) : (dats m 0 c).arrAt 6 cfg0.N = Cert.Reference29Ideal.Mm.res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  refine (pay1 _ _ y).trans ?_
  rw [Cert.Reference29Ideal.Mm.res1_apply]
  blk_point [iblk, V, idx t]

theorem final2 (c : Dev nD) : (dats m 0 c).arrAt 7 cfg0.N = Cert.Reference29Ideal.Mm.res2 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine (pay2 _ _ y).trans ?_
  rw [Cert.Reference29Ideal.Mm.res2_apply]
  blk_point [iblk, V, idx t]

end Cert.Kernel29Ideal.Mm

end
-- ==== Proof.Adam.Claims.lean ====
/- The optimiser steps' claims: each kernel's change and moments are the reference's, whatever the arguments. -/
module

public import proofs.«01_k».proof.Defs
public import Idealize.ShloMosaic.Lib.StableHlo.RunHlo
public import Idealize.ShloMosaic.Lib.Quiescent
public import proofs.«01_k».proof.Proof.Adam.WIn
public import proofs.«01_k».proof.Proof.Adam.UpA
public import proofs.«01_k».proof.Proof.Adam.UpB
public import proofs.«01_k».proof.Proof.Adam.WO
public import proofs.«01_k».proof.Proof.Adam.FfnIn
public import proofs.«01_k».proof.Proof.Adam.FfnDown

@[expose] public section

noncomputable section

namespace Cert.Mm

open Idealize.ShloMosaic Idealize.ShloMosaic.TcCoe Idealize.SL.Sem

/-- The optimiser step on `w_in`: the reference runs, ends and keeps its arguments. -/
theorem kept_24 : Cert.quiescent_Reference24Ideal (hReference24Ideal := Cert.Reference24Ideal.Gen.facts) := by
  intro m g _
  exact θ_run_mono (Cert.Reference24Ideal.Value.run m g) fun r h => ⟨fun c => (h c).2.2.2, sem_eq_zero_of_no_sems rfl r.2⟩

/-- The optimiser step on `w_in`: the kernel's results are the reference's. -/
theorem same_24 : Cert.algebraic_Kernel24Ideal_Reference24Ideal (hKernel24Ideal := Cert.Kernel24Ideal.Gen.facts) (hReference24Ideal := Cert.Reference24Ideal.Gen.facts) := by
  intro m g m' g' _ hagree
  refine ⟨fun c => Cert.Reference24Ideal.Mm.res0 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Reference24Ideal.Mm.res1 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Reference24Ideal.Mm.res2 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), ?_, ?_⟩
  · refine θ_run_mono (Cert.Kernel24Ideal.Value.run_blocks m g) fun r h c => ?_
    exact ⟨(h c).2.1.trans (Cert.Kernel24Ideal.Mm.final0 m c), (h c).2.2.1.trans (Cert.Kernel24Ideal.Mm.final1 m c), (h c).2.2.2.1.trans (Cert.Kernel24Ideal.Mm.final2 m c), (h c).2.2.2.2⟩
  · refine θ_run_mono (Cert.Reference24Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

/-- The optimiser step on `w_up_a`: the reference runs, ends and keeps its arguments. -/
theorem kept_25 : Cert.quiescent_Reference25Ideal (hReference25Ideal := Cert.Reference25Ideal.Gen.facts) := by
  intro m g _
  exact θ_run_mono (Cert.Reference25Ideal.Value.run m g) fun r h => ⟨fun c => (h c).2.2.2, sem_eq_zero_of_no_sems rfl r.2⟩

/-- The optimiser step on `w_up_a`: the kernel's results are the reference's. -/
theorem same_25 : Cert.algebraic_Kernel25Ideal_Reference25Ideal (hKernel25Ideal := Cert.Kernel25Ideal.Gen.facts) (hReference25Ideal := Cert.Reference25Ideal.Gen.facts) := by
  intro m g m' g' _ hagree
  refine ⟨fun c => Cert.Reference25Ideal.Mm.res0 (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)), fun c => Cert.Reference25Ideal.Mm.res1 (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)), fun c => Cert.Reference25Ideal.Mm.res2 (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)), ?_, ?_⟩
  · refine θ_run_mono (Cert.Kernel25Ideal.Value.run_blocks m g) fun r h c => ?_
    exact ⟨(h c).2.1.trans (Cert.Kernel25Ideal.Mm.final0 m c), (h c).2.2.1.trans (Cert.Kernel25Ideal.Mm.final1 m c), (h c).2.2.2.1.trans (Cert.Kernel25Ideal.Mm.final2 m c), (h c).2.2.2.2⟩
  · refine θ_run_mono (Cert.Reference25Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

/-- The optimiser step on `w_up_b`: the reference runs, ends and keeps its arguments. -/
theorem kept_26 : Cert.quiescent_Reference26Ideal (hReference26Ideal := Cert.Reference26Ideal.Gen.facts) := by
  intro m g _
  exact θ_run_mono (Cert.Reference26Ideal.Value.run m g) fun r h => ⟨fun c => (h c).2.2.2, sem_eq_zero_of_no_sems rfl r.2⟩

/-- The optimiser step on `w_up_b`: the kernel's results are the reference's. -/
theorem same_26 : Cert.algebraic_Kernel26Ideal_Reference26Ideal (hKernel26Ideal := Cert.Kernel26Ideal.Gen.facts) (hReference26Ideal := Cert.Reference26Ideal.Gen.facts) := by
  intro m g m' g' _ hagree
  refine ⟨fun c => Cert.Reference26Ideal.Mm.res0 (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => Cert.Reference26Ideal.Mm.res1 (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => Cert.Reference26Ideal.Mm.res2 (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), ?_, ?_⟩
  · refine θ_run_mono (Cert.Kernel26Ideal.Value.run_blocks m g) fun r h c => ?_
    exact ⟨(h c).2.1.trans (Cert.Kernel26Ideal.Mm.final0 m c), (h c).2.2.1.trans (Cert.Kernel26Ideal.Mm.final1 m c), (h c).2.2.2.1.trans (Cert.Kernel26Ideal.Mm.final2 m c), (h c).2.2.2.2⟩
  · refine θ_run_mono (Cert.Reference26Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

/-- The optimiser step on `w_o`: the reference runs, ends and keeps its arguments. -/
theorem kept_27 : Cert.quiescent_Reference27Ideal (hReference27Ideal := Cert.Reference27Ideal.Gen.facts) := by
  intro m g _
  exact θ_run_mono (Cert.Reference27Ideal.Value.run m g) fun r h => ⟨fun c => (h c).2.2.2, sem_eq_zero_of_no_sems rfl r.2⟩

/-- The optimiser step on `w_o`: the kernel's results are the reference's. -/
theorem same_27 : Cert.algebraic_Kernel27Ideal_Reference27Ideal (hKernel27Ideal := Cert.Kernel27Ideal.Gen.facts) (hReference27Ideal := Cert.Reference27Ideal.Gen.facts) := by
  intro m g m' g' _ hagree
  refine ⟨fun c => Cert.Reference27Ideal.Mm.res0 (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), fun c => Cert.Reference27Ideal.Mm.res1 (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), fun c => Cert.Reference27Ideal.Mm.res2 (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), ?_, ?_⟩
  · refine θ_run_mono (Cert.Kernel27Ideal.Value.run_blocks m g) fun r h c => ?_
    exact ⟨(h c).2.1.trans (Cert.Kernel27Ideal.Mm.final0 m c), (h c).2.2.1.trans (Cert.Kernel27Ideal.Mm.final1 m c), (h c).2.2.2.1.trans (Cert.Kernel27Ideal.Mm.final2 m c), (h c).2.2.2.2⟩
  · refine θ_run_mono (Cert.Reference27Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

/-- The optimiser step on `w_ffn_in`: the reference runs, ends and keeps its arguments. -/
theorem kept_28 : Cert.quiescent_Reference28Ideal (hReference28Ideal := Cert.Reference28Ideal.Gen.facts) := by
  intro m g _
  exact θ_run_mono (Cert.Reference28Ideal.Value.run m g) fun r h => ⟨fun c => (h c).2.2.2, sem_eq_zero_of_no_sems rfl r.2⟩

/-- The optimiser step on `w_ffn_in`: the kernel's results are the reference's. -/
theorem same_28 : Cert.algebraic_Kernel28Ideal_Reference28Ideal (hKernel28Ideal := Cert.Kernel28Ideal.Gen.facts) (hReference28Ideal := Cert.Reference28Ideal.Gen.facts) := by
  intro m g m' g' _ hagree
  refine ⟨fun c => Cert.Reference28Ideal.Mm.res0 (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)), fun c => Cert.Reference28Ideal.Mm.res1 (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)), fun c => Cert.Reference28Ideal.Mm.res2 (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)), ?_, ?_⟩
  · refine θ_run_mono (Cert.Kernel28Ideal.Value.run_blocks m g) fun r h c => ?_
    exact ⟨(h c).2.1.trans (Cert.Kernel28Ideal.Mm.final0 m c), (h c).2.2.1.trans (Cert.Kernel28Ideal.Mm.final1 m c), (h c).2.2.2.1.trans (Cert.Kernel28Ideal.Mm.final2 m c), (h c).2.2.2.2⟩
  · refine θ_run_mono (Cert.Reference28Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

/-- The optimiser step on `w_ffn_down`: the reference runs, ends and keeps its arguments. -/
theorem kept_29 : Cert.quiescent_Reference29Ideal (hReference29Ideal := Cert.Reference29Ideal.Gen.facts) := by
  intro m g _
  exact θ_run_mono (Cert.Reference29Ideal.Value.run m g) fun r h => ⟨fun c => (h c).2.2.2, sem_eq_zero_of_no_sems rfl r.2⟩

/-- The optimiser step on `w_ffn_down`: the kernel's results are the reference's. -/
theorem same_29 : Cert.algebraic_Kernel29Ideal_Reference29Ideal (hKernel29Ideal := Cert.Kernel29Ideal.Gen.facts) (hReference29Ideal := Cert.Reference29Ideal.Gen.facts) := by
  intro m g m' g' _ hagree
  refine ⟨fun c => Cert.Reference29Ideal.Mm.res0 (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)), fun c => Cert.Reference29Ideal.Mm.res1 (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)), fun c => Cert.Reference29Ideal.Mm.res2 (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)), ?_, ?_⟩
  · refine θ_run_mono (Cert.Kernel29Ideal.Value.run_blocks m g) fun r h c => ?_
    exact ⟨(h c).2.1.trans (Cert.Kernel29Ideal.Mm.final0 m c), (h c).2.2.1.trans (Cert.Kernel29Ideal.Mm.final1 m c), (h c).2.2.2.1.trans (Cert.Kernel29Ideal.Mm.final2 m c), (h c).2.2.2.2⟩
  · refine θ_run_mono (Cert.Reference29Ideal.Value.run m' g') fun r h c => ?_
    obtain ⟨a0, a1, a2, a3⟩ := hagree c
    exact ⟨(h c).1.trans (by rw [a0, a1, a2, a3]), (h c).2.1.trans (by rw [a1, a2]), (h c).2.2.1.trans (by rw [a1, a3]), (h c).2.2.2⟩

end Cert.Mm

end
-- ==== Proof.Act.Merge.lean ====
/- The sum of the two mixers under their gates, block by block of 256 rows. -/
module

public import proofs.«01_k».proof.Proof.Gen.Kernel31Ideal.Value
public import proofs.«01_k».proof.Proof.Gen.Reference31Ideal.Run
public import Idealize.ShloMosaic.Lib.Pipeline.ValueKit
public import Idealize.ShloMosaic.Lib.Pointwise

@[expose] public section

set_option maxRecDepth 16384

noncomputable section

namespace Cert.Reference31Ideal.Mm

open Cert.Reference31Ideal Cert.Reference31Ideal.Gen
open Idealize.ShloMosaic Idealize.ShloMosaic.TcCoe

local notation "𝔽" => Idealize.ShloMosaic.Ideal

/-- One over one and the exponential of the negated argument. -/
def sg (x : EReal) : EReal := Idealize.ShloMosaic.Ideal.div 1 (1 + Idealize.ShloMosaic.Ideal.exp (-x))

/-- The left gate's argument. -/
def ga (X : FVec 𝔽 S8192x4224 .f32) (y : S8192x2048.Idx) : EReal := X (ix2 (y 0) ⟨(y 1).val, Nat.lt_of_lt_of_le (y 1).isLt (by decide)⟩)

/-- The right gate's argument. -/
def gb (X : FVec 𝔽 S8192x4224 .f32) (y : S8192x2048.Idx) : EReal :=
  X (ix2 (y 0) ⟨2048 + (y 1).val, Nat.lt_of_lt_of_le (Nat.add_lt_add_left (y 1).isLt 2048) (by decide)⟩)

/-- The gated sum, as the reference writes it. -/
abbrev res0 (X0 : FVec 𝔽 S8192x4224 .f32) (X1 X2 : FVec 𝔽 S8192x2048 .f32) : FVec 𝔽 S8192x2048 .bf16 :=
  truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 0] X0 slices_S8192x4224_S8192x2048_0_0))))) X1) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] X0 slices_S8192x4224_S8192x2048_0_2048))))) X2)) bitsLt_bf16_f32

theorem res0_apply (X0 : FVec 𝔽 S8192x4224 .f32) (X1 X2 : FVec 𝔽 S8192x2048 .f32) (y : S8192x2048.Idx) : res0 X0 X1 X2 y = sg (ga X0 y) * X1 y + sg (gb X0 y) * X2 y := by
  pointwise [res0, sg, ga, gb]

end Cert.Reference31Ideal.Mm

namespace Cert.Kernel31Ideal.Mm

open Cert.Kernel31Ideal Cert.Kernel31Ideal.Gen Cert.Reference31Ideal.Mm
open Idealize.ShloMosaic Idealize.ShloMosaic.TcCoe

local notation "𝔽" => Idealize.ShloMosaic.Ideal

theorem pay0 (a u b v : Vec 𝔽 S256x2048 .f32) (y : S256x2048.Idx) : k0_pay1 a u b v y = sg (a y) * u y + sg (b y) * v y := by
  pointwise [k0_pay1, sg, Idealize.ShloMosaic.Ideal.logistic]

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] :=
  (by decide +kernel : ∀ t : Fin grid0.N, _)

variable (m : (ℓ : Loc nD τ sig) → Buf (Elt 𝔽) ℓ)

set_option maxHeartbeats 400000 in
theorem final0 (c : Dev nD) : (dats m 0 c).arrAt 4 cfg0.N
    = Cert.Reference31Ideal.Mm.res0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  refine (pay0 _ _ _ _ y).trans ?_
  rw [Cert.Reference31Ideal.Mm.res0_apply]
  have e0 : X0_0 m c t y = ga (m ((c : Thread nD τ).loc main_arg0)) (((cfg0.win 4).blk t).view.emb y) := by
    unfold X0_0 Pipeline.Window.fill
    rw [dif_pos (moved0_0 t _)]
    blk_point [iblk, V, idx t]
  have e1 : X0_1 m c t y = gb (m ((c : Thread nD τ).loc main_arg0)) (((cfg0.win 4).blk t).view.emb y) := by
    unfold X0_1 Pipeline.Window.fill
    rw [dif_pos (moved0_1 t _)]
    blk_point [iblk, V, idx t]
  have e2 : iblk m c 2 t y = m ((c : Thread nD τ).loc main_arg1) (((cfg0.win 4).blk t).view.emb y) := by
    blk_point [iblk, V, idx t]
  have e3 : iblk m c 3 t y = m ((c : Thread nD τ).loc main_arg2) (((cfg0.win 4).blk t).view.emb y) := by
    blk_point [iblk, V, idx t]
  rw [e0, e1, e2, e3]

end Cert.Kernel31Ideal.Mm

end
-- ==== Proof.Act.MergeBack.lean ====
/- The gradient of the sum of the two mixers under their gates, block by block. -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Pointwise

@[expose] public section

set_option maxRecDepth 16384

noncomputable section

namespace Cert.Reference30Ideal.Mm

open Cert.Reference30Ideal Cert.Reference30Ideal.Gen
open Idealize.ShloMosaic Idealize.ShloMosaic.TcCoe

local notation "𝔽" => Idealize.ShloMosaic.Ideal

/-- One over one and the exponential of the negated argument. -/
def sg (x : EReal) : EReal := Idealize.ShloMosaic.Ideal.div 1 (1 + Idealize.ShloMosaic.Ideal.exp (-x))

/-- The left gate's argument. -/
def ga (X : FVec 𝔽 S8192x4224 .f32) (y : S8192x2048.Idx) : EReal := X (ix2 (y 0) ⟨(y 1).val, Nat.lt_of_lt_of_le (y 1).isLt (by decide)⟩)

/-- The right gate's argument. -/
def gb (X : FVec 𝔽 S8192x4224 .f32) (y : S8192x2048.Idx) : EReal :=
  X (ix2 (y 0) ⟨2048 + (y 1).val, Nat.lt_of_lt_of_le (Nat.add_lt_add_left (y 1).isLt 2048) (by decide)⟩)

/-- An entry of the product. -/
def prod (X0 : FVec 𝔽 S8192x2048 .bf16) (X1 : FVec 𝔽 S2048x2048 .bf16) (y : S8192x2048.Idx) : EReal :=
  ∑ k : Fin 2048, X0 (ix2 (y 0) k) * X1 (ix2 (y 1) k)

/-- The left mixer's gradient, as the reference writes it. -/
abbrev res0 (X0 : FVec 𝔽 S8192x2048 .bf16) (X1 : FVec 𝔽 S2048x2048 .bf16) (X2 : FVec 𝔽 S8192x4224 .f32) (X3 X4 : FVec 𝔽 S8192x2048 .f32) : FVec 𝔽 S8192x2048 .bf16 :=
  truncf .bf16 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 0] X2 slices_S8192x4224_S8192x2048_0_0))))) (Host.dotGeneral dot_S8192x2048_S2048x2048_S8192x2048_1_1_0_0_n_n none (extf .f32 X0 bitsLt_bf16_f32) (extf .f32 X1 bitsLt_bf16_f32))) bitsLt_bf16_f32

theorem res0_apply (X0 : FVec 𝔽 S8192x2048 .bf16) (X1 : FVec 𝔽 S2048x2048 .bf16) (X2 : FVec 𝔽 S8192x4224 .f32) (X3 X4 : FVec 𝔽 S8192x2048 .f32) (y : S8192x2048.Idx) : res0 X0 X1 X2 X3 X4 y = sg (ga X2 y) * prod X0 X1 y := by
  pointwise [res0, prod, sg, ga, gb]

/-- The right mixer's gradient, as the reference writes it. -/
abbrev res1 (X0 : FVec 𝔽 S8192x2048 .bf16) (X1 : FVec 𝔽 S2048x2048 .bf16) (X2 : FVec 𝔽 S8192x4224 .f32) (X3 X4 : FVec 𝔽 S8192x2048 .f32) : FVec 𝔽 S8192x2048 .bf16 :=
  truncf .bf16 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] X2 slices_S8192x4224_S8192x2048_0_2048))))) (Host.dotGeneral dot_S8192x2048_S2048x2048_S8192x2048_1_1_0_0_n_n none (extf .f32 X0 bitsLt_bf16_f32) (extf .f32 X1 bitsLt_bf16_f32))) bitsLt_bf16_f32

theorem res1_apply (X0 : FVec 𝔽 S8192x2048 .bf16) (X1 : FVec 𝔽 S2048x2048 .bf16) (X2 : FVec 𝔽 S8192x4224 .f32) (X3 X4 : FVec 𝔽 S8192x2048 .f32) (y : S8192x2048.Idx) : res1 X0 X1 X2 X3 X4 y = sg (gb X2 y) * prod X0 X1 y := by
  pointwise [res1, prod, sg, ga, gb]

/-- The left gate's gradient, as the reference writes it. -/
abbrev res2 (X0 : FVec 𝔽 S8192x2048 .bf16) (X1 : FVec 𝔽 S2048x2048 .bf16) (X2 : FVec 𝔽 S8192x4224 .f32) (X3 X4 : FVec 𝔽 S8192x2048 .f32) : FVec 𝔽 S8192x2048 .bf16 :=
  truncf .bf16 (mulf (mulf (Host.dotGeneral dot_S8192x2048_S2048x2048_S8192x2048_1_1_0_0_n_n none (extf .f32 X0 bitsLt_bf16_f32) (extf .f32 X1 bitsLt_bf16_f32)) X3) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 0] X2 slices_S8192x4224_S8192x2048_0_0))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 0] X2 slices_S8192x4224_S8192x2048_0_0)))))))) bitsLt_bf16_f32

theorem res2_apply (X0 : FVec 𝔽 S8192x2048 .bf16) (X1 : FVec 𝔽 S2048x2048 .bf16) (X2 : FVec 𝔽 S8192x4224 .f32) (X3 X4 : FVec 𝔽 S8192x2048 .f32) (y : S8192x2048.Idx) : res2 X0 X1 X2 X3 X4 y = (prod X0 X1 y * X3 y) * (sg (ga X2 y) * (1 - sg (ga X2 y))) := by
  pointwise [res2, prod, sg, ga, gb]

/-- The right gate's gradient, as the reference writes it. -/
abbrev res3 (X0 : FVec 𝔽 S8192x2048 .bf16) (X1 : FVec 𝔽 S2048x2048 .bf16) (X2 : FVec 𝔽 S8192x4224 .f32) (X3 X4 : FVec 𝔽 S8192x2048 .f32) : FVec 𝔽 S8192x2048 .bf16 :=
  truncf .bf16 (mulf (mulf (Host.dotGeneral dot_S8192x2048_S2048x2048_S8192x2048_1_1_0_0_n_n none (extf .f32 X0 bitsLt_bf16_f32) (extf .f32 X1 bitsLt_bf16_f32)) X4) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] X2 slices_S8192x4224_S8192x2048_0_2048))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] X2 slices_S8192x4224_S8192x2048_0_2048)))))))) bitsLt_bf16_f32

theorem res3_apply (X0 : FVec 𝔽 S8192x2048 .bf16) (X1 : FVec 𝔽 S2048x2048 .bf16) (X2 : FVec 𝔽 S8192x4224 .f32) (X3 X4 : FVec 𝔽 S8192x2048 .f32) (y : S8192x2048.Idx) : res3 X0 X1 X2 X3 X4 y = (prod X0 X1 y * X4 y) * (sg (gb X2 y) * (1 - sg (gb X2 y))) := by
  pointwise [res3, prod, sg, ga, gb]

end Cert.Reference30Ideal.Mm

namespace Cert.Kernel30Ideal.Mm

open Cert.Kernel30Ideal Cert.Kernel30Ideal.Gen Cert.Reference30Ideal.Mm
open Idealize.ShloMosaic Idealize.ShloMosaic.TcCoe

local notation "𝔽" => Idealize.ShloMosaic.Ideal

/-- A block's product. -/
def part (a : Vec 𝔽 S1024x2048 .bf16) (b : Vec 𝔽 S512x2048 .bf16) (y : S1024x512.Idx) : EReal :=
  ∑ k : Fin 2048, a (ix2 (y 0) k) * b (ix2 (y 1) k)

theorem pay0 (a : Vec 𝔽 S1024x2048 .bf16) (b : Vec 𝔽 S512x2048 .bf16) (x : Vec 𝔽 S1024x512 .f32) (y : S1024x512.Idx) :
    k0_pay4 a b x y = part a b y * sg (x y) := by
  pointwise [k0_pay4, k0_pay3, k0_pay2, k0_pay1, part, sg, Idealize.ShloMosaic.Ideal.logistic]

theorem pay1 (a : Vec 𝔽 S1024x2048 .bf16) (b : Vec 𝔽 S512x2048 .bf16) (x : Vec 𝔽 S1024x512 .f32) (y : S1024x512.Idx) :
    k0_pay5 a b x y = part a b y * sg (x y) := by
  pointwise [k0_pay5, k0_pay3, k0_pay2, k0_pay1, part, sg, Idealize.ShloMosaic.Ideal.logistic]

theorem pay2 (a : Vec 𝔽 S1024x2048 .bf16) (b : Vec 𝔽 S512x2048 .bf16) (x u : Vec 𝔽 S1024x512 .f32) (y : S1024x512.Idx) :
    k0_pay6 a b x u y = part a b y * u y * sg (x y) * (1 - sg (x y)) := by
  pointwise [k0_pay6, k0_pay3, k0_pay2, k0_pay1, part, sg, Idealize.ShloMosaic.Ideal.logistic]

theorem pay3 (a : Vec 𝔽 S1024x2048 .bf16) (b : Vec 𝔽 S512x2048 .bf16) (x u : Vec 𝔽 S1024x512 .f32) (y : S1024x512.Idx) :
    k0_pay7 a b x u y = part a b y * u y * sg (x y) * (1 - sg (x y)) := by
  pointwise [k0_pay7, k0_pay3, k0_pay2, k0_pay1, part, sg, Idealize.ShloMosaic.Ideal.logistic]

theorem idx : ∀ t : Fin cfg0.N, win0_0.index t = ![t.val / 4, 0] ∧ win0_1.index t = ![t.val % 4, 0] ∧ win0_2.index t = ![t.val / 4, t.val % 4]
    ∧ win0_3.index t = ![t.val / 4, t.val % 4 + 4] ∧ win0_4.index t = ![t.val / 4, t.val % 4] ∧ win0_5.index t = ![t.val / 4, t.val % 4] ∧ win0_6.index t = ![t.val / 4, t.val % 4] ∧ win0_7.index t = ![t.val / 4, t.val % 4] ∧ win0_8.index t = ![t.val / 4, t.val % 4] ∧ win0_9.index t = ![t.val / 4, t.val % 4] :=
  (by decide +kernel : ∀ t : Fin grid0.N, _)

variable (m : (ℓ : Loc nD τ sig) → Buf (Elt 𝔽) ℓ)

set_option maxHeartbeats 400000 in
theorem final0 (c : Dev nD) : (dats m 0 c).arrAt 6 cfg0.N
    = Cert.Reference30Ideal.Mm.res0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  unfold outsAt0
  frame_out
  refine (pay0 _ _ _ y).trans ?_
  rw [Cert.Reference30Ideal.Mm.res0_apply]
  have e0 : part (iblk m c 0 t) (iblk m c 1 t) y = prod (m ((c : Thread nD τ).loc main_arg0)) (m ((c : Thread nD τ).loc main_arg1)) (((cfg0.win 6).blk t).view.emb y) := by
    refine Finset.sum_congr rfl fun k _ => ?_
    blk_point [iblk, V, idx t]
  have e1 : X0_2 m c t y = ga (m ((c : Thread nD τ).loc main_arg2)) (((cfg0.win 6).blk t).view.emb y) := by
    unfold X0_2 Pipeline.Window.fill
    rw [dif_pos (moved0_2 t _)]
    blk_point [iblk, V, idx t]
  rw [e0, e1]
  exact mul_comm _ _

theorem final1 (c : Dev nD) : (dats m 0 c).arrAt 7 cfg0.N
    = Cert.Reference30Ideal.Mm.res1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  unfold outsAt0
  frame_out
  refine (pay1 _ _ _ y).trans ?_
  rw [Cert.Reference30Ideal.Mm.res1_apply]
  have e0 : part (iblk m c 0 t) (iblk m c 1 t) y = prod (m ((c : Thread nD τ).loc main_arg0)) (m ((c : Thread nD τ).loc main_arg1)) (((cfg0.win 7).blk t).view.emb y) := by
    refine Finset.sum_congr rfl fun k _ => ?_
    blk_point [iblk, V, idx t]
  have e1 : X0_3 m c t y = gb (m ((c : Thread nD τ).loc main_arg2)) (((cfg0.win 7).blk t).view.emb y) := by
    unfold X0_3 Pipeline.Window.fill
    rw [dif_pos (moved0_3 t _)]
    blk_point [iblk, V, idx t]
  rw [e0, e1]
  exact mul_comm _ _

theorem final2 (c : Dev nD) : (dats m 0 c).arrAt 8 cfg0.N
    = Cert.Reference30Ideal.Mm.res2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  unfold outsAt0
  frame_out
  refine (pay2 _ _ _ _ y).trans ?_
  rw [Cert.Reference30Ideal.Mm.res2_apply]
  have e0 : part (iblk m c 0 t) (iblk m c 1 t) y = prod (m ((c : Thread nD τ).loc main_arg0)) (m ((c : Thread nD τ).loc main_arg1)) (((cfg0.win 8).blk t).view.emb y) := by
    refine Finset.sum_congr rfl fun k _ => ?_
    blk_point [iblk, V, idx t]
  have e1 : X0_2 m c t y = ga (m ((c : Thread nD τ).loc main_arg2)) (((cfg0.win 8).blk t).view.emb y) := by
    unfold X0_2 Pipeline.Window.fill
    rw [dif_pos (moved0_2 t _)]
    blk_point [iblk, V, idx t]
  have e2 : iblk m c 4 t y = (m ((c : Thread nD τ).loc main_arg3)) (((cfg0.win 8).blk t).view.emb y) := by
    blk_point [iblk, V, idx t]
  rw [e0, e1, e2]
  exact mul_assoc _ _ _

theorem final3 (c : Dev nD) : (dats m 0 c).arrAt 9 cfg0.N
    = Cert.Reference30Ideal.Mm.res3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  unfold outsAt0
  frame_out
  refine (pay3 _ _ _ _ y).trans ?_
  rw [Cert.Reference30Ideal.Mm.res3_apply]
  have e0 : part (iblk m c 0 t) (iblk m c 1 t) y = prod (m ((c : Thread nD τ).loc main_arg0)) (m ((c : Thread nD τ).loc main_arg1)) (((cfg0.win 9).blk t).view.emb y) := by
    refine Finset.sum_congr rfl fun k _ => ?_
    blk_point [iblk, V, idx t]
  have e1 : X0_3 m c t y = gb (m ((c : Thread nD τ).loc main_arg2)) (((cfg0.win 9).blk t).view.emb y) := by
    unfold X0_3 Pipeline.Window.fill
    rw [dif_pos (moved0_3 t _)]
    blk_point [iblk, V, idx t]
  have e2 : iblk m c 5 t y = (m ((c : Thread nD τ).loc main_arg4)) (((cfg0.win 9).blk t).view.emb y) := by
    blk_point [iblk, V, idx t]
  rw [e0, e1, e2]
  exact mul_assoc _ _ _

end Cert.Kernel30Ideal.Mm

end
-- ==== Proof.Act.MergeClaims.lean ====
/- The claims of the two mixers' gated sum and of its gradient, whatever the arguments. -/
module

public import proofs.«01_k».proof.Defs
public import Idealize.ShloMosaic.Lib.StableHlo.RunHlo
public import Idealize.ShloMosaic.Lib.Quiescent
public import proofs.«01_k».proof.Proof.Act.Merge
public import proofs.«01_k».proof.Proof.Act.MergeBack

@[expose] public section

noncomputable section

namespace Cert.Mm

open Idealize.ShloMosaic Idealize.ShloMosaic.TcCoe Idealize.SL.Sem

/-- The two mixers' gated sum: the reference runs, ends and keeps its arguments. -/
theorem kept_31 : Cert.quiescent_Reference31Ideal (hReference31Ideal := Cert.Reference31Ideal.Gen.facts) := by
  intro m g _
  exact θ_run_mono (Cert.Reference31Ideal.Value.run m g) fun r h => ⟨fun c => (h c).2, sem_eq_zero_of_no_sems rfl r.2⟩

/-- The two mixers' gated sum: the kernel's results are the reference's. -/
theorem same_31 : Cert.algebraic_Kernel31Ideal_Reference31Ideal (hKernel31Ideal := Cert.Kernel31Ideal.Gen.facts) (hReference31Ideal := Cert.Reference31Ideal.Gen.facts) := by
  intro m g m' g' _ hagree
  refine ⟨fun c => Cert.Reference31Ideal.Mm.res0 (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)), ?_, ?_⟩
  · refine θ_run_mono (Cert.Kernel31Ideal.Value.run_blocks m g) fun r h c => ?_
    exact ⟨(h c).1.trans (Cert.Kernel31Ideal.Mm.final0 m c), (h c).2⟩
  · refine θ_run_mono (Cert.Reference31Ideal.Value.run m' g') fun r h c => ?_
    obtain ⟨a0, a1, a2⟩ := hagree c
    exact ⟨(h c).1.trans (by rw [a0, a1, a2]), (h c).2⟩

/-- The gradient of the two mixers' gated sum and of the product after it: the reference runs, ends and keeps its arguments. -/
theorem kept_30 : Cert.quiescent_Reference30Ideal (hReference30Ideal := Cert.Reference30Ideal.Gen.facts) := by
  intro m g _
  exact θ_run_mono (Cert.Reference30Ideal.Value.run m g) fun r h => ⟨fun c => (h c).2.2.2.2, sem_eq_zero_of_no_sems rfl r.2⟩

/-- The gradient of the two mixers' gated sum and of the product after it: the kernel's results are the reference's. -/
theorem same_30 : Cert.algebraic_Kernel30Ideal_Reference30Ideal (hKernel30Ideal := Cert.Kernel30Ideal.Gen.facts) (hReference30Ideal := Cert.Reference30Ideal.Gen.facts) := by
  intro m g m' g' _ hagree
  refine ⟨fun c => Cert.Reference30Ideal.Mm.res0 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)), fun c => Cert.Reference30Ideal.Mm.res1 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)), fun c => Cert.Reference30Ideal.Mm.res2 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)), fun c => Cert.Reference30Ideal.Mm.res3 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)), ?_, ?_⟩
  · refine θ_run_mono (Cert.Kernel30Ideal.Value.run_blocks m g) fun r h c => ?_
    exact ⟨(h c).1.trans (Cert.Kernel30Ideal.Mm.final0 m c), (h c).2.1.trans (Cert.Kernel30Ideal.Mm.final1 m c), (h c).2.2.1.trans (Cert.Kernel30Ideal.Mm.final2 m c), (h c).2.2.2.1.trans (Cert.Kernel30Ideal.Mm.final3 m c), (h c).2.2.2.2⟩
  · refine θ_run_mono (Cert.Reference30Ideal.Value.run m' g') fun r h c => ?_
    obtain ⟨a0, a1, a2, a3, a4⟩ := hagree c
    exact ⟨(h c).1.trans (by rw [a0, a1, a2]), (h c).2.1.trans (by rw [a0, a1, a2]), (h c).2.2.1.trans (by rw [a0, a1, a2, a3]), (h c).2.2.2.1.trans (by rw [a0, a1, a2, a4]), (h c).2.2.2.2⟩

end Cert.Mm

end
-- ==== Proof.lean ====
module

public import proofs.«01_k».proof.Defs
public import proofs.«01_k».proof.Proof.Gen.ReferenceIdeal
public import proofs.«01_k».proof.Proof.Gen.ReferenceIdeal.Run
public import Idealize.ShloMosaic.Lib.StableHlo.RunHlo
public import Idealize.ShloMosaic.Lib.Quiescent
public import proofs.«01_k».proof.Proof.Fox.Launch
public import proofs.«01_k».proof.Proof.Fox.Value
public import proofs.«01_k».proof.Proof.FoxK.Launch
public import proofs.«01_k».proof.Proof.Ref.Result
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Mm.Claims
public import proofs.«01_k».proof.Proof.Act.Claims
public import proofs.«01_k».proof.Proof.Act.FfnInClaims
public import proofs.«01_k».proof.Proof.Adam.Claims
public import proofs.«01_k».proof.Proof.Act.MergeClaims

@[expose] public section

noncomputable section

namespace Cert.Proof

open Idealize.ShloMosaic Idealize.ShloMosaic.TcCoe Idealize.SL.Sem

/-- The reference runs, ends and keeps its arguments. -/
theorem reference_frame : Cert.quiescent_ReferenceIdeal (hReferenceIdeal := Cert.ReferenceIdeal.Gen.facts) := by
  intro m g _
  exact θ_run_mono (Cert.ReferenceIdeal.Value.run m g)
    fun r h => ⟨fun c => (h c).2.2.2.2.2, sem_eq_zero_of_no_sems rfl r.2⟩

section Value
open Cert.KernelIdeal Cert.ReferenceIdeal.Ref

/-- The five results on each device, as the reference writes them. -/
abbrev out0 (m : (ℓ : Loc nD τ Cert.KernelIdeal.sig) → Buf (Elt Idealize.ShloMosaic.Ideal) ℓ) (c : Dev nD) := rDQ (Fox.A0 m c) (Fox.A1 m c) (Fox.A2 m c)
abbrev out1 (m : (ℓ : Loc nD τ Cert.KernelIdeal.sig) → Buf (Elt Idealize.ShloMosaic.Ideal) ℓ) (c : Dev nD) := rDK (Fox.A0 m c) (Fox.A1 m c) (Fox.A2 m c)
abbrev out2 (m : (ℓ : Loc nD τ Cert.KernelIdeal.sig) → Buf (Elt Idealize.ShloMosaic.Ideal) ℓ) (c : Dev nD) := rDV (Fox.A0 m c) (Fox.A1 m c) (Fox.A2 m c)
abbrev out3 (m : (ℓ : Loc nD τ Cert.KernelIdeal.sig) → Buf (Elt Idealize.ShloMosaic.Ideal) ℓ) (c : Dev nD) := rDR (Fox.A0 m c) (Fox.A1 m c) (Fox.A2 m c)
abbrev out4 (m : (ℓ : Loc nD τ Cert.KernelIdeal.sig) → Buf (Elt Idealize.ShloMosaic.Ideal) ℓ) (c : Dev nD) := rDC (Fox.A0 m c) (Fox.A1 m c) (Fox.A2 m c)

/-- On finite arguments the kernel computes the attention's gradients. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts_hold) := by
  intro m g m' g' hpre hagree
  refine ⟨out0 m, out1 m, out2 m, out3 m, out4 m, ?_, ?_⟩
  · refine θ_run_mono (Cert.KernelIdeal.Fox.run_main m g) fun r h c => ?_
    obtain ⟨p0, p1, p2⟩ := hpre c
    have h0 := Cert.Pre_finite.real_0 (hf := Cert.Pre_finite.facts_hold) (Fox.A0 m c) (Fox.A1 m c) (Fox.A2 m c) p0
    have h1 := Cert.Pre_finite.real_1 (hf := Cert.Pre_finite.facts_hold) (Fox.A0 m c) (Fox.A1 m c) (Fox.A2 m c) p1
    have h2 := Cert.Pre_finite.real_2 (hf := Cert.Pre_finite.facts_hold) (Fox.A0 m c) (Fox.A1 m c) (Fox.A2 m c) p2
    exact ⟨((h.1 c).1 (7 : Fin 12)).trans (Fox.result_7 h0 h1 h2), ((h.1 c).1 (8 : Fin 12)).trans (Fox.result_8 h0 h1 h2),
      ((h.1 c).1 (9 : Fin 12)).trans (Fox.result_9 h0 h1 h2), ((h.1 c).1 (10 : Fin 12)).trans (Fox.result_10 h0 h1 h2),
      ((h.1 c).1 (11 : Fin 12)).trans (Fox.result_11 h0 h1 h2), Fox.args_kept m h.1 c⟩
  · refine θ_run_mono (Cert.ReferenceIdeal.Value.run m' g') fun r h c => ?_
    obtain ⟨a0, a1, a2⟩ := hagree c
    obtain ⟨r0, r1, r2, r3, r4, hk⟩ := h c
    have same {α : Type} (f : FVec Idealize.ShloMosaic.Ideal Cert.ReferenceIdeal.S8192x7168 .f32 → FVec Idealize.ShloMosaic.Ideal Cert.ReferenceIdeal.S8192x8 .f32
        → FVec Idealize.ShloMosaic.Ideal Cert.ReferenceIdeal.S8192x1024 .f32 → α) :
        f (Cert.ReferenceIdeal.Ref.A0 m' c) (Cert.ReferenceIdeal.Ref.A1 m' c) (Cert.ReferenceIdeal.Ref.A2 m' c)
          = f (Fox.A0 m c) (Fox.A1 m c) (Fox.A2 m c) := by
      rw [show Cert.ReferenceIdeal.Ref.A0 m' c = Fox.A0 m c from a0, show Cert.ReferenceIdeal.Ref.A1 m' c = Fox.A1 m c from a1,
        show Cert.ReferenceIdeal.Ref.A2 m' c = Fox.A2 m c from a2]
    exact ⟨(r0.trans (res_0 m' c)).trans (same rDQ), (r1.trans (res_1 m' c)).trans (same rDK), (r2.trans (res_2 m' c)).trans (same rDV),
      (r3.trans (res_3 m' c)).trans (same rDR), (r4.trans (res_4 m' c)).trans (same rDC), hk⟩

end Value

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Pre_finite.facts_hold,
  Cert.Pre_finite2.facts_hold,
  fun m ρ _ => Cert.Kernel.Fox.frame_run m ρ,
  fun m ρ _ => Cert.KernelIdeal.Fox.frame_run m ρ,
  fun m ρ _ => Cert.KernelIdeal.Fox.frame_run m ρ,
  reference_frame,
  fun m g _ => reference_frame m g trivial,
  fun m ρ _ => Cert.Kernel2.Gen.frame m ρ,
  fun m ρ _ => Cert.Kernel2Ideal.Gen.frame m ρ,
  fun m ρ _ => Cert.Kernel2Ideal.Gen.frame m ρ,
  Cert.Act.kept,
  fun m g _ => Cert.Act.kept m g trivial,
  fun m ρ _ => Cert.Kernel3.Gen.frame m ρ,
  fun m ρ _ => Cert.Kernel3Ideal.Gen.frame m ρ,
  Cert.Mm.kept_3,
  fun m ρ _ => Cert.Kernel4.Gen.frame m ρ,
  fun m ρ _ => Cert.Kernel4Ideal.Gen.frame m ρ,
  Cert.Mm.kept_4,
  fun m ρ _ => Cert.Kernel5.Gen.frame m ρ,
  fun m ρ _ => Cert.Kernel5Ideal.Gen.frame m ρ,
  Cert.Mm.kept_5,
  fun m ρ _ => Cert.Kernel6.Gen.frame m ρ,
  fun m ρ _ => Cert.Kernel6Ideal.Gen.frame m ρ,
  Cert.Mm.kept_6,
  fun m ρ _ => Cert.Kernel7.Gen.frame m ρ,
  fun m ρ _ => Cert.Kernel7Ideal.Gen.frame m ρ,
  Cert.Mm.kept_7,
  fun m ρ _ => Cert.Kernel8.Gen.frame m ρ,
  fun m ρ _ => Cert.Kernel8Ideal.Gen.frame m ρ,
  Cert.Mm.kept_8,
  fun m ρ _ => Cert.Kernel9.Gen.frame m ρ,
  fun m ρ _ => Cert.Kernel9Ideal.Gen.frame m ρ,
  Cert.Mm.kept_9,
  fun m ρ _ => Cert.Kernel10.Gen.frame m ρ,
  fun m ρ _ => Cert.Kernel10Ideal.Gen.frame m ρ,
  Cert.Mm.kept_10,
  fun m ρ _ => Cert.Kernel11.Gen.frame m ρ,
  fun m ρ _ => Cert.Kernel11Ideal.Gen.frame m ρ,
  Cert.Mm.kept_11,
  fun m ρ _ => Cert.Kernel12.Gen.frame m ρ,
  fun m ρ _ => Cert.Kernel12Ideal.Gen.frame m ρ,
  Cert.Mm.kept_12,
  fun m ρ _ => Cert.Kernel13.Gen.frame m ρ,
  fun m ρ _ => Cert.Kernel13Ideal.Gen.frame m ρ,
  Cert.Mm.kept_13,
  fun m ρ _ => Cert.Kernel14.Gen.frame m ρ,
  fun m ρ _ => Cert.Kernel14Ideal.Gen.frame m ρ,
  Cert.Mm.kept_14,
  fun m ρ _ => Cert.Kernel15.Gen.frame m ρ,
  fun m ρ _ => Cert.Kernel15Ideal.Gen.frame m ρ,
  Cert.Mm.kept_15,
  fun m ρ _ => Cert.Kernel16.Gen.frame m ρ,
  fun m ρ _ => Cert.Kernel16Ideal.Gen.frame m ρ,
  Cert.Mm.kept_16,
  fun m ρ _ => Cert.Kernel17.Gen.frame m ρ,
  fun m ρ _ => Cert.Kernel17Ideal.Gen.frame m ρ,
  Cert.Mm.kept_17,
  fun m ρ _ => Cert.Kernel18.Gen.frame m ρ,
  fun m ρ _ => Cert.Kernel18Ideal.Gen.frame m ρ,
  Cert.Mm.kept_18,
  fun m ρ _ => Cert.Kernel19.Gen.frame m ρ,
  fun m ρ _ => Cert.Kernel19Ideal.Gen.frame m ρ,
  Cert.Mm.kept_19,
  fun m ρ _ => Cert.Kernel20.Gen.frame m ρ,
  fun m ρ _ => Cert.Kernel20Ideal.Gen.frame m ρ,
  Cert.Mm.kept_20,
  fun m ρ _ => Cert.Kernel21.Gen.frame m ρ,
  fun m ρ _ => Cert.Kernel21Ideal.Gen.frame m ρ,
  Cert.Mm.kept_21,
  fun m ρ _ => Cert.Kernel22.Gen.frame m ρ,
  fun m ρ _ => Cert.Kernel22Ideal.Gen.frame m ρ,
  Cert.Mm.kept_22,
  fun m ρ _ => Cert.Kernel23.Gen.frame m ρ,
  fun m ρ _ => Cert.Kernel23Ideal.Gen.frame m ρ,
  Cert.Mm.kept_23,
  fun m ρ _ => Cert.Kernel24.Gen.frame m ρ,
  fun m ρ _ => Cert.Kernel24Ideal.Gen.frame m ρ,
  Cert.Mm.kept_24,
  fun m ρ _ => Cert.Kernel25.Gen.frame m ρ,
  fun m ρ _ => Cert.Kernel25Ideal.Gen.frame m ρ,
  Cert.Mm.kept_25,
  fun m ρ _ => Cert.Kernel26.Gen.frame m ρ,
  fun m ρ _ => Cert.Kernel26Ideal.Gen.frame m ρ,
  Cert.Mm.kept_26,
  fun m ρ _ => Cert.Kernel27.Gen.frame m ρ,
  fun m ρ _ => Cert.Kernel27Ideal.Gen.frame m ρ,
  Cert.Mm.kept_27,
  fun m ρ _ => Cert.Kernel28.Gen.frame m ρ,
  fun m ρ _ => Cert.Kernel28Ideal.Gen.frame m ρ,
  Cert.Mm.kept_28,
  fun m ρ _ => Cert.Kernel29.Gen.frame m ρ,
  fun m ρ _ => Cert.Kernel29Ideal.Gen.frame m ρ,
  Cert.Mm.kept_29,
  fun m ρ _ => Cert.Kernel30.Gen.frame m ρ,
  fun m ρ _ => Cert.Kernel30Ideal.Gen.frame m ρ,
  Cert.Mm.kept_30,
  fun m ρ _ => Cert.Kernel31.Gen.frame m ρ,
  fun m ρ _ => Cert.Kernel31Ideal.Gen.frame m ρ,
  Cert.Mm.kept_31,
  IdealRules.named_const.statement Cert.KernelIdeal.κ "mask" .f32 0xF149F2CA#32 ⊥ rfl,
  value,
  trivial,
  Cert.Act.same,
  trivial,
  Cert.Mm.same_3,
  trivial,
  Cert.Mm.same_4,
  trivial,
  Cert.Mm.same_5,
  trivial,
  Cert.Mm.same_6,
  trivial,
  Cert.Mm.same_7,
  trivial,
  Cert.Mm.same_8,
  trivial,
  Cert.Mm.same_9,
  trivial,
  Cert.Mm.same_10,
  trivial,
  Cert.Mm.same_11,
  trivial,
  Cert.Mm.same_12,
  trivial,
  Cert.Mm.same_13,
  trivial,
  Cert.Mm.same_14,
  trivial,
  Cert.Mm.same_15,
  trivial,
  Cert.Mm.same_16,
  trivial,
  Cert.Mm.same_17,
  trivial,
  Cert.Mm.same_18,
  trivial,
  Cert.Mm.same_19,
  trivial,
  Cert.Mm.same_20,
  trivial,
  Cert.Mm.same_21,
  trivial,
  Cert.Mm.same_22,
  trivial,
  Cert.Mm.same_23,
  trivial,
  Cert.Mm.same_24,
  trivial,
  Cert.Mm.same_25,
  trivial,
  Cert.Mm.same_26,
  trivial,
  Cert.Mm.same_27,
  trivial,
  Cert.Mm.same_28,
  trivial,
  Cert.Mm.same_29,
  trivial,
  Cert.Mm.same_30,
  trivial,
  Cert.Mm.same_31⟩

end Cert.Proof

end
